-- ==== Defs.lean ====
def Pre_Kernel [hPre_rows_increase : Cert.Pre_rows_increase.Facts] (m : (ℓ : Loc Cert.Kernel.nD Cert.Kernel.τ Cert.Kernel.sig) → Buf (Elt Bits) ℓ) : Prop :=
  ∀ c : Dev Cert.Kernel.nD,
    (Cert.Pre_rows_increase.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_rows_increase : Cert.Pre_rows_increase.Facts] (m : (ℓ : Loc Cert.KernelIdeal.nD Cert.KernelIdeal.τ Cert.KernelIdeal.sig) → Buf (Elt Ideal) ℓ) : Prop :=
  ∀ c : Dev Cert.KernelIdeal.nD,
    (Cert.Pre_rows_increase.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_increase [hPre_rows_increase : Cert.Pre_rows_increase.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_increase.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def Pre_Qkv [hPre_rows_inside : Cert.Pre_rows_inside.Facts] (m : (ℓ : Loc Cert.Qkv.nD Cert.Qkv.τ Cert.Qkv.sig) → Buf (Elt Bits) ℓ) : Prop :=
  ∀ c : Dev Cert.Qkv.nD,
    (Cert.Pre_rows_inside.fn (F := Bits) (m ((c.tc : Thread Cert.Qkv.nD Cert.Qkv.τ).loc Cert.Qkv.main_arg0)) (m ((c.tc : Thread Cert.Qkv.nD Cert.Qkv.τ).loc Cert.Qkv.main_arg1)) (m ((c.tc : Thread Cert.Qkv.nD Cert.Qkv.τ).loc Cert.Qkv.main_arg2)) (m ((c.tc : Thread Cert.Qkv.nD Cert.Qkv.τ).loc Cert.Qkv.main_arg3)) (m ((c.tc : Thread Cert.Qkv.nD Cert.Qkv.τ).loc Cert.Qkv.main_arg4)) (m ((c.tc : Thread Cert.Qkv.nD Cert.Qkv.τ).loc Cert.Qkv.main_arg5))) = (fun _ => 1#1)

def Pre_QkvIdeal [hPre_rows_inside : Cert.Pre_rows_inside.Facts] (m : (ℓ : Loc Cert.QkvIdeal.nD Cert.QkvIdeal.τ Cert.QkvIdeal.sig) → Buf (Elt Ideal) ℓ) : Prop :=
  ∀ c : Dev Cert.QkvIdeal.nD,
    (Cert.Pre_rows_inside.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5))) = (fun _ => 1#1)

def Pre_ReferenceQkvIdeal (m : (ℓ : Loc Cert.ReferenceQkvIdeal.nD Cert.ReferenceQkvIdeal.τ Cert.ReferenceQkvIdeal.sig) → Buf (Elt Ideal) ℓ) : Prop :=
  True

def Pre_ReferenceQkvIdeal_rows_inside [hPre_rows_inside : Cert.Pre_rows_inside.Facts] (m : (ℓ : Loc Cert.ReferenceQkvIdeal.nD Cert.ReferenceQkvIdeal.τ Cert.ReferenceQkvIdeal.sig) → Buf (Elt Ideal) ℓ) : Prop :=
  ∀ c : Dev Cert.ReferenceQkvIdeal.nD,
    (Cert.Pre_rows_inside.fn (F := Ideal) (m ((c.tc : Thread Cert.ReferenceQkvIdeal.nD Cert.ReferenceQkvIdeal.τ).loc Cert.ReferenceQkvIdeal.main_arg0)) (m ((c.tc : Thread Cert.ReferenceQkvIdeal.nD Cert.ReferenceQkvIdeal.τ).loc Cert.ReferenceQkvIdeal.main_arg1)) (m ((c.tc : Thread Cert.ReferenceQkvIdeal.nD Cert.ReferenceQkvIdeal.τ).loc Cert.ReferenceQkvIdeal.main_arg2)) (m ((c.tc : Thread Cert.ReferenceQkvIdeal.nD Cert.ReferenceQkvIdeal.τ).loc Cert.ReferenceQkvIdeal.main_arg3)) (m ((c.tc : Thread Cert.ReferenceQkvIdeal.nD Cert.ReferenceQkvIdeal.τ).loc Cert.ReferenceQkvIdeal.main_arg4)) (m ((c.tc : Thread Cert.ReferenceQkvIdeal.nD Cert.ReferenceQkvIdeal.τ).loc Cert.ReferenceQkvIdeal.main_arg5))) = (fun _ => 1#1)

def quiescent_Kernel [hKernel : Cert.Kernel.Facts] [hPre_rows_increase : Cert.Pre_rows_increase.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_rows_increase : Cert.Pre_rows_increase.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_rows_increase [hReferenceIdeal : Cert.ReferenceIdeal.Facts] [hPre_rows_increase : Cert.Pre_rows_increase.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_increase m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Qkv [hQkv : Cert.Qkv.Facts] [hPre_rows_inside : Cert.Pre_rows_inside.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] [hPre_rows_inside : Cert.Pre_rows_inside.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5))
      ∧ r.2.sem = fun _ => 0)

def quiescent_ReferenceQkvIdeal_pre_rows_inside [hReferenceQkvIdeal : Cert.ReferenceQkvIdeal.Facts] [hPre_rows_inside : Cert.Pre_rows_inside.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal_rows_inside m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1)
      ∧ r.2.mem ((c.tc : Thread Cert.ReferenceQkvIdeal.nD Cert.ReferenceQkvIdeal.τ).loc Cert.ReferenceQkvIdeal.main_arg2) = m ((c.tc : Thread Cert.ReferenceQkvIdeal.nD Cert.ReferenceQkvIdeal.τ).loc Cert.ReferenceQkvIdeal.main_arg2)
      ∧ r.2.mem ((c.tc : Thread Cert.ReferenceQkvIdeal.nD Cert.ReferenceQkvIdeal.τ).loc Cert.ReferenceQkvIdeal.main_arg3) = m ((c.tc : Thread Cert.ReferenceQkvIdeal.nD Cert.ReferenceQkvIdeal.τ).loc Cert.ReferenceQkvIdeal.main_arg3)
      ∧ r.2.mem ((c.tc : Thread Cert.ReferenceQkvIdeal.nD Cert.ReferenceQkvIdeal.τ).loc Cert.ReferenceQkvIdeal.main_arg4) = m ((c.tc : Thread Cert.ReferenceQkvIdeal.nD Cert.ReferenceQkvIdeal.τ).loc Cert.ReferenceQkvIdeal.main_arg4)
      ∧ r.2.mem ((c.tc : Thread Cert.ReferenceQkvIdeal.nD Cert.ReferenceQkvIdeal.τ).loc Cert.ReferenceQkvIdeal.main_arg5) = m ((c.tc : Thread Cert.ReferenceQkvIdeal.nD Cert.ReferenceQkvIdeal.τ).loc Cert.ReferenceQkvIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_increase : Cert.Pre_rows_increase.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_2)) (v2 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_2) = v1 c
          ∧ r.2.mem ((c.tc : Thread Cert.KernelIdeal.nD Cert.KernelIdeal.τ).loc Cert.KernelIdeal.main_v3_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Qkv_QkvIdeal : Prop :=
  True

def algebraic_QkvIdeal_ReferenceQkvIdeal [hQkvIdeal : Cert.QkvIdeal.Facts] [hReferenceQkvIdeal : Cert.ReferenceQkvIdeal.Facts] [hPre_rows_inside : Cert.Pre_rows_inside.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_QkvIdeal m →
    (∀ c : Dev Cert.QkvIdeal.nD,
      m' ((c.tc : Thread Cert.ReferenceQkvIdeal.nD Cert.ReferenceQkvIdeal.τ).loc Cert.ReferenceQkvIdeal.main_arg0) = m ((c.tc : Thread Cert.QkvIdeal.nD Cert.QkvIdeal.τ).loc Cert.QkvIdeal.main_arg0)
      ∧ m' ((c.tc : Thread Cert.ReferenceQkvIdeal.nD Cert.ReferenceQkvIdeal.τ).loc Cert.ReferenceQkvIdeal.main_arg1) = m ((c.tc : Thread Cert.QkvIdeal.nD Cert.QkvIdeal.τ).loc Cert.QkvIdeal.main_arg1)
      ∧ m' ((c.tc : Thread Cert.ReferenceQkvIdeal.nD Cert.ReferenceQkvIdeal.τ).loc Cert.ReferenceQkvIdeal.main_arg2) = m ((c.tc : Thread Cert.QkvIdeal.nD Cert.QkvIdeal.τ).loc Cert.QkvIdeal.main_arg2)
      ∧ m' ((c.tc : Thread Cert.ReferenceQkvIdeal.nD Cert.ReferenceQkvIdeal.τ).loc Cert.ReferenceQkvIdeal.main_arg3) = m ((c.tc : Thread Cert.QkvIdeal.nD Cert.QkvIdeal.τ).loc Cert.QkvIdeal.main_arg3)
      ∧ m' ((c.tc : Thread Cert.ReferenceQkvIdeal.nD Cert.ReferenceQkvIdeal.τ).loc Cert.ReferenceQkvIdeal.main_arg4) = m ((c.tc : Thread Cert.QkvIdeal.nD Cert.QkvIdeal.τ).loc Cert.QkvIdeal.main_arg4)
      ∧ m' ((c.tc : Thread Cert.ReferenceQkvIdeal.nD Cert.ReferenceQkvIdeal.τ).loc Cert.ReferenceQkvIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v12_3)) (v1 : (c : Dev Cert.QkvIdeal.nD) → Buf (Elt Ideal) ((c.tc : Thread Cert.QkvIdeal.nD Cert.QkvIdeal.τ).loc Cert.QkvIdeal.main_v12_1)) (v2 : (c : Dev Cert.QkvIdeal.nD) → Buf (Elt Ideal) ((c.tc : Thread Cert.QkvIdeal.nD Cert.QkvIdeal.τ).loc Cert.QkvIdeal.main_v12_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v12_3) = v0 c
          ∧ r.2.mem ((c.tc : Thread Cert.QkvIdeal.nD Cert.QkvIdeal.τ).loc Cert.QkvIdeal.main_v12_1) = v1 c
          ∧ r.2.mem ((c.tc : Thread Cert.QkvIdeal.nD Cert.QkvIdeal.τ).loc Cert.QkvIdeal.main_v12_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v11_0) = v0 c
          ∧ r.2.mem ((c.tc : Thread Cert.ReferenceQkvIdeal.nD Cert.ReferenceQkvIdeal.τ).loc Cert.ReferenceQkvIdeal.main_v11_1) = v1 c
          ∧ r.2.mem ((c.tc : Thread Cert.ReferenceQkvIdeal.nD Cert.ReferenceQkvIdeal.τ).loc Cert.ReferenceQkvIdeal.main_v11_2) = v2 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1)
          ∧ r.2.mem ((c.tc : Thread Cert.ReferenceQkvIdeal.nD Cert.ReferenceQkvIdeal.τ).loc Cert.ReferenceQkvIdeal.main_arg2) = m' ((c.tc : Thread Cert.ReferenceQkvIdeal.nD Cert.ReferenceQkvIdeal.τ).loc Cert.ReferenceQkvIdeal.main_arg2)
          ∧ r.2.mem ((c.tc : Thread Cert.ReferenceQkvIdeal.nD Cert.ReferenceQkvIdeal.τ).loc Cert.ReferenceQkvIdeal.main_arg3) = m' ((c.tc : Thread Cert.ReferenceQkvIdeal.nD Cert.ReferenceQkvIdeal.τ).loc Cert.ReferenceQkvIdeal.main_arg3)
          ∧ r.2.mem ((c.tc : Thread Cert.ReferenceQkvIdeal.nD Cert.ReferenceQkvIdeal.τ).loc Cert.ReferenceQkvIdeal.main_arg4) = m' ((c.tc : Thread Cert.ReferenceQkvIdeal.nD Cert.ReferenceQkvIdeal.τ).loc Cert.ReferenceQkvIdeal.main_arg4)
          ∧ r.2.mem ((c.tc : Thread Cert.ReferenceQkvIdeal.nD Cert.ReferenceQkvIdeal.τ).loc Cert.ReferenceQkvIdeal.main_arg5) = m' ((c.tc : Thread Cert.ReferenceQkvIdeal.nD Cert.ReferenceQkvIdeal.τ).loc Cert.ReferenceQkvIdeal.main_arg5))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hReferenceQkvIdeal : Cert.ReferenceQkvIdeal.Facts) (hPre_rows_increase : Cert.Pre_rows_increase.Facts) (hPre_rows_inside : Cert.Pre_rows_inside.Facts),
    quiescent_Kernel (hKernel := hKernel) (hPre_rows_increase := hPre_rows_increase)
    ∧ quiescent_KernelIdeal (hKernelIdeal := hKernelIdeal) (hPre_rows_increase := hPre_rows_increase)
    ∧ quiescent_ReferenceIdeal (hReferenceIdeal := hReferenceIdeal)
    ∧ quiescent_ReferenceIdeal_pre_rows_increase (hReferenceIdeal := hReferenceIdeal) (hPre_rows_increase := hPre_rows_increase)
    ∧ quiescent_Qkv (hQkv := hQkv) (hPre_rows_inside := hPre_rows_inside)
    ∧ quiescent_QkvIdeal (hQkvIdeal := hQkvIdeal) (hPre_rows_inside := hPre_rows_inside)
    ∧ quiescent_ReferenceQkvIdeal (hReferenceQkvIdeal := hReferenceQkvIdeal)
    ∧ quiescent_ReferenceQkvIdeal_pre_rows_inside (hReferenceQkvIdeal := hReferenceQkvIdeal) (hPre_rows_inside := hPre_rows_inside)
    ∧ preserves_Kernel_KernelIdeal
    ∧ algebraic_KernelIdeal_ReferenceIdeal (hKernelIdeal := hKernelIdeal) (hReferenceIdeal := hReferenceIdeal) (hPre_rows_increase := hPre_rows_increase)
    ∧ preserves_Qkv_QkvIdeal
    ∧ algebraic_QkvIdeal_ReferenceQkvIdeal (hQkvIdeal := hQkvIdeal) (hReferenceQkvIdeal := hReferenceQkvIdeal) (hPre_rows_inside := hPre_rows_inside)
-- ==== Pre_rows_increase.lean ====
abbrev S2x1024 : Shape := ⟨2, ![2, 1024]⟩
abbrev S2 : Shape := ⟨1, ![2]⟩
abbrev S2048x2048 : Shape := ⟨2, ![2048, 2048]⟩
abbrev S8x1x256 : Shape := ⟨3, ![8, 1, 256]⟩
abbrev S2048x5632 : Shape := ⟨2, ![2048, 5632]⟩
abbrev S5632 : Shape := ⟨1, ![5632]⟩
abbrev S5632x2048 : Shape := ⟨2, ![5632, 2048]⟩
abbrev S2048 : Shape := ⟨1, ![2048]⟩
abbrev S8192x2048 : Shape := ⟨2, ![8192, 2048]⟩
abbrev S2x1023 : Shape := ⟨2, ![2, 1023]⟩
abbrev S2x1 : Shape := ⟨2, ![2, 1]⟩
abbrev S_ : Shape := ⟨0, ![]⟩

class Facts : Prop where
  bcast_S2_S2x1024_0 : S2.BroadcastsInDim S2x1024 (![0] : Fin 1 → Fin S2x1024.rank)
  slices_S2x1024_S2x1023_0_1 : S2x1024.Slices ![0, 1] S2x1023
  slices_S2x1024_S2x1_0_1023 : S2x1024.Slices ![0, 1023] S2x1
  concatenates_S2x1023_S2x1_S2x1024_d1 : Shape.Concatenates [S2x1023, S2x1] S2x1024 1
  bcast_S_S2x1024 : S_.BroadcastsInDim S2x1024 (![] : Fin 0 → Fin S2x1024.rank)

variable [Facts]

def fn_part1 {F : FTy → Type} [FloatOps F] (main_v12 : IVec S2x1024 1) (main_v13 : IVec S2x1024 1) (main_v18 : IVec S2x1024 1) (main_v19 : IVec S2x1024 1) : IVec S2x1024 1 :=
  let main_v20 : IVec S2x1024 1 := ori main_v12 main_v19
  let main_v21 : IVec S2x1024 1 := andi main_v18 main_v20
  let main_v22 : IVec S2x1024 1 := ori main_v13 main_v21
  main_v22

def fn {F : FTy → Type} [FloatOps F] (main_arg0 : IVec S2x1024 32) (main_arg1 : IVec S2 32) (main_arg2 : FVec F S2048x2048 .fp8e4m3) (main_arg3 : FVec F S8x1x256 .f32) (main_arg4 : FVec F S2048x2048 .f32) (main_arg5 : IVec S2048x2048 32) (main_arg6 : FVec F S8x1x256 .f32) (main_arg7 : FVec F S2048x5632 .fp8e4m3) (main_arg8 : FVec F S5632 .f32) (main_arg9 : FVec F S2048x5632 .fp8e4m3) (main_arg10 : FVec F S5632 .f32) (main_arg11 : FVec F S5632x2048 .fp8e4m3) (main_arg12 : FVec F S2048 .f32) (main_arg13 : IVec S8192x2048 32) : IVec S2x1024 1 :=
  let main_v0 : IVec S2x1024 32 := iotaInDim S2x1024 32 1
  let main_v1 : IVec S2x1024 32 := broadcastInDim S2x1024 ![0] bcast_S2_S2x1024_0 main_arg1
  let main_v2 : IVec S2x1024 1 := cmpi .slt main_v0 main_v1
  let main_v3 : IVec S2x1023 32 := (extractStridedSlice S2x1023 ![0, 1] · slices_S2x1024_S2x1023_0_1) main_arg0
  let main_v4 : IVec S2x1 32 := (extractStridedSlice S2x1 ![0, 1023] · slices_S2x1024_S2x1_0_1023) main_arg0
  let main_v5 : IVec S2x1024 32 := (fun a b => concatenate S2x1024 1 [⟨S2x1023, a⟩, ⟨S2x1, b⟩] concatenates_S2x1023_S2x1_S2x1024_d1) main_v3 main_v4
  let main_c : IVec S_ 32 := constantI S_ 32 1#32
  let main_v6 : IVec S2x1024 32 := broadcastInDim S2x1024 ![] bcast_S_S2x1024 main_c
  let main_v7 : IVec S2x1024 32 := addi main_v0 main_v6
  let main_v8 : IVec S2x1024 32 := broadcastInDim S2x1024 ![0] bcast_S2_S2x1024_0 main_arg1
  let main_v9 : IVec S2x1024 1 := cmpi .sge main_v7 main_v8
  let main_c_0 : IVec S_ 32 := constantI S_ 32 1023#32
  let main_v10 : IVec S2x1024 32 := broadcastInDim S2x1024 ![] bcast_S_S2x1024 main_c_0
  let main_v11 : IVec S2x1024 1 := cmpi .sge main_v0 main_v10
  let main_v12 : IVec S2x1024 1 := ori main_v9 main_v11
  let main_v13 : IVec S2x1024 1 := noti main_v2
  let main_c_1 : IVec S_ 32 := constantI S_ 32 0#32
  let main_v14 : IVec S2x1024 32 := broadcastInDim S2x1024 ![] bcast_S_S2x1024 main_c_1
  let main_v15 : IVec S2x1024 1 := cmpi .sge main_arg0 main_v14
  let main_c_2 : IVec S_ 32 := constantI S_ 32 8192#32
  let main_v16 : IVec S2x1024 32 := broadcastInDim S2x1024 ![] bcast_S_S2x1024 main_c_2
  let main_v17 : IVec S2x1024 1 := cmpi .slt main_arg0 main_v16
  let main_v18 : IVec S2x1024 1 := andi main_v15 main_v17
  let main_v19 : IVec S2x1024 1 := cmpi .slt main_arg0 main_v5
  fn_part1 (F := F) main_v12 main_v13 main_v18 main_v19
-- ==== Pre_rows_inside.lean ====
abbrev S8192x2048 : Shape := ⟨2, ![8192, 2048]⟩
abbrev S2x1024 : Shape := ⟨2, ![2, 1024]⟩
abbrev S2048 : Shape := ⟨1, ![2048]⟩
abbrev S2048x5120 : Shape := ⟨2, ![2048, 5120]⟩
abbrev S5120 : Shape := ⟨1, ![5120]⟩
abbrev S_ : Shape := ⟨0, ![]⟩

class Facts : Prop where
  bcast_S_S2x1024 : S_.BroadcastsInDim S2x1024 (![] : Fin 0 → Fin S2x1024.rank)

variable [Facts]

def fn {F : FTy → Type} [FloatOps F] (main_arg0 : IVec S8192x2048 32) (main_arg1 : IVec S2x1024 32) (main_arg2 : FVec F S2048 .f32) (main_arg3 : FVec F S2048 .f32) (main_arg4 : FVec F S2048x5120 .fp8e4m3) (main_arg5 : FVec F S5120 .f32) : IVec S2x1024 1 :=
  let main_c : IVec S_ 32 := constantI S_ 32 0#32
  let main_v0 : IVec S2x1024 32 := broadcastInDim S2x1024 ![] bcast_S_S2x1024 main_c
  let main_v1 : IVec S2x1024 1 := cmpi .sge main_arg1 main_v0
  let main_c_0 : IVec S_ 32 := constantI S_ 32 8192#32
  let main_v2 : IVec S2x1024 32 := broadcastInDim S2x1024 ![] bcast_S_S2x1024 main_c_0
  let main_v3 : IVec S2x1024 1 := cmpi .slt main_arg1 main_v2
  let main_v4 : IVec S2x1024 1 := andi main_v1 main_v3
  main_v4
-- ==== Kernel.lean ====
abbrev S2x1024 : Shape := ⟨2, ![2, 1024]⟩
abbrev S2 : Shape := ⟨1, ![2]⟩
abbrev S2048x2048 : Shape := ⟨2, ![2048, 2048]⟩
abbrev S8x1x256 : Shape := ⟨3, ![8, 1, 256]⟩
abbrev S2048x5632 : Shape := ⟨2, ![2048, 5632]⟩
abbrev S5632 : Shape := ⟨1, ![5632]⟩
abbrev S5632x2048 : Shape := ⟨2, ![5632, 2048]⟩
abbrev S2048 : Shape := ⟨1, ![2048]⟩
abbrev S8192x2048 : Shape := ⟨2, ![8192, 2048]⟩
abbrev S1x5632 : Shape := ⟨2, ![1, 5632]⟩
abbrev S1x2048 : Shape := ⟨2, ![1, 2048]⟩
abbrev S256x2048 : Shape := ⟨2, ![256, 2048]⟩
abbrev S1x1x256 : Shape := ⟨3, ![1, 1, 256]⟩
abbrev S256x5632 : Shape := ⟨2, ![256, 5632]⟩
abbrev S8x2048 : Shape := ⟨2, ![8, 2048]⟩
abbrev S1 : Shape := ⟨1, ![1]⟩
abbrev S_ : Shape := ⟨0, ![]⟩
abbrev S1x256 : Shape := ⟨2, ![1, 256]⟩
abbrev S1x128 : Shape := ⟨2, ![1, 128]⟩
abbrev S128x128 : Shape := ⟨2, ![128, 128]⟩
abbrev S256x128 : Shape := ⟨2, ![256, 128]⟩
abbrev S256x512 : Shape := ⟨2, ![256, 512]⟩
abbrev S2048x512 : Shape := ⟨2, ![2048, 512]⟩
abbrev S1x512 : Shape := ⟨2, ![1, 512]⟩
abbrev S256 : Shape := ⟨1, ![256]⟩
abbrev S256x1 : Shape := ⟨2, ![256, 1]⟩
abbrev S1x1 : Shape := ⟨2, ![1, 1]⟩

abbrev nBuf : Space → Nat
  | .hbm => 21
  | .vmem => 26
  | .smem => 3
  | _ => 0

abbrev bufTy : (tb : Table) → Fin (tcTables nBuf tb) → BufTy
  | .hbm, ⟨0, _⟩ => ⟨S2x1024, .i32⟩
  | .hbm, ⟨1, _⟩ => ⟨S2, .i32⟩
  | .hbm, ⟨2, _⟩ => ⟨S2048x2048, .fp8e4m3⟩
  | .hbm, ⟨3, _⟩ => ⟨S8x1x256, .f32⟩
  | .hbm, ⟨4, _⟩ => ⟨S2048x2048, .f32⟩
  | .hbm, ⟨5, _⟩ => ⟨S2048x2048, .i32⟩
  | .hbm, ⟨6, _⟩ => ⟨S8x1x256, .f32⟩
  | .hbm, ⟨7, _⟩ => ⟨S2048x5632, .fp8e4m3⟩
  | .hbm, ⟨8, _⟩ => ⟨S5632, .f32⟩
  | .hbm, ⟨9, _⟩ => ⟨S2048x5632, .fp8e4m3⟩
  | .hbm, ⟨10, _⟩ => ⟨S5632, .f32⟩
  | .hbm, ⟨11, _⟩ => ⟨S5632x2048, .fp8e4m3⟩
  | .hbm, ⟨12, _⟩ => ⟨S2048, .f32⟩
  | .hbm, ⟨13, _⟩ => ⟨S8192x2048, .i32⟩
  | .hbm, ⟨14, _⟩ => ⟨S1x5632, .f32⟩
  | .hbm, ⟨15, _⟩ => ⟨S1x5632, .f32⟩
  | .hbm, ⟨16, _⟩ => ⟨S1x2048, .f32⟩
  | .hbm, ⟨17, _⟩ => ⟨S8192x2048, .i32⟩
  | .hbm, ⟨18, _⟩ => ⟨S2048x2048, .f32⟩
  | .hbm, ⟨19, _⟩ => ⟨S2048x5632, .fp8e4m3⟩
  | .hbm, ⟨20, _⟩ => ⟨S8x1x256, .f32⟩
  | .local _ .vmem, ⟨0, _⟩ => ⟨S256x2048, .fp8e4m3⟩
  | .local _ .vmem, ⟨1, _⟩ => ⟨S256x2048, .fp8e4m3⟩
  | .local _ .vmem, ⟨2, _⟩ => ⟨S1x1x256, .f32⟩
  | .local _ .vmem, ⟨3, _⟩ => ⟨S1x1x256, .f32⟩
  | .local _ .vmem, ⟨4, _⟩ => ⟨S256x2048, .f32⟩
  | .local _ .vmem, ⟨5, _⟩ => ⟨S256x2048, .f32⟩
  | .local _ .vmem, ⟨6, _⟩ => ⟨S256x2048, .i32⟩
  | .local _ .vmem, ⟨7, _⟩ => ⟨S256x2048, .i32⟩
  | .local _ .vmem, ⟨8, _⟩ => ⟨S1x1x256, .f32⟩
  | .local _ .vmem, ⟨9, _⟩ => ⟨S1x1x256, .f32⟩
  | .local _ .vmem, ⟨10, _⟩ => ⟨S2x1024, .i32⟩
  | .local _ .vmem, ⟨11, _⟩ => ⟨S2048x5632, .fp8e4m3⟩
  | .local _ .vmem, ⟨12, _⟩ => ⟨S1x5632, .f32⟩
  | .local _ .vmem, ⟨13, _⟩ => ⟨S2048x5632, .fp8e4m3⟩
  | .local _ .vmem, ⟨14, _⟩ => ⟨S1x5632, .f32⟩
  | .local _ .vmem, ⟨15, _⟩ => ⟨S5632x2048, .fp8e4m3⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | .local _ .vmem, ⟨19, _⟩ => ⟨S256x5632, .fp8e4m3⟩
  | .local _ .vmem, ⟨20, _⟩ => ⟨S256x5632, .fp8e4m3⟩
  | .local _ .vmem, ⟨21, _⟩ => ⟨S1x1x256, .f32⟩
  | .local _ .vmem, ⟨22, _⟩ => ⟨S1x1x256, .f32⟩
  | .local _ .vmem, ⟨23, _⟩ => ⟨S256x5632, .f32⟩
  | .local _ .vmem, ⟨24, _⟩ => ⟨S256x2048, .i32⟩
  | .local _ .vmem, ⟨25, _⟩ => ⟨S8x2048, .i32⟩
  | .local _ .smem, ⟨0, _⟩ => ⟨S2x1024, .i32⟩
  | .local _ .smem, ⟨1, _⟩ => ⟨S2, .i32⟩
  | .local _ .smem, ⟨2, _⟩ => ⟨S1, .i32⟩
  | _, _ => ⟨S2x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_stg0_0 : Ref sig .tc := ⟨.smem, 0, rfl⟩
abbrev cc0_stg1_0 : Ref sig .tc := ⟨.smem, 1, rfl⟩
abbrev cc0_scratch3 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c4_i32_0 : BitVec 32 := 4#32
  let v1 : BitVec 32 := Scalar.remsi arg0 c4_i32_0
  let c256_i32 : BitVec 32 := 256#32
  let v2 : BitVec 32 := Scalar.muli v1 c256_i32
  v2
def k0_off1 (i : grid0.Coords) : Fin 2 → Nat :=
  let arg0 : BitVec 32 := BitVec.ofNat 32 (i 0).val
  let c4_i32 : BitVec 32 := 4#32
  let v0 : BitVec 32 := Scalar.divsi arg0 c4_i32
  let v565 : Index := Scalar.indexCast v0
  let c4_i32_0 : BitVec 32 := 4#32
  let v1 : BitVec 32 := Scalar.remsi arg0 c4_i32_0
  let c256_i32 : BitVec 32 := 256#32
  let v2 : BitVec 32 := Scalar.muli v1 c256_i32
  let v3 : BitVec 32 := v2
  let v566 : Index := Scalar.indexCast v3
  ![v565.toNat, v566.toNat]
def k0_cond1 (i : grid0.Coords) : BitVec 1 :=
  let arg0 : BitVec 32 := BitVec.ofNat 32 (i 0).val
  let c0_i32_256 : BitVec 32 := 0#32
  let v758 : BitVec 1 := Scalar.cmpi .sgt arg0 c0_i32_256
  let v759 : BitVec 32 := Scalar.extui v758
  let c0_i32_257 : BitVec 32 := 0#32
  let v760 : BitVec 1 := Scalar.cmpi .ne v759 c0_i32_257
  v760

@[reducible] def k0_t1_loop (v828 : BitVec 32) : Scf.Loop 32 :=
  let c0_i32_291 : BitVec 32 := 0#32
  let v829 : BitVec 32 := Scalar.subi v828 c0_i32_291
  let c1_i32_292 : BitVec 32 := 1#32
  let v831 : BitVec 32 := Scalar.divsi v829 c1_i32_292
  let v832 : BitVec 32 := Scalar.muli v831 c1_i32_292
  let v833 : BitVec 32 := Scalar.addi c0_i32_291 v832
  let c1_i32_293 : BitVec 32 := 1#32
  ⟨c0_i32_291, v833, c1_i32_293⟩

@[reducible] def k0_t2_loop (v828 : BitVec 32) : Scf.Loop 32 :=
  let c0_i32_291 : BitVec 32 := 0#32
  let v829 : BitVec 32 := Scalar.subi v828 c0_i32_291
  let c1_i32_292 : BitVec 32 := 1#32
  let v831 : BitVec 32 := Scalar.divsi v829 c1_i32_292
  let v832 : BitVec 32 := Scalar.muli v831 c1_i32_292
  let v833 : BitVec 32 := Scalar.addi c0_i32_291 v832
  let v830 : BitVec 32 := Scalar.addi c0_i32_291 v829
  let c1_i32_294 : BitVec 32 := 1#32
  ⟨v833, v830, c1_i32_294⟩

def k0_chk1 (i : grid0.Coords) (v828 : BitVec 32) : Prop :=
  (∀ (k0_h1 : k0_cond1 i = 1#1), (k0_t1_loop v828).OK) ∧
  (∀ (k0_h1 : k0_cond1 i = 1#1), (k0_t2_loop v828).OK)
theorem k0_t1_ok : ∀ (i : grid0.Coords) (v828 : BitVec 32) (k0_hw1 : k0_chk1 i v828), ∀ (k0_h1 : k0_cond1 i = 1#1), (k0_t1_loop v828).OK := fun i v828 k0_hw1 k0_h1 => k0_hw1.1 k0_h1
theorem k0_t2_ok : ∀ (i : grid0.Coords) (v828 : BitVec 32) (k0_hw1 : k0_chk1 i v828), ∀ (k0_h1 : k0_cond1 i = 1#1), (k0_t2_loop v828).OK := fun i v828 k0_hw1 k0_h1 => k0_hw1.2 k0_h1

def k0_off2 (i : grid0.Coords) : Fin 2 → Nat :=
  let arg0 : BitVec 32 := BitVec.ofNat 32 (i 0).val
  let c4_i32 : BitVec 32 := 4#32
  let v0 : BitVec 32 := Scalar.divsi arg0 c4_i32
  let v773 : Index := Scalar.indexCast v0
  let c4_i32_0 : BitVec 32 := 4#32
  let v1 : BitVec 32 := Scalar.remsi arg0 c4_i32_0
  let c256_i32 : BitVec 32 := 256#32
  let v2 : BitVec 32 := Scalar.muli v1 c256_i32
  let v3 : BitVec 32 := v2
  let c1_i32_263 : BitVec 32 := 1#32
  let v771 : BitVec 32 := Scalar.subi v3 c1_i32_263
  let c0_i32_264 : BitVec 32 := 0#32
  let v772 : BitVec 32 := Scalar.maxsi v771 c0_i32_264
  let v774 : Index := Scalar.indexCast v772
  ![v773.toNat, v774.toNat]
def k0_off3 (i : grid0.Coords) : Fin 1 → Nat :=
  let arg0 : BitVec 32 := BitVec.ofNat 32 (i 0).val
  let c4_i32 : BitVec 32 := 4#32
  let v0 : BitVec 32 := Scalar.divsi arg0 c4_i32
  let v820 : Index := Scalar.indexCast v0
  ![v820.toNat]
@[reducible] def k0_t3_loop : Scf.Loop 32 :=
  let c0_i32_283 : BitVec 32 := 0#32
  let c256_i32_284 : BitVec 32 := 256#32
  let v822 : BitVec 32 := Scalar.addi c0_i32_283 c256_i32_284
  let c1_i32_285 : BitVec 32 := 1#32
  ⟨c0_i32_283, v822, c1_i32_285⟩
def k0_off4 (i : grid0.Coords) (k0_t3 : Fin k0_t3_loop.trips) : Fin 2 → Nat :=
  let arg0 : BitVec 32 := BitVec.ofNat 32 (i 0).val
  let c4_i32 : BitVec 32 := 4#32
  let v0 : BitVec 32 := Scalar.divsi arg0 c4_i32
  let v829 : Index := Scalar.indexCast v0
  let c4_i32_0 : BitVec 32 := 4#32
  let v1 : BitVec 32 := Scalar.remsi arg0 c4_i32_0
  let c256_i32 : BitVec 32 := 256#32
  let v2 : BitVec 32 := Scalar.muli v1 c256_i32
  let v3 : BitVec 32 := v2
  let c0_i32_283 : BitVec 32 := 0#32
  let c1_i32_285 : BitVec 32 := 1#32
  let arg25 : BitVec 32 := Scf.iv c0_i32_283 c1_i32_285 k0_t3
  let v828 : BitVec 32 := Scalar.addi v3 arg25
  let v830 : Index := Scalar.indexCast v828
  ![v829.toNat, v830.toNat]
def k0_off5 (i : grid0.Coords) (k0_t3 : Fin k0_t3_loop.trips) : Fin 2 → Nat :=
  let arg0 : BitVec 32 := BitVec.ofNat 32 (i 0).val
  let c4_i32 : BitVec 32 := 4#32
  let v0 : BitVec 32 := Scalar.divsi arg0 c4_i32
  let v834 : Index := Scalar.indexCast v0
  let c4_i32_0 : BitVec 32 := 4#32
  let v1 : BitVec 32 := Scalar.remsi arg0 c4_i32_0
  let c256_i32 : BitVec 32 := 256#32
  let v2 : BitVec 32 := Scalar.muli v1 c256_i32
  let v3 : BitVec 32 := v2
  let c0_i32_283 : BitVec 32 := 0#32
  let c1_i32_285 : BitVec 32 := 1#32
  let arg25 : BitVec 32 := Scf.iv c0_i32_283 c1_i32_285 k0_t3
  let v828 : BitVec 32 := Scalar.addi v3 arg25
  let c1_i32_289 : BitVec 32 := 1#32
  let v832 : BitVec 32 := Scalar.addi v828 c1_i32_289
  let c1023_i32 : BitVec 32 := 1023#32
  let v833 : BitVec 32 := Scalar.minsi v832 c1023_i32
  let v835 : Index := Scalar.indexCast v833
  ![v834.toNat, v835.toNat]
def k0_off6 (i : grid0.Coords) (v831 : BitVec 32) : Fin 2 → Nat :=
  let arg0 : BitVec 32 := BitVec.ofNat 32 (i 0).val
  let c4_i32 : BitVec 32 := 4#32
  let v0 : BitVec 32 := Scalar.divsi arg0 c4_i32
  let c8192_i32_294 : BitVec 32 := 8192#32
  let v850 : BitVec 32 := Scalar.muli v0 c8192_i32_294
  let v851 : BitVec 32 := Scalar.addi v850 v831
  let c1_i32_295 : BitVec 32 := 1#32
  let v852 : BitVec 32 := Scalar.shrui v851 c1_i32_295
  let c0_i32_296 : BitVec 32 := 0#32
  ![v852.toNat, 0]
def k0_cond2 (i : grid0.Coords) (v821 : BitVec 32) (k0_t3 : Fin k0_t3_loop.trips) (v831 : BitVec 32) (v836 : BitVec 32) : BitVec 1 :=
  let arg0 : BitVec 32 := BitVec.ofNat 32 (i 0).val
  let c4_i32_0 : BitVec 32 := 4#32
  let v1 : BitVec 32 := Scalar.remsi arg0 c4_i32_0
  let c256_i32 : BitVec 32 := 256#32
  let v2 : BitVec 32 := Scalar.muli v1 c256_i32
  let v3 : BitVec 32 := v2
  let c0_i32_283 : BitVec 32 := 0#32
  let c1_i32_285 : BitVec 32 := 1#32
  let arg25 : BitVec 32 := Scf.iv c0_i32_283 c1_i32_285 k0_t3
  let v828 : BitVec 32 := Scalar.addi v3 arg25
  let v843 : BitVec 1 := Scalar.cmpi .slt v828 v821
  let c1_i32_290 : BitVec 32 := 1#32
  let v837 : BitVec 32 := Scalar.addi v828 c1_i32_290
  let v838 : BitVec 1 := Scalar.cmpi .slt v837 v821
  let c1_i32_291 : BitVec 32 := 1#32
  let v839 : BitVec 32 := Scalar.shrui v836 c1_i32_291
  let c1_i32_292 : BitVec 32 := 1#32
  let v840 : BitVec 32 := Scalar.shrui v831 c1_i32_292
  let v841 : BitVec 1 := Scalar.cmpi .eq v839 v840
  let v842 : BitVec 1 := Scalar.andi v838 v841
  let v_true : BitVec 1 := 1#1
  let v844 : BitVec 1 := Scalar.xori v842 v_true
  let v845 : BitVec 1 := Scalar.andi v843 v844
  let v846 : BitVec 32 := Scalar.extui v845
  let c0_i32_293 : BitVec 32 := 0#32
  let v847 : BitVec 1 := Scalar.cmpi .ne v846 c0_i32_293
  v847

def k0_chk2 (i : grid0.Coords) (v821 : BitVec 32) (k0_t3 : Fin k0_t3_loop.trips) (v831 : BitVec 32) (v836 : BitVec 32) : Prop :=
  (∀ (k0_h2 : k0_cond2 i v821 k0_t3 v831 v836 = 1#1), ∀ a, (k0_off6 i v831) a + S1x2048.size a ≤ S8192x2048.size a)
theorem k0_off6_inb : ∀ (i : grid0.Coords) (v821 : BitVec 32) (k0_t3 : Fin k0_t3_loop.trips) (v831 : BitVec 32) (v836 : BitVec 32) (k0_hw2 : k0_chk2 i v821 k0_t3 v831 v836), ∀ (k0_h2 : k0_cond2 i v821 k0_t3 v831 v836 = 1#1), ∀ a, (k0_off6 i v831) a + S1x2048.size a ≤ S8192x2048.size a := fun i v821 k0_t3 v831 v836 k0_hw2 k0_h2 => k0_hw2 k0_h2

def k0_off7 (k0_t3 : Fin k0_t3_loop.trips) : Fin 2 → Nat :=
  let c0_i32_283 : BitVec 32 := 0#32
  let c1_i32_285 : BitVec 32 := 1#32
  let arg25 : BitVec 32 := Scf.iv c0_i32_283 c1_i32_285 k0_t3
  let c0_i32_297 : BitVec 32 := 0#32
  ![arg25.toNat, 0]
def k0_cond3 (i : grid0.Coords) : BitVec 1 :=
  let arg0 : BitVec 32 := BitVec.ofNat 32 (i 0).val
  let c7_i32 : BitVec 32 := 7#32
  let v825 : BitVec 1 := Scalar.cmpi .eq arg0 c7_i32
  let v826 : BitVec 32 := Scalar.extui v825
  let c0_i32_288 : BitVec 32 := 0#32
  let v827 : BitVec 1 := Scalar.cmpi .ne v826 c0_i32_288
  v827

@[reducible] def k0_t4_loop (v828 : BitVec 32) : Scf.Loop 32 :=
  let c0_i32_291 : BitVec 32 := 0#32
  let v829 : BitVec 32 := Scalar.subi v828 c0_i32_291
  let c1_i32_292 : BitVec 32 := 1#32
  let v831 : BitVec 32 := Scalar.divsi v829 c1_i32_292
  let v832 : BitVec 32 := Scalar.muli v831 c1_i32_292
  let v833 : BitVec 32 := Scalar.addi c0_i32_291 v832
  let c1_i32_293 : BitVec 32 := 1#32
  ⟨c0_i32_291, v833, c1_i32_293⟩

@[reducible] def k0_t5_loop (v828 : BitVec 32) : Scf.Loop 32 :=
  let c0_i32_291 : BitVec 32 := 0#32
  let v829 : BitVec 32 := Scalar.subi v828 c0_i32_291
  let c1_i32_292 : BitVec 32 := 1#32
  let v831 : BitVec 32 := Scalar.divsi v829 c1_i32_292
  let v832 : BitVec 32 := Scalar.muli v831 c1_i32_292
  let v833 : BitVec 32 := Scalar.addi c0_i32_291 v832
  let v830 : BitVec 32 := Scalar.addi c0_i32_291 v829
  let c1_i32_294 : BitVec 32 := 1#32
  ⟨v833, v830, c1_i32_294⟩

def k0_chk3 (i : grid0.Coords) (v828 : BitVec 32) : Prop :=
  (∀ (k0_h3 : k0_cond3 i = 1#1), (k0_t4_loop v828).OK) ∧
  (∀ (k0_h3 : k0_cond3 i = 1#1), (k0_t5_loop v828).OK)
theorem k0_t4_ok : ∀ (i : grid0.Coords) (v828 : BitVec 32) (k0_hw3 : k0_chk3 i v828), ∀ (k0_h3 : k0_cond3 i = 1#1), (k0_t4_loop v828).OK := fun i v828 k0_hw3 k0_h3 => k0_hw3.1 k0_h3
theorem k0_t5_ok : ∀ (i : grid0.Coords) (v828 : BitVec 32) (k0_hw3 : k0_chk3 i v828), ∀ (k0_h3 : k0_cond3 i = 1#1), (k0_t5_loop v828).OK := fun i v828 k0_hw3 k0_h3 => k0_hw3.2 k0_h3

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x1024 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x5632 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x5632 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S5632x2048 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x5632 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S2x1024 : Shape := ⟨2, ![2, 1024]⟩
abbrev S2 : Shape := ⟨1, ![2]⟩
abbrev S2048x2048 : Shape := ⟨2, ![2048, 2048]⟩
abbrev S8x1x256 : Shape := ⟨3, ![8, 1, 256]⟩
abbrev S2048x5632 : Shape := ⟨2, ![2048, 5632]⟩
abbrev S5632 : Shape := ⟨1, ![5632]⟩
abbrev S5632x2048 : Shape := ⟨2, ![5632, 2048]⟩
abbrev S2048 : Shape := ⟨1, ![2048]⟩
abbrev S8192x2048 : Shape := ⟨2, ![8192, 2048]⟩
abbrev S2048x1 : Shape := ⟨2, ![2048, 1]⟩
abbrev S1x5632 : Shape := ⟨2, ![1, 5632]⟩
abbrev S1x2048 : Shape := ⟨2, ![1, 2048]⟩

abbrev nBuf : Space → Nat
  | .hbm => 21
  | .vmem => 12
  | .smem => 0
  | _ => 0

abbrev bufTy : (tb : Table) → Fin (tcTables nBuf tb) → BufTy
  | .hbm, ⟨0, _⟩ => ⟨S2x1024, .i32⟩
  | .hbm, ⟨1, _⟩ => ⟨S2, .i32⟩
  | .hbm, ⟨2, _⟩ => ⟨S2048x2048, .fp8e4m3⟩
  | .hbm, ⟨3, _⟩ => ⟨S8x1x256, .f32⟩
  | .hbm, ⟨4, _⟩ => ⟨S2048x2048, .f32⟩
  | .hbm, ⟨5, _⟩ => ⟨S2048x2048, .i32⟩
  | .hbm, ⟨6, _⟩ => ⟨S8x1x256, .f32⟩
  | .hbm, ⟨7, _⟩ => ⟨S2048x5632, .fp8e4m3⟩
  | .hbm, ⟨8, _⟩ => ⟨S5632, .f32⟩
  | .hbm, ⟨9, _⟩ => ⟨S2048x5632, .fp8e4m3⟩
  | .hbm, ⟨10, _⟩ => ⟨S5632, .f32⟩
  | .hbm, ⟨11, _⟩ => ⟨S5632x2048, .fp8e4m3⟩
  | .hbm, ⟨12, _⟩ => ⟨S2048, .f32⟩
  | .hbm, ⟨13, _⟩ => ⟨S8192x2048, .i32⟩
  | .hbm, ⟨14, _⟩ => ⟨S2048x1, .f32⟩
  | .hbm, ⟨15, _⟩ => ⟨S1x5632, .f32⟩
  | .hbm, ⟨16, _⟩ => ⟨S1x5632, .f32⟩
  | .hbm, ⟨17, _⟩ => ⟨S1x2048, .f32⟩
  | .hbm, ⟨18, _⟩ => ⟨S2048x2048, .f32⟩
  | .hbm, ⟨19, _⟩ => ⟨S2048x5632, .fp8e4m3⟩
  | .hbm, ⟨20, _⟩ => ⟨S8x1x256, .f32⟩
  | .local _ .vmem, ⟨0, _⟩ => ⟨S2048x2048, .fp8e4m3⟩
  | .local _ .vmem, ⟨1, _⟩ => ⟨S2048x1, .f32⟩
  | .local _ .vmem, ⟨2, _⟩ => ⟨S2048x5632, .fp8e4m3⟩
  | .local _ .vmem, ⟨3, _⟩ => ⟨S1x5632, .f32⟩
  | .local _ .vmem, ⟨4, _⟩ => ⟨S2048x5632, .fp8e4m3⟩
  | .local _ .vmem, ⟨5, _⟩ => ⟨S1x5632, .f32⟩
  | .local _ .vmem, ⟨6, _⟩ => ⟨S5632x2048, .fp8e4m3⟩
  | .local _ .vmem, ⟨7, _⟩ => ⟨S1x2048, .f32⟩
  | .local _ .vmem, ⟨8, _⟩ => ⟨S2048x2048, .f32⟩
  | .local _ .vmem, ⟨9, _⟩ => ⟨S2048x2048, .f32⟩
  | .local _ .vmem, ⟨10, _⟩ => ⟨S2048x5632, .fp8e4m3⟩
  | .local _ .vmem, ⟨11, _⟩ => ⟨S8x1x256, .f32⟩
  | _, _ => ⟨S2x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2048x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x5632 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x5632 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5632x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x5632 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Qkv.lean ====
abbrev S8192x2048 : Shape := ⟨2, ![8192, 2048]⟩
abbrev S2x1024 : Shape := ⟨2, ![2, 1024]⟩
abbrev S2048 : Shape := ⟨1, ![2048]⟩
abbrev S2048x5120 : Shape := ⟨2, ![2048, 5120]⟩
abbrev S5120 : Shape := ⟨1, ![5120]⟩
abbrev S80 : Shape := ⟨1, ![80]⟩
abbrev S_ : Shape := ⟨0, ![]⟩
abbrev S160 : Shape := ⟨1, ![160]⟩
abbrev S128 : Shape := ⟨1, ![128]⟩
abbrev S1x128 : Shape := ⟨2, ![1, 128]⟩
abbrev S1x2048 : Shape := ⟨2, ![1, 2048]⟩
abbrev S1x5120 : Shape := ⟨2, ![1, 5120]⟩
abbrev S2048x2048 : Shape := ⟨2, ![2048, 2048]⟩
abbrev S8x1x256 : Shape := ⟨3, ![8, 1, 256]⟩
abbrev S2048x4096 : Shape := ⟨2, ![2048, 4096]⟩
abbrev S1280x2048 : Shape := ⟨2, ![1280, 2048]⟩
abbrev S256x2048 : Shape := ⟨2, ![256, 2048]⟩
abbrev S1x1x256 : Shape := ⟨3, ![1, 1, 256]⟩
abbrev S256x4096 : Shape := ⟨2, ![256, 4096]⟩
abbrev S1280x256 : Shape := ⟨2, ![1280, 256]⟩
abbrev S2x256x2048 : Shape := ⟨3, ![2, 256, 2048]⟩
abbrev S2 : Shape := ⟨1, ![2]⟩
abbrev S1x1 : Shape := ⟨2, ![1, 1]⟩
abbrev S1 : Shape := ⟨1, ![1]⟩
abbrev S1x1x2048 : Shape := ⟨3, ![1, 1, 2048]⟩
abbrev S1x256 : Shape := ⟨2, ![1, 256]⟩
abbrev S128x128 : Shape := ⟨2, ![128, 128]⟩
abbrev S256x128 : Shape := ⟨2, ![256, 128]⟩
abbrev S1x256x2048 : Shape := ⟨3, ![1, 256, 2048]⟩
abbrev S256 : Shape := ⟨1, ![256]⟩
abbrev S256x1 : Shape := ⟨2, ![256, 1]⟩
abbrev S1x1280 : Shape := ⟨2, ![1, 1280]⟩
abbrev S256x1280 : Shape := ⟨2, ![256, 1280]⟩
abbrev S256x256 : Shape := ⟨2, ![256, 256]⟩
abbrev S2048x1280 : Shape := ⟨2, ![2048, 1280]⟩

abbrev nBuf : Space → Nat
  | .hbm => 27
  | .vmem => 21
  | .smem => 1
  | _ => 0

abbrev bufTy : (tb : Table) → Fin (tcTables nBuf tb) → BufTy
  | .hbm, ⟨0, _⟩ => ⟨S8192x2048, .i32⟩
  | .hbm, ⟨1, _⟩ => ⟨S2x1024, .i32⟩
  | .hbm, ⟨2, _⟩ => ⟨S2048, .f32⟩
  | .hbm, ⟨3, _⟩ => ⟨S2048, .f32⟩
  | .hbm, ⟨4, _⟩ => ⟨S2048x5120, .fp8e4m3⟩
  | .hbm, ⟨5, _⟩ => ⟨S5120, .f32⟩
  | .hbm, ⟨6, _⟩ => ⟨S80, .f32⟩
  | .hbm, ⟨7, _⟩ => ⟨S80, .f32⟩
  | .hbm, ⟨8, _⟩ => ⟨S_, .f32⟩
  | .hbm, ⟨9, _⟩ => ⟨S80, .f32⟩
  | .hbm, ⟨10, _⟩ => ⟨S80, .f32⟩
  | .hbm, ⟨11, _⟩ => ⟨S_, .f32⟩
  | .hbm, ⟨12, _⟩ => ⟨S80, .f32⟩
  | .hbm, ⟨13, _⟩ => ⟨S80, .f32⟩
  | .hbm, ⟨14, _⟩ => ⟨S160, .f32⟩
  | .hbm, ⟨15, _⟩ => ⟨S128, .f32⟩
  | .hbm, ⟨16, _⟩ => ⟨S1x128, .f32⟩
  | .hbm, ⟨17, _⟩ => ⟨S1x2048, .f32⟩
  | .hbm, ⟨18, _⟩ => ⟨S1x2048, .f32⟩
  | .hbm, ⟨19, _⟩ => ⟨S1x5120, .f32⟩
  | .hbm, ⟨20, _⟩ => ⟨S2048x2048, .i32⟩
  | .hbm, ⟨21, _⟩ => ⟨S2048x2048, .fp8e4m3⟩
  | .hbm, ⟨22, _⟩ => ⟨S8x1x256, .f32⟩
  | .hbm, ⟨23, _⟩ => ⟨S8x1x256, .f32⟩
  | .hbm, ⟨24, _⟩ => ⟨S2048x4096, .bf16⟩
  | .hbm, ⟨25, _⟩ => ⟨S2048x2048, .bf16⟩
  | .hbm, ⟨26, _⟩ => ⟨S1280x2048, .bf16⟩
  | .local _ .vmem, ⟨0, _⟩ => ⟨S2x1024, .i32⟩
  | .local _ .vmem, ⟨1, _⟩ => ⟨S1x2048, .f32⟩
  | .local _ .vmem, ⟨2, _⟩ => ⟨S1x2048, .f32⟩
  | .local _ .vmem, ⟨3, _⟩ => ⟨S2048x5120, .fp8e4m3⟩
  | .local _ .vmem, ⟨4, _⟩ => ⟨S1x5120, .f32⟩
  | .local _ .vmem, ⟨5, _⟩ => ⟨S1x128, .f32⟩
  | .local _ .vmem, ⟨6, _⟩ => ⟨S256x2048, .i32⟩
  | .local _ .vmem, ⟨7, _⟩ => ⟨S256x2048, .i32⟩
  | .local _ .vmem, ⟨8, _⟩ => ⟨S256x2048, .fp8e4m3⟩
  | .local _ .vmem, ⟨9, _⟩ => ⟨S256x2048, .fp8e4m3⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S256x4096, .bf16⟩
  | .local _ .vmem, ⟨15, _⟩ => ⟨S256x4096, .bf16⟩
  | .local _ .vmem, ⟨16, _⟩ => ⟨S256x2048, .bf16⟩
  | .local _ .vmem, ⟨17, _⟩ => ⟨S256x2048, .bf16⟩
  | .local _ .vmem, ⟨18, _⟩ => ⟨S1280x256, .bf16⟩
  | .local _ .vmem, ⟨19, _⟩ => ⟨S1280x256, .bf16⟩
  | .local _ .vmem, ⟨20, _⟩ => ⟨S2x256x2048, .i32⟩
  | .local _ .smem, ⟨0, _⟩ => ⟨S2x1024, .i32⟩
  | _, _ => ⟨S8192x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev main_v12_6 : Ref sig .tc := ⟨.hbm, 26, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_184 : BitVec 32 := 0#32
  let c256_i32_185 : BitVec 32 := 256#32
  let v461 : BitVec 32 := Scalar.addi c0_i32_184 c256_i32_185
  let c1_i32_186 : BitVec 32 := 1#32
  ⟨c0_i32_184, v461, c1_i32_186⟩
def k0_off1 (k0_t1 : Fin k0_t1_loop.trips) : Fin 2 → Nat :=
  let c0_i32_179 : BitVec 32 := 0#32
  let c4_i32_180 : BitVec 32 := 4#32
  let v458 : BitVec 32 := Scalar.divsi c0_i32_179 c4_i32_180
  let v464 : Index := Scalar.indexCast v458
  let c0_i32_181 : BitVec 32 := 0#32
  let c4_i32_182 : BitVec 32 := 4#32
  let v459 : BitVec 32 := Scalar.remsi c0_i32_181 c4_i32_182
  let c256_i32_183 : BitVec 32 := 256#32
  let v460 : BitVec 32 := Scalar.muli v459 c256_i32_183
  let c0_i32_184 : BitVec 32 := 0#32
  let c1_i32_186 : BitVec 32 := 1#32
  let arg18 : BitVec 32 := Scf.iv c0_i32_184 c1_i32_186 k0_t1
  let v463 : BitVec 32 := Scalar.addi v460 arg18
  let v465 : Index := Scalar.indexCast v463
  ![v464.toNat, v465.toNat]
def k0_off2 (k0_t1 : Fin k0_t1_loop.trips) : Fin 3 → Nat :=
  let c0_i32_189 : BitVec 32 := 0#32
  let c0_i32_184 : BitVec 32 := 0#32
  let c1_i32_186 : BitVec 32 := 1#32
  let arg18 : BitVec 32 := Scf.iv c0_i32_184 c1_i32_186 k0_t1
  let c0_i32_191 : BitVec 32 := 0#32
  ![0, arg18.toNat, 0]
def k0_off3 (v466 : BitVec 32) : Fin 2 → Nat :=
  let c0_i32_179 : BitVec 32 := 0#32
  let c4_i32_180 : BitVec 32 := 4#32
  let v458 : BitVec 32 := Scalar.divsi c0_i32_179 c4_i32_180
  let c8192_i32 : BitVec 32 := 8192#32
  let v462 : BitVec 32 := Scalar.muli v458 c8192_i32
  let v467 : BitVec 32 := Scalar.addi v462 v466
  let c1_i32_188 : BitVec 32 := 1#32
  let v468 : BitVec 32 := Scalar.shrui v467 c1_i32_188
  let c0_i32_192 : BitVec 32 := 0#32
  ![v468.toNat, 0]

def k0_chk1 (i : grid0.Coords) (v466 : BitVec 32) : Prop :=
  (∀ (k0_h1 : k0_cond1 i = 1#1), ∀ a, (k0_off3 v466) a + S1x2048.size a ≤ S8192x2048.size a)
theorem k0_off3_inb : ∀ (i : grid0.Coords) (v466 : BitVec 32) (k0_hw1 : k0_chk1 i v466), ∀ (k0_h1 : k0_cond1 i = 1#1), ∀ a, (k0_off3 v466) a + S1x2048.size a ≤ S8192x2048.size a := fun i v466 k0_hw1 k0_h1 => k0_hw1 k0_h1

def k0_cond2 (i : grid0.Coords) : BitVec 1 :=
  let arg0 : BitVec 32 := BitVec.ofNat 32 (i 0).val
  let c1_i32 : BitVec 32 := 1#32
  let v4 : BitVec 32 := Scalar.addi arg0 c1_i32
  let c8_i32 : BitVec 32 := 8#32
  let v5 : BitVec 1 := Scalar.cmpi .slt v4 c8_i32
  let v6 : BitVec 32 := Scalar.extui v5
  let c0_i32_1 : BitVec 32 := 0#32
  let v7 : BitVec 1 := Scalar.cmpi .ne v6 c0_i32_1
  v7

@[reducible] def k0_t2_loop : Scf.Loop 32 :=
  let c0_i32_184 : BitVec 32 := 0#32
  let c256_i32_185 : BitVec 32 := 256#32
  let v463 : BitVec 32 := Scalar.addi c0_i32_184 c256_i32_185
  let c1_i32_186 : BitVec 32 := 1#32
  ⟨c0_i32_184, v463, c1_i32_186⟩
def k0_off4 (i : grid0.Coords) (k0_t2 : Fin k0_t2_loop.trips) : Fin 2 → Nat :=
  let arg0 : BitVec 32 := BitVec.ofNat 32 (i 0).val
  let c1_i32_179 : BitVec 32 := 1#32
  let v458 : BitVec 32 := Scalar.addi arg0 c1_i32_179
  let c4_i32_181 : BitVec 32 := 4#32
  let v460 : BitVec 32 := Scalar.divsi v458 c4_i32_181
  let v466 : Index := Scalar.indexCast v460
  let c4_i32_182 : BitVec 32 := 4#32
  let v461 : BitVec 32 := Scalar.remsi v458 c4_i32_182
  let c256_i32_183 : BitVec 32 := 256#32
  let v462 : BitVec 32 := Scalar.muli v461 c256_i32_183
  let c0_i32_184 : BitVec 32 := 0#32
  let c1_i32_186 : BitVec 32 := 1#32
  let arg18 : BitVec 32 := Scf.iv c0_i32_184 c1_i32_186 k0_t2
  let v465 : BitVec 32 := Scalar.addi v462 arg18
  let v467 : Index := Scalar.indexCast v465
  ![v466.toNat, v467.toNat]
def k0_off5 (i : grid0.Coords) : Fin 1 → Nat :=
  let c1_i32_180 : BitVec 32 := 1#32
  let arg0 : BitVec 32 := BitVec.ofNat 32 (i 0).val
  let c2_i32 : BitVec 32 := 2#32
  let v0 : BitVec 32 := Scalar.remsi arg0 c2_i32
  let v459 : BitVec 32 := Scalar.subi c1_i32_180 v0
  ![v459.toNat]
def k0_off6 (i : grid0.Coords) (k0_t2 : Fin k0_t2_loop.trips) : Fin 3 → Nat :=
  let c1_i32_180 : BitVec 32 := 1#32
  let arg0 : BitVec 32 := BitVec.ofNat 32 (i 0).val
  let c2_i32 : BitVec 32 := 2#32
  let v0 : BitVec 32 := Scalar.remsi arg0 c2_i32
  let v459 : BitVec 32 := Scalar.subi c1_i32_180 v0
  let c0_i32_184 : BitVec 32 := 0#32
  let c1_i32_186 : BitVec 32 := 1#32
  let arg18 : BitVec 32 := Scf.iv c0_i32_184 c1_i32_186 k0_t2
  let c0_i32_189 : BitVec 32 := 0#32
  ![v459.toNat, arg18.toNat, 0]
def k0_off7 (i : grid0.Coords) (v468 : BitVec 32) : Fin 2 → Nat :=
  let arg0 : BitVec 32 := BitVec.ofNat 32 (i 0).val
  let c1_i32_179 : BitVec 32 := 1#32
  let v458 : BitVec 32 := Scalar.addi arg0 c1_i32_179
  let c4_i32_181 : BitVec 32 := 4#32
  let v460 : BitVec 32 := Scalar.divsi v458 c4_i32_181
  let c8192_i32 : BitVec 32 := 8192#32
  let v464 : BitVec 32 := Scalar.muli v460 c8192_i32
  let v469 : BitVec 32 := Scalar.addi v464 v468
  let c1_i32_188 : BitVec 32 := 1#32
  let v470 : BitVec 32 := Scalar.shrui v469 c1_i32_188
  let c0_i32_190 : BitVec 32 := 0#32
  ![v470.toNat, 0]

def k0_chk2 (i : grid0.Coords) (v468 : BitVec 32) : Prop :=
  (∀ (k0_h2 : k0_cond2 i = 1#1), ∀ a, (k0_off7 i v468) a + S1x2048.size a ≤ S8192x2048.size a)
theorem k0_off7_inb : ∀ (i : grid0.Coords) (v468 : BitVec 32) (k0_hw2 : k0_chk2 i v468), ∀ (k0_h2 : k0_cond2 i = 1#1), ∀ a, (k0_off7 i v468) a + S1x2048.size a ≤ S8192x2048.size a := fun i v468 k0_hw2 k0_h2 => k0_hw2 k0_h2

@[reducible] def k0_t3_loop : Scf.Loop 32 :=
  let c0_i32_2 : BitVec 32 := 0#32
  let c256_i32 : BitVec 32 := 256#32
  let v8 : BitVec 32 := Scalar.addi c0_i32_2 c256_i32
  let c1_i32_3 : BitVec 32 := 1#32
  ⟨c0_i32_2, v8, c1_i32_3⟩
def k0_off8 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off9 (i : grid0.Coords) : Fin 3 → Nat :=
  let arg0 : BitVec 32 := BitVec.ofNat 32 (i 0).val
  let c2_i32 : BitVec 32 := 2#32
  let v0 : BitVec 32 := Scalar.remsi arg0 c2_i32
  let c0_i32_179 : BitVec 32 := 0#32
  let c0_i32_180 : BitVec 32 := 0#32
  ![v0.toNat, 0, 0]
def k0_mult1 (i : grid0.Coords) : BitVec 32 :=
  let arg0 : BitVec 32 := BitVec.ofNat 32 (i 0).val
  let c4_i32_4 : BitVec 32 := 4#32
  let v10 : BitVec 32 := Scalar.remsi arg0 c4_i32_4
  let c256_i32_5 : BitVec 32 := 256#32
  let v11 : BitVec 32 := Scalar.muli v10 c256_i32_5
  v11
def k0_off10 (i : grid0.Coords) : Fin 2 → Nat :=
  let arg0 : BitVec 32 := BitVec.ofNat 32 (i 0).val
  let c4_i32 : BitVec 32 := 4#32
  let v9 : BitVec 32 := Scalar.divsi arg0 c4_i32
  let v13 : Index := Scalar.indexCast v9
  let c4_i32_4 : BitVec 32 := 4#32
  let v10 : BitVec 32 := Scalar.remsi arg0 c4_i32_4
  let c256_i32_5 : BitVec 32 := 256#32
  let v11 : BitVec 32 := Scalar.muli v10 c256_i32_5
  let v12 : BitVec 32 := v11
  let v14 : Index := Scalar.indexCast v12
  ![v13.toNat, v14.toNat]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v29 : Index := Scalar.indexCast v0
  let c0 : Index := 0#32
  let c0_7 : Index := 0#32
  ![v29.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S2x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1280x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceQkvIdeal.lean ====
abbrev S8192x2048 : Shape := ⟨2, ![8192, 2048]⟩
abbrev S2x1024 : Shape := ⟨2, ![2, 1024]⟩
abbrev S2048 : Shape := ⟨1, ![2048]⟩
abbrev S2048x5120 : Shape := ⟨2, ![2048, 5120]⟩
abbrev S5120 : Shape := ⟨1, ![5120]⟩
abbrev S_ : Shape := ⟨0, ![]⟩
abbrev S2048x1 : Shape := ⟨2, ![2048, 1]⟩
abbrev S2048x2048 : Shape := ⟨2, ![2048, 2048]⟩
abbrev S1x2048 : Shape := ⟨2, ![1, 2048]⟩
abbrev S8x1x256 : Shape := ⟨3, ![8, 1, 256]⟩

abbrev nBuf : Space → Nat
  | .hbm => 22
  | .vmem => 7
  | .smem => 0
  | _ => 0

abbrev bufTy : (tb : Table) → Fin (tcTables nBuf tb) → BufTy
  | .hbm, ⟨0, _⟩ => ⟨S8192x2048, .i32⟩
  | .hbm, ⟨1, _⟩ => ⟨S2x1024, .i32⟩
  | .hbm, ⟨2, _⟩ => ⟨S2048, .f32⟩
  | .hbm, ⟨3, _⟩ => ⟨S2048, .f32⟩
  | .hbm, ⟨4, _⟩ => ⟨S2048x5120, .fp8e4m3⟩
  | .hbm, ⟨5, _⟩ => ⟨S5120, .f32⟩
  | .hbm, ⟨6, _⟩ => ⟨S2x1024, .i32⟩
  | .hbm, ⟨7, _⟩ => ⟨S_, .i32⟩
  | .hbm, ⟨8, _⟩ => ⟨S2x1024, .i32⟩
  | .hbm, ⟨9, _⟩ => ⟨S2x1024, .i32⟩
  | .hbm, ⟨10, _⟩ => ⟨S2x1024, .i32⟩
  | .hbm, ⟨11, _⟩ => ⟨S2048x1, .i32⟩
  | .hbm, ⟨12, _⟩ => ⟨S_, .i32⟩
  | .hbm, ⟨13, _⟩ => ⟨S2048x1, .i32⟩
  | .hbm, ⟨14, _⟩ => ⟨S2048x1, .i32⟩
  | .hbm, ⟨15, _⟩ => ⟨S2048x2048, .i32⟩
  | .hbm, ⟨16, _⟩ => ⟨S2048x1, .i32⟩
  | .hbm, ⟨17, _⟩ => ⟨S1x2048, .f32⟩
  | .hbm, ⟨18, _⟩ => ⟨S1x2048, .f32⟩
  | .hbm, ⟨19, _⟩ => ⟨S8x1x256, .f32⟩
  | .hbm, ⟨20, _⟩ => ⟨S2048x2048, .fp8e4m3⟩
  | .hbm, ⟨21, _⟩ => ⟨S8x1x256, .f32⟩
  | .local _ .vmem, ⟨0, _⟩ => ⟨S2048x2048, .i32⟩
  | .local _ .vmem, ⟨1, _⟩ => ⟨S2048x1, .i32⟩
  | .local _ .vmem, ⟨2, _⟩ => ⟨S1x2048, .f32⟩
  | .local _ .vmem, ⟨3, _⟩ => ⟨S1x2048, .f32⟩
  | .local _ .vmem, ⟨4, _⟩ => ⟨S8x1x256, .f32⟩
  | .local _ .vmem, ⟨5, _⟩ => ⟨S2048x2048, .fp8e4m3⟩
  | .local _ .vmem, ⟨6, _⟩ => ⟨S8x1x256, .f32⟩
  | _, _ => ⟨S8192x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2048x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Rows.lean ====
/- What the precondition says of the table of selected positions, read as numbers. -/
module

public import proofs.«01_k».proof.Pre_rows_increase
public import Idealize.ShloMosaic.Lib.Pipeline.Value
public import Idealize.ShloMosaic.Lib.WordCmp

@[expose] public section

set_option maxRecDepth 16384

noncomputable section

namespace Cert.Rows

open Idealize.ShloMosaic Idealize.ShloMosaic.WordCmp Cert.Pre_rows_increase

/-- Position `s` of batch `b`. -/
abbrev at2 (b : Fin 2) (s : Fin 1024) : S2x1024.Idx := Fin.cons b (Fin.cons s fun a => a.elim0)
/-- Batch `b`. -/
abbrev at1 (b : Fin 2) : S2.Idx := Fin.cons b fun a => a.elim0

/-- Every live position is a row of the sequence, and is less than the next live one. -/
def Good (sel : S2x1024.Idx → BitVec 32) (count : S2.Idx → BitVec 32) : Prop :=
  ∀ (b : Fin 2) (s : Fin 1024), (s.val : Int) < (count (at1 b)).toInt →
    0 ≤ (sel (at2 b s)).toInt ∧ (sel (at2 b s)).toInt < 8192 ∧
    ∀ h : s.val + 1 < 1024, (s.val : Int) + 1 < (count (at1 b)).toInt →
      (sel (at2 b s)).toInt < (sel (at2 b ⟨s.val + 1, h⟩)).toInt

theorem good_of_pre [Facts] {F : FTy → Type} [FloatOps F] (x0 : IVec S2x1024 32) (x1 : IVec S2 32)
    (x2 x3 x4 x5 x6 x7 x8 x9 x10 x11 x12 x13)
    (h : fn (F := F) x0 x1 x2 x3 x4 x5 x6 x7 x8 x9 x10 x11 x12 x13 = fun _ => 1#1) : Good x0 x1 := by
  intro b s hs
  have e := congrFun h (at2 b s)
  have e1 : (BitVec.ofNat 32 s.val).toInt = (s.val : Int) := toInt_ofNat_of_lt (by have := s.isLt; omega)
  have e2 : (BitVec.ofNat 32 s.val + 1#32).toInt = (s.val : Int) + 1 := by
    rw [show (BitVec.ofNat 32 s.val + 1#32) = BitVec.ofNat 32 (s.val + 1) by rw [BitVec.ofNat_add]]
    rw [toInt_ofNat_of_lt (by have := s.isLt; omega)]; push_cast; rfl
  have hb : broadcastInDim S2x1024 ![0] Facts.bcast_S2_S2x1024_0 x1 (at2 b s) = x1 (at1 b) :=
    congrArg x1 (funext fun a => by fin_cases a; rfl)
  have hk : ∀ w, broadcastInDim S2x1024 ![] Facts.bcast_S_S2x1024 (constantI S_ 32 w) (at2 b s) = w := fun _ => rfl
  have hn : ∀ p : Bool, ~~~(BitVec.ofBool p) = BitVec.ofBool (!p) := by decide
  simp only [fn, fn_part1, andi, ori, noti, cmpi, addi, iotaInDim, hb, hk] at e
  rw [show (at2 b s 1).val = s.val from rfl] at e
  simp only [IntOp.addi, cmpi_slt_eq, cmpi_sge_eq, hn, andi_ofBool, ori_ofBool, ofBool_eq_one_iff, e1, e2] at e
  rw [show (0#32).toInt = 0 from rfl, show (8192#32).toInt = 8192 from rfl, show (1023#32).toInt = 1023 from rfl] at e
  simp only [Bool.or_eq_true, Bool.and_eq_true, Bool.not_eq_true', decide_eq_false_iff_not, decide_eq_true_eq] at e
  rcases e with e | ⟨⟨ea, eb⟩, ec⟩
  · exact absurd hs e
  refine ⟨ea, eb, fun hl hc => ?_⟩
  rcases ec with ec | ec
  · omega
  rwa [concatenate_pair_apply_left (t := S2x1024) (s₁ := S2x1023) (s₂ := S2x1) 1 _ _ _ (at2 b s) rfl
    (Fin.cons b (Fin.cons (⟨s.val, by omega⟩ : Fin 1023) fun a => a.elim0) : S2x1023.Idx) (by intro a; fin_cases a <;> rfl),
    show extractStridedSlice S2x1023 ![0, 1] x0 Facts.slices_S2x1024_S2x1023_0_1
        (Fin.cons b (Fin.cons (⟨s.val, by omega⟩ : Fin 1023) fun a => a.elim0) : S2x1023.Idx) = x0 (at2 b ⟨s.val + 1, hl⟩) from
      congrArg x0 (funext fun a => Fin.ext (by fin_cases a <;> [exact Nat.zero_add _; exact Nat.add_comm _ _]))] at ec

/-- Later live positions are larger. -/
theorem Good.lt {sel : S2x1024.Idx → BitVec 32} {count : S2.Idx → BitVec 32} (G : Good sel count) (b : Fin 2) (s : Fin 1024) :
    ∀ (d : ℕ) (h : s.val + d + 1 < 1024), ((s.val + d : ℕ) : Int) + 1 < (count (at1 b)).toInt →
      (sel (at2 b s)).toInt < (sel (at2 b ⟨s.val + d + 1, h⟩)).toInt
  | 0, h, hc => (G b s (by omega)).2.2 h (by omega)
  | d + 1, h, hc => by
    have i := Good.lt G b s d (by omega) (by omega)
    have j := (G b ⟨s.val + d + 1, by omega⟩ (by push_cast at hc ⊢; omega)).2.2 (by omega) (by push_cast at hc ⊢; omega)
    exact i.trans j

end Cert.Rows
-- ==== Proof.Kernel.Wait.lean ====
/- Waiting for the row transfers a grid point started: the rows in flight between two grid points, and the two
   counted loops that wait for them.  -/
module

public import proofs.«01_k».proof.Proof.Gen.Kernel.Frame
public import proofs.«01_k».proof.Proof.Gen.Kernel.Skeleton

@[expose] public section

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The output array as rows of words. -/
abbrev outM : Memref sig .tc .hbm S8192x2048 .i32 := Memref.whole main_v3_0
/-- The activation scratch. -/
abbrev actM : Memref sig .tc .vmem S256x5632 .f32 := Memref.whole cc0_scratch0
/-- The rows a grid point sends. -/
abbrev newpM : Memref sig .tc .vmem S256x2048 .i32 := Memref.whole cc0_scratch1
/-- The row carried to the next grid point. -/
abbrev carM : Memref sig .tc .vmem S8x2048 .i32 := Memref.whole cc0_scratch2
/-- The count of rows in flight. -/
abbrev nstM : Memref sig .tc .smem S1 .i32 := Memref.whole cc0_scratch3
/-- The cell all row transfers count on. -/
abbrev semL : SemLoc sig := SemLoc.dma (cc0_scratch4.sem)

/-- A row of the output array. -/
abbrev outRow (off : Fin 2 → Nat) (h : ∀ a, off a + S1x2048.size a ≤ S8192x2048.size a) : Memref sig .tc .hbm S1x2048 .i32 :=
  outM.slice (Rect.unit (s := S8192x2048) off S1x2048.size h) (fun _ => rfl)
/-- A row of the rows to send. -/
abbrev newpRow (off : Fin 2 → Nat) (h : ∀ a, off a + S1x2048.size a ≤ S256x2048.size a) : Memref sig .tc .vmem S1x2048 .i32 :=
  newpM.slice (Rect.unit (s := S256x2048) off S1x2048.size h) (fun _ => rfl)

/-- What one row transfer pays. -/
def rowN : ℕ := (outRow ![0, 0] inb_S8192x2048_S1x2048_0_0).view.dmaCredit

theorem rowN_pos : 0 < rowN := by
  show 0 < (outRow ![0, 0] inb_S8192x2048_S1x2048_0_0).view.dmaCredit
  decide

/-- Every row pays the same. -/
theorem amount_outRow (off : Fin 2 → Nat) (h : ∀ a, off a + S1x2048.size a ≤ S8192x2048.size a) :
    (outRow off h).view.amount semL = rowN := rfl

/-- The embedding of the transfers' counters. -/
abbrev EC : UEmb Counters 𝕄 := countersEmb (U := Pipeline.UD sig nD τ)

/-- The rows to send and the output array, both owned. -/
def Rows (c : Dev nD) : sProp 𝕄 :=
  iprop((∃ f : Buf (Elt F) (newpM.view.loc (c : Thread nD τ)), newpM.view.loc (c : Thread nD τ) ↦[newpM.view.set]{fullShare} f)
    ∗ (∃ f : Buf (Elt F) (outM.view.loc (c : Thread nD τ)), outM.view.loc (c : Thread nD τ) ↦[outM.view.set]{fullShare} f))

/-- `n` row transfers in flight, whose deliveries give back the rows to send and the output array. -/
def Flight (c : Dev nD) (n : ℕ) : sProp 𝕄 :=
  iprop(∃ D : Fin n → sProp 𝕄, Transfers.Batch (EC (F := F)) (c : Thread nD τ) semL () rowN D n 0
    ∗ (bigSep Finset.univ D -∗ Rows c))

/-- A wait loop's invariant: `k` rows waited for. -/
def waitInv (c : Dev nD) (n : ℕ) (D : Fin n → sProp 𝕄) (k : ℕ) : sProp 𝕄 :=
  iprop(Transfers.Batch (EC (F := F)) (c : Thread nD τ) semL () rowN D n (k * rowN) ∗ (∃ W, owes (c : Thread nD τ) 0 W))

/-- One wait takes one row's pay. -/
theorem wait_step (c : Dev nD) (n : ℕ) (D : Fin n → sProp 𝕄) (k : ℕ) (hk : k < n) (offS offD : Fin 2 → Nat) (hS hD)
    {hs hd} :
    waitInv c n D k ⊢ wp frame (wpE (defs₀ (F := F)) Variants.none c none) Set.univ
      (.op (.waitDma2 cc0_scratch4.sem (newpRow offS hS) (outRow offD hD) hs hd) fun _ => .ret PUnit.unit)
      (fun _ : PUnit => waitInv c n D (k + 1)) := by
  unfold waitInv
  iintro ⟨HB, ⟨%W, HW⟩⟩
  iapply (Transfers.wp_waitBatchMul (EC (F := F)) Variants.none (c : Thread nD τ) none () (N := rowN) 1
    (show (outRow offD hD).view.dmaCredit = 1 * rowN by rw [Nat.one_mul]; rfl)
    (show k * rowN + 1 * rowN ≤ rowN * n by rw [← Nat.add_mul, Nat.mul_comm rowN]; exact Nat.mul_le_mul_right _ hk)) $$ [HB HW]
  · isplitl [HB]; · iexact HB
    iexact HW
  iintro ⟨HB, HW⟩
  rw [← Nat.add_mul]
  sl_step
  isplitl [HB]; · iexact HB
  iexists _; iexact HW

/-- Both wait loops are well formed at a count of at most 256, the first making that many trips. -/
theorem loop_facts : ∀ n : Fin 257, (k0_t1_loop (BitVec.ofNat 32 n)).OK ∧ (k0_t2_loop (BitVec.ofNat 32 n)).OK
    ∧ (k0_t1_loop (BitVec.ofNat 32 n)).trips = n ∧ (k0_t2_loop (BitVec.ofNat 32 n)).trips = 0 := by
  decide +kernel

-- PART18
/-- Nothing in flight: the count at anything, the rows and the output array owned, the cell at zero. -/
def Idle (c : Dev nD) : sProp 𝕄 :=
  iprop((∃ f : Buf (Elt F) (nstM.view.loc (c : Thread nD τ)), nstM.view.loc (c : Thread nD τ) ↦[nstM.view.set]{fullShare} f)
    ∗ Rows c ∗ semVal ((c : Thread nD τ), semL) 0)

/-- Some rows in flight, their number in the count's word. -/
def Sent (c : Dev nD) : sProp 𝕄 :=
  iprop(∃ (n : ℕ) (f : Buf (Elt F) (nstM.view.loc (c : Thread nD τ))), ⌜n ≤ 256 ∧ f = fun _ => (BitVec.ofNat 32 n : Elt F .i32)⌝
    ∗ (nstM.view.loc (c : Thread nD τ) ↦[nstM.view.set]{fullShare} f) ∗ Flight c n)

/-- The carried row's buffer at contents `f`. -/
def carPt (c : Dev nD) (f : Buf (Elt F) (carM.view.loc (c : Thread nD τ))) : sProp 𝕄 :=
  iprop(carM.view.loc (c : Thread nD τ) ↦[carM.view.set]{fullShare} f)

section
variable (a1 : Memref sig .tc .smem S2x1024 .i32) (h1 : a1.IsWhole) (a2 : Memref sig .tc .smem S2 .i32) (h2 : a2.IsWhole) (a3 : Memref sig .tc .vmem S256x2048 .fp8e4m3) (h3 : a3.IsWhole) (a4 : Memref sig .tc .vmem S1x1x256 .f32) (h4 : a4.IsWhole) (a5 : Memref sig .tc .vmem S256x2048 .f32) (h5 : a5.IsWhole) (a6 : Memref sig .tc .vmem S256x2048 .i32) (h6 : a6.IsWhole) (a7 : Memref sig .tc .vmem S1x1x256 .f32) (h7 : a7.IsWhole) (a8 : Memref sig .tc .vmem S2x1024 .i32) (h8 : a8.IsWhole) (a9 : Memref sig .tc .vmem S2048x5632 .fp8e4m3) (h9 : a9.IsWhole) (a10 : Memref sig .tc .vmem S1x5632 .f32) (h10 : a10.IsWhole) (a11 : Memref sig .tc .vmem S2048x5632 .fp8e4m3) (h11 : a11.IsWhole) (a12 : Memref sig .tc .vmem S1x5632 .f32) (h12 : a12.IsWhole) (a13 : Memref sig .tc .vmem S5632x2048 .fp8e4m3) (h13 : a13.IsWhole) (a14 : Memref sig .tc .vmem S1x2048 .f32) (h14 : a14.IsWhole) (a17 : Memref sig .tc .vmem S256x2048 .f32) (h17 : a17.IsWhole) (a18 : Memref sig .tc .vmem S256x5632 .fp8e4m3) (h18 : a18.IsWhole) (a19 : Memref sig .tc .vmem S1x1x256 .f32) (h19 : a19.IsWhole)

/-- At a later grid point the rows of the point before are waited for; at the first there are none. -/
theorem part18_wp (c : Dev nD) (i : grid0.Coords) (x0 : BitVec 32) (x1 : FVec F S256x2048 .f32) (x2 : FVec F S256x2048 .f32)
    (x3 : IVec S256x2048 32) (x4 : BitVec 32) (W : Waits sig Unit)
    (fc : Buf (Elt F) (carM.view.loc (c : Thread nD τ))) :
    iprop((if k0_cond1 i = 1#1 then Sent c else Idle c)
      ∗ carPt c fc ∗ owes (c : Thread nD τ) 0 W)
      ⊢ wp frame (wpE (defs₀ (F := F)) Variants.none c none) Set.univ
        (k0_part18 i a1 h1 a2 h2 a3 h3 a4 h4 a5 h5 a6 h6 a7 h7 a8 h8 a9 h9 a10 h10 a11 h11 a12 h12 a13 h13 a14 h14 outM (Memref.isWhole_whole _) outM (Memref.isWhole_whole _) a17 h17 a18 h18 a19 h19 actM (Memref.isWhole_whole _) newpM (Memref.isWhole_whole _) carM (Memref.isWhole_whole _) nstM (Memref.isWhole_whole _) cc0_scratch4 x0 x1 x2 x3 x4)
        (fun _ => iprop(Idle c ∗ carPt c fc
          ∗ (∃ W, owes (c : Thread nD τ) 0 W))) := by
  simp only [k0_part18_eq_skeleton]; unfold k0_part18_skel
  unfold carPt
  by_cases h : k0_cond1 i = 1#1
  · rw [if_pos h, dif_pos h]
    unfold Sent Flight
    iintro ⟨⟨%n, %f, %hf, Hn, ⟨%D, HB, HD⟩⟩, HC, HW⟩
    obtain ⟨hn, rfl⟩ := hf
    have hl := loop_facts ⟨n, Nat.lt_succ_of_le hn⟩
    have hchk : k0_chk1 i (BitVec.ofNat 32 n) := ⟨fun _ => hl.1, fun _ => hl.2.1⟩
    sl_exec
    sl_for (fun k _ => waitInv c n D k) $$ [HB HW]
    · intro k acc
      sl_respell [k0_t1_body]
      simp only [Prog.lift, Prog.bind_op, Prog.bind_ret, Prog.pure_eq_ret, Prog.bind_assoc]
      exact wait_step c n D k.val (by have := k.isLt; exact lt_of_lt_of_eq this hl.2.2.1) _ _ _ _
    · unfold waitInv
      rw [Nat.zero_mul]
      isplitl [HB]; · iexact HB
      iexists _; iexact HW
    iintro %acc HI
    sl_for (fun _ _ => waitInv c n D n) $$ [HI]
    · intro k acc
      exact absurd (lt_of_lt_of_eq k.isLt hl.2.2.2) (Nat.not_lt_zero _)
    · rw [show Scf.trips _ _ _ = n from hl.2.2.1]
      iexact HI
    iintro %acc' HI
    unfold waitInv
    icases HI with ⟨HB, ⟨%W', HW⟩⟩
    rw [Nat.mul_comm n rowN]
    imod (Transfers.batch_collect' (EC (F := F)) (c : Thread nD τ) rowN_pos) $$ HB with ⟨HB, HS⟩
    ihave HR := HD $$ HB
    sl_exec
    sl_step
    unfold Idle
    isplitl [Hn HR HS]
    · isplitl [Hn]; · iexists _; iexact Hn
      isplitl [HR]; · iexact HR
      iexact HS
    isplitl [HC]; · iexact HC
    iexists _; iexact HW
  · rw [if_neg h, dif_neg h]
    iintro ⟨HI, HC, HW⟩
    sl_exec
    sl_step
    isplitl [HI]; · iexact HI
    isplitl [HC]; · iexact HC
    iexists _; iexact HW
end

end Cert.Kernel.Mlp

end
-- ==== Proof.Kernel.Lend.lean ====
/- Lending pieces of a buffer one after the other: of a buffer held whole, the pieces of a disjoint family are given away
   in the family's order; when all have come back the buffer is whole again. -/
module

public import proofs.«01_k».proof.Proof.Gen.Kernel.Frame
public import Idealize.ShloMosaic.Lib.Ring

@[expose] public section

noncomputable section

namespace Cert.Kernel.Mlp

open Idealize.ShloMosaic
open Idealize.SL Idealize.SL.RA Idealize.SL.BI
open scoped Idealize.SL.BI
open Idealize.SL.BI.BIBase Idealize.SL.BI.Laws Idealize.SL.ProofMode Idealize.SL.Sem

section
variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable {ℓ : Loc nD τ sig} {n : ℕ} (I : Fin n → Finset (Idx ℓ))

/-- What is left once the first `k` pieces are lent. -/
def left (k : ℕ) : Finset (Idx ℓ) := Finset.univ \ (Finset.univ.filter fun j : Fin n => j.val < k).biUnion I

theorem left_zero : left I 0 = Finset.univ := by
  unfold left
  ext x
  simp

variable (hd : ∀ j j', j ≠ j' → Disjoint (I j) (I j'))

include hd in
theorem sub_left (j : Fin n) : I j ⊆ left I j.val := by
  intro x hx
  unfold left
  refine Finset.mem_sdiff.mpr ⟨Finset.mem_univ _, fun h => ?_⟩
  obtain ⟨j', hj', hx'⟩ := Finset.mem_biUnion.mp h
  have hlt := (Finset.mem_filter.mp hj').2
  exact (Finset.disjoint_left.mp (hd j j' (fun e => by subst e; exact lt_irrefl _ hlt)) hx) hx'

theorem left_succ (j : Fin n) : left I j.val \ I j = left I (j.val + 1) := by
  unfold left
  ext x
  simp only [Finset.mem_sdiff, Finset.mem_univ, true_and, Finset.mem_biUnion, Finset.mem_filter, not_exists, not_and]
  constructor
  · rintro ⟨h, hx⟩ j' hj' hx'
    by_cases e : j' = j
    · subst e; exact hx hx'
    · exact h j' (lt_of_le_of_ne (Nat.lt_succ_iff.mp hj') (fun e' => e (Fin.ext e'))) hx'
  · intro h
    exact ⟨fun j' hj' => h j' (Nat.lt_succ_of_lt hj'), h j (Nat.lt_succ_self _)⟩

include hd in
/-- The next piece is lent. -/
theorem lend (j : Fin n) (f : Buf Val ℓ) :
    (ℓ ↦[left I j.val]{fullShare} f : sProp 𝕄) ⊢ iprop((ℓ ↦[I j]{fullShare} f) ∗ ℓ ↦[left I (j.val + 1)]{fullShare} f) := by
  rw [← left_succ I j]
  exact (pointsTo_split_subset (sub_left I hd j)).1

include hd in
/-- All pieces back, each at contents of its own: the buffer whole at some contents. -/
theorem lent_back (f₀ : Buf Val ℓ) :
    iprop(bigSep Finset.univ (fun j => iprop(∃ f, ℓ ↦[I j]{fullShare} f)) ∗ ∃ f, ℓ ↦[left I n]{fullShare} f)
      ⊢ (iprop(∃ f, ℓ ↦{fullShare} f) : sProp 𝕄) := by
  iintro ⟨HI, ⟨%f, Hf⟩⟩
  ihave HI' := (Ring.pointsTo_sub_blocks_join_exists I hd (Finset.univ.biUnion I) rfl f₀) $$ HI
  icases HI' with ⟨%g, Hg⟩
  have hle : left I n = Finset.univ \ Finset.univ.biUnion I := by
    unfold left
    rw [Finset.filter_true_of_mem fun j _ => j.isLt]
  rw [hle]
  iexists _
  iapply (pointsTo_join_subset (Finset.subset_univ (Finset.univ.biUnion I)))
  isplitl [Hg]; · iexact Hg
  iexact Hf
end

end Cert.Kernel.Mlp

end
-- ==== Proof.Kernel.Start.lean ====
/- Starting the row transfers of a grid point: which trips of the loop send a row, and what is held after each trip. -/
module

public import proofs.«01_k».proof.Proof.Gen.Kernel.Frame
public import proofs.«01_k».proof.Proof.Kernel.Wait
public import proofs.«01_k».proof.Proof.Kernel.Lend

public import Idealize.ShloMosaic.Lib.ViewIndex

@[expose] public section

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The trips that send -/

/-- Trip `r` sends its row. -/
def goes (i : grid0.Coords) (v : BitVec 32) (w4 w5 : Fin k0_t3_loop.trips → BitVec 32) (r : ℕ) : Prop :=
  ∃ h : r < k0_t3_loop.trips, k0_cond2 i v ⟨r, h⟩ (w4 ⟨r, h⟩) (w5 ⟨r, h⟩) = 1#1

instance (i : grid0.Coords) (v : BitVec 32) (w4 w5 : Fin k0_t3_loop.trips → BitVec 32) : DecidablePred (goes i v w4 w5) :=
  fun r => by unfold goes; infer_instance

/-- Every sent row lies in the output array, and no two trips send to the same row. -/
structure TableOK (i : grid0.Coords) (v : BitVec 32) (w4 w5 : Fin k0_t3_loop.trips → BitVec 32) : Prop where
  chk : ∀ k, k0_chk2 i v k (w4 k) (w5 k)
  inj : ∀ k k', k0_cond2 i v k (w4 k) (w5 k) = 1#1 → k0_cond2 i v k' (w4 k') (w5 k') = 1#1 → k ≠ k' →
    k0_off6 i (w4 k) 0 ≠ k0_off6 i (w4 k') 0

/-- How many numbers below `n` satisfy `p`. -/
def cnt (p : ℕ → Prop) [DecidablePred p] : ℕ → ℕ
  | 0 => 0
  | n + 1 => cnt p n + if p n then 1 else 0

section
variable {p : ℕ → Prop} [DecidablePred p]

theorem cnt_succ (n : ℕ) : cnt p (n + 1) = cnt p n + if p n then 1 else 0 := rfl

theorem cnt_le (n : ℕ) : cnt p n ≤ n := by
  induction n with
  | zero => exact le_rfl
  | succ n ih => rw [cnt_succ]; split <;> omega

theorem cnt_mono {m n : ℕ} (h : m ≤ n) : cnt p m ≤ cnt p n := by
  induction h with
  | refl => exact le_rfl
  | step _ ih => rw [cnt_succ]; omega

theorem cnt_lt {m n : ℕ} (hm : p m) (h : m < n) : cnt p m < cnt p n := by
  have := cnt_mono (p := p) (show m + 1 ≤ n from h)
  rw [cnt_succ, if_pos hm] at this
  omega

theorem cnt_inj {m n : ℕ} (hm : p m) (hn : p n) (h : cnt p m = cnt p n) : m = n := by
  rcases lt_trichotomy m n with l | l | l
  · have := cnt_lt hm l; omega
  · exact l
  · have := cnt_lt hn l; omega

theorem cnt_ex (n : ℕ) {j : ℕ} (h : j < cnt p n) : ∃ r, r < n ∧ p r ∧ cnt p r = j := by
  induction n with
  | zero => exact absurd h (Nat.not_lt_zero _)
  | succ n ih =>
    rw [cnt_succ] at h
    by_cases hp : p n
    · rw [if_pos hp] at h
      rcases Nat.lt_or_ge j (cnt p n) with l | l
      · obtain ⟨r, h1, h2⟩ := ih l; exact ⟨r, Nat.lt_succ_of_lt h1, h2⟩
      · exact ⟨n, Nat.lt_succ_self n, hp, by omega⟩
    · rw [if_neg hp] at h
      obtain ⟨r, h1, h2⟩ := ih h; exact ⟨r, Nat.lt_succ_of_lt h1, h2⟩
end

/-- How many trips send. -/
abbrev number (i : grid0.Coords) (v : BitVec 32) (w4 w5 : Fin k0_t3_loop.trips → BitVec 32) : ℕ :=
  cnt (goes i v w4 w5) k0_t3_loop.trips

theorem trips_eq : k0_t3_loop.trips = 256 := by decide

theorem off7_eq : ∀ k : Fin k0_t3_loop.trips, k0_off7 k 0 = k.val := by decide +kernel

section
variable {i : grid0.Coords} {v : BitVec 32} {w4 w5 : Fin k0_t3_loop.trips → BitVec 32}

theorem number_le : number i v w4 w5 ≤ 256 := (cnt_le _).trans (le_of_eq trips_eq)

/-- The trip of the `j`-th transfer. -/
def trip (j : Fin (number i v w4 w5)) : Fin k0_t3_loop.trips := ⟨(cnt_ex _ j.isLt).choose, (cnt_ex _ j.isLt).choose_spec.1⟩

theorem goes_trip (j : Fin (number i v w4 w5)) : k0_cond2 i v (trip j) (w4 (trip j)) (w5 (trip j)) = 1#1 := by
  have h : goes i v w4 w5 (trip j).val := (cnt_ex _ j.isLt).choose_spec.2.1
  exact h.2

theorem cnt_trip (j : Fin (number i v w4 w5)) : cnt (goes i v w4 w5) (trip j).val = j.val := (cnt_ex _ j.isLt).choose_spec.2.2

theorem trip_ne {j j' : Fin (number i v w4 w5)} (h : j ≠ j') : trip j ≠ trip j' := by
  intro e
  apply h
  rw [Fin.ext_iff, ← cnt_trip, ← cnt_trip, e]

/-- A trip that sends is the trip of the transfer numbered by the sends before it. -/
theorem count_lt {k : Fin k0_t3_loop.trips} (h : k0_cond2 i v k (w4 k) (w5 k) = 1#1) :
    cnt (goes i v w4 w5) k < number i v w4 w5 := cnt_lt (p := goes i v w4 w5) ⟨k.isLt, h⟩ k.isLt
theorem trip_count {k : Fin k0_t3_loop.trips} (h : k0_cond2 i v k (w4 k) (w5 k) = 1#1) :
    trip ⟨cnt (goes i v w4 w5) k, count_lt h⟩ = k := by
  refine Fin.ext (cnt_inj (p := goes i v w4 w5) ?_ ⟨k.isLt, h⟩ (cnt_trip _))
  exact ⟨(trip _).isLt, goes_trip _⟩

variable (hT : TableOK i v w4 w5)

/-- The row the `j`-th transfer reads. -/
abbrev srcRow (j : Fin (number i v w4 w5)) : Memref sig .tc .vmem S1x2048 .i32 :=
  newpRow (k0_off7 (trip j)) (k0_off7_inb (trip j))
/-- The row the `j`-th transfer writes. -/
abbrev dstRow (j : Fin (number i v w4 w5)) : Memref sig .tc .hbm S1x2048 .i32 :=
  outRow (k0_off6 i (w4 (trip j))) (hT.chk (trip j) (goes_trip j))

theorem srcRow_disjoint (j j' : Fin (number i v w4 w5)) (h : j ≠ j') : Disjoint (srcRow j).view.set (srcRow j').view.set := by
  refine View.disjoint_slice (Rect.unit_disjoint 0 ?_)
  have hne : (trip j).val ≠ (trip j').val := fun e => trip_ne h (Fin.ext e)
  rw [off7_eq, off7_eq]
  show (trip j).val + 1 ≤ (trip j').val ∨ (trip j').val + 1 ≤ (trip j).val
  omega

theorem dstRow_disjoint (j j' : Fin (number i v w4 w5)) (h : j ≠ j') :
    Disjoint (dstRow hT j).view.set (dstRow hT j').view.set := by
  refine View.disjoint_slice (Rect.unit_disjoint 0 ?_)
  have hne := hT.inj _ _ (goes_trip j) (goes_trip j') (trip_ne h)
  show k0_off6 i (w4 (trip j)) 0 + 1 ≤ k0_off6 i (w4 (trip j')) 0 ∨ k0_off6 i (w4 (trip j')) 0 + 1 ≤ k0_off6 i (w4 (trip j)) 0
  omega

/-- The elements of the output array the `j`-th transfer writes. -/
def Iout (c : Dev nD) (j : Fin (number i v w4 w5)) : Finset (Idx (outM.view.loc (c : Thread nD τ))) := (dstRow hT j).view.set
/-- The elements of the packed rows the `j`-th transfer reads. -/
def Inew (c : Dev nD) (j : Fin (number i v w4 w5)) : Finset (Idx (newpM.view.loc (c : Thread nD τ))) := (srcRow j).view.set

theorem iout_disjoint (c : Dev nD) (j j' : Fin (number i v w4 w5)) (h : j ≠ j') : Disjoint (Iout hT c j) (Iout hT c j') :=
  dstRow_disjoint hT j j' h
theorem inew_disjoint (c : Dev nD) (j j' : Fin (number i v w4 w5)) (h : j ≠ j') : Disjoint (Inew c j) (Inew c j') :=
  srcRow_disjoint j j' h

/-- Elements of a buffer, at some contents. -/
def Held {nD : ℕ} {τ : Topo} {sig : RefSig} {F : FTy → Type} (ℓ : Loc nD τ sig) (I : Finset (Idx ℓ)) : sProp (MT nD τ sig Unit (Elt F) ℕ (Pipeline.UD sig nD τ) ℕ) :=
  iprop(∃ f : Buf (Elt F) ℓ, ℓ ↦[I]{fullShare} f)

instance {nD : ℕ} {τ : Topo} {sig : RefSig} {F : FTy → Type} (ℓ : Loc nD τ sig) (I : Finset (Idx ℓ)) :
    Storable (upEmb : UEmb _ (MT nD τ sig Unit (Elt F) ℕ (Pipeline.UD sig nD τ) ℕ)) (Held (F := F) ℓ I) := by
  unfold Held; infer_instance

/-- What the `j`-th transfer delivers: both rows. -/
def Deliv (c : Dev nD) (j : Fin (number i v w4 w5)) : sProp 𝕄 := iprop(Held _ (Iout hT c j) ∗ Held _ (Inew c j))

instance (c : Dev nD) (j : Fin (number i v w4 w5)) : Storable (upEmb : UEmb _ 𝕄) (Deliv (F := F) hT c j) := by
  unfold Deliv; infer_instance

/-- What is held once `k` transfers are started, beside the table and the batch. -/
def Kept (c : Dev nD) (k : ℕ) : sProp 𝕄 := iprop(Held _ (left (Iout hT c) k) ∗ Held _ (left (Inew (i := i) (v := v) (w4 := w4) (w5 := w5) c) k))

/-- At the start both buffers are held whole. -/
theorem kept_zero (c : Dev nD) : Rows c ⊢ (Kept (F := F) hT c 0 : sProp 𝕄) := by
  unfold Rows Kept Held
  rw [left_zero, left_zero, show newpM.view.set = Finset.univ from View.set_whole _, show outM.view.set = Finset.univ from View.set_whole _]
  iintro ⟨H1, H2⟩
  isplitl [H2]; · iexact H2
  iexact H1

theorem iout_eq (c : Dev nD) (j : Fin (number i v w4 w5)) (k : Fin k0_t3_loop.trips) (e : trip j = k)
    (h : ∀ a, k0_off6 i (w4 k) a + S1x2048.size a ≤ S8192x2048.size a) : Iout hT c j = (outRow (k0_off6 i (w4 k)) h).view.set := by
  subst e; rfl
theorem inew_eq (c : Dev nD) (j : Fin (number i v w4 w5)) (k : Fin k0_t3_loop.trips) (e : trip j = k) :
    Inew c j = (newpRow (k0_off7 k) (k0_off7_inb k)).view.set := by
  subst e; rfl

/-- One transfer's two rows, taken out. -/
theorem kept_lend (c : Dev nD) (j : Fin (number i v w4 w5)) :
    Kept (F := F) hT c j ⊢ iprop(Held _ (Iout hT c j) ∗ Held _ (Inew c j) ∗ Kept hT c (j.val + 1)) := by
  have hN := lend (Ix := Unit) (Name := ℕ) (U := Pipeline.UD sig nD τ) (Lvl := ℕ) (Val := Elt F) (Inew (i := i) (v := v) (w4 := w4) (w5 := w5) c) (inew_disjoint c) j
  have hO := lend (Ix := Unit) (Name := ℕ) (U := Pipeline.UD sig nD τ) (Lvl := ℕ) (Val := Elt F) (Iout hT c) (iout_disjoint hT c) j
  unfold Kept Held
  iintro ⟨⟨%f, H1⟩, ⟨%g, H2⟩⟩
  ihave H1 := (hO f) $$ H1
  ihave H2 := (hN g) $$ H2
  icases H1 with ⟨Ha, Hb⟩
  icases H2 with ⟨Hc, Hd⟩
  isplitl [Ha]; · iexists _; iexact Ha
  isplitl [Hc]; · iexists _; iexact Hc
  isplitl [Hb]; · iexists _; iexact Hb
  iexists _; iexact Hd

/-- At the end, with all deliveries back, they are whole again. -/
theorem kept_back (c : Dev nD) :
    iprop(Kept (F := F) hT c (number i v w4 w5)) ⊢ iprop(bigSep Finset.univ (Deliv hT c) -∗ Rows c) := by
  have hs : (bigSep Finset.univ (Deliv (F := F) hT c) : sProp 𝕄) = iprop((bigSep Finset.univ fun j => Held _ (Iout hT c j)) ∗ bigSep Finset.univ fun j => Held _ (Inew (i := i) (v := v) (w4 := w4) (w5 := w5) c j)) := by
    unfold Deliv; exact BI.bigSep_sep _ _ _
  rw [hs]
  have hN := lent_back (Ix := Unit) (Name := ℕ) (U := Pipeline.UD sig nD τ) (Lvl := ℕ) (Val := Elt F) (Inew (i := i) (v := v) (w4 := w4) (w5 := w5) c) (inew_disjoint c)
  have hO := lent_back (Ix := Unit) (Name := ℕ) (U := Pipeline.UD sig nD τ) (Lvl := ℕ) (Val := Elt F) (Iout hT c) (iout_disjoint hT c)
  unfold Rows Kept Held
  rw [show newpM.view.set = Finset.univ from View.set_whole _, show outM.view.set = Finset.univ from View.set_whole _]
  iintro ⟨⟨%f, H1⟩, ⟨%g, H2⟩⟩ ⟨Ho, Hn⟩
  isplitl [H2 Hn]
  · iapply (hN g)
    isplitl [Hn]; · iexact Hn
    iexists _; iexact H2
  · iapply (hO f)
    isplitl [Ho]; · iexact Ho
    iexists _; iexact H1
end

/-! ## One trip -/

section
variable (a1 : Memref sig .tc .smem S2x1024 .i32) (h1 : a1.IsWhole) (a2 : Memref sig .tc .smem S2 .i32) (h2 : a2.IsWhole) (a3 : Memref sig .tc .vmem S256x2048 .fp8e4m3) (h3 : a3.IsWhole) (a4 : Memref sig .tc .vmem S1x1x256 .f32) (h4 : a4.IsWhole) (a5 : Memref sig .tc .vmem S256x2048 .f32) (h5 : a5.IsWhole) (a6 : Memref sig .tc .vmem S256x2048 .i32) (h6 : a6.IsWhole) (a7 : Memref sig .tc .vmem S1x1x256 .f32) (h7 : a7.IsWhole) (a8 : Memref sig .tc .vmem S2x1024 .i32) (h8 : a8.IsWhole) (a9 : Memref sig .tc .vmem S2048x5632 .fp8e4m3) (h9 : a9.IsWhole) (a10 : Memref sig .tc .vmem S1x5632 .f32) (h10 : a10.IsWhole) (a11 : Memref sig .tc .vmem S2048x5632 .fp8e4m3) (h11 : a11.IsWhole) (a12 : Memref sig .tc .vmem S1x5632 .f32) (h12 : a12.IsWhole) (a13 : Memref sig .tc .vmem S5632x2048 .fp8e4m3) (h13 : a13.IsWhole) (a14 : Memref sig .tc .vmem S1x2048 .f32) (h14 : a14.IsWhole) (a17 : Memref sig .tc .vmem S256x2048 .f32) (h17 : a17.IsWhole) (a18 : Memref sig .tc .vmem S256x5632 .fp8e4m3) (h18 : a18.IsWhole) (a19 : Memref sig .tc .vmem S1x1x256 .f32) (h19 : a19.IsWhole)

/-- The table's word of trip `k`, as read. -/
abbrev tw4 (c : Dev nD) (i : grid0.Coords) (f1 : Buf (Elt F) (a1.view.loc (c : Thread nD τ))) (k : Fin k0_t3_loop.trips) : BitVec 32 :=
  View.readAt (Elt F) a1.view (Rect.unit (s := S2x1024) (k0_off4 i k) S1x1.size (k0_off4_inb i k)).toLoadRect f1 (Shape.Idx.first (show 0 < S1x1.numel from by decide))
/-- The word after it. -/
abbrev tw5 (c : Dev nD) (i : grid0.Coords) (f1 : Buf (Elt F) (a1.view.loc (c : Thread nD τ))) (k : Fin k0_t3_loop.trips) : BitVec 32 :=
  View.readAt (Elt F) a1.view (Rect.unit (s := S2x1024) (k0_off5 i k) S1x1.size (k0_off5_inb i k)).toLoadRect f1 (Shape.Idx.first (show 0 < S1x1.numel from by decide))

/-- Before trip `k`: the sends so far counted in the loop's word, their transfers in flight, the rest held. -/
def startInv (c : Dev nD) (i : grid0.Coords) (v : BitVec 32) (f1 : Buf (Elt F) (a1.view.loc (c : Thread nD τ)))
    (hT : TableOK i v (tw4 a1 c i f1) (tw5 a1 c i f1)) (k : ℕ) (acc : BitVec 32) : sProp 𝕄 :=
  iprop(⌜acc = BitVec.ofNat 32 (cnt (goes i v (tw4 a1 c i f1) (tw5 a1 c i f1)) k)⌝
    ∗ (a1.view.loc (c : Thread nD τ) ↦[a1.view.set]{fullShare} f1)
    ∗ Transfers.Batch (EC (F := F)) (c : Thread nD τ) semL () rowN (Deliv hT c) (cnt (goes i v (tw4 a1 c i f1) (tw5 a1 c i f1)) k) 0
    ∗ Kept hT c (cnt (goes i v (tw4 a1 c i f1) (tw5 a1 c i f1)) k))

theorem word1 : ∀ x : BitVec 1, Scalar.cmpi .ne (Scalar.extui x : BitVec 32) 0#32 = x := by decide
theorem ext1 : (Scalar.extui (1#1 : BitVec 1) : BitVec 32) = 1#32 := by decide
theorem ext0 : ∀ x : BitVec 1, ¬ x = 1#1 → (Scalar.extui x : BitVec 32) = 0#32 := by decide

theorem start_step (c : Dev nD) (i : grid0.Coords) (v3 v821 : BitVec 32) (hv3 : v3 = Scalar.muli (Scalar.remsi (BitVec.ofNat 32 (i 0).val) 4#32) 256#32)
    (f1 : Buf (Elt F) (a1.view.loc (c : Thread nD τ))) (hT : TableOK i v821 (tw4 a1 c i f1) (tw5 a1 c i f1))
    (k : Fin k0_t3_loop.trips) (acc : BitVec 32) :
    startInv a1 c i v821 f1 hT k.val acc ⊢ wp frame (wpE (defs₀ (F := F)) Variants.none c none) Set.univ
      (k0_t3_body i a1 h1 a2 h2 a3 h3 a4 h4 a5 h5 a6 h6 a7 h7 a8 h8 a9 h9 a10 h10 a11 h11 a12 h12 a13 h13 a14 h14 outM (Memref.isWhole_whole _) outM (Memref.isWhole_whole _) a17 h17 a18 h18 a19 h19 actM (Memref.isWhole_whole _) newpM (Memref.isWhole_whole _) carM (Memref.isWhole_whole _) nstM (Memref.isWhole_whole _) cc0_scratch4 v3 v821 k acc) (fun acc' => startInv a1 c i v821 f1 hT (k.val + 1) acc') := by
  subst hv3
  unfold k0_t3_body
  have hchk : k0_chk2 i v821 k (tw4 a1 c i f1 k) (tw5 a1 c i f1 k) := hT.chk k
  unfold startInv
  iintro ⟨%hacc, H1, HB, HK⟩
  sl_exec
  unfold start_step.sl.r start_step.sl.r_1
  by_cases h : k0_cond2 i v821 k (tw4 a1 c i f1 k) (tw5 a1 c i f1 k) = 1#1
  · rw [dif_pos h]
    have e := trip_count h
    have hl := kept_lend (F := F) hT c ⟨_, count_lt h⟩
    rw [iout_eq hT c _ k e (hchk h), inew_eq c _ k e] at hl
    have hD : Deliv (F := F) hT c ⟨_, count_lt h⟩ = iprop(Held (outM.view.loc (c : Thread nD τ)) (outRow (k0_off6 i (tw4 a1 c i f1 k)) (hchk h)).view.set
        ∗ Held (newpM.view.loc (c : Thread nD τ)) (newpRow (k0_off7 k) (k0_off7_inb k)).view.set) := by
      unfold Deliv; rw [iout_eq hT c _ k e (hchk h), inew_eq c _ k e]
    have hc : cnt (goes i v821 (tw4 a1 c i f1) (tw5 a1 c i f1)) (k.val + 1) = cnt (goes i v821 (tw4 a1 c i f1) (tw5 a1 c i f1)) k.val + 1 := by
      rw [cnt_succ, if_pos ⟨k.isLt, h⟩]
    rw [hc]
    ihave HK := hl $$ HK
    icases HK with ⟨Ho, Hn, HK⟩
    unfold Held
    icases Ho with ⟨%fo, Ho⟩
    icases Hn with ⟨%fn, Hn⟩
    iapply (Transfers.wp_dmaBatch (EC (F := F)) Variants.none (c : Thread nD τ) none (src := newpRow (k0_off7 k) (k0_off7_inb k))
      (dst := outRow (k0_off6 i (tw4 a1 c i f1 k)) (hchk h)) (sm := semL) (D := Deliv (F := F) hT c) (q := fullShare) (fs := fn) (fd := fo)
      (Sd := (outRow (k0_off6 i (tw4 a1 c i f1 k)) (hchk h)).view.set) () rowN (amount_outRow _ _) (subset_refl _) (count_lt h) (Nat.zero_le _) (by
        rw [hD]; unfold Held
        iintro ⟨A, B⟩
        isplitl [A]; · iexists _; iexact A
        iexists _; iexact B)) $$ [Ho Hn HB]
    · isplitl [Hn]; · iexact Hn
      isplitl [Ho]; · iexact Ho
      iexact HB
    iintro HB
    dsimp only [Prog.bind]
    sl_step
    isplitr
    · ipureintro
      rw [hacc]
      have h' : start_step.sl.v845 a1 c i v821 f1 k = 1#1 := (word1 _).symm.trans h
      show BitVec.ofNat 32 _ + Scalar.extui (start_step.sl.v845 a1 c i v821 f1 k) = _
      rw [h', ext1, BitVec.ofNat_add]
    isplitl [H1]; · iexact H1
    isplitl [HB]; · iexact HB
    iexact HK
  · rw [dif_neg h]
    have hc : cnt (goes i v821 (tw4 a1 c i f1) (tw5 a1 c i f1)) (k.val + 1) = cnt (goes i v821 (tw4 a1 c i f1) (tw5 a1 c i f1)) k.val := by
      rw [cnt_succ, if_neg (fun hh => h hh.2)]; rfl
    rw [hc]
    dsimp only
    sl_step
    isplitr
    · ipureintro
      rw [hacc]
      have h' : ¬ start_step.sl.v845 a1 c i v821 f1 k = 1#1 := fun x => h ((word1 _).trans x)
      show BitVec.ofNat 32 _ + Scalar.extui (start_step.sl.v845 a1 c i v821 f1 k) = _
      rw [ext0 _ h', BitVec.add_zero]
    isplitl [H1]; · iexact H1
    isplitl [HB]; · iexact HB
    iexact HK
end

end Cert.Kernel.Mlp

end
-- ==== Proof.Kernel.Blocks.lean ====
/- What the body leaves in the scale, code and sum windows, as functions of the blocks it reads. -/
module

public import proofs.«01_k».proof.Proof.Gen.Kernel.Frame
public import proofs.«01_k».proof.Proof.Kernel.Wait

@[expose] public section

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Rectangles -/

theorem col_inb (j : Fin 11) : 512 * j.val + 512 ≤ 5632 := by omega

/-- The columns of tile `j` of a weight. -/
abbrev rW (j : Fin 11) : Rect S2048x5632 := Rect.unit (s := S2048x5632) ![0, 512 * j.val] S2048x512.size
  (fun a => match a with | ⟨0, _⟩ => le_of_eq rfl | ⟨1, _⟩ => col_inb j)
/-- The columns of tile `j` of a row of column scales. -/
abbrev rS (j : Fin 11) : Rect S1x5632 := Rect.unit (s := S1x5632) ![0, 512 * j.val] S1x512.size
  (fun a => match a with | ⟨0, _⟩ => le_of_eq rfl | ⟨1, _⟩ => col_inb j)
/-- The columns of tile `j` of the activations. -/
abbrev rA (j : Fin 11) : Rect S256x5632 := Rect.unit (s := S256x5632) ![0, 512 * j.val] S256x512.size
  (fun a => match a with | ⟨0, _⟩ => le_of_eq rfl | ⟨1, _⟩ => col_inb j)

abbrev rX : Rect S256x2048 := Rect.unit (s := S256x2048) ![0, 0] S256x2048.size inb_S256x2048_S256x2048_0_0
abbrev rA3 : Rect S1x1x256 := Rect.unit (s := S1x1x256) ![0, 0, 0] S1x1x256.size inb_S1x1x256_S1x1x256_0_0_0
abbrev rAct : Rect S256x5632 := Rect.unit (s := S256x5632) ![0, 0] S256x5632.size inb_S256x5632_S256x5632_0_0
abbrev rWd : Rect S5632x2048 := Rect.unit (s := S5632x2048) ![0, 0] S5632x2048.size inb_S5632x2048_S5632x2048_0_0
abbrev rSd : Rect S1x2048 := Rect.unit (s := S1x2048) ![0, 0] S1x2048.size inb_S1x2048_S1x2048_0_0

/-! ## The activations and their row maxima -/

/-- Tile `j` of the activations. -/
def tile (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) (j : Fin 11) : FVec F S256x512 .f32 :=
  k0_pay11 (k0_pay3 (View.ld x4 rA3)) (View.ld x3 rX) (View.ld x9 (rW j)) (View.ld x10 (rS j)) (View.ld x11 (rW j)) (View.ld x12 (rS j))

/-- The running maxima after the first `n` tiles. -/
def maxima (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) : (n : ℕ) → n ≤ 11 → FVec F S256x128 .f32
  | 0, _ => k0_pay4
  | n + 1, h => k0_pay13 (maxima x3 x4 x9 x10 x11 x12 n (Nat.le_of_succ_le h)) (tile x3 x4 x9 x10 x11 x12 ⟨n, h⟩)

/-- The stores of the first `n` tiles, the last first. -/
def pieces (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) : (n : ℕ) → n ≤ 11 → List (View.Piece (Elt F) S256x5632 .f32)
  | 0, _ => []
  | n + 1, h => ⟨rA ⟨n, h⟩, k0_pay12 (tile x3 x4 x9 x10 x11 x12 ⟨n, h⟩)⟩ :: pieces x3 x4 x9 x10 x11 x12 n (Nat.le_of_succ_le h)

/-- All activations. -/
def acts (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) : Vec F S256x5632 .f32 := View.canon (pieces x3 x4 x9 x10 x11 x12 11 le_rfl)

/-- The rows' largest activations over the largest code, one per row, along the lanes. -/
def rowMax (m : FVec F S256x128 .f32) : FVec F S256x128 .f32 :=
  mulf (broadcastTo S256x128 (shapeCast S256x1 (shapeCast S256x1
    (multiReduction .maximumf [1] S256 m 0xFF800000#32 reduces_S256x128_S256 (.inl rfl) rfl) shapeCasts_S256_S256x1) shapeCasts_S256x1_S256x1) broadcasts_S256x1_S256x128)
    (broadcast S256x128 (Scalar.ofBits .f32 0x3B124925#32))

/-! ## The search for the scale's exponent -/

/-- One trial: add `k` to the biased exponent where the value reaches that power of two. -/
def trial (v : FVec F S256x128 .f32) (k : BitVec 32) (b : IVec S256x128 32) : IVec S256x128 32 :=
  select (cmpf .oge v (bitcastToFloat .f32 (shli (addi b (broadcast S256x128 k)) (broadcast S256x128 23#32)))) (addi b (broadcast S256x128 k)) b

/-- The first two trials. -/
def search2 (v : FVec F S256x128 .f32) : IVec S256x128 32 := trial v 64#32 (trial v 128#32 (broadcast S256x128 0#32))
/-- The first seven trials. -/
def search7 (v : FVec F S256x128 .f32) : IVec S256x128 32 :=
  trial v 2#32 (trial v 4#32 (trial v 8#32 (trial v 16#32 (trial v 32#32 (search2 v)))))

/-! ## The stores -/

/-- The values the scales are taken from. -/
def amax (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) : FVec F S256x128 .f32 := rowMax (maxima x3 x4 x9 x10 x11 x12 11 le_rfl)

/-- The scale window. -/
def outScale (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) : Vec F S1x1x256 .f32 :=
  View.canon [⟨rA3, k0_pay58 (amax x3 x4 x9 x10 x11 x12) (search7 (amax x3 x4 x9 x10 x11 x12)) (addi (search7 (amax x3 x4 x9 x10 x11 x12)) (broadcast S256x128 1#32)) 23#32⟩]

/-- The code window. -/
def outCodes (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) : Vec F S256x5632 .fp8e4m3 :=
  View.canon [⟨rAct, k0_pay59 (amax x3 x4 x9 x10 x11 x12) (search7 (amax x3 x4 x9 x10 x11 x12)) (addi (search7 (amax x3 x4 x9 x10 x11 x12)) (broadcast S256x128 1#32)) 23#32
    (View.ld (acts x3 x4 x9 x10 x11 x12) rAct)⟩]

/-- The sum window. -/
def outSum (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) (x13 : Vec F S5632x2048 .fp8e4m3) (x5 : Vec F S256x2048 .f32) (x14 : Vec F S1x2048 .f32) : Vec F S256x2048 .f32 :=
  View.canon [⟨rX, k0_pay60 (k0_pay57 (amax x3 x4 x9 x10 x11 x12) (search7 (amax x3 x4 x9 x10 x11 x12)) (addi (search7 (amax x3 x4 x9 x10 x11 x12)) (broadcast S256x128 1#32)) 23#32)
    (View.ld (outCodes x3 x4 x9 x10 x11 x12) rAct) (View.ld x13 rWd) (View.ld x5 rX) (View.ld x14 rSd)⟩]

/-! ## The stores cover their windows -/

theorem cover_scale (w : rA3.shape.Idx → Elt F .f32) (x : S1x1x256.Idx) :
    ∃ p ∈ ([⟨rA3, w⟩] : List (View.Piece (Elt F) S1x1x256 .f32)), x ∈ p.1.set :=
  View.cover_of_tiled [⟨rA3, w⟩] S1x1x256.size (by rfl) x
theorem cover_codes (w : rAct.shape.Idx → Elt F .fp8e4m3) (x : S256x5632.Idx) :
    ∃ p ∈ ([⟨rAct, w⟩] : List (View.Piece (Elt F) S256x5632 .fp8e4m3)), x ∈ p.1.set :=
  View.cover_of_tiled [⟨rAct, w⟩] S256x5632.size (by rfl) x
theorem cover_sum (w : rX.shape.Idx → Elt F .f32) (x : S256x2048.Idx) :
    ∃ p ∈ ([⟨rX, w⟩] : List (View.Piece (Elt F) S256x2048 .f32)), x ∈ p.1.set :=
  View.cover_of_tiled [⟨rX, w⟩] S256x2048.size (by rfl) x
theorem cover_acts (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) (x : S256x5632.Idx) :
    ∃ p ∈ pieces (F := F) x3 x4 x9 x10 x11 x12 11 le_rfl, x ∈ p.1.set :=
  View.cover_of_tiled (pieces x3 x4 x9 x10 x11 x12 11 le_rfl) S256x512.size (by rfl) x

/-- A store of the one counted word leaves it. -/
theorem nst_written (f : BufTy.Contents (Elt F) nstM.view.ty) (x : Elt F .i32) :
    nstM.view.writes (Elt F) f [⟨Rect.unit (s := S1) ![0] S1.size inb_S1_S1_0, fun _ => x⟩] = fun _ => x := by
  have h := View.read_writes_eq_canon nstM.view f [⟨Rect.unit (s := S1) ![0] S1.size inb_S1_S1_0, fun _ => x⟩]
    (fun y => View.cover_of_tiled (Val := Elt F) (e := .i32) [⟨Rect.unit (s := S1) ![0] S1.size inb_S1_S1_0, fun _ => x⟩] S1.size (by rfl) y)
  refine (show nstM.view.writes (Elt F) f [⟨Rect.unit (s := S1) ![0] S1.size inb_S1_S1_0, fun _ => x⟩] = _ from h).trans ?_
  funext y
  have hy : (Rect.unit (s := S1) ![0] S1.size inb_S1_S1_0).emb y = y := by
    funext a; apply Fin.ext
    match a with
    | ⟨0, _⟩ => show 0 + 1 * (y 0).val = (y 0).val; omega
  rw [← hy]
  exact View.canon_cons_emb (Rect.unit (s := S1) ![0] S1.size inb_S1_S1_0) _ _ y

end Cert.Kernel.Mlp

end
-- ==== Proof.Kernel.Run.lean ====
/- The whole body at one grid point, on any staging buffers. -/
module

public import proofs.«01_k».proof.Proof.Gen.Kernel.Frame
public import proofs.«01_k».proof.Proof.Kernel.Start
public import proofs.«01_k».proof.Proof.Kernel.Blocks

@[expose] public section

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The count's word of this point. -/
abbrev cntW (i : grid0.Coords) (x2 : Vec F S2 .i32) : BitVec 32 :=
  View.ld x2 (Rect.unit (s := S2) (k0_off3 i) S1.size (k0_off3_inb i)) (Shape.Idx.first (show 0 < S1.numel from by decide))
/-- The table's word of trip `k`. -/
abbrev selW (i : grid0.Coords) (x1 : Vec F S2x1024 .i32) (k : Fin k0_t3_loop.trips) : BitVec 32 :=
  View.ld x1 (Rect.unit (s := S2x1024) (k0_off4 i k) S1x1.size (k0_off4_inb i k)) (Shape.Idx.first (show 0 < S1x1.numel from by decide))
/-- The table's word after that of trip `k`. -/
abbrev nxtW (i : grid0.Coords) (x1 : Vec F S2x1024 .i32) (k : Fin k0_t3_loop.trips) : BitVec 32 :=
  View.ld x1 (Rect.unit (s := S2x1024) (k0_off5 i k) S1x1.size (k0_off5_inb i k)) (Shape.Idx.first (show 0 < S1x1.numel from by decide))

/-- The last wait loops are well formed at a count of at most 256, the first making that many trips. -/
theorem last_facts : ∀ n : Fin 257, (k0_t4_loop (BitVec.ofNat 32 n)).OK ∧ (k0_t5_loop (BitVec.ofNat 32 n)).OK
    ∧ (k0_t4_loop (BitVec.ofNat 32 n)).trips = n ∧ (k0_t5_loop (BitVec.ofNat 32 n)).trips = 0 := by
  decide +kernel

variable (a1 : Memref sig .tc .smem S2x1024 .i32) (h1 : a1.IsWhole) (a2 : Memref sig .tc .smem S2 .i32) (h2 : a2.IsWhole) (a3 : Memref sig .tc .vmem S256x2048 .fp8e4m3) (h3 : a3.IsWhole) (a4 : Memref sig .tc .vmem S1x1x256 .f32) (h4 : a4.IsWhole) (a5 : Memref sig .tc .vmem S256x2048 .f32) (h5 : a5.IsWhole) (a6 : Memref sig .tc .vmem S256x2048 .i32) (h6 : a6.IsWhole) (a7 : Memref sig .tc .vmem S1x1x256 .f32) (h7 : a7.IsWhole) (a8 : Memref sig .tc .vmem S2x1024 .i32) (h8 : a8.IsWhole) (a9 : Memref sig .tc .vmem S2048x5632 .fp8e4m3) (h9 : a9.IsWhole) (a10 : Memref sig .tc .vmem S1x5632 .f32) (h10 : a10.IsWhole) (a11 : Memref sig .tc .vmem S2048x5632 .fp8e4m3) (h11 : a11.IsWhole) (a12 : Memref sig .tc .vmem S1x5632 .f32) (h12 : a12.IsWhole) (a13 : Memref sig .tc .vmem S5632x2048 .fp8e4m3) (h13 : a13.IsWhole) (a14 : Memref sig .tc .vmem S1x2048 .f32) (h14 : a14.IsWhole) (a17 : Memref sig .tc .vmem S256x2048 .f32) (h17 : a17.IsWhole) (a18 : Memref sig .tc .vmem S256x5632 .fp8e4m3) (h18 : a18.IsWhole) (a19 : Memref sig .tc .vmem S1x1x256 .f32) (h19 : a19.IsWhole)

/-- After the loop: at the last grid point the rows just sent are waited for. -/
theorem tail_wp (c : Dev nD) (i : grid0.Coords) (W : Waits sig Unit) :
    iprop(Sent c ∗ owes (c : Thread nD τ) 0 W)
      ⊢ wp frame (wpE (defs₀ (F := F)) Variants.none c none) Set.univ
        (if h : k0_cond3 i = 1#1 then do
            let v828 ← smemLoad nstM (Rect.unit (s := S1) ![0] S1.size inb_S1_S1_0) numel1_S1 rfl
            let hw ← Prog.lift (TpuEff.assume (k0_chk3 i v828) (k0_chk3.dec i v828))
            (k0_t4_loop v828).for (k0_t4_ok i v828 hw.down h) PUnit.unit (k0_t4_body i a1 h1 a2 h2 a3 h3 a4 h4 a5 h5 a6 h6 a7 h7 a8 h8 a9 h9 a10 h10 a11 h11 a12 h12 a13 h13 a14 h14 outM (Memref.isWhole_whole _) outM (Memref.isWhole_whole _) a17 h17 a18 h18 a19 h19 actM (Memref.isWhole_whole _) newpM (Memref.isWhole_whole _) carM (Memref.isWhole_whole _) nstM (Memref.isWhole_whole _) cc0_scratch4 h v828 hw.down)
            (k0_t5_loop v828).for (k0_t5_ok i v828 hw.down h) PUnit.unit (k0_t5_body i a1 h1 a2 h2 a3 h3 a4 h4 a5 h5 a6 h6 a7 h7 a8 h8 a9 h9 a10 h10 a11 h11 a12 h12 a13 h13 a14 h14 outM (Memref.isWhole_whole _) outM (Memref.isWhole_whole _) a17 h17 a18 h18 a19 h19 actM (Memref.isWhole_whole _) newpM (Memref.isWhole_whole _) carM (Memref.isWhole_whole _) nstM (Memref.isWhole_whole _) cc0_scratch4 h v828 hw.down)
            Pure.pure PUnit.unit
          else Pure.pure PUnit.unit)
        (fun _ => iprop((if k0_cond3 i = 1#1 then Idle c else Sent c) ∗ (∃ W, owes (c : Thread nD τ) 0 W))) := by
  by_cases h : k0_cond3 i = 1#1
  · rw [dif_pos h]
    simp only [if_pos h]
    unfold Sent Flight
    iintro ⟨⟨%n, %f, %hf, Hn, ⟨%D, HB, HD⟩⟩, HW⟩
    obtain ⟨hn, rfl⟩ := hf
    have hl := last_facts ⟨n, Nat.lt_succ_of_le hn⟩
    have hchk : k0_chk3 i (BitVec.ofNat 32 n) := ⟨fun _ => hl.1, fun _ => hl.2.1⟩
    sl_exec
    sl_for (fun k _ => waitInv c n D k) $$ [HB HW]
    · intro k acc
      sl_respell [k0_t4_body]
      simp only [Prog.lift, Prog.bind_op, Prog.bind_ret, Prog.pure_eq_ret, Prog.bind_assoc]
      exact wait_step c n D k.val (by have := k.isLt; exact lt_of_lt_of_eq this hl.2.2.1) _ _ _ _
    · unfold waitInv
      rw [Nat.zero_mul]
      isplitl [HB]; · iexact HB
      iexists _; iexact HW
    iintro %acc HI
    sl_for (fun _ _ => waitInv c n D n) $$ [HI]
    · intro k acc
      exact absurd (lt_of_lt_of_eq k.isLt hl.2.2.2) (Nat.not_lt_zero _)
    · rw [show Scf.trips _ _ _ = n from hl.2.2.1]
      iexact HI
    iintro %acc' HI
    unfold waitInv
    icases HI with ⟨HB, ⟨%W', HW⟩⟩
    rw [Nat.mul_comm n rowN]
    imod (Transfers.batch_collect' (EC (F := F)) (c : Thread nD τ) rowN_pos) $$ HB with ⟨HB, HS⟩
    ihave HR := HD $$ HB
    sl_exec
    sl_step
    unfold Idle
    isplitl [Hn HR HS]
    · isplitl [Hn]; · iexists _; iexact Hn
      isplitl [HR]; · iexact HR
      iexact HS
    iexists _; iexact HW
  · rw [dif_neg h]
    simp only [if_neg h]
    iintro ⟨HI, HW⟩
    sl_step
    isplitl [HI]; · iexact HI
    iexists _; iexact HW

set_option pp.maxSteps 3000 in
set_option maxHeartbeats 4000000 in
theorem body_wp (c : Dev nD) (i : grid0.Coords) (x1 : Vec F S2x1024 .i32) (x2 : Vec F S2 .i32) (x3 : Vec F S256x2048 .fp8e4m3) (x4 : Vec F S1x1x256 .f32) (x5 : Vec F S256x2048 .f32) (x6 : Vec F S256x2048 .i32) (x7 : Vec F S1x1x256 .f32) (x8 : Vec F S2x1024 .i32) (x9 : Vec F S2048x5632 .fp8e4m3) (x10 : Vec F S1x5632 .f32) (x11 : Vec F S2048x5632 .fp8e4m3) (x12 : Vec F S1x5632 .f32) (x13 : Vec F S5632x2048 .fp8e4m3) (x14 : Vec F S1x2048 .f32) (hT : TableOK i (cntW i x2) (selW i x1) (nxtW i x1)) (W : Waits sig Unit) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ (∃ d, owns (c : Thread nD τ) a17 fullShare d) ∗ (∃ d, owns (c : Thread nD τ) a18 fullShare d) ∗ (∃ d, owns (c : Thread nD τ) a19 fullShare d) ∗ (∃ d, owns (c : Thread nD τ) actM fullShare d) ∗ (∃ d, owns (c : Thread nD τ) carM fullShare d)
       ∗ (if k0_cond1 i = 1#1 then Sent c else Idle c) ∗ owes (c : Thread nD τ) 0 W
       ∗ (iprop((owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a17 fullShare (outSum x3 x4 x9 x10 x11 x12 x13 x5 x14) ∗ owns (c : Thread nD τ) a18 fullShare (outCodes x3 x4 x9 x10 x11 x12) ∗ owns (c : Thread nD τ) a19 fullShare (outScale x3 x4 x9 x10 x11 x12)) ∗ (∃ d, owns (c : Thread nD τ) actM fullShare d) ∗ (∃ d, owns (c : Thread nD τ) carM fullShare d)
         ∗ (if k0_cond3 i = 1#1 then Idle c else Sent c) ∗ (∃ W, owes (c : Thread nD τ) 0 W)) -∗ K ⟨⟩))
      ⊢ wp frame (wpE (defs₀ (F := F)) Variants.none c none) Set.univ (cc0_mlp i a1 h1 a2 h2 a3 h3 a4 h4 a5 h5 a6 h6 a7 h7 a8 h8 a9 h9 a10 h10 a11 h11 a12 h12 a13 h13 a14 h14 outM (Memref.isWhole_whole _) outM (Memref.isWhole_whole _) a17 h17 a18 h18 a19 h19 actM (Memref.isWhole_whole _) newpM (Memref.isWhole_whole _) carM (Memref.isWhole_whole _) nstM (Memref.isWhole_whole _) cc0_scratch4) K := by
  simp only [cc0_mlp_eq_skeleton]; unfold cc0_mlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part19_eq_skeleton]
  have hcut := fun x0 x1 x2 x3 x4 W fc => part18_wp (F := F) a1 h1 a2 h2 a3 h3 a4 h4 a5 h5 a6 h6 a7 h7 a8 h8 a9 h9 a10 h10 a11 h11 a12 h12 a13 h13 a14 h14 a17 h17 a18 h18 a19 h19 c i x0 x1 x2 x3 x4 W fc
  unfold carPt at hcut
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d17, %f17, -, H17⟩, ⟨%d18, %f18, -, H18⟩, ⟨%d19, %f19, -, H19⟩, ⟨%dA, %fA, -, HA⟩, ⟨%dC, %fC, -, HC⟩, HS, HW, HK⟩
  subst hf1 hf2 hf3 hf4 hf5 hf6 hf7 hf8 hf9 hf10 hf11 hf12 hf13 hf14
  sl_exec
  imod (Transfers.batch_alloc' (EC (F := F)) (c := (c : Thread nD τ)) (sm := semL) () rowN (Deliv (F := F) hT c)) $$ Hk0_part18_3 with HB
  ihave HR := (kept_zero (F := F) hT c) $$ [Hk0_part18_1 Hk0_part18_2]
  · unfold Rows
    isplitl [Hk0_part18_1]; · iexists _; iexact Hk0_part18_1
    iexists _; iexact Hk0_part18_2
  sl_for (fun k acc => startInv a1 c i (cntW i (a2.view.read (Elt F) f2)) f1 hT k acc) $$ [H1 HB HR]
  · intro k acc
    exact start_step (F := F) a1 h1 a2 h2 a3 h3 a4 h4 a5 h5 a6 h6 a7 h7 a8 h8 a9 h9 a10 h10 a11 h11 a12 h12 a13 h13 a14 h14 a17 h17 a18 h18 a19 h19 c i _ _ rfl f1 hT k acc
  · unfold startInv
    isplitr; · ipureintro; rfl
    isplitl [H1]; · iexact H1
    isplitl [HB]; · iexact HB
    iexact HR
  iintro %acc HI
  unfold startInv
  icases HI with ⟨%hacc, H1, HB, HR⟩
  ihave HF := (show iprop(Transfers.Batch (EC (F := F)) (c : Thread nD τ) semL () rowN (Deliv hT c) (number i (cntW i (a2.view.read (Elt F) f2)) (tw4 a1 c i f1) (tw5 a1 c i f1)) 0
      ∗ Kept hT c (number i (cntW i (a2.view.read (Elt F) f2)) (tw4 a1 c i f1) (tw5 a1 c i f1))) ⊢ (Flight c (number i (cntW i (a2.view.read (Elt F) f2)) (tw4 a1 c i f1) (tw5 a1 c i f1)) : sProp 𝕄) from by
    unfold Flight
    iintro ⟨HB, HR⟩
    iexists _
    isplitl [HB]; · iexact HB
    iapply (kept_back hT c)
    iexact HR) $$ [HB HR]
  · isplitl [HB]; · iexact HB
    iexact HR
  sl_exec
  rw [nst_written]
  ihave HS := (show iprop((nstM.view.loc (c : Thread nD τ) ↦[nstM.view.set]{fullShare} fun _ => acc) ∗ Flight c (number i (cntW i (a2.view.read (Elt F) f2)) (tw4 a1 c i f1) (tw5 a1 c i f1)))
      ⊢ (Sent c : sProp 𝕄) from by
    unfold Sent
    iintro ⟨HA, HB⟩
    iexists _, _
    isplitr
    rotate_left
    · isplitl [HA]; · iexact HA
      iexact HB
    ipureintro
    exact ⟨number_le, by rw [hacc]⟩) $$ [Hk0_part18_0 HF]
  · isplitl [Hk0_part18_0]; · iexact Hk0_part18_0
    iexact HF
  iapply (wp_wand _ _ _) $$ [HS Hk0_part18_5]
  · iapply (tail_wp (F := F) a1 h1 a2 h2 a3 h3 a4 h4 a5 h5 a6 h6 a7 h7 a8 h8 a9 h9 a10 h10 a11 h11 a12 h12 a13 h13 a14 h14 a17 h17 a18 h18 a19 h19 c i _)
    isplitl [HS]; · iexact HS
    iexact Hk0_part18_5
  iintro %r HT
  have e28 : body_wp.sl.r_28 a3 a4 a9 a10 a11 a12 c f3 f4 f9 f10 f11 f12 = amax (a3.view.read (Elt F) f3) (a4.view.read (Elt F) f4) (a9.view.read (Elt F) f9) (a10.view.read (Elt F) f10) (a11.view.read (Elt F) f11) (a12.view.read (Elt F) f12) := rfl
  have eS : body_wp.sl.r_31 a3 a4 a9 a10 a11 a12 c f3 f4 f9 f10 f11 f12 = search7 (amax (a3.view.read (Elt F) f3) (a4.view.read (Elt F) f4) (a9.view.read (Elt F) f9) (a10.view.read (Elt F) f10) (a11.view.read (Elt F) f11) (a12.view.read (Elt F) f12)) := rfl
  have eT : body_wp.sl.r_32 a3 a4 a9 a10 a11 a12 c f3 f4 f9 f10 f11 f12 = addi (search7 (amax (a3.view.read (Elt F) f3) (a4.view.read (Elt F) f4) (a9.view.read (Elt F) f9) (a10.view.read (Elt F) f10) (a11.view.read (Elt F) f11) (a12.view.read (Elt F) f12))) (broadcast S256x128 1#32) := rfl
  have eA : body_wp.sl.HA_11 a3 a4 a9 a10 a11 a12 c f3 f4 f9 f10 f11 f12 = pieces (a3.view.read (Elt F) f3) (a4.view.read (Elt F) f4) (a9.view.read (Elt F) f9) (a10.view.read (Elt F) f10) (a11.view.read (Elt F) f11) (a12.view.read (Elt F) f12) 11 le_rfl := rfl
  have e43 : body_wp.sl.v543 a3 a4 a9 a10 a11 a12 c f3 f4 f9 f10 f11 f12 = View.ld (acts (a3.view.read (Elt F) f3) (a4.view.read (Elt F) f4) (a9.view.read (Elt F) f9) (a10.view.read (Elt F) f10) (a11.view.read (Elt F) f11) (a12.view.read (Elt F) f12)) rAct := by
    unfold body_wp.sl.v543 View.readCov
    rw [eA]
    exact congrArg (fun z => View.ld z rAct) (View.read_writes_eq_canon _ _ _ (cover_acts _ _ _ _ _ _))
  have e34 : body_wp.sl.r_34 a3 a4 a9 a10 a11 a12 c f3 f4 f9 f10 f11 f12 = k0_pay59 (amax (a3.view.read (Elt F) f3) (a4.view.read (Elt F) f4) (a9.view.read (Elt F) f9) (a10.view.read (Elt F) f10) (a11.view.read (Elt F) f11) (a12.view.read (Elt F) f12)) (search7 (amax (a3.view.read (Elt F) f3) (a4.view.read (Elt F) f4) (a9.view.read (Elt F) f9) (a10.view.read (Elt F) f10) (a11.view.read (Elt F) f11) (a12.view.read (Elt F) f12))) (addi (search7 (amax (a3.view.read (Elt F) f3) (a4.view.read (Elt F) f4) (a9.view.read (Elt F) f9) (a10.view.read (Elt F) f10) (a11.view.read (Elt F) f11) (a12.view.read (Elt F) f12))) (broadcast S256x128 1#32)) 23#32
      (View.ld (acts (a3.view.read (Elt F) f3) (a4.view.read (Elt F) f4) (a9.view.read (Elt F) f9) (a10.view.read (Elt F) f10) (a11.view.read (Elt F) f11) (a12.view.read (Elt F) f12)) rAct) := by
    unfold body_wp.sl.r_34
    rw [e28, eS, eT, e43]
  have e33 : body_wp.sl.r_33 a3 a4 a9 a10 a11 a12 c f3 f4 f9 f10 f11 f12 = k0_pay57 (amax (a3.view.read (Elt F) f3) (a4.view.read (Elt F) f4) (a9.view.read (Elt F) f9) (a10.view.read (Elt F) f10) (a11.view.read (Elt F) f11) (a12.view.read (Elt F) f12)) (search7 (amax (a3.view.read (Elt F) f3) (a4.view.read (Elt F) f4) (a9.view.read (Elt F) f9) (a10.view.read (Elt F) f10) (a11.view.read (Elt F) f11) (a12.view.read (Elt F) f12))) (addi (search7 (amax (a3.view.read (Elt F) f3) (a4.view.read (Elt F) f4) (a9.view.read (Elt F) f9) (a10.view.read (Elt F) f10) (a11.view.read (Elt F) f11) (a12.view.read (Elt F) f12))) (broadcast S256x128 1#32)) 23#32 := by
    unfold body_wp.sl.r_33
    rw [e28, eS, eT]
  have e18 : a18.view.read (Elt F) (a18.view.writes (Elt F) a18.view.junk (body_wp.sl.H18_1 a3 a4 a9 a10 a11 a12 c f3 f4 f9 f10 f11 f12)) = outCodes (a3.view.read (Elt F) f3) (a4.view.read (Elt F) f4) (a9.view.read (Elt F) f9) (a10.view.read (Elt F) f10) (a11.view.read (Elt F) f11) (a12.view.read (Elt F) f12) := by
    unfold body_wp.sl.H18_1
    rw [e34]
    exact View.read_writes_eq_canon _ _ _ (cover_codes _)
  have e52 : body_wp.sl.v552 a3 a4 a9 a10 a11 a12 a18 c f3 f4 f9 f10 f11 f12 = View.ld (outCodes (a3.view.read (Elt F) f3) (a4.view.read (Elt F) f4) (a9.view.read (Elt F) f9) (a10.view.read (Elt F) f10) (a11.view.read (Elt F) f11) (a12.view.read (Elt F) f12)) rAct := by
    unfold body_wp.sl.v552 View.readCov
    exact congrArg (fun z => View.ld z rAct) e18
  iapply HK
  isplitl [H1 H2 H3 H4 H5 H6 H7 H8 H9 H10 H11 H12 H13 H14 H17 H18 H19]
  · skip
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists f14; isplitr; · ipureintro; rfl
      iexact H14
    isplitl [H17]
    · iexists _; isplitr
      swap; · iexact H17
      ipureintro
      refine (View.read_writes_eq_canon _ _ _ (cover_sum _)).trans ?_
      rw [e33, e52]
      rfl
    isplitl [H18]
    · iexists _; isplitr
      swap; · iexact H18
      ipureintro
      exact e18
    iexists _; isplitr
    swap; · iexact H19
    ipureintro
    refine (View.read_writes_eq_canon _ _ _ (cover_scale _)).trans ?_
    rw [e28, eS, eT]
    rfl
  icases HT with ⟨HT, HO⟩
  isplitl [HA]
  · iexists _, _; isplitr
    swap; · iexact HA
    ipureintro; rfl
  isplitl [Hk0_part18_4]
  · iexists _, _; isplitr
    swap; · iexact Hk0_part18_4
    ipureintro; rfl
  isplitl [HT]; · iexact HT
  iexact HO

end Cert.Kernel.Mlp

end
-- ==== Proof.Kernel.Frame.lean ====
/- The frame of the whole call: the run over the eight grid points, and what the arrays hold at the end. -/
module

public import proofs.«01_k».proof.Proof.Gen.Kernel.Frame
public import proofs.«01_k».proof.Proof.Kernel.Run
public import Idealize.ShloMosaic.Lib.Pipeline.FrameBody

@[expose] public section

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The launch's data -/

/-- The array the body writes itself: the words of the output rows. -/
def R0 : Finset (Ref sig .tc) := {main_v3_0}
/-- The body's transfers read no array of the launch. -/
def H0 : Finset (Ref sig .tc) := ∅
theorem H0_sub : H0 ⊆ Pipeline.restRefs sig spec0 := by decide
theorem R0_sub : R0 ⊆ Pipeline.restRefs sig spec0 \ H0 := by decide

/-- The body's one cell. -/
abbrev osem0 : Fin 1 → SemLoc sig := fun _ => semL
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), semL) 0) := by
  rw [Pipeline.ownSems0_eq_of_list c osem0 [0] (by decide) (by decide)]; rfl
theorem owned0_eq (c : Dev nD) :
    (Pipeline.owned R0 c : sProp 𝕄)
      = iprop(∃ f : Buf (Elt F) ((c : Thread nD τ).loc main_v3_0), ((c : Thread nD τ).loc main_v3_0) ↦{fullShare} f) := by
  unfold Pipeline.owned; rw [BI.bigSep_eq_bigSepL_of_eq [main_v3_0] (by decide) (by decide)]; rfl

/-- The host operations and then the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- What the grid points hand on: the scratch buffers, and the rows in flight between two points. -/
def Phi (c : Dev nD) (t : ℕ) : sProp 𝕄 :=
  iprop((∃ d, owns (c : Thread nD τ) actM fullShare d) ∗ (∃ d, owns (c : Thread nD τ) carM fullShare d)
    ∗ (if 0 < t ∧ t < 8 then Sent c else Idle c) ∗ (∃ r, prngReg (c : Dev nD) r))

theorem phiDR_eq (c : Dev nD) :
    (Pipeline.ΦDR osem0 spec0 H0 R0 (V m) c : sProp 𝕄)
      = iprop(iprop((∃ d, owns (c : Thread nD τ) actM fullShare d) ∗ (∃ d, owns (c : Thread nD τ) newpM fullShare d)
                ∗ (∃ d, owns (c : Thread nD τ) carM fullShare d) ∗ (∃ d, owns (c : Thread nD τ) nstM fullShare d))
          ∗ (∃ r, prngReg c r) ∗ semVal ((c : Thread nD τ), semL) 0 ∗ emp
          ∗ (∃ d, owns (c : Thread nD τ) outM fullShare d)) := by
  rw [Pipeline.ΦDR_eq, scopedRest0_eq, ownSems0_eq, owned0_eq, show H0 = ∅ from rfl, BI.bigSep_empty]
  simp only [actM, newpM, carM, nstM, outM, owns_whole]; try rfl

theorem phi_in (c : Dev nD) : Pipeline.ΦDR osem0 spec0 H0 R0 (V m) c ⊢ (Phi c 0 : sProp 𝕄) := by
  rw [phiDR_eq]
  unfold Phi
  rw [if_neg (by decide)]
  unfold Idle Rows
  iintro ⟨⟨HA, ⟨%dN, HN⟩, HC, ⟨%dS, HS⟩⟩, Hg, Hq, -, ⟨%dO, HO⟩⟩
  unfold owns
  icases HN with ⟨%fN, %hN, HN⟩
  icases HS with ⟨%fS, %hS, HS⟩
  icases HO with ⟨%fO, %hO, HO⟩
  isplitl [HA]; · iexact HA
  isplitl [HC]; · iexact HC
  isplitl [HS HN HO Hq]
  · isplitl [HS]; · iexists _; iexact HS
    isplitl [HN HO]
    · isplitl [HN]; · iexists _; iexact HN
      iexists _; iexact HO
    iexact Hq
  iexact Hg

theorem phi_out (c : Dev nD) : (Phi c 8 : sProp 𝕄) ⊢ Pipeline.ΦDR osem0 spec0 H0 R0 (V m) c := by
  rw [phiDR_eq]
  unfold Phi
  rw [if_neg (by decide)]
  unfold Idle Rows
  iintro ⟨HA, HC, ⟨⟨%fS, HS⟩, ⟨⟨%fN, HN⟩, ⟨%fO, HO⟩⟩, Hq⟩, Hg⟩
  isplitl [HA HC HS HN]
  · isplitl [HA]; · iexact HA
    isplitl [HN]
    · iexists _; unfold owns; iexists fN; isplitr; · ipureintro; rfl
      iexact HN
    isplitl [HC]; · iexact HC
    iexists _; unfold owns; iexists fS; isplitr; · ipureintro; rfl
    iexact HS
  isplitl [Hg]; · iexact Hg
  isplitl [Hq]; · iexact Hq
  isplitr; · iempintro
  iexists _; unfold owns; iexists fO; isplitr; · ipureintro; rfl
  iexact HO

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outSum (iblk m c 2 t) (iblk m c 3 t) (iblk m c 8 t) (iblk m c 9 t) (iblk m c 10 t) (iblk m c 11 t) (iblk m c 12 t) (iblk m c 4 t) (iblk m c 13 t)
    | ⟨15, _⟩ => outCodes (iblk m c 2 t) (iblk m c 3 t) (iblk m c 8 t) (iblk m c 9 t) (iblk m c 10 t) (iblk m c 11 t)
    | ⟨16, _⟩ => outScale (iblk m c 2 t) (iblk m c 3 t) (iblk m c 8 t) (iblk m c 9 t) (iblk m c 10 t) (iblk m c 11 t)
    | ⟨_ + 17, h⟩ => absurd h (Nat.not_lt.2 (Nat.le_add_left _ _))
  Φ t := Phi c t.val
  q w := Pipeline.shareOf spec0 w
  owed _ := 0

theorem A_eq (c : Dev nD) (w : Fin cfg0.W) : (dats m 0 c).A w = V m c (Pipeline.arrRef spec0 w) := by
  dsimp only [dats]

section
variable (c : Dev nD) (t : Fin cfg0.N)
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = iblk m c 11 t := by dsimp only [dats]
theorem after0_12 : (dats m 0 c).after 12 t = iblk m c 12 t := by dsimp only [dats]
theorem after0_13 : (dats m 0 c).after 13 t = iblk m c 13 t := by dsimp only [dats]
theorem after0_14 : (dats m 0 c).after 14 t = outSum (iblk m c 2 t) (iblk m c 3 t) (iblk m c 8 t) (iblk m c 9 t) (iblk m c 10 t) (iblk m c 11 t) (iblk m c 12 t) (iblk m c 4 t) (iblk m c 13 t) := by dsimp only [dats]
theorem after0_15 : (dats m 0 c).after 15 t = outCodes (iblk m c 2 t) (iblk m c 3 t) (iblk m c 8 t) (iblk m c 9 t) (iblk m c 10 t) (iblk m c 11 t) := by dsimp only [dats]
theorem after0_16 : (dats m 0 c).after 16 t = outScale (iblk m c 2 t) (iblk m c 3 t) (iblk m c 8 t) (iblk m c 9 t) (iblk m c 10 t) (iblk m c 11 t) := by dsimp only [dats]
end

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)

/-! ## The body's obligation -/

theorem cond1_iff : ∀ t : Fin cfg0.N, k0_cond1 (grid0.coords t) = 1#1 ↔ (0 < t.val ∧ t.val < 8) := by decide +kernel
theorem cond3_iff : ∀ t : Fin cfg0.N, k0_cond3 (grid0.coords t) = 1#1 ↔ ¬ (0 < t.val + 1 ∧ t.val + 1 < 8) := by decide +kernel

/-- The tables the points read are in order. -/
def Tables : Prop := ∀ (c : Dev nD) (t : Fin cfg0.N),
  TableOK (grid0.coords t) (cntW (F := F) (grid0.coords t) (iblk m c 1 t)) (selW (F := F) (grid0.coords t) (iblk m c 0 t)) (nxtW (F := F) (grid0.coords t) (iblk m c 0 t))

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 1000000 in
theorem sound_body (hT : Tables m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [after0_0, after0_1, after0_2, after0_3, after0_4, after0_5, after0_6, after0_7, after0_8, after0_9, after0_10, after0_11, after0_12, after0_13, after0_14, after0_15, after0_16]
  rw [show (dats m 0 c).Φ t.castSucc = Phi c t.val from rfl, show (dats m 0 c).Φ t.succ = Phi c (t.val + 1) from rfl]
  unfold Dat.owesAt Pipeline.owesWithin Phi
  rw [show (dats m 0 c).owed t.castSucc = 0 from rfl, show (dats m 0 c).owed t.succ = 0 from rfl]
  iintro ⟨⟨HA, HC, HS, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (body_wp _ _ _ _ _ _ _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (hT c t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [HA]; · iexact HA
  isplitl [HC]; · iexact HC
  isplitl [HS]
  · simp only [cond1_iff]
    iexact HS
  isplitl [HW]; · iexact HW
  iintro ⟨⟨H0, H1, H2, H3, H4, H5, H6, H7, H8, H9, H10, H11, H12, H13, H14, H15, H16⟩, HA, HC, HS, ⟨%W', HW⟩⟩
  isplitl [HA HC HS Hg]
  · isplitl [HA]; · iexact HA
    isplitl [HC]; · iexact HC
    isplitl [HS]
    · simp only [cond3_iff, ite_not]
      iexact HS
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (t : Fin cfg0.N) :
    defs₀ (F := F) .tc cfg0.body (cfg0.bodyArgs t (cfg0.slots t)) = bodyAt0 t := by
  unfold defs₀; rw [Defs.onTc_tc]

theorem body_obligation (hT : Tables m) (c : Dev nD) : BodyObligation (dats (F := F) m 0 c) (defs₀ (F := F)) Variants.none () Set.univ := fun t => by
  rw [bigSep_W0, bigSep_W0, defs₀_row]
  exact triple_restated (sound_body m hT c t) rfl .rfl fun _ => .rfl

/-! ## The run and the frame -/

set_option backward.isDefEq.respectTransparency.types false in
set_option maxHeartbeats 800000 in
theorem run_main (hT : Tables m) : θ_run defs (onTc (τ := τ) (main (F := F))) (s₀ m ρ) (fun r => Pipeline.FramePostR cfgs (dats m) 0 R0 (V m) r ∧ r.2.sem = fun _ => 0) :=
  Pipeline.θ_run_frame_dmaR_shared (Q' := _) cfgs (dats m) (0 : Fin 1) launch₀0 osem0 defs₀ Variants.none ownSemFacts0 H0 R0 H0_sub R0_sub m ρ main
    (hbody := fun c => (body_obligation m hT c).loose) (hq := fun _ _ _ => rfl)
    (howed := fun _ _ => rfl) (V := V m) (hmain := hmain m Variants.none) (hA := A_eq m)
    (hin := fun c => phi_in m c) (hout := fun c => phi_out m c)

set_option maxHeartbeats 1020000 in
/-- Every argument array ends unchanged and every counter at zero. -/
theorem frame (hT : Tables m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨((h.1 c).1 7).trans (((dats m 0 c).arrAt_in 7 rfl _).trans ((A_eq m c 7).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).1 5).trans (((dats m 0 c).arrAt_in 5 rfl _).trans ((A_eq m c 5).trans (V_main_arg5 m c))),
      ((h.1 c).1 6).trans (((dats m 0 c).arrAt_in 6 rfl _).trans ((A_eq m c 6).trans (V_main_arg6 m c))),
      ((h.1 c).1 8).trans (((dats m 0 c).arrAt_in 8 rfl _).trans ((A_eq m c 8).trans (V_main_arg7 m c))),
      ((h.1 c).2 main_arg8 (Finset.mem_sdiff.mpr ⟨Pipeline.mem_restRefs_of main_arg8 (by decide) (by decide), by decide⟩)).trans (V_main_arg8 m c),
      ((h.1 c).1 10).trans (((dats m 0 c).arrAt_in 10 rfl _).trans ((A_eq m c 10).trans (V_main_arg9 m c))),
      ((h.1 c).2 main_arg10 (Finset.mem_sdiff.mpr ⟨Pipeline.mem_restRefs_of main_arg10 (by decide) (by decide), by decide⟩)).trans (V_main_arg10 m c),
      ((h.1 c).1 12).trans (((dats m 0 c).arrAt_in 12 rfl _).trans ((A_eq m c 12).trans (V_main_arg11 m c))),
      ((h.1 c).2 main_arg12 (Finset.mem_sdiff.mpr ⟨Pipeline.mem_restRefs_of main_arg12 (by decide) (by decide), by decide⟩)).trans (V_main_arg12 m c),
      ((h.1 c).2 main_arg13 (Finset.mem_sdiff.mpr ⟨Pipeline.mem_restRefs_of main_arg13 (by decide) (by decide), by decide⟩)).trans (V_main_arg13 m c)⟩, h.2⟩) (run_main m ρ hT)

end Cert.Kernel.Mlp

end
-- ==== Proof.Kernel.Tables.lean ====
/- The tables the grid points read satisfy what the body needs of them, by the precondition. -/
module

public import proofs.«01_k».proof.Proof.Rows
public import proofs.«01_k».proof.Proof.Kernel.Frame
public import Idealize.ShloMosaic.Lib.WordCmp
public import Idealize.ShloMosaic.Lib.Pipeline.ValueKit.Geometry

@[expose] public section

set_option maxRecDepth 16384

noncomputable section

namespace Cert.Kernel.Mlp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Cert.Rows Idealize.ShloMosaic.WordCmp

variable (m : (ℓ : Loc nD τ sig) → Buf (Elt F) ℓ)

/-! ## The words read -/

theorem off3_eq : ∀ t : Fin cfg0.N, k0_off3 (grid0.coords t) 0 = t.val / 4 := by decide +kernel
theorem off4_eq : ∀ (t : Fin cfg0.N) (k : Fin k0_t3_loop.trips),
    k0_off4 (grid0.coords t) k 0 = t.val / 4 ∧ k0_off4 (grid0.coords t) k 1 = 256 * (t.val % 4) + k.val := by decide +kernel
theorem off5_eq : ∀ (t : Fin cfg0.N) (k : Fin k0_t3_loop.trips),
    k0_off5 (grid0.coords t) k 0 = t.val / 4 ∧ k0_off5 (grid0.coords t) k 1 = min (256 * (t.val % 4) + k.val + 1) 1023 := by decide +kernel
theorem batch_word : ∀ t : Fin cfg0.N, Scalar.muli (Scalar.divsi (BitVec.ofNat 32 (grid0.coords t 0).val) 4#32) 8192#32 = BitVec.ofNat 32 (t.val / 4 * 8192) := by
  decide +kernel
theorem pos_word : ∀ (t : Fin cfg0.N) (k : Fin k0_t3_loop.trips),
    Scalar.addi (Scalar.muli (Scalar.remsi (BitVec.ofNat 32 (grid0.coords t 0).val) 4#32) 256#32) (Scf.iv 0#32 1#32 k)
      = BitVec.ofNat 32 (256 * (t.val % 4) + k.val) := by
  decide +kernel

/-- The batch of a grid point. -/
def bat (t : Fin cfg0.N) : Fin 2 := ⟨t.val / 4, by have := t.isLt; have e : cfg0.N = 8 := N_0; omega⟩
/-- The position of a grid point's trip. -/
def posn (t : Fin cfg0.N) (k : Fin k0_t3_loop.trips) : Fin 1024 :=
  ⟨256 * (t.val % 4) + k.val, by have := k.isLt; have e := trips_eq; omega⟩

theorem posn_val (t : Fin cfg0.N) (k : Fin k0_t3_loop.trips) : (posn t k).val = 256 * (t.val % 4) + k.val := rfl

theorem iblk0_eq (c : Dev nD) (t : Fin cfg0.N) (j : S2x1024.Idx) : iblk m c 0 t j = m ((c : Thread nD τ).loc main_arg0) j := by
  rw [← V_main_arg0 m c]
  unfold iblk
  exact congrArg (V m c main_arg0) (funext fun a => Fin.ext (by blk_simp; fin_cases a <;> exact Nat.zero_add _))
theorem iblk1_eq (c : Dev nD) (t : Fin cfg0.N) (j : S2.Idx) : iblk m c 1 t j = m ((c : Thread nD τ).loc main_arg1) j := by
  rw [← V_main_arg1 m c]
  unfold iblk
  exact congrArg (V m c main_arg1) (funext fun a => Fin.ext (by blk_simp; fin_cases a; exact Nat.zero_add _))

theorem cnt_eq (t : Fin cfg0.N) (x2 : Vec F S2 .i32) : cntW (F := F) (grid0.coords t) x2 = x2 (at1 (bat t)) := by
  refine congrArg x2 (funext fun a => Fin.ext ?_)
  fin_cases a
  exact (Nat.add_zero _).trans (off3_eq t)
theorem sel_eq (t : Fin cfg0.N) (x1 : Vec F S2x1024 .i32) (k : Fin k0_t3_loop.trips) :
    selW (F := F) (grid0.coords t) x1 k = x1 (at2 (bat t) (posn t k)) := by
  refine congrArg x1 (funext fun a => Fin.ext ?_)
  fin_cases a
  · exact (Nat.add_zero _).trans (off4_eq t k).1
  · exact (Nat.add_zero _).trans (off4_eq t k).2
theorem nxt_eq (t : Fin cfg0.N) (x1 : Vec F S2x1024 .i32) (k : Fin k0_t3_loop.trips) (h : (posn t k).val + 1 < 1024) :
    nxtW (F := F) (grid0.coords t) x1 k = x1 (at2 (bat t) ⟨(posn t k).val + 1, h⟩) := by
  refine congrArg x1 (funext fun a => Fin.ext ?_)
  rw [posn_val] at h
  fin_cases a
  · exact (Nat.add_zero _).trans (off5_eq t k).1
  · exact (Nat.add_zero _).trans ((off5_eq t k).2.trans (Nat.min_eq_left (by omega)))

/-! ## The rows sent -/

theorem shr_one (x : BitVec 32) : (Scalar.shrui x 1#32).toNat = x.toNat / 2 := by
  unfold Scalar.shrui IntOp.shrui
  rw [if_pos (by decide)]
  simp [BitVec.toNat_ushiftRight, Nat.shiftRight_eq_div_pow]

/-- A trip sends when its position is live and the next is not a live one of the same pair of rows. -/
theorem sends (t : Fin cfg0.N) (k : Fin k0_t3_loop.trips) (v w4 w5 : BitVec 32)
    (h : k0_cond2 (grid0.coords t) v k w4 w5 = 1#1) :
    ((posn t k).val : Int) < v.toInt ∧ (((posn t k).val : Int) + 1 < v.toInt → w5.toNat / 2 ≠ w4.toNat / 2) := by
  unfold k0_cond2 at h
  simp only [pos_word] at h
  have hp := (posn t k).isLt
  have e1 : (BitVec.ofNat 32 (256 * (t.val % 4) + k.val)).toInt = ((posn t k).val : Int) := toInt_ofNat_of_lt (by rw [posn_val] at hp; omega)
  have e2 : (Scalar.addi (BitVec.ofNat 32 (256 * (t.val % 4) + k.val)) 1#32).toInt = ((posn t k).val : Int) + 1 := by
    rw [show Scalar.addi (BitVec.ofNat 32 (256 * (t.val % 4) + k.val)) 1#32 = BitVec.ofNat 32 ((posn t k).val + 1) by
      rw [posn_val]; exact (BitVec.ofNat_add _ _).symm]
    rw [toInt_ofNat_of_lt (by omega)]; push_cast; rfl
  have hx : ∀ p : Bool, Scalar.cmpi .ne (Scalar.extui (BitVec.ofBool p)) 0#32 = BitVec.ofBool p := by decide
  have ht : (1#1 : BitVec 1) = BitVec.ofBool true := rfl
  simp only [Scalar.cmpi, Scalar.andi, Scalar.xori, cmpi_slt_eq, cmpi_eq_eq_toNat, e1, e2, shr_one, andi_ofBool] at h
  rw [show (1#1 : BitVec 1) = BitVec.ofBool true from rfl] at h
  simp only [xori_ofBool, andi_ofBool] at h
  have h' := (hx _).symm.trans h
  rw [show BitVec.ofBool true = 1#1 from rfl, ofBool_eq_one_iff] at h'
  simp only [Bool.and_eq_true, decide_eq_true_eq, Bool.xor_true, Bool.not_eq_true', Bool.and_eq_false_iff, decide_eq_false_iff_not] at h'
  refine ⟨h'.1, fun hc => ?_⟩
  rcases h'.2 with e | e
  · exact absurd hc e
  · exact e

/-- The row of the output array a word names. -/
theorem off6_eq (t : Fin cfg0.N) (w : BitVec 32) (hw : w.toNat < 8192) :
    k0_off6 (grid0.coords t) w 0 = t.val / 4 * 4096 + w.toNat / 2 := by
  unfold k0_off6
  simp only [batch_word]
  have ht := t.isLt
  have e : cfg0.N = 8 := N_0
  show (Scalar.shrui _ 1#32).toNat = _
  rw [shr_one]
  unfold Scalar.addi IntOp.addi
  rw [BitVec.toNat_add, BitVec.toNat_ofNat]
  omega

theorem tables_of_good (hG : ∀ c : Dev nD, Good (m ((c : Thread nD τ).loc main_arg0)) (m ((c : Thread nD τ).loc main_arg1))) : Tables m := by
  intro c t
  have G := hG c
  have hc : cntW (F := F) (grid0.coords t) (iblk m c 1 t) = m ((c : Thread nD τ).loc main_arg1) (at1 (bat t)) :=
    (cnt_eq t _).trans (iblk1_eq m c t _)
  have hs : ∀ k, selW (F := F) (grid0.coords t) (iblk m c 0 t) k = m ((c : Thread nD τ).loc main_arg0) (at2 (bat t) (posn t k)) :=
    fun k => (sel_eq t _ k).trans (iblk0_eq m c t _)
  have hn : ∀ k (h : (posn t k).val + 1 < 1024), nxtW (F := F) (grid0.coords t) (iblk m c 0 t) k = m ((c : Thread nD τ).loc main_arg0) (at2 (bat t) ⟨(posn t k).val + 1, h⟩) :=
    fun k h => (nxt_eq t _ k h).trans (iblk0_eq m c t _)
  have ht : t.val / 4 < 2 := (bat t).isLt
  -- a live position's word, as a number
  have small : ∀ s : Fin 1024, (s.val : Int) < (m ((c : Thread nD τ).loc main_arg1) (at1 (bat t)) : BitVec 32).toInt →
      (m ((c : Thread nD τ).loc main_arg0) (at2 (bat t) s) : BitVec 32).toNat < 8192
        ∧ (m ((c : Thread nD τ).loc main_arg0) (at2 (bat t) s) : BitVec 32).toInt = (m ((c : Thread nD τ).loc main_arg0) (at2 (bat t) s) : BitVec 32).toNat := by
    intro s h
    have g := G (bat t) s h
    have i1 : (m ((c : Thread nD τ).loc main_arg0) (at2 (bat t) s) : BitVec 32).toNat < 2 ^ 31 := (toInt_nonneg_iff_lt_half _).mp g.1
    have i2 := toInt_eq_toNat_of_lt_half i1
    refine ⟨?_, i2⟩
    have := g.2.1
    rw [i2] at this
    exact_mod_cast this
  -- the rows of an earlier and a later sending trip
  have key : ∀ k k' : Fin k0_t3_loop.trips, k.val < k'.val →
      k0_cond2 (grid0.coords t) (cntW (F := F) (grid0.coords t) (iblk m c 1 t)) k (selW (F := F) (grid0.coords t) (iblk m c 0 t) k) (nxtW (F := F) (grid0.coords t) (iblk m c 0 t) k) = 1#1 →
      k0_cond2 (grid0.coords t) (cntW (F := F) (grid0.coords t) (iblk m c 1 t)) k' (selW (F := F) (grid0.coords t) (iblk m c 0 t) k') (nxtW (F := F) (grid0.coords t) (iblk m c 0 t) k') = 1#1 →
      k0_off6 (grid0.coords t) (selW (F := F) (grid0.coords t) (iblk m c 0 t) k) 0 ≠ k0_off6 (grid0.coords t) (selW (F := F) (grid0.coords t) (iblk m c 0 t) k') 0 := by
    intro k k' hk h h'
    obtain ⟨l1, l2⟩ := sends t k _ _ _ h
    obtain ⟨l1', -⟩ := sends t k' _ _ _ h'
    rw [hc] at l1 l2 l1'
    have p := posn_val t k
    have p' := posn_val t k'
    have q' := (posn t k').isLt
    have hlt : (posn t k).val + 1 < 1024 := by omega
    have hlive : ((posn t k).val : Int) + 1 < (m ((c : Thread nD τ).loc main_arg1) (at1 (bat t)) : BitVec 32).toInt := by omega
    have ne := l2 hlive
    rw [hs, hn k hlt] at ne
    rw [hs, hs, off6_eq t _ (small _ l1).1, off6_eq t _ (small _ l1').1]
    have s0 := small (posn t k) l1
    have s1 := small ⟨(posn t k).val + 1, hlt⟩ (by push_cast; exact hlive)
    have s2 := small (posn t k') l1'
    have g1 := (G (bat t) (posn t k) l1).2.2 hlt hlive
    rw [s0.2, s1.2] at g1
    have g2 : (m ((c : Thread nD τ).loc main_arg0) (at2 (bat t) ⟨(posn t k).val + 1, hlt⟩) : BitVec 32).toNat ≤ (m ((c : Thread nD τ).loc main_arg0) (at2 (bat t) (posn t k')) : BitVec 32).toNat := by
      rcases Nat.lt_or_ge ((posn t k).val + 1) (posn t k').val with l | l
      · have hd : (posn t k).val + 1 + ((posn t k').val - (posn t k).val - 2) + 1 = (posn t k').val := by omega
        have g := G.lt (bat t) ⟨(posn t k).val + 1, hlt⟩ ((posn t k').val - (posn t k).val - 2) (lt_of_eq_of_lt hd q')
          (by show ((((posn t k).val + 1 + ((posn t k').val - (posn t k).val - 2) : ℕ)) : Int) + 1 < _; omega)
        have e : (⟨(posn t k).val + 1 + ((posn t k').val - (posn t k).val - 2) + 1, lt_of_eq_of_lt hd q'⟩ : Fin 1024) = posn t k' := Fin.ext hd
        change _ < (m ((c : Thread nD τ).loc main_arg0) (at2 (bat t) ⟨(posn t k).val + 1 + ((posn t k').val - (posn t k).val - 2) + 1, lt_of_eq_of_lt hd q'⟩) : BitVec 32).toInt at g
        rw [e, s1.2, s2.2] at g
        omega
      · have e : (⟨(posn t k).val + 1, hlt⟩ : Fin 1024) = posn t k' := Fin.ext (by show (posn t k).val + 1 = _; omega)
        rw [e]
    omega
  refine ⟨fun k h a => ?_, fun k k' h h' ne => ?_⟩
  · obtain ⟨l1, -⟩ := sends t k _ _ _ h
    rw [hc] at l1
    have s0 := (small (posn t k) l1).1
    fin_cases a
    · show k0_off6 (grid0.coords t) _ 0 + 1 ≤ 8192
      rw [hs, off6_eq t _ s0]
      omega
    · exact le_rfl
  · rcases Nat.lt_or_gt_of_ne (fun e => ne (Fin.ext e)) with l | l
    · exact key k k' l h h'
    · exact (key k' k l h' h).symm

end Cert.Kernel.Mlp

end
-- ==== Proof.KernelIdeal.Wait.lean ====
/- Waiting for the row transfers a grid point started: the rows in flight between two grid points, and the two
   counted loops that wait for them.  -/
module

public import proofs.«01_k».proof.Proof.Gen.KernelIdeal.Frame
public import proofs.«01_k».proof.Proof.Gen.KernelIdeal.Skeleton

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The output array as rows of words. -/
abbrev outM : Memref sig .tc .hbm S8192x2048 .i32 := Memref.whole main_v3_0
/-- The activation scratch. -/
abbrev actM : Memref sig .tc .vmem S256x5632 .f32 := Memref.whole cc0_scratch0
/-- The rows a grid point sends. -/
abbrev newpM : Memref sig .tc .vmem S256x2048 .i32 := Memref.whole cc0_scratch1
/-- The row carried to the next grid point. -/
abbrev carM : Memref sig .tc .vmem S8x2048 .i32 := Memref.whole cc0_scratch2
/-- The count of rows in flight. -/
abbrev nstM : Memref sig .tc .smem S1 .i32 := Memref.whole cc0_scratch3
/-- The cell all row transfers count on. -/
abbrev semL : SemLoc sig := SemLoc.dma (cc0_scratch4.sem)

/-- A row of the output array. -/
abbrev outRow (off : Fin 2 → Nat) (h : ∀ a, off a + S1x2048.size a ≤ S8192x2048.size a) : Memref sig .tc .hbm S1x2048 .i32 :=
  outM.slice (Rect.unit (s := S8192x2048) off S1x2048.size h) (fun _ => rfl)
/-- A row of the rows to send. -/
abbrev newpRow (off : Fin 2 → Nat) (h : ∀ a, off a + S1x2048.size a ≤ S256x2048.size a) : Memref sig .tc .vmem S1x2048 .i32 :=
  newpM.slice (Rect.unit (s := S256x2048) off S1x2048.size h) (fun _ => rfl)

/-- What one row transfer pays. -/
def rowN : ℕ := (outRow ![0, 0] inb_S8192x2048_S1x2048_0_0).view.dmaCredit

theorem rowN_pos : 0 < rowN := by
  show 0 < (outRow ![0, 0] inb_S8192x2048_S1x2048_0_0).view.dmaCredit
  decide

/-- Every row pays the same. -/
theorem amount_outRow (off : Fin 2 → Nat) (h : ∀ a, off a + S1x2048.size a ≤ S8192x2048.size a) :
    (outRow off h).view.amount semL = rowN := rfl

/-- The embedding of the transfers' counters. -/
abbrev EC : UEmb Counters 𝕄 := countersEmb (U := Pipeline.UD sig nD τ)

/-- The rows to send and the output array, both owned. -/
def Rows (c : Dev nD) : sProp 𝕄 :=
  iprop((∃ f : Buf (Elt F) (newpM.view.loc (c : Thread nD τ)), newpM.view.loc (c : Thread nD τ) ↦[newpM.view.set]{fullShare} f)
    ∗ (∃ f : Buf (Elt F) (outM.view.loc (c : Thread nD τ)), outM.view.loc (c : Thread nD τ) ↦[outM.view.set]{fullShare} f))

/-- `n` row transfers in flight, whose deliveries give back the rows to send and the output array. -/
def Flight (c : Dev nD) (n : ℕ) : sProp 𝕄 :=
  iprop(∃ D : Fin n → sProp 𝕄, Transfers.Batch (EC (F := F)) (c : Thread nD τ) semL () rowN D n 0
    ∗ (bigSep Finset.univ D -∗ Rows c))

/-- A wait loop's invariant: `k` rows waited for. -/
def waitInv (c : Dev nD) (n : ℕ) (D : Fin n → sProp 𝕄) (k : ℕ) : sProp 𝕄 :=
  iprop(Transfers.Batch (EC (F := F)) (c : Thread nD τ) semL () rowN D n (k * rowN) ∗ (∃ W, owes (c : Thread nD τ) 0 W))

/-- One wait takes one row's pay. -/
theorem wait_step (c : Dev nD) (n : ℕ) (D : Fin n → sProp 𝕄) (k : ℕ) (hk : k < n) (offS offD : Fin 2 → Nat) (hS hD)
    {hs hd} :
    waitInv c n D k ⊢ wp frame (wpE (defs₀ (F := F)) Variants.none c none) Set.univ
      (.op (.waitDma2 cc0_scratch4.sem (newpRow offS hS) (outRow offD hD) hs hd) fun _ => .ret PUnit.unit)
      (fun _ : PUnit => waitInv c n D (k + 1)) := by
  unfold waitInv
  iintro ⟨HB, ⟨%W, HW⟩⟩
  iapply (Transfers.wp_waitBatchMul (EC (F := F)) Variants.none (c : Thread nD τ) none () (N := rowN) 1
    (show (outRow offD hD).view.dmaCredit = 1 * rowN by rw [Nat.one_mul]; rfl)
    (show k * rowN + 1 * rowN ≤ rowN * n by rw [← Nat.add_mul, Nat.mul_comm rowN]; exact Nat.mul_le_mul_right _ hk)) $$ [HB HW]
  · isplitl [HB]; · iexact HB
    iexact HW
  iintro ⟨HB, HW⟩
  rw [← Nat.add_mul]
  sl_step
  isplitl [HB]; · iexact HB
  iexists _; iexact HW

/-- Both wait loops are well formed at a count of at most 256, the first making that many trips. -/
theorem loop_facts : ∀ n : Fin 257, (k0_t1_loop (BitVec.ofNat 32 n)).OK ∧ (k0_t2_loop (BitVec.ofNat 32 n)).OK
    ∧ (k0_t1_loop (BitVec.ofNat 32 n)).trips = n ∧ (k0_t2_loop (BitVec.ofNat 32 n)).trips = 0 := by
  decide +kernel

-- PART18
/-- Nothing in flight: the count at anything, the rows and the output array owned, the cell at zero. -/
def Idle (c : Dev nD) : sProp 𝕄 :=
  iprop((∃ f : Buf (Elt F) (nstM.view.loc (c : Thread nD τ)), nstM.view.loc (c : Thread nD τ) ↦[nstM.view.set]{fullShare} f)
    ∗ Rows c ∗ semVal ((c : Thread nD τ), semL) 0)

/-- Some rows in flight, their number in the count's word. -/
def Sent (c : Dev nD) : sProp 𝕄 :=
  iprop(∃ (n : ℕ) (f : Buf (Elt F) (nstM.view.loc (c : Thread nD τ))), ⌜n ≤ 256 ∧ f = fun _ => (BitVec.ofNat 32 n : Elt F .i32)⌝
    ∗ (nstM.view.loc (c : Thread nD τ) ↦[nstM.view.set]{fullShare} f) ∗ Flight c n)

/-- The carried row's buffer at contents `f`. -/
def carPt (c : Dev nD) (f : Buf (Elt F) (carM.view.loc (c : Thread nD τ))) : sProp 𝕄 :=
  iprop(carM.view.loc (c : Thread nD τ) ↦[carM.view.set]{fullShare} f)

section
variable (a1 : Memref sig .tc .smem S2x1024 .i32) (h1 : a1.IsWhole) (a2 : Memref sig .tc .smem S2 .i32) (h2 : a2.IsWhole) (a3 : Memref sig .tc .vmem S256x2048 .fp8e4m3) (h3 : a3.IsWhole) (a4 : Memref sig .tc .vmem S1x1x256 .f32) (h4 : a4.IsWhole) (a5 : Memref sig .tc .vmem S256x2048 .f32) (h5 : a5.IsWhole) (a6 : Memref sig .tc .vmem S256x2048 .i32) (h6 : a6.IsWhole) (a7 : Memref sig .tc .vmem S1x1x256 .f32) (h7 : a7.IsWhole) (a8 : Memref sig .tc .vmem S2x1024 .i32) (h8 : a8.IsWhole) (a9 : Memref sig .tc .vmem S2048x5632 .fp8e4m3) (h9 : a9.IsWhole) (a10 : Memref sig .tc .vmem S1x5632 .f32) (h10 : a10.IsWhole) (a11 : Memref sig .tc .vmem S2048x5632 .fp8e4m3) (h11 : a11.IsWhole) (a12 : Memref sig .tc .vmem S1x5632 .f32) (h12 : a12.IsWhole) (a13 : Memref sig .tc .vmem S5632x2048 .fp8e4m3) (h13 : a13.IsWhole) (a14 : Memref sig .tc .vmem S1x2048 .f32) (h14 : a14.IsWhole) (a17 : Memref sig .tc .vmem S256x2048 .f32) (h17 : a17.IsWhole) (a18 : Memref sig .tc .vmem S256x5632 .fp8e4m3) (h18 : a18.IsWhole) (a19 : Memref sig .tc .vmem S1x1x256 .f32) (h19 : a19.IsWhole)

/-- At a later grid point the rows of the point before are waited for; at the first there are none. -/
theorem part18_wp (c : Dev nD) (i : grid0.Coords) (x0 : BitVec 32) (x1 : FVec F S256x2048 .f32) (x2 : FVec F S256x2048 .f32)
    (x3 : IVec S256x2048 32) (x4 : BitVec 32) (W : Waits sig Unit)
    (fc : Buf (Elt F) (carM.view.loc (c : Thread nD τ))) :
    iprop((if k0_cond1 i = 1#1 then Sent c else Idle c)
      ∗ carPt c fc ∗ owes (c : Thread nD τ) 0 W)
      ⊢ wp frame (wpE (defs₀ (F := F)) Variants.none c none) Set.univ
        (k0_part18 i a1 h1 a2 h2 a3 h3 a4 h4 a5 h5 a6 h6 a7 h7 a8 h8 a9 h9 a10 h10 a11 h11 a12 h12 a13 h13 a14 h14 outM (Memref.isWhole_whole _) outM (Memref.isWhole_whole _) a17 h17 a18 h18 a19 h19 actM (Memref.isWhole_whole _) newpM (Memref.isWhole_whole _) carM (Memref.isWhole_whole _) nstM (Memref.isWhole_whole _) cc0_scratch4 x0 x1 x2 x3 x4)
        (fun _ => iprop(Idle c ∗ carPt c fc
          ∗ (∃ W, owes (c : Thread nD τ) 0 W))) := by
  simp only [k0_part18_eq_skeleton]; unfold k0_part18_skel
  unfold carPt
  by_cases h : k0_cond1 i = 1#1
  · rw [if_pos h, dif_pos h]
    unfold Sent Flight
    iintro ⟨⟨%n, %f, %hf, Hn, ⟨%D, HB, HD⟩⟩, HC, HW⟩
    obtain ⟨hn, rfl⟩ := hf
    have hl := loop_facts ⟨n, Nat.lt_succ_of_le hn⟩
    have hchk : k0_chk1 i (BitVec.ofNat 32 n) := ⟨fun _ => hl.1, fun _ => hl.2.1⟩
    sl_exec
    sl_for (fun k _ => waitInv c n D k) $$ [HB HW]
    · intro k acc
      sl_respell [k0_t1_body]
      simp only [Prog.lift, Prog.bind_op, Prog.bind_ret, Prog.pure_eq_ret, Prog.bind_assoc]
      exact wait_step c n D k.val (by have := k.isLt; exact lt_of_lt_of_eq this hl.2.2.1) _ _ _ _
    · unfold waitInv
      rw [Nat.zero_mul]
      isplitl [HB]; · iexact HB
      iexists _; iexact HW
    iintro %acc HI
    sl_for (fun _ _ => waitInv c n D n) $$ [HI]
    · intro k acc
      exact absurd (lt_of_lt_of_eq k.isLt hl.2.2.2) (Nat.not_lt_zero _)
    · rw [show Scf.trips _ _ _ = n from hl.2.2.1]
      iexact HI
    iintro %acc' HI
    unfold waitInv
    icases HI with ⟨HB, ⟨%W', HW⟩⟩
    rw [Nat.mul_comm n rowN]
    imod (Transfers.batch_collect' (EC (F := F)) (c : Thread nD τ) rowN_pos) $$ HB with ⟨HB, HS⟩
    ihave HR := HD $$ HB
    sl_exec
    sl_step
    unfold Idle
    isplitl [Hn HR HS]
    · isplitl [Hn]; · iexists _; iexact Hn
      isplitl [HR]; · iexact HR
      iexact HS
    isplitl [HC]; · iexact HC
    iexists _; iexact HW
  · rw [if_neg h, dif_neg h]
    iintro ⟨HI, HC, HW⟩
    sl_exec
    sl_step
    isplitl [HI]; · iexact HI
    isplitl [HC]; · iexact HC
    iexists _; iexact HW
end

end Cert.KernelIdeal.Mlp

end
-- ==== Proof.KernelIdeal.Lend.lean ====
/- Lending pieces of a buffer one after the other: of a buffer held whole, the pieces of a disjoint family are given away
   in the family's order; when all have come back the buffer is whole again. -/
module

public import proofs.«01_k».proof.Proof.Gen.KernelIdeal.Frame
public import Idealize.ShloMosaic.Lib.Ring

@[expose] public section

noncomputable section

namespace Cert.KernelIdeal.Mlp

open Idealize.ShloMosaic
open Idealize.SL Idealize.SL.RA Idealize.SL.BI
open scoped Idealize.SL.BI
open Idealize.SL.BI.BIBase Idealize.SL.BI.Laws Idealize.SL.ProofMode Idealize.SL.Sem

section
variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable {ℓ : Loc nD τ sig} {n : ℕ} (I : Fin n → Finset (Idx ℓ))

/-- What is left once the first `k` pieces are lent. -/
def left (k : ℕ) : Finset (Idx ℓ) := Finset.univ \ (Finset.univ.filter fun j : Fin n => j.val < k).biUnion I

theorem left_zero : left I 0 = Finset.univ := by
  unfold left
  ext x
  simp

variable (hd : ∀ j j', j ≠ j' → Disjoint (I j) (I j'))

include hd in
theorem sub_left (j : Fin n) : I j ⊆ left I j.val := by
  intro x hx
  unfold left
  refine Finset.mem_sdiff.mpr ⟨Finset.mem_univ _, fun h => ?_⟩
  obtain ⟨j', hj', hx'⟩ := Finset.mem_biUnion.mp h
  have hlt := (Finset.mem_filter.mp hj').2
  exact (Finset.disjoint_left.mp (hd j j' (fun e => by subst e; exact lt_irrefl _ hlt)) hx) hx'

theorem left_succ (j : Fin n) : left I j.val \ I j = left I (j.val + 1) := by
  unfold left
  ext x
  simp only [Finset.mem_sdiff, Finset.mem_univ, true_and, Finset.mem_biUnion, Finset.mem_filter, not_exists, not_and]
  constructor
  · rintro ⟨h, hx⟩ j' hj' hx'
    by_cases e : j' = j
    · subst e; exact hx hx'
    · exact h j' (lt_of_le_of_ne (Nat.lt_succ_iff.mp hj') (fun e' => e (Fin.ext e'))) hx'
  · intro h
    exact ⟨fun j' hj' => h j' (Nat.lt_succ_of_lt hj'), h j (Nat.lt_succ_self _)⟩

include hd in
/-- The next piece is lent. -/
theorem lend (j : Fin n) (f : Buf Val ℓ) :
    (ℓ ↦[left I j.val]{fullShare} f : sProp 𝕄) ⊢ iprop((ℓ ↦[I j]{fullShare} f) ∗ ℓ ↦[left I (j.val + 1)]{fullShare} f) := by
  rw [← left_succ I j]
  exact (pointsTo_split_subset (sub_left I hd j)).1

include hd in
/-- All pieces back, each at contents of its own: the buffer whole at some contents. -/
theorem lent_back (f₀ : Buf Val ℓ) :
    iprop(bigSep Finset.univ (fun j => iprop(∃ f, ℓ ↦[I j]{fullShare} f)) ∗ ∃ f, ℓ ↦[left I n]{fullShare} f)
      ⊢ (iprop(∃ f, ℓ ↦{fullShare} f) : sProp 𝕄) := by
  iintro ⟨HI, ⟨%f, Hf⟩⟩
  ihave HI' := (Ring.pointsTo_sub_blocks_join_exists I hd (Finset.univ.biUnion I) rfl f₀) $$ HI
  icases HI' with ⟨%g, Hg⟩
  have hle : left I n = Finset.univ \ Finset.univ.biUnion I := by
    unfold left
    rw [Finset.filter_true_of_mem fun j _ => j.isLt]
  rw [hle]
  iexists _
  iapply (pointsTo_join_subset (Finset.subset_univ (Finset.univ.biUnion I)))
  isplitl [Hg]; · iexact Hg
  iexact Hf
end

end Cert.KernelIdeal.Mlp

end
-- ==== Proof.KernelIdeal.Start.lean ====
/- Starting the row transfers of a grid point: which trips of the loop send a row, and what is held after each trip. -/
module

public import proofs.«01_k».proof.Proof.Gen.KernelIdeal.Frame
public import proofs.«01_k».proof.Proof.KernelIdeal.Wait
public import proofs.«01_k».proof.Proof.KernelIdeal.Lend

public import Idealize.ShloMosaic.Lib.ViewIndex

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The trips that send -/

/-- Trip `r` sends its row. -/
def goes (i : grid0.Coords) (v : BitVec 32) (w4 w5 : Fin k0_t3_loop.trips → BitVec 32) (r : ℕ) : Prop :=
  ∃ h : r < k0_t3_loop.trips, k0_cond2 i v ⟨r, h⟩ (w4 ⟨r, h⟩) (w5 ⟨r, h⟩) = 1#1

instance (i : grid0.Coords) (v : BitVec 32) (w4 w5 : Fin k0_t3_loop.trips → BitVec 32) : DecidablePred (goes i v w4 w5) :=
  fun r => by unfold goes; infer_instance

/-- Every sent row lies in the output array, and no two trips send to the same row. -/
structure TableOK (i : grid0.Coords) (v : BitVec 32) (w4 w5 : Fin k0_t3_loop.trips → BitVec 32) : Prop where
  chk : ∀ k, k0_chk2 i v k (w4 k) (w5 k)
  inj : ∀ k k', k0_cond2 i v k (w4 k) (w5 k) = 1#1 → k0_cond2 i v k' (w4 k') (w5 k') = 1#1 → k ≠ k' →
    k0_off6 i (w4 k) 0 ≠ k0_off6 i (w4 k') 0

/-- How many numbers below `n` satisfy `p`. -/
def cnt (p : ℕ → Prop) [DecidablePred p] : ℕ → ℕ
  | 0 => 0
  | n + 1 => cnt p n + if p n then 1 else 0

section
variable {p : ℕ → Prop} [DecidablePred p]

theorem cnt_succ (n : ℕ) : cnt p (n + 1) = cnt p n + if p n then 1 else 0 := rfl

theorem cnt_le (n : ℕ) : cnt p n ≤ n := by
  induction n with
  | zero => exact le_rfl
  | succ n ih => rw [cnt_succ]; split <;> omega

theorem cnt_mono {m n : ℕ} (h : m ≤ n) : cnt p m ≤ cnt p n := by
  induction h with
  | refl => exact le_rfl
  | step _ ih => rw [cnt_succ]; omega

theorem cnt_lt {m n : ℕ} (hm : p m) (h : m < n) : cnt p m < cnt p n := by
  have := cnt_mono (p := p) (show m + 1 ≤ n from h)
  rw [cnt_succ, if_pos hm] at this
  omega

theorem cnt_inj {m n : ℕ} (hm : p m) (hn : p n) (h : cnt p m = cnt p n) : m = n := by
  rcases lt_trichotomy m n with l | l | l
  · have := cnt_lt hm l; omega
  · exact l
  · have := cnt_lt hn l; omega

theorem cnt_ex (n : ℕ) {j : ℕ} (h : j < cnt p n) : ∃ r, r < n ∧ p r ∧ cnt p r = j := by
  induction n with
  | zero => exact absurd h (Nat.not_lt_zero _)
  | succ n ih =>
    rw [cnt_succ] at h
    by_cases hp : p n
    · rw [if_pos hp] at h
      rcases Nat.lt_or_ge j (cnt p n) with l | l
      · obtain ⟨r, h1, h2⟩ := ih l; exact ⟨r, Nat.lt_succ_of_lt h1, h2⟩
      · exact ⟨n, Nat.lt_succ_self n, hp, by omega⟩
    · rw [if_neg hp] at h
      obtain ⟨r, h1, h2⟩ := ih h; exact ⟨r, Nat.lt_succ_of_lt h1, h2⟩
end

/-- How many trips send. -/
abbrev number (i : grid0.Coords) (v : BitVec 32) (w4 w5 : Fin k0_t3_loop.trips → BitVec 32) : ℕ :=
  cnt (goes i v w4 w5) k0_t3_loop.trips

theorem trips_eq : k0_t3_loop.trips = 256 := by decide

theorem off7_eq : ∀ k : Fin k0_t3_loop.trips, k0_off7 k 0 = k.val := by decide +kernel

section
variable {i : grid0.Coords} {v : BitVec 32} {w4 w5 : Fin k0_t3_loop.trips → BitVec 32}

theorem number_le : number i v w4 w5 ≤ 256 := (cnt_le _).trans (le_of_eq trips_eq)

/-- The trip of the `j`-th transfer. -/
def trip (j : Fin (number i v w4 w5)) : Fin k0_t3_loop.trips := ⟨(cnt_ex _ j.isLt).choose, (cnt_ex _ j.isLt).choose_spec.1⟩

theorem goes_trip (j : Fin (number i v w4 w5)) : k0_cond2 i v (trip j) (w4 (trip j)) (w5 (trip j)) = 1#1 := by
  have h : goes i v w4 w5 (trip j).val := (cnt_ex _ j.isLt).choose_spec.2.1
  exact h.2

theorem cnt_trip (j : Fin (number i v w4 w5)) : cnt (goes i v w4 w5) (trip j).val = j.val := (cnt_ex _ j.isLt).choose_spec.2.2

theorem trip_ne {j j' : Fin (number i v w4 w5)} (h : j ≠ j') : trip j ≠ trip j' := by
  intro e
  apply h
  rw [Fin.ext_iff, ← cnt_trip, ← cnt_trip, e]

/-- A trip that sends is the trip of the transfer numbered by the sends before it. -/
theorem count_lt {k : Fin k0_t3_loop.trips} (h : k0_cond2 i v k (w4 k) (w5 k) = 1#1) :
    cnt (goes i v w4 w5) k < number i v w4 w5 := cnt_lt (p := goes i v w4 w5) ⟨k.isLt, h⟩ k.isLt
theorem trip_count {k : Fin k0_t3_loop.trips} (h : k0_cond2 i v k (w4 k) (w5 k) = 1#1) :
    trip ⟨cnt (goes i v w4 w5) k, count_lt h⟩ = k := by
  refine Fin.ext (cnt_inj (p := goes i v w4 w5) ?_ ⟨k.isLt, h⟩ (cnt_trip _))
  exact ⟨(trip _).isLt, goes_trip _⟩

variable (hT : TableOK i v w4 w5)

/-- The row the `j`-th transfer reads. -/
abbrev srcRow (j : Fin (number i v w4 w5)) : Memref sig .tc .vmem S1x2048 .i32 :=
  newpRow (k0_off7 (trip j)) (k0_off7_inb (trip j))
/-- The row the `j`-th transfer writes. -/
abbrev dstRow (j : Fin (number i v w4 w5)) : Memref sig .tc .hbm S1x2048 .i32 :=
  outRow (k0_off6 i (w4 (trip j))) (hT.chk (trip j) (goes_trip j))

theorem srcRow_disjoint (j j' : Fin (number i v w4 w5)) (h : j ≠ j') : Disjoint (srcRow j).view.set (srcRow j').view.set := by
  refine View.disjoint_slice (Rect.unit_disjoint 0 ?_)
  have hne : (trip j).val ≠ (trip j').val := fun e => trip_ne h (Fin.ext e)
  rw [off7_eq, off7_eq]
  show (trip j).val + 1 ≤ (trip j').val ∨ (trip j').val + 1 ≤ (trip j).val
  omega

theorem dstRow_disjoint (j j' : Fin (number i v w4 w5)) (h : j ≠ j') :
    Disjoint (dstRow hT j).view.set (dstRow hT j').view.set := by
  refine View.disjoint_slice (Rect.unit_disjoint 0 ?_)
  have hne := hT.inj _ _ (goes_trip j) (goes_trip j') (trip_ne h)
  show k0_off6 i (w4 (trip j)) 0 + 1 ≤ k0_off6 i (w4 (trip j')) 0 ∨ k0_off6 i (w4 (trip j')) 0 + 1 ≤ k0_off6 i (w4 (trip j)) 0
  omega

/-- The elements of the output array the `j`-th transfer writes. -/
def Iout (c : Dev nD) (j : Fin (number i v w4 w5)) : Finset (Idx (outM.view.loc (c : Thread nD τ))) := (dstRow hT j).view.set
/-- The elements of the packed rows the `j`-th transfer reads. -/
def Inew (c : Dev nD) (j : Fin (number i v w4 w5)) : Finset (Idx (newpM.view.loc (c : Thread nD τ))) := (srcRow j).view.set

theorem iout_disjoint (c : Dev nD) (j j' : Fin (number i v w4 w5)) (h : j ≠ j') : Disjoint (Iout hT c j) (Iout hT c j') :=
  dstRow_disjoint hT j j' h
theorem inew_disjoint (c : Dev nD) (j j' : Fin (number i v w4 w5)) (h : j ≠ j') : Disjoint (Inew c j) (Inew c j') :=
  srcRow_disjoint j j' h

/-- Elements of a buffer, at some contents. -/
def Held {nD : ℕ} {τ : Topo} {sig : RefSig} {F : FTy → Type} (ℓ : Loc nD τ sig) (I : Finset (Idx ℓ)) : sProp (MT nD τ sig Unit (Elt F) ℕ (Pipeline.UD sig nD τ) ℕ) :=
  iprop(∃ f : Buf (Elt F) ℓ, ℓ ↦[I]{fullShare} f)

instance {nD : ℕ} {τ : Topo} {sig : RefSig} {F : FTy → Type} (ℓ : Loc nD τ sig) (I : Finset (Idx ℓ)) :
    Storable (upEmb : UEmb _ (MT nD τ sig Unit (Elt F) ℕ (Pipeline.UD sig nD τ) ℕ)) (Held (F := F) ℓ I) := by
  unfold Held; infer_instance

/-- What the `j`-th transfer delivers: both rows. -/
def Deliv (c : Dev nD) (j : Fin (number i v w4 w5)) : sProp 𝕄 := iprop(Held _ (Iout hT c j) ∗ Held _ (Inew c j))

instance (c : Dev nD) (j : Fin (number i v w4 w5)) : Storable (upEmb : UEmb _ 𝕄) (Deliv (F := F) hT c j) := by
  unfold Deliv; infer_instance

/-- What is held once `k` transfers are started, beside the table and the batch. -/
def Kept (c : Dev nD) (k : ℕ) : sProp 𝕄 := iprop(Held _ (left (Iout hT c) k) ∗ Held _ (left (Inew (i := i) (v := v) (w4 := w4) (w5 := w5) c) k))

/-- At the start both buffers are held whole. -/
theorem kept_zero (c : Dev nD) : Rows c ⊢ (Kept (F := F) hT c 0 : sProp 𝕄) := by
  unfold Rows Kept Held
  rw [left_zero, left_zero, show newpM.view.set = Finset.univ from View.set_whole _, show outM.view.set = Finset.univ from View.set_whole _]
  iintro ⟨H1, H2⟩
  isplitl [H2]; · iexact H2
  iexact H1

theorem iout_eq (c : Dev nD) (j : Fin (number i v w4 w5)) (k : Fin k0_t3_loop.trips) (e : trip j = k)
    (h : ∀ a, k0_off6 i (w4 k) a + S1x2048.size a ≤ S8192x2048.size a) : Iout hT c j = (outRow (k0_off6 i (w4 k)) h).view.set := by
  subst e; rfl
theorem inew_eq (c : Dev nD) (j : Fin (number i v w4 w5)) (k : Fin k0_t3_loop.trips) (e : trip j = k) :
    Inew c j = (newpRow (k0_off7 k) (k0_off7_inb k)).view.set := by
  subst e; rfl

/-- One transfer's two rows, taken out. -/
theorem kept_lend (c : Dev nD) (j : Fin (number i v w4 w5)) :
    Kept (F := F) hT c j ⊢ iprop(Held _ (Iout hT c j) ∗ Held _ (Inew c j) ∗ Kept hT c (j.val + 1)) := by
  have hN := lend (Ix := Unit) (Name := ℕ) (U := Pipeline.UD sig nD τ) (Lvl := ℕ) (Val := Elt F) (Inew (i := i) (v := v) (w4 := w4) (w5 := w5) c) (inew_disjoint c) j
  have hO := lend (Ix := Unit) (Name := ℕ) (U := Pipeline.UD sig nD τ) (Lvl := ℕ) (Val := Elt F) (Iout hT c) (iout_disjoint hT c) j
  unfold Kept Held
  iintro ⟨⟨%f, H1⟩, ⟨%g, H2⟩⟩
  ihave H1 := (hO f) $$ H1
  ihave H2 := (hN g) $$ H2
  icases H1 with ⟨Ha, Hb⟩
  icases H2 with ⟨Hc, Hd⟩
  isplitl [Ha]; · iexists _; iexact Ha
  isplitl [Hc]; · iexists _; iexact Hc
  isplitl [Hb]; · iexists _; iexact Hb
  iexists _; iexact Hd

/-- At the end, with all deliveries back, they are whole again. -/
theorem kept_back (c : Dev nD) :
    iprop(Kept (F := F) hT c (number i v w4 w5)) ⊢ iprop(bigSep Finset.univ (Deliv hT c) -∗ Rows c) := by
  have hs : (bigSep Finset.univ (Deliv (F := F) hT c) : sProp 𝕄) = iprop((bigSep Finset.univ fun j => Held _ (Iout hT c j)) ∗ bigSep Finset.univ fun j => Held _ (Inew (i := i) (v := v) (w4 := w4) (w5 := w5) c j)) := by
    unfold Deliv; exact BI.bigSep_sep _ _ _
  rw [hs]
  have hN := lent_back (Ix := Unit) (Name := ℕ) (U := Pipeline.UD sig nD τ) (Lvl := ℕ) (Val := Elt F) (Inew (i := i) (v := v) (w4 := w4) (w5 := w5) c) (inew_disjoint c)
  have hO := lent_back (Ix := Unit) (Name := ℕ) (U := Pipeline.UD sig nD τ) (Lvl := ℕ) (Val := Elt F) (Iout hT c) (iout_disjoint hT c)
  unfold Rows Kept Held
  rw [show newpM.view.set = Finset.univ from View.set_whole _, show outM.view.set = Finset.univ from View.set_whole _]
  iintro ⟨⟨%f, H1⟩, ⟨%g, H2⟩⟩ ⟨Ho, Hn⟩
  isplitl [H2 Hn]
  · iapply (hN g)
    isplitl [Hn]; · iexact Hn
    iexists _; iexact H2
  · iapply (hO f)
    isplitl [Ho]; · iexact Ho
    iexists _; iexact H1
end

/-! ## One trip -/

section
variable (a1 : Memref sig .tc .smem S2x1024 .i32) (h1 : a1.IsWhole) (a2 : Memref sig .tc .smem S2 .i32) (h2 : a2.IsWhole) (a3 : Memref sig .tc .vmem S256x2048 .fp8e4m3) (h3 : a3.IsWhole) (a4 : Memref sig .tc .vmem S1x1x256 .f32) (h4 : a4.IsWhole) (a5 : Memref sig .tc .vmem S256x2048 .f32) (h5 : a5.IsWhole) (a6 : Memref sig .tc .vmem S256x2048 .i32) (h6 : a6.IsWhole) (a7 : Memref sig .tc .vmem S1x1x256 .f32) (h7 : a7.IsWhole) (a8 : Memref sig .tc .vmem S2x1024 .i32) (h8 : a8.IsWhole) (a9 : Memref sig .tc .vmem S2048x5632 .fp8e4m3) (h9 : a9.IsWhole) (a10 : Memref sig .tc .vmem S1x5632 .f32) (h10 : a10.IsWhole) (a11 : Memref sig .tc .vmem S2048x5632 .fp8e4m3) (h11 : a11.IsWhole) (a12 : Memref sig .tc .vmem S1x5632 .f32) (h12 : a12.IsWhole) (a13 : Memref sig .tc .vmem S5632x2048 .fp8e4m3) (h13 : a13.IsWhole) (a14 : Memref sig .tc .vmem S1x2048 .f32) (h14 : a14.IsWhole) (a17 : Memref sig .tc .vmem S256x2048 .f32) (h17 : a17.IsWhole) (a18 : Memref sig .tc .vmem S256x5632 .fp8e4m3) (h18 : a18.IsWhole) (a19 : Memref sig .tc .vmem S1x1x256 .f32) (h19 : a19.IsWhole)

/-- The table's word of trip `k`, as read. -/
abbrev tw4 (c : Dev nD) (i : grid0.Coords) (f1 : Buf (Elt F) (a1.view.loc (c : Thread nD τ))) (k : Fin k0_t3_loop.trips) : BitVec 32 :=
  View.readAt (Elt F) a1.view (Rect.unit (s := S2x1024) (k0_off4 i k) S1x1.size (k0_off4_inb i k)).toLoadRect f1 (Shape.Idx.first (show 0 < S1x1.numel from by decide))
/-- The word after it. -/
abbrev tw5 (c : Dev nD) (i : grid0.Coords) (f1 : Buf (Elt F) (a1.view.loc (c : Thread nD τ))) (k : Fin k0_t3_loop.trips) : BitVec 32 :=
  View.readAt (Elt F) a1.view (Rect.unit (s := S2x1024) (k0_off5 i k) S1x1.size (k0_off5_inb i k)).toLoadRect f1 (Shape.Idx.first (show 0 < S1x1.numel from by decide))

/-- Before trip `k`: the sends so far counted in the loop's word, their transfers in flight, the rest held. -/
def startInv (c : Dev nD) (i : grid0.Coords) (v : BitVec 32) (f1 : Buf (Elt F) (a1.view.loc (c : Thread nD τ)))
    (hT : TableOK i v (tw4 a1 c i f1) (tw5 a1 c i f1)) (k : ℕ) (acc : BitVec 32) : sProp 𝕄 :=
  iprop(⌜acc = BitVec.ofNat 32 (cnt (goes i v (tw4 a1 c i f1) (tw5 a1 c i f1)) k)⌝
    ∗ (a1.view.loc (c : Thread nD τ) ↦[a1.view.set]{fullShare} f1)
    ∗ Transfers.Batch (EC (F := F)) (c : Thread nD τ) semL () rowN (Deliv hT c) (cnt (goes i v (tw4 a1 c i f1) (tw5 a1 c i f1)) k) 0
    ∗ Kept hT c (cnt (goes i v (tw4 a1 c i f1) (tw5 a1 c i f1)) k))

theorem word1 : ∀ x : BitVec 1, Scalar.cmpi .ne (Scalar.extui x : BitVec 32) 0#32 = x := by decide
theorem ext1 : (Scalar.extui (1#1 : BitVec 1) : BitVec 32) = 1#32 := by decide
theorem ext0 : ∀ x : BitVec 1, ¬ x = 1#1 → (Scalar.extui x : BitVec 32) = 0#32 := by decide

theorem start_step (c : Dev nD) (i : grid0.Coords) (v3 v821 : BitVec 32) (hv3 : v3 = Scalar.muli (Scalar.remsi (BitVec.ofNat 32 (i 0).val) 4#32) 256#32)
    (f1 : Buf (Elt F) (a1.view.loc (c : Thread nD τ))) (hT : TableOK i v821 (tw4 a1 c i f1) (tw5 a1 c i f1))
    (k : Fin k0_t3_loop.trips) (acc : BitVec 32) :
    startInv a1 c i v821 f1 hT k.val acc ⊢ wp frame (wpE (defs₀ (F := F)) Variants.none c none) Set.univ
      (k0_t3_body i a1 h1 a2 h2 a3 h3 a4 h4 a5 h5 a6 h6 a7 h7 a8 h8 a9 h9 a10 h10 a11 h11 a12 h12 a13 h13 a14 h14 outM (Memref.isWhole_whole _) outM (Memref.isWhole_whole _) a17 h17 a18 h18 a19 h19 actM (Memref.isWhole_whole _) newpM (Memref.isWhole_whole _) carM (Memref.isWhole_whole _) nstM (Memref.isWhole_whole _) cc0_scratch4 v3 v821 k acc) (fun acc' => startInv a1 c i v821 f1 hT (k.val + 1) acc') := by
  subst hv3
  unfold k0_t3_body
  have hchk : k0_chk2 i v821 k (tw4 a1 c i f1 k) (tw5 a1 c i f1 k) := hT.chk k
  unfold startInv
  iintro ⟨%hacc, H1, HB, HK⟩
  sl_exec
  unfold start_step.sl.r start_step.sl.r_1
  by_cases h : k0_cond2 i v821 k (tw4 a1 c i f1 k) (tw5 a1 c i f1 k) = 1#1
  · rw [dif_pos h]
    have e := trip_count h
    have hl := kept_lend (F := F) hT c ⟨_, count_lt h⟩
    rw [iout_eq hT c _ k e (hchk h), inew_eq c _ k e] at hl
    have hD : Deliv (F := F) hT c ⟨_, count_lt h⟩ = iprop(Held (outM.view.loc (c : Thread nD τ)) (outRow (k0_off6 i (tw4 a1 c i f1 k)) (hchk h)).view.set
        ∗ Held (newpM.view.loc (c : Thread nD τ)) (newpRow (k0_off7 k) (k0_off7_inb k)).view.set) := by
      unfold Deliv; rw [iout_eq hT c _ k e (hchk h), inew_eq c _ k e]
    have hc : cnt (goes i v821 (tw4 a1 c i f1) (tw5 a1 c i f1)) (k.val + 1) = cnt (goes i v821 (tw4 a1 c i f1) (tw5 a1 c i f1)) k.val + 1 := by
      rw [cnt_succ, if_pos ⟨k.isLt, h⟩]
    rw [hc]
    ihave HK := hl $$ HK
    icases HK with ⟨Ho, Hn, HK⟩
    unfold Held
    icases Ho with ⟨%fo, Ho⟩
    icases Hn with ⟨%fn, Hn⟩
    iapply (Transfers.wp_dmaBatch (EC (F := F)) Variants.none (c : Thread nD τ) none (src := newpRow (k0_off7 k) (k0_off7_inb k))
      (dst := outRow (k0_off6 i (tw4 a1 c i f1 k)) (hchk h)) (sm := semL) (D := Deliv (F := F) hT c) (q := fullShare) (fs := fn) (fd := fo)
      (Sd := (outRow (k0_off6 i (tw4 a1 c i f1 k)) (hchk h)).view.set) () rowN (amount_outRow _ _) (subset_refl _) (count_lt h) (Nat.zero_le _) (by
        rw [hD]; unfold Held
        iintro ⟨A, B⟩
        isplitl [A]; · iexists _; iexact A
        iexists _; iexact B)) $$ [Ho Hn HB]
    · isplitl [Hn]; · iexact Hn
      isplitl [Ho]; · iexact Ho
      iexact HB
    iintro HB
    dsimp only [Prog.bind]
    sl_step
    isplitr
    · ipureintro
      rw [hacc]
      have h' : start_step.sl.v845 a1 c i v821 f1 k = 1#1 := (word1 _).symm.trans h
      show BitVec.ofNat 32 _ + Scalar.extui (start_step.sl.v845 a1 c i v821 f1 k) = _
      rw [h', ext1, BitVec.ofNat_add]
    isplitl [H1]; · iexact H1
    isplitl [HB]; · iexact HB
    iexact HK
  · rw [dif_neg h]
    have hc : cnt (goes i v821 (tw4 a1 c i f1) (tw5 a1 c i f1)) (k.val + 1) = cnt (goes i v821 (tw4 a1 c i f1) (tw5 a1 c i f1)) k.val := by
      rw [cnt_succ, if_neg (fun hh => h hh.2)]; rfl
    rw [hc]
    dsimp only
    sl_step
    isplitr
    · ipureintro
      rw [hacc]
      have h' : ¬ start_step.sl.v845 a1 c i v821 f1 k = 1#1 := fun x => h ((word1 _).trans x)
      show BitVec.ofNat 32 _ + Scalar.extui (start_step.sl.v845 a1 c i v821 f1 k) = _
      rw [ext0 _ h', BitVec.add_zero]
    isplitl [H1]; · iexact H1
    isplitl [HB]; · iexact HB
    iexact HK
end

end Cert.KernelIdeal.Mlp

end
-- ==== Proof.KernelIdeal.Blocks.lean ====
/- What the body leaves in the scale, code and sum windows, as functions of the blocks it reads. -/
module

public import proofs.«01_k».proof.Proof.Gen.KernelIdeal.Frame
public import proofs.«01_k».proof.Proof.KernelIdeal.Wait

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Rectangles -/

theorem col_inb (j : Fin 11) : 512 * j.val + 512 ≤ 5632 := by omega

/-- The columns of tile `j` of a weight. -/
abbrev rW (j : Fin 11) : Rect S2048x5632 := Rect.unit (s := S2048x5632) ![0, 512 * j.val] S2048x512.size
  (fun a => match a with | ⟨0, _⟩ => le_of_eq rfl | ⟨1, _⟩ => col_inb j)
/-- The columns of tile `j` of a row of column scales. -/
abbrev rS (j : Fin 11) : Rect S1x5632 := Rect.unit (s := S1x5632) ![0, 512 * j.val] S1x512.size
  (fun a => match a with | ⟨0, _⟩ => le_of_eq rfl | ⟨1, _⟩ => col_inb j)
/-- The columns of tile `j` of the activations. -/
abbrev rA (j : Fin 11) : Rect S256x5632 := Rect.unit (s := S256x5632) ![0, 512 * j.val] S256x512.size
  (fun a => match a with | ⟨0, _⟩ => le_of_eq rfl | ⟨1, _⟩ => col_inb j)

abbrev rX : Rect S256x2048 := Rect.unit (s := S256x2048) ![0, 0] S256x2048.size inb_S256x2048_S256x2048_0_0
abbrev rA3 : Rect S1x1x256 := Rect.unit (s := S1x1x256) ![0, 0, 0] S1x1x256.size inb_S1x1x256_S1x1x256_0_0_0
abbrev rAct : Rect S256x5632 := Rect.unit (s := S256x5632) ![0, 0] S256x5632.size inb_S256x5632_S256x5632_0_0
abbrev rWd : Rect S5632x2048 := Rect.unit (s := S5632x2048) ![0, 0] S5632x2048.size inb_S5632x2048_S5632x2048_0_0
abbrev rSd : Rect S1x2048 := Rect.unit (s := S1x2048) ![0, 0] S1x2048.size inb_S1x2048_S1x2048_0_0

/-! ## The activations and their row maxima -/

/-- Tile `j` of the activations. -/
def tile (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) (j : Fin 11) : FVec F S256x512 .f32 :=
  k0_pay11 (k0_pay3 (View.ld x4 rA3)) (View.ld x3 rX) (View.ld x9 (rW j)) (View.ld x10 (rS j)) (View.ld x11 (rW j)) (View.ld x12 (rS j))

/-- The running maxima after the first `n` tiles. -/
def maxima (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) : (n : ℕ) → n ≤ 11 → FVec F S256x128 .f32
  | 0, _ => k0_pay4
  | n + 1, h => k0_pay13 (maxima x3 x4 x9 x10 x11 x12 n (Nat.le_of_succ_le h)) (tile x3 x4 x9 x10 x11 x12 ⟨n, h⟩)

/-- The stores of the first `n` tiles, the last first. -/
def pieces (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) : (n : ℕ) → n ≤ 11 → List (View.Piece (Elt F) S256x5632 .f32)
  | 0, _ => []
  | n + 1, h => ⟨rA ⟨n, h⟩, k0_pay12 (tile x3 x4 x9 x10 x11 x12 ⟨n, h⟩)⟩ :: pieces x3 x4 x9 x10 x11 x12 n (Nat.le_of_succ_le h)

/-- All activations. -/
def acts (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) : Vec F S256x5632 .f32 := View.canon (pieces x3 x4 x9 x10 x11 x12 11 le_rfl)

/-- The rows' largest activations over the largest code, one per row, along the lanes. -/
def rowMax (m : FVec F S256x128 .f32) : FVec F S256x128 .f32 :=
  mulf (broadcastTo S256x128 (shapeCast S256x1 (shapeCast S256x1
    (multiReduction .maximumf [1] S256 m 0xFF800000#32 reduces_S256x128_S256 (.inl rfl) rfl) shapeCasts_S256_S256x1) shapeCasts_S256x1_S256x1) broadcasts_S256x1_S256x128)
    (broadcast S256x128 (Scalar.ofBits .f32 0x3B124925#32))

/-! ## The search for the scale's exponent -/

/-- One trial: add `k` to the biased exponent where the value reaches that power of two. -/
def trial (v : FVec F S256x128 .f32) (k : BitVec 32) (b : IVec S256x128 32) : IVec S256x128 32 :=
  select (cmpf .oge v (bitcastToFloat .f32 (shli (addi b (broadcast S256x128 k)) (broadcast S256x128 23#32)))) (addi b (broadcast S256x128 k)) b

/-- The first two trials. -/
def search2 (v : FVec F S256x128 .f32) : IVec S256x128 32 := trial v 64#32 (trial v 128#32 (broadcast S256x128 0#32))
/-- The first seven trials. -/
def search7 (v : FVec F S256x128 .f32) : IVec S256x128 32 :=
  trial v 2#32 (trial v 4#32 (trial v 8#32 (trial v 16#32 (trial v 32#32 (search2 v)))))

/-! ## The stores -/

/-- The values the scales are taken from. -/
def amax (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) : FVec F S256x128 .f32 := rowMax (maxima x3 x4 x9 x10 x11 x12 11 le_rfl)

/-- The scale window. -/
def outScale (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) : Vec F S1x1x256 .f32 :=
  View.canon [⟨rA3, k0_pay58 (amax x3 x4 x9 x10 x11 x12) (search7 (amax x3 x4 x9 x10 x11 x12)) (addi (search7 (amax x3 x4 x9 x10 x11 x12)) (broadcast S256x128 1#32)) 23#32⟩]

/-- The code window. -/
def outCodes (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) : Vec F S256x5632 .fp8e4m3 :=
  View.canon [⟨rAct, k0_pay59 (amax x3 x4 x9 x10 x11 x12) (search7 (amax x3 x4 x9 x10 x11 x12)) (addi (search7 (amax x3 x4 x9 x10 x11 x12)) (broadcast S256x128 1#32)) 23#32
    (View.ld (acts x3 x4 x9 x10 x11 x12) rAct)⟩]

/-- The sum window. -/
def outSum (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) (x13 : Vec F S5632x2048 .fp8e4m3) (x5 : Vec F S256x2048 .f32) (x14 : Vec F S1x2048 .f32) : Vec F S256x2048 .f32 :=
  View.canon [⟨rX, k0_pay60 (k0_pay57 (amax x3 x4 x9 x10 x11 x12) (search7 (amax x3 x4 x9 x10 x11 x12)) (addi (search7 (amax x3 x4 x9 x10 x11 x12)) (broadcast S256x128 1#32)) 23#32)
    (View.ld (outCodes x3 x4 x9 x10 x11 x12) rAct) (View.ld x13 rWd) (View.ld x5 rX) (View.ld x14 rSd)⟩]

/-! ## The stores cover their windows -/

theorem cover_scale (w : rA3.shape.Idx → Elt F .f32) (x : S1x1x256.Idx) :
    ∃ p ∈ ([⟨rA3, w⟩] : List (View.Piece (Elt F) S1x1x256 .f32)), x ∈ p.1.set :=
  View.cover_of_tiled [⟨rA3, w⟩] S1x1x256.size (by rfl) x
theorem cover_codes (w : rAct.shape.Idx → Elt F .fp8e4m3) (x : S256x5632.Idx) :
    ∃ p ∈ ([⟨rAct, w⟩] : List (View.Piece (Elt F) S256x5632 .fp8e4m3)), x ∈ p.1.set :=
  View.cover_of_tiled [⟨rAct, w⟩] S256x5632.size (by rfl) x
theorem cover_sum (w : rX.shape.Idx → Elt F .f32) (x : S256x2048.Idx) :
    ∃ p ∈ ([⟨rX, w⟩] : List (View.Piece (Elt F) S256x2048 .f32)), x ∈ p.1.set :=
  View.cover_of_tiled [⟨rX, w⟩] S256x2048.size (by rfl) x
theorem cover_acts (x3 : Vec F S256x2048 .fp8e4m3) (x4 : Vec F S1x1x256 .f32) (x9 : Vec F S2048x5632 .fp8e4m3) (x10 : Vec F S1x5632 .f32) (x11 : Vec F S2048x5632 .fp8e4m3) (x12 : Vec F S1x5632 .f32) (x : S256x5632.Idx) :
    ∃ p ∈ pieces (F := F) x3 x4 x9 x10 x11 x12 11 le_rfl, x ∈ p.1.set :=
  View.cover_of_tiled (pieces x3 x4 x9 x10 x11 x12 11 le_rfl) S256x512.size (by rfl) x

/-- A store of the one counted word leaves it. -/
theorem nst_written (f : BufTy.Contents (Elt F) nstM.view.ty) (x : Elt F .i32) :
    nstM.view.writes (Elt F) f [⟨Rect.unit (s := S1) ![0] S1.size inb_S1_S1_0, fun _ => x⟩] = fun _ => x := by
  have h := View.read_writes_eq_canon nstM.view f [⟨Rect.unit (s := S1) ![0] S1.size inb_S1_S1_0, fun _ => x⟩]
    (fun y => View.cover_of_tiled (Val := Elt F) (e := .i32) [⟨Rect.unit (s := S1) ![0] S1.size inb_S1_S1_0, fun _ => x⟩] S1.size (by rfl) y)
  refine (show nstM.view.writes (Elt F) f [⟨Rect.unit (s := S1) ![0] S1.size inb_S1_S1_0, fun _ => x⟩] = _ from h).trans ?_
  funext y
  have hy : (Rect.unit (s := S1) ![0] S1.size inb_S1_S1_0).emb y = y := by
    funext a; apply Fin.ext
    match a with
    | ⟨0, _⟩ => show 0 + 1 * (y 0).val = (y 0).val; omega
  rw [← hy]
  exact View.canon_cons_emb (Rect.unit (s := S1) ![0] S1.size inb_S1_S1_0) _ _ y

end Cert.KernelIdeal.Mlp

end
-- ==== Proof.KernelIdeal.Run.lean ====
/- The whole body at one grid point, on any staging buffers. -/
module

public import proofs.«01_k».proof.Proof.Gen.KernelIdeal.Frame
public import proofs.«01_k».proof.Proof.KernelIdeal.Start
public import proofs.«01_k».proof.Proof.KernelIdeal.Blocks

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The count's word of this point. -/
abbrev cntW (i : grid0.Coords) (x2 : Vec F S2 .i32) : BitVec 32 :=
  View.ld x2 (Rect.unit (s := S2) (k0_off3 i) S1.size (k0_off3_inb i)) (Shape.Idx.first (show 0 < S1.numel from by decide))
/-- The table's word of trip `k`. -/
abbrev selW (i : grid0.Coords) (x1 : Vec F S2x1024 .i32) (k : Fin k0_t3_loop.trips) : BitVec 32 :=
  View.ld x1 (Rect.unit (s := S2x1024) (k0_off4 i k) S1x1.size (k0_off4_inb i k)) (Shape.Idx.first (show 0 < S1x1.numel from by decide))
/-- The table's word after that of trip `k`. -/
abbrev nxtW (i : grid0.Coords) (x1 : Vec F S2x1024 .i32) (k : Fin k0_t3_loop.trips) : BitVec 32 :=
  View.ld x1 (Rect.unit (s := S2x1024) (k0_off5 i k) S1x1.size (k0_off5_inb i k)) (Shape.Idx.first (show 0 < S1x1.numel from by decide))

/-- The last wait loops are well formed at a count of at most 256, the first making that many trips. -/
theorem last_facts : ∀ n : Fin 257, (k0_t4_loop (BitVec.ofNat 32 n)).OK ∧ (k0_t5_loop (BitVec.ofNat 32 n)).OK
    ∧ (k0_t4_loop (BitVec.ofNat 32 n)).trips = n ∧ (k0_t5_loop (BitVec.ofNat 32 n)).trips = 0 := by
  decide +kernel

variable (a1 : Memref sig .tc .smem S2x1024 .i32) (h1 : a1.IsWhole) (a2 : Memref sig .tc .smem S2 .i32) (h2 : a2.IsWhole) (a3 : Memref sig .tc .vmem S256x2048 .fp8e4m3) (h3 : a3.IsWhole) (a4 : Memref sig .tc .vmem S1x1x256 .f32) (h4 : a4.IsWhole) (a5 : Memref sig .tc .vmem S256x2048 .f32) (h5 : a5.IsWhole) (a6 : Memref sig .tc .vmem S256x2048 .i32) (h6 : a6.IsWhole) (a7 : Memref sig .tc .vmem S1x1x256 .f32) (h7 : a7.IsWhole) (a8 : Memref sig .tc .vmem S2x1024 .i32) (h8 : a8.IsWhole) (a9 : Memref sig .tc .vmem S2048x5632 .fp8e4m3) (h9 : a9.IsWhole) (a10 : Memref sig .tc .vmem S1x5632 .f32) (h10 : a10.IsWhole) (a11 : Memref sig .tc .vmem S2048x5632 .fp8e4m3) (h11 : a11.IsWhole) (a12 : Memref sig .tc .vmem S1x5632 .f32) (h12 : a12.IsWhole) (a13 : Memref sig .tc .vmem S5632x2048 .fp8e4m3) (h13 : a13.IsWhole) (a14 : Memref sig .tc .vmem S1x2048 .f32) (h14 : a14.IsWhole) (a17 : Memref sig .tc .vmem S256x2048 .f32) (h17 : a17.IsWhole) (a18 : Memref sig .tc .vmem S256x5632 .fp8e4m3) (h18 : a18.IsWhole) (a19 : Memref sig .tc .vmem S1x1x256 .f32) (h19 : a19.IsWhole)

/-- After the loop: at the last grid point the rows just sent are waited for. -/
theorem tail_wp (c : Dev nD) (i : grid0.Coords) (W : Waits sig Unit) :
    iprop(Sent c ∗ owes (c : Thread nD τ) 0 W)
      ⊢ wp frame (wpE (defs₀ (F := F)) Variants.none c none) Set.univ
        (if h : k0_cond3 i = 1#1 then do
            let v828 ← smemLoad nstM (Rect.unit (s := S1) ![0] S1.size inb_S1_S1_0) numel1_S1 rfl
            let hw ← Prog.lift (TpuEff.assume (k0_chk3 i v828) (k0_chk3.dec i v828))
            (k0_t4_loop v828).for (k0_t4_ok i v828 hw.down h) PUnit.unit (k0_t4_body i a1 h1 a2 h2 a3 h3 a4 h4 a5 h5 a6 h6 a7 h7 a8 h8 a9 h9 a10 h10 a11 h11 a12 h12 a13 h13 a14 h14 outM (Memref.isWhole_whole _) outM (Memref.isWhole_whole _) a17 h17 a18 h18 a19 h19 actM (Memref.isWhole_whole _) newpM (Memref.isWhole_whole _) carM (Memref.isWhole_whole _) nstM (Memref.isWhole_whole _) cc0_scratch4 h v828 hw.down)
            (k0_t5_loop v828).for (k0_t5_ok i v828 hw.down h) PUnit.unit (k0_t5_body i a1 h1 a2 h2 a3 h3 a4 h4 a5 h5 a6 h6 a7 h7 a8 h8 a9 h9 a10 h10 a11 h11 a12 h12 a13 h13 a14 h14 outM (Memref.isWhole_whole _) outM (Memref.isWhole_whole _) a17 h17 a18 h18 a19 h19 actM (Memref.isWhole_whole _) newpM (Memref.isWhole_whole _) carM (Memref.isWhole_whole _) nstM (Memref.isWhole_whole _) cc0_scratch4 h v828 hw.down)
            Pure.pure PUnit.unit
          else Pure.pure PUnit.unit)
        (fun _ => iprop((if k0_cond3 i = 1#1 then Idle c else Sent c) ∗ (∃ W, owes (c : Thread nD τ) 0 W))) := by
  by_cases h : k0_cond3 i = 1#1
  · rw [dif_pos h]
    simp only [if_pos h]
    unfold Sent Flight
    iintro ⟨⟨%n, %f, %hf, Hn, ⟨%D, HB, HD⟩⟩, HW⟩
    obtain ⟨hn, rfl⟩ := hf
    have hl := last_facts ⟨n, Nat.lt_succ_of_le hn⟩
    have hchk : k0_chk3 i (BitVec.ofNat 32 n) := ⟨fun _ => hl.1, fun _ => hl.2.1⟩
    sl_exec
    sl_for (fun k _ => waitInv c n D k) $$ [HB HW]
    · intro k acc
      sl_respell [k0_t4_body]
      simp only [Prog.lift, Prog.bind_op, Prog.bind_ret, Prog.pure_eq_ret, Prog.bind_assoc]
      exact wait_step c n D k.val (by have := k.isLt; exact lt_of_lt_of_eq this hl.2.2.1) _ _ _ _
    · unfold waitInv
      rw [Nat.zero_mul]
      isplitl [HB]; · iexact HB
      iexists _; iexact HW
    iintro %acc HI
    sl_for (fun _ _ => waitInv c n D n) $$ [HI]
    · intro k acc
      exact absurd (lt_of_lt_of_eq k.isLt hl.2.2.2) (Nat.not_lt_zero _)
    · rw [show Scf.trips _ _ _ = n from hl.2.2.1]
      iexact HI
    iintro %acc' HI
    unfold waitInv
    icases HI with ⟨HB, ⟨%W', HW⟩⟩
    rw [Nat.mul_comm n rowN]
    imod (Transfers.batch_collect' (EC (F := F)) (c : Thread nD τ) rowN_pos) $$ HB with ⟨HB, HS⟩
    ihave HR := HD $$ HB
    sl_exec
    sl_step
    unfold Idle
    isplitl [Hn HR HS]
    · isplitl [Hn]; · iexists _; iexact Hn
      isplitl [HR]; · iexact HR
      iexact HS
    iexists _; iexact HW
  · rw [dif_neg h]
    simp only [if_neg h]
    iintro ⟨HI, HW⟩
    sl_step
    isplitl [HI]; · iexact HI
    iexists _; iexact HW

set_option pp.maxSteps 3000 in
set_option maxHeartbeats 4000000 in
theorem body_wp (c : Dev nD) (i : grid0.Coords) (x1 : Vec F S2x1024 .i32) (x2 : Vec F S2 .i32) (x3 : Vec F S256x2048 .fp8e4m3) (x4 : Vec F S1x1x256 .f32) (x5 : Vec F S256x2048 .f32) (x6 : Vec F S256x2048 .i32) (x7 : Vec F S1x1x256 .f32) (x8 : Vec F S2x1024 .i32) (x9 : Vec F S2048x5632 .fp8e4m3) (x10 : Vec F S1x5632 .f32) (x11 : Vec F S2048x5632 .fp8e4m3) (x12 : Vec F S1x5632 .f32) (x13 : Vec F S5632x2048 .fp8e4m3) (x14 : Vec F S1x2048 .f32) (hT : TableOK i (cntW i x2) (selW i x1) (nxtW i x1)) (W : Waits sig Unit) (K : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ (∃ d, owns (c : Thread nD τ) a17 fullShare d) ∗ (∃ d, owns (c : Thread nD τ) a18 fullShare d) ∗ (∃ d, owns (c : Thread nD τ) a19 fullShare d) ∗ (∃ d, owns (c : Thread nD τ) actM fullShare d) ∗ (∃ d, owns (c : Thread nD τ) carM fullShare d)
       ∗ (if k0_cond1 i = 1#1 then Sent c else Idle c) ∗ owes (c : Thread nD τ) 0 W
       ∗ (iprop((owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a17 fullShare (outSum x3 x4 x9 x10 x11 x12 x13 x5 x14) ∗ owns (c : Thread nD τ) a18 fullShare (outCodes x3 x4 x9 x10 x11 x12) ∗ owns (c : Thread nD τ) a19 fullShare (outScale x3 x4 x9 x10 x11 x12)) ∗ (∃ d, owns (c : Thread nD τ) actM fullShare d) ∗ (∃ d, owns (c : Thread nD τ) carM fullShare d)
         ∗ (if k0_cond3 i = 1#1 then Idle c else Sent c) ∗ (∃ W, owes (c : Thread nD τ) 0 W)) -∗ K ⟨⟩))
      ⊢ wp frame (wpE (defs₀ (F := F)) Variants.none c none) Set.univ (cc0_mlp i a1 h1 a2 h2 a3 h3 a4 h4 a5 h5 a6 h6 a7 h7 a8 h8 a9 h9 a10 h10 a11 h11 a12 h12 a13 h13 a14 h14 outM (Memref.isWhole_whole _) outM (Memref.isWhole_whole _) a17 h17 a18 h18 a19 h19 actM (Memref.isWhole_whole _) newpM (Memref.isWhole_whole _) carM (Memref.isWhole_whole _) nstM (Memref.isWhole_whole _) cc0_scratch4) K := by
  simp only [cc0_mlp_eq_skeleton]; unfold cc0_mlp_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part19_eq_skeleton]
  have hcut := fun x0 x1 x2 x3 x4 W fc => part18_wp (F := F) a1 h1 a2 h2 a3 h3 a4 h4 a5 h5 a6 h6 a7 h7 a8 h8 a9 h9 a10 h10 a11 h11 a12 h12 a13 h13 a14 h14 a17 h17 a18 h18 a19 h19 c i x0 x1 x2 x3 x4 W fc
  unfold carPt at hcut
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d17, %f17, -, H17⟩, ⟨%d18, %f18, -, H18⟩, ⟨%d19, %f19, -, H19⟩, ⟨%dA, %fA, -, HA⟩, ⟨%dC, %fC, -, HC⟩, HS, HW, HK⟩
  subst hf1 hf2 hf3 hf4 hf5 hf6 hf7 hf8 hf9 hf10 hf11 hf12 hf13 hf14
  sl_exec
  imod (Transfers.batch_alloc' (EC (F := F)) (c := (c : Thread nD τ)) (sm := semL) () rowN (Deliv (F := F) hT c)) $$ Hk0_part18_3 with HB
  ihave HR := (kept_zero (F := F) hT c) $$ [Hk0_part18_1 Hk0_part18_2]
  · unfold Rows
    isplitl [Hk0_part18_1]; · iexists _; iexact Hk0_part18_1
    iexists _; iexact Hk0_part18_2
  sl_for (fun k acc => startInv a1 c i (cntW i (a2.view.read (Elt F) f2)) f1 hT k acc) $$ [H1 HB HR]
  · intro k acc
    exact start_step (F := F) a1 h1 a2 h2 a3 h3 a4 h4 a5 h5 a6 h6 a7 h7 a8 h8 a9 h9 a10 h10 a11 h11 a12 h12 a13 h13 a14 h14 a17 h17 a18 h18 a19 h19 c i _ _ rfl f1 hT k acc
  · unfold startInv
    isplitr; · ipureintro; rfl
    isplitl [H1]; · iexact H1
    isplitl [HB]; · iexact HB
    iexact HR
  iintro %acc HI
  unfold startInv
  icases HI with ⟨%hacc, H1, HB, HR⟩
  ihave HF := (show iprop(Transfers.Batch (EC (F := F)) (c : Thread nD τ) semL () rowN (Deliv hT c) (number i (cntW i (a2.view.read (Elt F) f2)) (tw4 a1 c i f1) (tw5 a1 c i f1)) 0
      ∗ Kept hT c (number i (cntW i (a2.view.read (Elt F) f2)) (tw4 a1 c i f1) (tw5 a1 c i f1))) ⊢ (Flight c (number i (cntW i (a2.view.read (Elt F) f2)) (tw4 a1 c i f1) (tw5 a1 c i f1)) : sProp 𝕄) from by
    unfold Flight
    iintro ⟨HB, HR⟩
    iexists _
    isplitl [HB]; · iexact HB
    iapply (kept_back hT c)
    iexact HR) $$ [HB HR]
  · isplitl [HB]; · iexact HB
    iexact HR
  sl_exec
  rw [nst_written]
  ihave HS := (show iprop((nstM.view.loc (c : Thread nD τ) ↦[nstM.view.set]{fullShare} fun _ => acc) ∗ Flight c (number i (cntW i (a2.view.read (Elt F) f2)) (tw4 a1 c i f1) (tw5 a1 c i f1)))
      ⊢ (Sent c : sProp 𝕄) from by
    unfold Sent
    iintro ⟨HA, HB⟩
    iexists _, _
    isplitr
    rotate_left
    · isplitl [HA]; · iexact HA
      iexact HB
    ipureintro
    exact ⟨number_le, by rw [hacc]⟩) $$ [Hk0_part18_0 HF]
  · isplitl [Hk0_part18_0]; · iexact Hk0_part18_0
    iexact HF
  iapply (wp_wand _ _ _) $$ [HS Hk0_part18_5]
  · iapply (tail_wp (F := F) a1 h1 a2 h2 a3 h3 a4 h4 a5 h5 a6 h6 a7 h7 a8 h8 a9 h9 a10 h10 a11 h11 a12 h12 a13 h13 a14 h14 a17 h17 a18 h18 a19 h19 c i _)
    isplitl [HS]; · iexact HS
    iexact Hk0_part18_5
  iintro %r HT
  have e28 : body_wp.sl.r_28 a3 a4 a9 a10 a11 a12 c f3 f4 f9 f10 f11 f12 = amax (a3.view.read (Elt F) f3) (a4.view.read (Elt F) f4) (a9.view.read (Elt F) f9) (a10.view.read (Elt F) f10) (a11.view.read (Elt F) f11) (a12.view.read (Elt F) f12) := rfl
  have eS : body_wp.sl.r_31 a3 a4 a9 a10 a11 a12 c f3 f4 f9 f10 f11 f12 = search7 (amax (a3.view.read (Elt F) f3) (a4.view.read (Elt F) f4) (a9.view.read (Elt F) f9) (a10.view.read (Elt F) f10) (a11.view.read (Elt F) f11) (a12.view.read (Elt F) f12)) := rfl
  have eT : body_wp.sl.r_32 a3 a4 a9 a10 a11 a12 c f3 f4 f9 f10 f11 f12 = addi (search7 (amax (a3.view.read (Elt F) f3) (a4.view.read (Elt F) f4) (a9.view.read (Elt F) f9) (a10.view.read (Elt F) f10) (a11.view.read (Elt F) f11) (a12.view.read (Elt F) f12))) (broadcast S256x128 1#32) := rfl
  have eA : body_wp.sl.HA_11 a3 a4 a9 a10 a11 a12 c f3 f4 f9 f10 f11 f12 = pieces (a3.view.read (Elt F) f3) (a4.view.read (Elt F) f4) (a9.view.read (Elt F) f9) (a10.view.read (Elt F) f10) (a11.view.read (Elt F) f11) (a12.view.read (Elt F) f12) 11 le_rfl := rfl
  have e43 : body_wp.sl.v543 a3 a4 a9 a10 a11 a12 c f3 f4 f9 f10 f11 f12 = View.ld (acts (a3.view.read (Elt F) f3) (a4.view.read (Elt F) f4) (a9.view.read (Elt F) f9) (a10.view.read (Elt F) f10) (a11.view.read (Elt F) f11) (a12.view.read (Elt F) f12)) rAct := by
    unfold body_wp.sl.v543 View.readCov
    rw [eA]
    exact congrArg (fun z => View.ld z rAct) (View.read_writes_eq_canon _ _ _ (cover_acts _ _ _ _ _ _))
  have e34 : body_wp.sl.r_34 a3 a4 a9 a10 a11 a12 c f3 f4 f9 f10 f11 f12 = k0_pay59 (amax (a3.view.read (Elt F) f3) (a4.view.read (Elt F) f4) (a9.view.read (Elt F) f9) (a10.view.read (Elt F) f10) (a11.view.read (Elt F) f11) (a12.view.read (Elt F) f12)) (search7 (amax (a3.view.read (Elt F) f3) (a4.view.read (Elt F) f4) (a9.view.read (Elt F) f9) (a10.view.read (Elt F) f10) (a11.view.read (Elt F) f11) (a12.view.read (Elt F) f12))) (addi (search7 (amax (a3.view.read (Elt F) f3) (a4.view.read (Elt F) f4) (a9.view.read (Elt F) f9) (a10.view.read (Elt F) f10) (a11.view.read (Elt F) f11) (a12.view.read (Elt F) f12))) (broadcast S256x128 1#32)) 23#32
      (View.ld (acts (a3.view.read (Elt F) f3) (a4.view.read (Elt F) f4) (a9.view.read (Elt F) f9) (a10.view.read (Elt F) f10) (a11.view.read (Elt F) f11) (a12.view.read (Elt F) f12)) rAct) := by
    unfold body_wp.sl.r_34
    rw [e28, eS, eT, e43]
  have e33 : body_wp.sl.r_33 a3 a4 a9 a10 a11 a12 c f3 f4 f9 f10 f11 f12 = k0_pay57 (amax (a3.view.read (Elt F) f3) (a4.view.read (Elt F) f4) (a9.view.read (Elt F) f9) (a10.view.read (Elt F) f10) (a11.view.read (Elt F) f11) (a12.view.read (Elt F) f12)) (search7 (amax (a3.view.read (Elt F) f3) (a4.view.read (Elt F) f4) (a9.view.read (Elt F) f9) (a10.view.read (Elt F) f10) (a11.view.read (Elt F) f11) (a12.view.read (Elt F) f12))) (addi (search7 (amax (a3.view.read (Elt F) f3) (a4.view.read (Elt F) f4) (a9.view.read (Elt F) f9) (a10.view.read (Elt F) f10) (a11.view.read (Elt F) f11) (a12.view.read (Elt F) f12))) (broadcast S256x128 1#32)) 23#32 := by
    unfold body_wp.sl.r_33
    rw [e28, eS, eT]
  have e18 : a18.view.read (Elt F) (a18.view.writes (Elt F) a18.view.junk (body_wp.sl.H18_1 a3 a4 a9 a10 a11 a12 c f3 f4 f9 f10 f11 f12)) = outCodes (a3.view.read (Elt F) f3) (a4.view.read (Elt F) f4) (a9.view.read (Elt F) f9) (a10.view.read (Elt F) f10) (a11.view.read (Elt F) f11) (a12.view.read (Elt F) f12) := by
    unfold body_wp.sl.H18_1
    rw [e34]
    exact View.read_writes_eq_canon _ _ _ (cover_codes _)
  have e52 : body_wp.sl.v552 a3 a4 a9 a10 a11 a12 a18 c f3 f4 f9 f10 f11 f12 = View.ld (outCodes (a3.view.read (Elt F) f3) (a4.view.read (Elt F) f4) (a9.view.read (Elt F) f9) (a10.view.read (Elt F) f10) (a11.view.read (Elt F) f11) (a12.view.read (Elt F) f12)) rAct := by
    unfold body_wp.sl.v552 View.readCov
    exact congrArg (fun z => View.ld z rAct) e18
  iapply HK
  isplitl [H1 H2 H3 H4 H5 H6 H7 H8 H9 H10 H11 H12 H13 H14 H17 H18 H19]
  · skip
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    isplitl [H12]
    · iexists f12; isplitr; · ipureintro; rfl
      iexact H12
    isplitl [H13]
    · iexists f13; isplitr; · ipureintro; rfl
      iexact H13
    isplitl [H14]
    · iexists f14; isplitr; · ipureintro; rfl
      iexact H14
    isplitl [H17]
    · iexists _; isplitr
      swap; · iexact H17
      ipureintro
      refine (View.read_writes_eq_canon _ _ _ (cover_sum _)).trans ?_
      rw [e33, e52]
      rfl
    isplitl [H18]
    · iexists _; isplitr
      swap; · iexact H18
      ipureintro
      exact e18
    iexists _; isplitr
    swap; · iexact H19
    ipureintro
    refine (View.read_writes_eq_canon _ _ _ (cover_scale _)).trans ?_
    rw [e28, eS, eT]
    rfl
  icases HT with ⟨HT, HO⟩
  isplitl [HA]
  · iexists _, _; isplitr
    swap; · iexact HA
    ipureintro; rfl
  isplitl [Hk0_part18_4]
  · iexists _, _; isplitr
    swap; · iexact Hk0_part18_4
    ipureintro; rfl
  isplitl [HT]; · iexact HT
  iexact HO

end Cert.KernelIdeal.Mlp

end
-- ==== Proof.KernelIdeal.Frame.lean ====
/- The frame of the whole call: the run over the eight grid points, and what the arrays hold at the end. -/
module

public import proofs.«01_k».proof.Proof.Gen.KernelIdeal.Frame
public import proofs.«01_k».proof.Proof.KernelIdeal.Run
public import Idealize.ShloMosaic.Lib.Pipeline.FrameBody

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The launch's data -/

/-- The array the body writes itself: the words of the output rows. -/
def R0 : Finset (Ref sig .tc) := {main_v3_0}
/-- The body's transfers read no array of the launch. -/
def H0 : Finset (Ref sig .tc) := ∅
theorem H0_sub : H0 ⊆ Pipeline.restRefs sig spec0 := by decide
theorem R0_sub : R0 ⊆ Pipeline.restRefs sig spec0 \ H0 := by decide

/-- The body's one cell. -/
abbrev osem0 : Fin 1 → SemLoc sig := fun _ => semL
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), semL) 0) := by
  rw [Pipeline.ownSems0_eq_of_list c osem0 [0] (by decide) (by decide)]; rfl
theorem owned0_eq (c : Dev nD) :
    (Pipeline.owned R0 c : sProp 𝕄)
      = iprop(∃ f : Buf (Elt F) ((c : Thread nD τ).loc main_v3_0), ((c : Thread nD τ).loc main_v3_0) ↦{fullShare} f) := by
  unfold Pipeline.owned; rw [BI.bigSep_eq_bigSepL_of_eq [main_v3_0] (by decide) (by decide)]; rfl

/-- The host operations and then the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- What the grid points hand on: the scratch buffers, and the rows in flight between two points. -/
def Phi (c : Dev nD) (t : ℕ) : sProp 𝕄 :=
  iprop((∃ d, owns (c : Thread nD τ) actM fullShare d) ∗ (∃ d, owns (c : Thread nD τ) carM fullShare d)
    ∗ (if 0 < t ∧ t < 8 then Sent c else Idle c) ∗ (∃ r, prngReg (c : Dev nD) r))

theorem phiDR_eq (c : Dev nD) :
    (Pipeline.ΦDR osem0 spec0 H0 R0 (V m) c : sProp 𝕄)
      = iprop(iprop((∃ d, owns (c : Thread nD τ) actM fullShare d) ∗ (∃ d, owns (c : Thread nD τ) newpM fullShare d)
                ∗ (∃ d, owns (c : Thread nD τ) carM fullShare d) ∗ (∃ d, owns (c : Thread nD τ) nstM fullShare d))
          ∗ (∃ r, prngReg c r) ∗ semVal ((c : Thread nD τ), semL) 0 ∗ emp
          ∗ (∃ d, owns (c : Thread nD τ) outM fullShare d)) := by
  rw [Pipeline.ΦDR_eq, scopedRest0_eq, ownSems0_eq, owned0_eq, show H0 = ∅ from rfl, BI.bigSep_empty]
  simp only [actM, newpM, carM, nstM, outM, owns_whole]; try rfl

theorem phi_in (c : Dev nD) : Pipeline.ΦDR osem0 spec0 H0 R0 (V m) c ⊢ (Phi c 0 : sProp 𝕄) := by
  rw [phiDR_eq]
  unfold Phi
  rw [if_neg (by decide)]
  unfold Idle Rows
  iintro ⟨⟨HA, ⟨%dN, HN⟩, HC, ⟨%dS, HS⟩⟩, Hg, Hq, -, ⟨%dO, HO⟩⟩
  unfold owns
  icases HN with ⟨%fN, %hN, HN⟩
  icases HS with ⟨%fS, %hS, HS⟩
  icases HO with ⟨%fO, %hO, HO⟩
  isplitl [HA]; · iexact HA
  isplitl [HC]; · iexact HC
  isplitl [HS HN HO Hq]
  · isplitl [HS]; · iexists _; iexact HS
    isplitl [HN HO]
    · isplitl [HN]; · iexists _; iexact HN
      iexists _; iexact HO
    iexact Hq
  iexact Hg

theorem phi_out (c : Dev nD) : (Phi c 8 : sProp 𝕄) ⊢ Pipeline.ΦDR osem0 spec0 H0 R0 (V m) c := by
  rw [phiDR_eq]
  unfold Phi
  rw [if_neg (by decide)]
  unfold Idle Rows
  iintro ⟨HA, HC, ⟨⟨%fS, HS⟩, ⟨⟨%fN, HN⟩, ⟨%fO, HO⟩⟩, Hq⟩, Hg⟩
  isplitl [HA HC HS HN]
  · isplitl [HA]; · iexact HA
    isplitl [HN]
    · iexists _; unfold owns; iexists fN; isplitr; · ipureintro; rfl
      iexact HN
    isplitl [HC]; · iexact HC
    iexists _; unfold owns; iexists fS; isplitr; · ipureintro; rfl
    iexact HS
  isplitl [Hg]; · iexact Hg
  isplitl [Hq]; · iexact Hq
  isplitr; · iempintro
  iexists _; unfold owns; iexists fO; isplitr; · ipureintro; rfl
  iexact HO

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outSum (iblk m c 2 t) (iblk m c 3 t) (iblk m c 8 t) (iblk m c 9 t) (iblk m c 10 t) (iblk m c 11 t) (iblk m c 12 t) (iblk m c 4 t) (iblk m c 13 t)
    | ⟨15, _⟩ => outCodes (iblk m c 2 t) (iblk m c 3 t) (iblk m c 8 t) (iblk m c 9 t) (iblk m c 10 t) (iblk m c 11 t)
    | ⟨16, _⟩ => outScale (iblk m c 2 t) (iblk m c 3 t) (iblk m c 8 t) (iblk m c 9 t) (iblk m c 10 t) (iblk m c 11 t)
    | ⟨_ + 17, h⟩ => absurd h (Nat.not_lt.2 (Nat.le_add_left _ _))
  Φ t := Phi c t.val
  q w := Pipeline.shareOf spec0 w
  owed _ := 0

theorem A_eq (c : Dev nD) (w : Fin cfg0.W) : (dats m 0 c).A w = V m c (Pipeline.arrRef spec0 w) := by
  dsimp only [dats]

section
variable (c : Dev nD) (t : Fin cfg0.N)
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = iblk m c 11 t := by dsimp only [dats]
theorem after0_12 : (dats m 0 c).after 12 t = iblk m c 12 t := by dsimp only [dats]
theorem after0_13 : (dats m 0 c).after 13 t = iblk m c 13 t := by dsimp only [dats]
theorem after0_14 : (dats m 0 c).after 14 t = outSum (iblk m c 2 t) (iblk m c 3 t) (iblk m c 8 t) (iblk m c 9 t) (iblk m c 10 t) (iblk m c 11 t) (iblk m c 12 t) (iblk m c 4 t) (iblk m c 13 t) := by dsimp only [dats]
theorem after0_15 : (dats m 0 c).after 15 t = outCodes (iblk m c 2 t) (iblk m c 3 t) (iblk m c 8 t) (iblk m c 9 t) (iblk m c 10 t) (iblk m c 11 t) := by dsimp only [dats]
theorem after0_16 : (dats m 0 c).after 16 t = outScale (iblk m c 2 t) (iblk m c 3 t) (iblk m c 8 t) (iblk m c 9 t) (iblk m c 10 t) (iblk m c 11 t) := by dsimp only [dats]
end

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)

/-! ## The body's obligation -/

theorem cond1_iff : ∀ t : Fin cfg0.N, k0_cond1 (grid0.coords t) = 1#1 ↔ (0 < t.val ∧ t.val < 8) := by decide +kernel
theorem cond3_iff : ∀ t : Fin cfg0.N, k0_cond3 (grid0.coords t) = 1#1 ↔ ¬ (0 < t.val + 1 ∧ t.val + 1 < 8) := by decide +kernel

/-- The tables the points read are in order. -/
def Tables : Prop := ∀ (c : Dev nD) (t : Fin cfg0.N),
  TableOK (grid0.coords t) (cntW (F := F) (grid0.coords t) (iblk m c 1 t)) (selW (F := F) (grid0.coords t) (iblk m c 0 t)) (nxtW (F := F) (grid0.coords t) (iblk m c 0 t))

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 1000000 in
theorem sound_body (hT : Tables m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [after0_0, after0_1, after0_2, after0_3, after0_4, after0_5, after0_6, after0_7, after0_8, after0_9, after0_10, after0_11, after0_12, after0_13, after0_14, after0_15, after0_16]
  rw [show (dats m 0 c).Φ t.castSucc = Phi c t.val from rfl, show (dats m 0 c).Φ t.succ = Phi c (t.val + 1) from rfl]
  unfold Dat.owesAt Pipeline.owesWithin Phi
  rw [show (dats m 0 c).owed t.castSucc = 0 from rfl, show (dats m 0 c).owed t.succ = 0 from rfl]
  iintro ⟨⟨HA, HC, HS, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (body_wp _ _ _ _ _ _ _ _ _ _ _ _ _ _ _ _ _ _ _ _ _ _ _ _ _ _ _ _ _ _ _ _ _ _ c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (hT c t) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [HA]; · iexact HA
  isplitl [HC]; · iexact HC
  isplitl [HS]
  · simp only [cond1_iff]
    iexact HS
  isplitl [HW]; · iexact HW
  iintro ⟨⟨H0, H1, H2, H3, H4, H5, H6, H7, H8, H9, H10, H11, H12, H13, H14, H15, H16⟩, HA, HC, HS, ⟨%W', HW⟩⟩
  isplitl [HA HC HS Hg]
  · isplitl [HA]; · iexact HA
    isplitl [HC]; · iexact HC
    isplitl [HS]
    · simp only [cond3_iff, ite_not]
      iexact HS
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (t : Fin cfg0.N) :
    defs₀ (F := F) .tc cfg0.body (cfg0.bodyArgs t (cfg0.slots t)) = bodyAt0 t := by
  unfold defs₀; rw [Defs.onTc_tc]

theorem body_obligation (hT : Tables m) (c : Dev nD) : BodyObligation (dats (F := F) m 0 c) (defs₀ (F := F)) Variants.none () Set.univ := fun t => by
  rw [bigSep_W0, bigSep_W0, defs₀_row]
  exact triple_restated (sound_body m hT c t) rfl .rfl fun _ => .rfl

/-! ## The run and the frame -/

set_option backward.isDefEq.respectTransparency.types false in
set_option maxHeartbeats 800000 in
theorem run_main (hT : Tables m) : θ_run defs (onTc (τ := τ) (main (F := F))) (s₀ m ρ) (fun r => Pipeline.FramePostR cfgs (dats m) 0 R0 (V m) r ∧ r.2.sem = fun _ => 0) :=
  Pipeline.θ_run_frame_dmaR_shared (Q' := _) cfgs (dats m) (0 : Fin 1) launch₀0 osem0 defs₀ Variants.none ownSemFacts0 H0 R0 H0_sub R0_sub m ρ main
    (hbody := fun c => (body_obligation m hT c).loose) (hq := fun _ _ _ => rfl)
    (howed := fun _ _ => rfl) (V := V m) (hmain := hmain m Variants.none) (hA := A_eq m)
    (hin := fun c => phi_in m c) (hout := fun c => phi_out m c)

set_option maxHeartbeats 1020000 in
/-- Every argument array ends unchanged and every counter at zero. -/
theorem frame (hT : Tables m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨((h.1 c).1 7).trans (((dats m 0 c).arrAt_in 7 rfl _).trans ((A_eq m c 7).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).1 5).trans (((dats m 0 c).arrAt_in 5 rfl _).trans ((A_eq m c 5).trans (V_main_arg5 m c))),
      ((h.1 c).1 6).trans (((dats m 0 c).arrAt_in 6 rfl _).trans ((A_eq m c 6).trans (V_main_arg6 m c))),
      ((h.1 c).1 8).trans (((dats m 0 c).arrAt_in 8 rfl _).trans ((A_eq m c 8).trans (V_main_arg7 m c))),
      ((h.1 c).2 main_arg8 (Finset.mem_sdiff.mpr ⟨Pipeline.mem_restRefs_of main_arg8 (by decide) (by decide), by decide⟩)).trans (V_main_arg8 m c),
      ((h.1 c).1 10).trans (((dats m 0 c).arrAt_in 10 rfl _).trans ((A_eq m c 10).trans (V_main_arg9 m c))),
      ((h.1 c).2 main_arg10 (Finset.mem_sdiff.mpr ⟨Pipeline.mem_restRefs_of main_arg10 (by decide) (by decide), by decide⟩)).trans (V_main_arg10 m c),
      ((h.1 c).1 12).trans (((dats m 0 c).arrAt_in 12 rfl _).trans ((A_eq m c 12).trans (V_main_arg11 m c))),
      ((h.1 c).2 main_arg12 (Finset.mem_sdiff.mpr ⟨Pipeline.mem_restRefs_of main_arg12 (by decide) (by decide), by decide⟩)).trans (V_main_arg12 m c),
      ((h.1 c).2 main_arg13 (Finset.mem_sdiff.mpr ⟨Pipeline.mem_restRefs_of main_arg13 (by decide) (by decide), by decide⟩)).trans (V_main_arg13 m c)⟩, h.2⟩) (run_main m ρ hT)

end Cert.KernelIdeal.Mlp

end
-- ==== Proof.KernelIdeal.Tables.lean ====
/- The tables the grid points read satisfy what the body needs of them, by the precondition. -/
module

public import proofs.«01_k».proof.Proof.Rows
public import proofs.«01_k».proof.Proof.KernelIdeal.Frame
public import Idealize.ShloMosaic.Lib.WordCmp
public import Idealize.ShloMosaic.Lib.Pipeline.ValueKit.Geometry

@[expose] public section

set_option maxRecDepth 16384

noncomputable section

namespace Cert.KernelIdeal.Mlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Cert.Rows Idealize.ShloMosaic.WordCmp

variable (m : (ℓ : Loc nD τ sig) → Buf (Elt F) ℓ)

/-! ## The words read -/

theorem off3_eq : ∀ t : Fin cfg0.N, k0_off3 (grid0.coords t) 0 = t.val / 4 := by decide +kernel
theorem off4_eq : ∀ (t : Fin cfg0.N) (k : Fin k0_t3_loop.trips),
    k0_off4 (grid0.coords t) k 0 = t.val / 4 ∧ k0_off4 (grid0.coords t) k 1 = 256 * (t.val % 4) + k.val := by decide +kernel
theorem off5_eq : ∀ (t : Fin cfg0.N) (k : Fin k0_t3_loop.trips),
    k0_off5 (grid0.coords t) k 0 = t.val / 4 ∧ k0_off5 (grid0.coords t) k 1 = min (256 * (t.val % 4) + k.val + 1) 1023 := by decide +kernel
theorem batch_word : ∀ t : Fin cfg0.N, Scalar.muli (Scalar.divsi (BitVec.ofNat 32 (grid0.coords t 0).val) 4#32) 8192#32 = BitVec.ofNat 32 (t.val / 4 * 8192) := by
  decide +kernel
theorem pos_word : ∀ (t : Fin cfg0.N) (k : Fin k0_t3_loop.trips),
    Scalar.addi (Scalar.muli (Scalar.remsi (BitVec.ofNat 32 (grid0.coords t 0).val) 4#32) 256#32) (Scf.iv 0#32 1#32 k)
      = BitVec.ofNat 32 (256 * (t.val % 4) + k.val) := by
  decide +kernel

/-- The batch of a grid point. -/
def bat (t : Fin cfg0.N) : Fin 2 := ⟨t.val / 4, by have := t.isLt; have e : cfg0.N = 8 := N_0; omega⟩
/-- The position of a grid point's trip. -/
def posn (t : Fin cfg0.N) (k : Fin k0_t3_loop.trips) : Fin 1024 :=
  ⟨256 * (t.val % 4) + k.val, by have := k.isLt; have e := trips_eq; omega⟩

theorem posn_val (t : Fin cfg0.N) (k : Fin k0_t3_loop.trips) : (posn t k).val = 256 * (t.val % 4) + k.val := rfl

theorem iblk0_eq (c : Dev nD) (t : Fin cfg0.N) (j : S2x1024.Idx) : iblk m c 0 t j = m ((c : Thread nD τ).loc main_arg0) j := by
  rw [← V_main_arg0 m c]
  unfold iblk
  exact congrArg (V m c main_arg0) (funext fun a => Fin.ext (by blk_simp; fin_cases a <;> exact Nat.zero_add _))
theorem iblk1_eq (c : Dev nD) (t : Fin cfg0.N) (j : S2.Idx) : iblk m c 1 t j = m ((c : Thread nD τ).loc main_arg1) j := by
  rw [← V_main_arg1 m c]
  unfold iblk
  exact congrArg (V m c main_arg1) (funext fun a => Fin.ext (by blk_simp; fin_cases a; exact Nat.zero_add _))

theorem cnt_eq (t : Fin cfg0.N) (x2 : Vec F S2 .i32) : cntW (F := F) (grid0.coords t) x2 = x2 (at1 (bat t)) := by
  refine congrArg x2 (funext fun a => Fin.ext ?_)
  fin_cases a
  exact (Nat.add_zero _).trans (off3_eq t)
theorem sel_eq (t : Fin cfg0.N) (x1 : Vec F S2x1024 .i32) (k : Fin k0_t3_loop.trips) :
    selW (F := F) (grid0.coords t) x1 k = x1 (at2 (bat t) (posn t k)) := by
  refine congrArg x1 (funext fun a => Fin.ext ?_)
  fin_cases a
  · exact (Nat.add_zero _).trans (off4_eq t k).1
  · exact (Nat.add_zero _).trans (off4_eq t k).2
theorem nxt_eq (t : Fin cfg0.N) (x1 : Vec F S2x1024 .i32) (k : Fin k0_t3_loop.trips) (h : (posn t k).val + 1 < 1024) :
    nxtW (F := F) (grid0.coords t) x1 k = x1 (at2 (bat t) ⟨(posn t k).val + 1, h⟩) := by
  refine congrArg x1 (funext fun a => Fin.ext ?_)
  rw [posn_val] at h
  fin_cases a
  · exact (Nat.add_zero _).trans (off5_eq t k).1
  · exact (Nat.add_zero _).trans ((off5_eq t k).2.trans (Nat.min_eq_left (by omega)))

/-! ## The rows sent -/

theorem shr_one (x : BitVec 32) : (Scalar.shrui x 1#32).toNat = x.toNat / 2 := by
  unfold Scalar.shrui IntOp.shrui
  rw [if_pos (by decide)]
  simp [BitVec.toNat_ushiftRight, Nat.shiftRight_eq_div_pow]

/-- A trip sends when its position is live and the next is not a live one of the same pair of rows. -/
theorem sends (t : Fin cfg0.N) (k : Fin k0_t3_loop.trips) (v w4 w5 : BitVec 32)
    (h : k0_cond2 (grid0.coords t) v k w4 w5 = 1#1) :
    ((posn t k).val : Int) < v.toInt ∧ (((posn t k).val : Int) + 1 < v.toInt → w5.toNat / 2 ≠ w4.toNat / 2) := by
  unfold k0_cond2 at h
  simp only [pos_word] at h
  have hp := (posn t k).isLt
  have e1 : (BitVec.ofNat 32 (256 * (t.val % 4) + k.val)).toInt = ((posn t k).val : Int) := toInt_ofNat_of_lt (by rw [posn_val] at hp; omega)
  have e2 : (Scalar.addi (BitVec.ofNat 32 (256 * (t.val % 4) + k.val)) 1#32).toInt = ((posn t k).val : Int) + 1 := by
    rw [show Scalar.addi (BitVec.ofNat 32 (256 * (t.val % 4) + k.val)) 1#32 = BitVec.ofNat 32 ((posn t k).val + 1) by
      rw [posn_val]; exact (BitVec.ofNat_add _ _).symm]
    rw [toInt_ofNat_of_lt (by omega)]; push_cast; rfl
  have hx : ∀ p : Bool, Scalar.cmpi .ne (Scalar.extui (BitVec.ofBool p)) 0#32 = BitVec.ofBool p := by decide
  have ht : (1#1 : BitVec 1) = BitVec.ofBool true := rfl
  simp only [Scalar.cmpi, Scalar.andi, Scalar.xori, cmpi_slt_eq, cmpi_eq_eq_toNat, e1, e2, shr_one, andi_ofBool] at h
  rw [show (1#1 : BitVec 1) = BitVec.ofBool true from rfl] at h
  simp only [xori_ofBool, andi_ofBool] at h
  have h' := (hx _).symm.trans h
  rw [show BitVec.ofBool true = 1#1 from rfl, ofBool_eq_one_iff] at h'
  simp only [Bool.and_eq_true, decide_eq_true_eq, Bool.xor_true, Bool.not_eq_true', Bool.and_eq_false_iff, decide_eq_false_iff_not] at h'
  refine ⟨h'.1, fun hc => ?_⟩
  rcases h'.2 with e | e
  · exact absurd hc e
  · exact e

/-- The row of the output array a word names. -/
theorem off6_eq (t : Fin cfg0.N) (w : BitVec 32) (hw : w.toNat < 8192) :
    k0_off6 (grid0.coords t) w 0 = t.val / 4 * 4096 + w.toNat / 2 := by
  unfold k0_off6
  simp only [batch_word]
  have ht := t.isLt
  have e : cfg0.N = 8 := N_0
  show (Scalar.shrui _ 1#32).toNat = _
  rw [shr_one]
  unfold Scalar.addi IntOp.addi
  rw [BitVec.toNat_add, BitVec.toNat_ofNat]
  omega

theorem tables_of_good (hG : ∀ c : Dev nD, Good (m ((c : Thread nD τ).loc main_arg0)) (m ((c : Thread nD τ).loc main_arg1))) : Tables m := by
  intro c t
  have G := hG c
  have hc : cntW (F := F) (grid0.coords t) (iblk m c 1 t) = m ((c : Thread nD τ).loc main_arg1) (at1 (bat t)) :=
    (cnt_eq t _).trans (iblk1_eq m c t _)
  have hs : ∀ k, selW (F := F) (grid0.coords t) (iblk m c 0 t) k = m ((c : Thread nD τ).loc main_arg0) (at2 (bat t) (posn t k)) :=
    fun k => (sel_eq t _ k).trans (iblk0_eq m c t _)
  have hn : ∀ k (h : (posn t k).val + 1 < 1024), nxtW (F := F) (grid0.coords t) (iblk m c 0 t) k = m ((c : Thread nD τ).loc main_arg0) (at2 (bat t) ⟨(posn t k).val + 1, h⟩) :=
    fun k h => (nxt_eq t _ k h).trans (iblk0_eq m c t _)
  have ht : t.val / 4 < 2 := (bat t).isLt
  -- a live position's word, as a number
  have small : ∀ s : Fin 1024, (s.val : Int) < (m ((c : Thread nD τ).loc main_arg1) (at1 (bat t)) : BitVec 32).toInt →
      (m ((c : Thread nD τ).loc main_arg0) (at2 (bat t) s) : BitVec 32).toNat < 8192
        ∧ (m ((c : Thread nD τ).loc main_arg0) (at2 (bat t) s) : BitVec 32).toInt = (m ((c : Thread nD τ).loc main_arg0) (at2 (bat t) s) : BitVec 32).toNat := by
    intro s h
    have g := G (bat t) s h
    have i1 : (m ((c : Thread nD τ).loc main_arg0) (at2 (bat t) s) : BitVec 32).toNat < 2 ^ 31 := (toInt_nonneg_iff_lt_half _).mp g.1
    have i2 := toInt_eq_toNat_of_lt_half i1
    refine ⟨?_, i2⟩
    have := g.2.1
    rw [i2] at this
    exact_mod_cast this
  -- the rows of an earlier and a later sending trip
  have key : ∀ k k' : Fin k0_t3_loop.trips, k.val < k'.val →
      k0_cond2 (grid0.coords t) (cntW (F := F) (grid0.coords t) (iblk m c 1 t)) k (selW (F := F) (grid0.coords t) (iblk m c 0 t) k) (nxtW (F := F) (grid0.coords t) (iblk m c 0 t) k) = 1#1 →
      k0_cond2 (grid0.coords t) (cntW (F := F) (grid0.coords t) (iblk m c 1 t)) k' (selW (F := F) (grid0.coords t) (iblk m c 0 t) k') (nxtW (F := F) (grid0.coords t) (iblk m c 0 t) k') = 1#1 →
      k0_off6 (grid0.coords t) (selW (F := F) (grid0.coords t) (iblk m c 0 t) k) 0 ≠ k0_off6 (grid0.coords t) (selW (F := F) (grid0.coords t) (iblk m c 0 t) k') 0 := by
    intro k k' hk h h'
    obtain ⟨l1, l2⟩ := sends t k _ _ _ h
    obtain ⟨l1', -⟩ := sends t k' _ _ _ h'
    rw [hc] at l1 l2 l1'
    have p := posn_val t k
    have p' := posn_val t k'
    have q' := (posn t k').isLt
    have hlt : (posn t k).val + 1 < 1024 := by omega
    have hlive : ((posn t k).val : Int) + 1 < (m ((c : Thread nD τ).loc main_arg1) (at1 (bat t)) : BitVec 32).toInt := by omega
    have ne := l2 hlive
    rw [hs, hn k hlt] at ne
    rw [hs, hs, off6_eq t _ (small _ l1).1, off6_eq t _ (small _ l1').1]
    have s0 := small (posn t k) l1
    have s1 := small ⟨(posn t k).val + 1, hlt⟩ (by push_cast; exact hlive)
    have s2 := small (posn t k') l1'
    have g1 := (G (bat t) (posn t k) l1).2.2 hlt hlive
    rw [s0.2, s1.2] at g1
    have g2 : (m ((c : Thread nD τ).loc main_arg0) (at2 (bat t) ⟨(posn t k).val + 1, hlt⟩) : BitVec 32).toNat ≤ (m ((c : Thread nD τ).loc main_arg0) (at2 (bat t) (posn t k')) : BitVec 32).toNat := by
      rcases Nat.lt_or_ge ((posn t k).val + 1) (posn t k').val with l | l
      · have hd : (posn t k).val + 1 + ((posn t k').val - (posn t k).val - 2) + 1 = (posn t k').val := by omega
        have g := G.lt (bat t) ⟨(posn t k).val + 1, hlt⟩ ((posn t k').val - (posn t k).val - 2) (lt_of_eq_of_lt hd q')
          (by show ((((posn t k).val + 1 + ((posn t k').val - (posn t k).val - 2) : ℕ)) : Int) + 1 < _; omega)
        have e : (⟨(posn t k).val + 1 + ((posn t k').val - (posn t k).val - 2) + 1, lt_of_eq_of_lt hd q'⟩ : Fin 1024) = posn t k' := Fin.ext hd
        change _ < (m ((c : Thread nD τ).loc main_arg0) (at2 (bat t) ⟨(posn t k).val + 1 + ((posn t k').val - (posn t k).val - 2) + 1, lt_of_eq_of_lt hd q'⟩) : BitVec 32).toInt at g
        rw [e, s1.2, s2.2] at g
        omega
      · have e : (⟨(posn t k).val + 1, hlt⟩ : Fin 1024) = posn t k' := Fin.ext (by show (posn t k).val + 1 = _; omega)
        rw [e]
    omega
  refine ⟨fun k h a => ?_, fun k k' h h' ne => ?_⟩
  · obtain ⟨l1, -⟩ := sends t k _ _ _ h
    rw [hc] at l1
    have s0 := (small (posn t k) l1).1
    fin_cases a
    · show k0_off6 (grid0.coords t) _ 0 + 1 ≤ 8192
      rw [hs, off6_eq t _ s0]
      omega
    · exact le_rfl
  · rcases Nat.lt_or_gt_of_ne (fun e => ne (Fin.ext e)) with l | l
    · exact key k k' l h h'
    · exact (key k' k l h' h).symm

end Cert.KernelIdeal.Mlp

end
-- ==== Proof.Value.Pow2.lean ====
/- Power-of-two scales on the extended reals: the exponent found by a binary search over powers of
   two is the exponent read off the logarithm. -/
module

public import Idealize.ShloMosaic.Lib.Pointwise
public import Mathlib.Analysis.SpecialFunctions.Log.Basic

@[expose] public section

noncomputable section

namespace Cert.Pow2

open Idealize.ShloMosaic

/-! ## The scale, from the logarithm -/

/-- The exponent of the scale of a row whose largest entry over the largest code is `v`. -/
def expo (v : EReal) : EReal :=
  if v < Ideal.ofBits .f32 0x00800000#32 then 0
  else min (Ideal.liftRound Int.floor (Ideal.div (Ideal.log v) (Ideal.log (Ideal.ofBits .f32 0x40000000#32))) + 1) (Ideal.ofBits .f32 0x42FC0000#32)

/-- The scale. -/
def scale (v : EReal) : EReal := Ideal.exp2 (expo v)
/-- Its inverse. -/
def inv (v : EReal) : EReal := Ideal.exp2 (0 - expo v)

/-! ## Words that hold powers of two -/

/-- The value of the word whose exponent field is `n` and whose other fields are zero. -/
def pw (n : ℕ) : EReal := Ideal.ofBits .f32 (BitVec.ofNat 32 n <<< 23)

theorem shl23 (x : BitVec 32) : IntOp.shli ArithUnit.vector x 23#32 = x <<< 23 := by
  simp [IntOp.shli]

theorem pw_eq (n : ℕ) (h1 : 1 ≤ n) (h2 : n ≤ 254) : pw n = ((2 : ℝ) ^ ((n : ℤ) - 127) : ℝ) := by
  have key : ∀ k : Fin 255,
      (BitVec.extractLsb' 31 1 (BitVec.ofNat 32 k.val <<< 23) = 0#1)
      ∧ (BitVec.extractLsb' 23 8 (BitVec.ofNat 32 k.val <<< 23)).toNat = k.val
      ∧ (BitVec.extractLsb' 0 23 (BitVec.ofNat 32 k.val <<< 23)).toNat = 0 := by decide +kernel
  obtain ⟨a, b, c⟩ := key ⟨n, by omega⟩
  simp only at a b c
  unfold pw
  show Ideal.ieee 8 23 (BitVec.ofNat 32 n <<< 23) = _
  unfold Ideal.ieee
  simp only [show (8 + 23 : ℕ) = 31 from rfl, a, b, c]
  rw [if_neg (by omega), if_neg (by omega)]
  refine congrArg Real.toEReal ?_
  have e : ((n : ℤ) - (2 ^ (8 - 1) - 1 : ℤ) - (23 : ℕ)) = ((n : ℤ) - 127) + (-23) := by norm_num; ring
  rw [e, zpow_add₀ (by norm_num : (2 : ℝ) ≠ 0)]
  norm_num
  ring

theorem pw_255 : pw 255 = ⊤ := by
  have a : (BitVec.extractLsb' 31 1 (BitVec.ofNat 32 255 <<< 23) = 0#1) := by decide
  have b : (BitVec.extractLsb' 23 8 (BitVec.ofNat 32 255 <<< 23)).toNat = 255 := by decide
  have c : (BitVec.extractLsb' 0 23 (BitVec.ofNat 32 255 <<< 23)).toNat = 0 := by decide
  unfold pw
  show Ideal.ieee 8 23 (BitVec.ofNat 32 255 <<< 23) = _
  unfold Ideal.ieee
  simp only [show (8 + 23 : ℕ) = 31 from rfl, a, b, c]
  simp

theorem smallest : Ideal.ofBits .f32 0x00800000#32 = ((2 : ℝ) ^ (-126 : ℤ) : ℝ) :=
  (show Ideal.ofBits .f32 0x00800000#32 = pw 1 from by unfold pw; congr 1).trans (by rw [pw_eq 1 le_rfl (by norm_num)]; norm_num)
theorem two : Ideal.ofBits .f32 0x40000000#32 = ((2 : ℝ) : EReal) :=
  (show Ideal.ofBits .f32 0x40000000#32 = pw 128 from by unfold pw; congr 1).trans (by rw [pw_eq 128 (by norm_num) (by norm_num)]; norm_num)
theorem largest : Ideal.ofBits .f32 0x42FC0000#32 = ((126 : ℝ) : EReal) := by
  have a : (BitVec.extractLsb' 31 1 (0x42FC0000#32) = 0#1) := by decide
  have b : (BitVec.extractLsb' 23 8 (0x42FC0000#32)).toNat = 133 := by decide
  have c : (BitVec.extractLsb' 0 23 (0x42FC0000#32)).toNat = 8126464 - 256 * 256 * 4 + 393216 - 131072 := by decide
  show Ideal.ieee 8 23 (0x42FC0000#32) = _
  unfold Ideal.ieee
  simp only [show (8 + 23 : ℕ) = 31 from rfl, a, b, c]
  norm_num [zpow_neg]

/-! ## The search -/

/-- What is known of `n` once the bits worth `k` and more have been tried. -/
def Inv (v : EReal) (k n : ℕ) : Prop := n + k ≤ 256 ∧ (n = 0 ∨ pw n ≤ v) ∧ (n + k = 256 ∨ v < pw (n + k))

theorem Inv.start (v : EReal) : Inv v 256 0 := ⟨le_rfl, .inl rfl, .inl rfl⟩

/-- One trial, on words. -/
def step (v : EReal) (k b : BitVec 32) : BitVec 32 :=
  if Ideal.ofBits .f32 (IntOp.shli ArithUnit.vector (IntOp.addi b k) 23#32) ≤ v then IntOp.addi b k else b

/-- A trial halves what is left to search. -/
theorem Inv.step {v : EReal} {k n : ℕ} (h : Inv v (k + k) n) (hk : 0 < k) :
    ∃ n', Inv v k n' ∧ step v (BitVec.ofNat 32 k) (BitVec.ofNat 32 n) = BitVec.ofNat 32 n' := by
  obtain ⟨h1, h2, h3⟩ := h
  have hadd : IntOp.addi (BitVec.ofNat 32 n) (BitVec.ofNat 32 k) = BitVec.ofNat 32 (n + k) := by
    simp [IntOp.addi, BitVec.ofNat_add]
  unfold Pow2.step
  rw [hadd, shl23]
  by_cases hc : pw (n + k) ≤ v
  · refine ⟨n + k, ⟨by omega, .inr hc, ?_⟩, if_pos hc⟩
    rcases h3 with h | h
    · exact .inl (by omega)
    · exact .inr (by rwa [add_assoc])
  · exact ⟨n, ⟨by omega, h2, .inr (not_le.1 hc)⟩, if_neg hc⟩

/-- The exponent word of a biased exponent. -/
def eword (b : BitVec 32) : BitVec 32 :=
  Scalar.select (IntOp.cmpi CmpIPredicate.eq (IntOp.minsi b 252#32) 0#32) (0#32) (IntOp.subi (IntOp.minsi b 252#32) 126#32)

/-- The exponent of a biased exponent. -/
def eint (n : ℕ) : ℤ := if n = 0 then 0 else (min n 252 : ℕ) - 126

theorem words (n : ℕ) (h : n ≤ 255) :
    ∃ p q : ℕ, IntOp.addi (eword (BitVec.ofNat 32 n)) 127#32 = BitVec.ofNat 32 p ∧ 1 ≤ p ∧ p ≤ 254 ∧ (p : ℤ) - 127 = eint n
      ∧ IntOp.subi 127#32 (eword (BitVec.ofNat 32 n)) = BitVec.ofNat 32 q ∧ 1 ≤ q ∧ q ≤ 254 ∧ (q : ℤ) - 127 = - eint n := by
  have key : ∀ k : Fin 256, IntOp.addi (eword (BitVec.ofNat 32 k.val)) 127#32 = BitVec.ofNat 32 (eint k.val + 127).toNat
      ∧ IntOp.subi 127#32 (eword (BitVec.ofNat 32 k.val)) = BitVec.ofNat 32 (127 - eint k.val).toNat := by decide +kernel
  obtain ⟨a, b⟩ := key ⟨n, by omega⟩
  have he : -126 < eint n ∧ eint n < 127 := by unfold eint; split <;> constructor <;> omega
  exact ⟨(eint n + 127).toNat, (127 - eint n).toNat, a, by omega, by omega, by omega, b, by omega, by omega, by omega⟩

/-! ## The two exponents agree -/

/-- The logarithm to base two. -/
def lg (r : ℝ) : ℝ := Real.log r * (Real.log 2)⁻¹

theorem le_lg {r : ℝ} {z : ℤ} (h : (2 : ℝ) ^ z ≤ r) : (z : ℝ) ≤ lg r := by
  unfold lg
  rw [← div_eq_mul_inv, le_div_iff₀ (Real.log_pos (by norm_num)), ← Real.log_zpow]
  exact Real.log_le_log (zpow_pos (by norm_num) _) h

theorem lg_lt {r : ℝ} (hr : 0 < r) {z : ℤ} (h : r < (2 : ℝ) ^ z) : lg r < (z : ℝ) := by
  unfold lg
  rw [← div_eq_mul_inv, div_lt_iff₀ (Real.log_pos (by norm_num)), ← Real.log_zpow]
  exact Real.log_lt_log hr h

theorem logdiv (r : ℝ) (hr : 0 < r) :
    Ideal.liftRound Int.floor (Ideal.div (Ideal.log (r : EReal)) (Ideal.log ((2 : ℝ) : EReal))) = ((⌊lg r⌋ : ℝ) : EReal) := by
  have h2 : Real.log 2 ≠ 0 := (Real.log_pos (by norm_num)).ne'
  rw [Ideal.log_coe, Ideal.log_coe, if_neg (not_le.2 hr), if_neg (by norm_num)]
  unfold Ideal.div
  rw [if_neg (by exact_mod_cast h2)]
  rw [← EReal.coe_inv, ← EReal.coe_mul]
  rfl

theorem logtop : Ideal.liftRound Int.floor (Ideal.div (Ideal.log ⊤) (Ideal.log ((2 : ℝ) : EReal))) = ⊤ := by
  have h2 : 0 < Real.log 2 := Real.log_pos (by norm_num)
  rw [Ideal.log_coe, Ideal.log_top, if_neg (by norm_num)]
  unfold Ideal.div
  rw [if_neg (by exact_mod_cast h2.ne'), ← EReal.coe_inv, EReal.top_mul_coe_of_pos (inv_pos.2 h2)]
  rfl

theorem expo_eq {v : EReal} {n : ℕ} (h : Inv v 1 n) : expo v = ((eint n : ℝ) : EReal) := by
  obtain ⟨h1, h2, h3⟩ := h
  unfold expo
  rw [smallest, two, largest]
  rcases Nat.eq_zero_or_pos n with rfl | hn
  · have hv : v < ((2 : ℝ) ^ (-126 : ℤ) : ℝ) := by
      rcases h3 with h | h
      · omega
      · rw [Nat.zero_add, pw_eq 1 le_rfl (by norm_num)] at h; simpa using h
    rw [if_pos hv]; simp [eint]
  have hp : pw n ≤ v := h2.resolve_left (by omega)
  induction v with
  | bot =>
    exfalso
    rcases Nat.lt_or_ge n 255 with h | h
    · rw [pw_eq n hn (by omega)] at hp; exact absurd (le_bot_iff.1 hp) (EReal.coe_ne_bot _)
    · obtain rfl : n = 255 := by omega
      rw [pw_255] at hp; exact absurd (le_bot_iff.1 hp) (by simp)
  | top =>
    have hn' : 252 ≤ n := by
      rcases h3 with h | h
      · omega
      · by_contra hc
        exact absurd h (not_lt.2 le_top)
    rw [if_neg (not_lt.2 le_top), logtop]
    have : eint n = 126 := by unfold eint; rw [if_neg (by omega)]; omega
    rw [this, ← EReal.coe_one, EReal.top_add_coe, min_eq_right le_top]; norm_num
  | coe r =>
    have hn' : n ≤ 254 := by
      by_contra hc
      obtain rfl : n = 255 := by omega
      rw [pw_255] at hp; exact absurd (top_le_iff.1 hp) (EReal.coe_ne_top _)
    rw [pw_eq n hn hn', EReal.coe_le_coe_iff] at hp
    have hr : 0 < r := lt_of_lt_of_le (zpow_pos (by norm_num) _) hp
    have hge : ¬ (r : EReal) < ((2 : ℝ) ^ (-126 : ℤ) : ℝ) := by
      rw [EReal.coe_lt_coe_iff, not_lt]
      exact le_trans (zpow_le_zpow_right₀ (by norm_num) (by omega)) hp
    rw [if_neg hge, logdiv r hr]
    have hlo : ((n : ℤ) - 127) ≤ ⌊lg r⌋ := by
      rw [Int.le_floor]; exact le_lg hp
    have hhi : n ≤ 253 → ⌊lg r⌋ < ((n : ℤ) - 126) := by
      intro hm
      rw [Int.floor_lt]; refine lg_lt hr ?_
      rcases h3 with h | h
      · omega
      · rw [pw_eq (n + 1) (by omega) (by omega), EReal.coe_lt_coe_iff] at h
        have e : (((n + 1 : ℕ) : ℤ) - 127) = (n : ℤ) - 126 := by push_cast; ring
        rwa [e] at h
    have hz : min (⌊lg r⌋ + 1) 126 = eint n := by
      unfold eint; rw [if_neg (by omega)]
      rcases Nat.lt_or_ge 253 n with h | h
      · omega
      · have := hhi h; omega
    rw [← hz]
    push_cast
    rw [← EReal.coe_one, ← EReal.coe_add]
    rw [EReal.coe_strictMono.monotone.map_min]

theorem exp2_int (z : ℤ) : Ideal.exp2 ((z : ℝ) : EReal) = ((2 : ℝ) ^ z : ℝ) := by
  rw [Ideal.exp2_coe]
  exact congrArg _ (Real.rpow_intCast 2 z)

/-- The word the search leads to holds the scale. -/
theorem scale_eq {v : EReal} {n : ℕ} (h : Inv v 1 n) :
    Ideal.ofBits .f32 (IntOp.shli ArithUnit.vector (IntOp.addi (eword (BitVec.ofNat 32 n)) 127#32) 23#32) = scale v := by
  obtain ⟨p, q, hp, hp1, hp2, hpe, -, -, -, -⟩ := words n (by have := h.1; omega)
  rw [hp, shl23, scale, expo_eq h, exp2_int, ← hpe]
  exact pw_eq p hp1 hp2

/-- The other word holds its inverse. -/
theorem inv_eq {v : EReal} {n : ℕ} (h : Inv v 1 n) :
    Ideal.ofBits .f32 (IntOp.shli ArithUnit.vector (IntOp.subi 127#32 (eword (BitVec.ofNat 32 n))) 23#32) = inv v := by
  obtain ⟨p, q, -, -, -, -, hq, hq1, hq2, hqe⟩ := words n (by have := h.1; omega)
  have e : (0 : EReal) - ((eint n : ℝ) : EReal) = (((-eint n : ℤ) : ℝ) : EReal) := by
    rw [zero_sub]; push_cast; rfl
  rw [hq, shl23, inv, expo_eq h, e, exp2_int, ← hqe]
  exact pw_eq q hq1 hq2

/-- The whole search, on words. -/
def found (v : EReal) : BitVec 32 :=
  step v 1#32 (step v 2#32 (step v 4#32 (step v 8#32 (step v 16#32 (step v 32#32 (step v 64#32 (step v 128#32 0#32)))))))

theorem found_eq (v : EReal) : ∃ n, Inv v 1 n ∧ found v = BitVec.ofNat 32 n := by
  obtain ⟨n1, i1, e1⟩ := Inv.step (k := 128) (Inv.start v) (by norm_num)
  obtain ⟨n2, i2, e2⟩ := Inv.step (k := 64) i1 (by norm_num)
  obtain ⟨n3, i3, e3⟩ := Inv.step (k := 32) i2 (by norm_num)
  obtain ⟨n4, i4, e4⟩ := Inv.step (k := 16) i3 (by norm_num)
  obtain ⟨n5, i5, e5⟩ := Inv.step (k := 8) i4 (by norm_num)
  obtain ⟨n6, i6, e6⟩ := Inv.step (k := 4) i5 (by norm_num)
  obtain ⟨n7, i7, e7⟩ := Inv.step (k := 2) i6 (by norm_num)
  obtain ⟨n8, i8, e8⟩ := Inv.step (k := 1) i7 (by norm_num)
  refine ⟨n8, i8, ?_⟩
  unfold found
  rw [e1, e2, e3, e4, e5, e6, e7, e8]

end Cert.Pow2

end
-- ==== Proof.Value.Spec.lean ====
/- The multilayer perceptron's row in plain sums: activations, scale, codes and the projected sum. -/
module

public import proofs.«01_k».proof.Proof.Value.Pow2

@[expose] public section

noncomputable section

namespace Cert.Spec

open Idealize.ShloMosaic Cert.Pow2
open scoped BigOperators

/-- One entry of a scaled product: row, row scale, column, column scale. -/
def lin (x : Fin 2048 → EReal) (a : EReal) (w : Fin 2048 → EReal) (s : EReal) : EReal := (∑ k, x k * w k) * a * s

/-- A gated activation. -/
def act (g u : EReal) : EReal := g * Ideal.logistic g * u

/-- The largest magnitude of a row over the largest code. -/
def peak (A : Fin 5632 → EReal) : EReal :=
  (Finset.univ.fold max (Ideal.ofBits .f32 0xFF800000#32) fun k => max (A k) (-(A k))) * Ideal.ofBits .f32 0x3B124925#32

/-- A row's code at `k`. -/
def code (A : Fin 5632 → EReal) (k : Fin 5632) : EReal :=
  min (Ideal.ofBits .f32 0x43E00000#32) (max (Ideal.ofBits .f32 0xC3E00000#32) (A k * inv (peak A)))

/-- The residual plus the codes' product with a column, scaled. -/
def out (A : Fin 5632 → EReal) (w : Fin 5632 → EReal) (s res : EReal) : EReal :=
  res + (∑ k, code A k * w k) * scale (peak A) * s

theorem ofBits_negInf : Ideal.ofBits .f32 0xFF800000#32 = ⊥ := by
  have a : (BitVec.extractLsb' 31 1 (0xFF800000#32) = 1#1) := by decide
  have b : (BitVec.extractLsb' 23 8 (0xFF800000#32)).toNat = 255 := by decide
  have c : (BitVec.extractLsb' 0 23 (0xFF800000#32)).toNat = 0 := by decide
  show Ideal.ieee 8 23 (0xFF800000#32) = _
  unfold Ideal.ieee
  simp only [show (8 + 23 : ℕ) = 31 from rfl, a, b, c]
  simp

/-- A row's largest entry, by the upper bounds it has. -/
theorem foldmax_le {n : ℕ} (f : Fin n → EReal) (c : EReal) :
    Finset.univ.fold max (Ideal.ofBits .f32 0xFF800000#32) f ≤ c ↔ ∀ k, f k ≤ c := by
  rw [Finset.fold_max_le, ofBits_negInf]
  simp

/-- The maximum along a row, read at the row. -/
theorem rowFold {A B : ℕ} (v : FVec Ideal ⟨2, ![A, B]⟩ .f32) (h : (⟨2, ![A, B]⟩ : Shape).Reduces [1] ⟨1, ![A]⟩)
    (hφ : FKind.Formats .f32) (hacc : (0xFF800000#32 : BitVec 32) = FKind.maximumf.neutral .f32 hφ) (r : Fin A) :
    multiReduction .maximumf [1] ⟨1, ![A]⟩ v 0xFF800000#32 h hφ hacc (ix1 r)
      = Finset.univ.fold max (Ideal.ofBits .f32 0xFF800000#32) fun k : Fin B => v (ix2 r k) := by
  rw [multiReduction_maximumf_eq_fold, h.fold_fiber_r2_a1]
  rfl

end Cert.Spec

end
-- ==== Proof.Value.KernelRow.lean ====
/- A row block of the kernel: its activations and the maxima it takes along the way. -/
module

public import proofs.«01_k».proof.Proof.KernelIdeal.Blocks
public import proofs.«01_k».proof.Proof.Value.Spec

@[expose] public section

set_option maxRecDepth 16384

noncomputable section

namespace Cert.KernelIdeal.Mlp

open Cert.KernelIdeal Cert.KernelIdeal.Gen Cert.Pow2
open Idealize.ShloMosaic
open scoped BigOperators

variable (x3 : Vec Ideal S256x2048 .fp8e4m3) (x4 : Vec Ideal S1x1x256 .f32) (x9 : Vec Ideal S2048x5632 .fp8e4m3) (x10 : Vec Ideal S1x5632 .f32)
  (x11 : Vec Ideal S2048x5632 .fp8e4m3) (x12 : Vec Ideal S1x5632 .f32)

/-- Row `r`'s activation at column `k`, from the block's arrays. -/
def rowAct (r : Fin 256) (k : Fin 5632) : EReal :=
  Spec.act (Spec.lin (fun i => x3 (ix2 r i)) (x4 (ix3 0 0 r)) (fun i => x9 (ix2 i k)) (x10 (ix2 0 k)))
    (Spec.lin (fun i => x3 (ix2 r i)) (x4 (ix3 0 0 r)) (fun i => x11 (ix2 i k)) (x12 (ix2 0 k)))

/-- The row scales, spread along the lanes. -/
theorem spread_apply (a : Vec Ideal S1x1x256 .f32) (r : Fin 256) (l : Fin 512) : k0_pay3 (F := Ideal) a (ix2 r l) = a (ix3 0 0 r) := by
  have e : ∀ h : ¬ (r : ℕ) < 128, (⟨128 + (r.val - 128), by omega⟩ : Fin 256) = r := fun h => Fin.ext (by show 128 + (r.val - 128) = r.val; omega)
  pointwise [k0_pay3]
  split_ifs <;> first | rfl | (rw [e (by assumption)])

/-- A tile's entry, over any row scales spread along the lanes. -/
theorem pay11_apply (b : FVec Ideal S256x512 .f32) (y3 : Vec Ideal S256x2048 .fp8e4m3) (y9 : Vec Ideal S2048x512 .fp8e4m3)
    (y10 : Vec Ideal S1x512 .f32) (y11 : Vec Ideal S2048x512 .fp8e4m3) (y12 : Vec Ideal S1x512 .f32) (r : Fin 256) (l : Fin 512) :
    k0_pay11 (F := Ideal) b y3 y9 y10 y11 y12 (ix2 r l)
      = Spec.act (Spec.lin (fun i => y3 (ix2 r i)) (b (ix2 r l)) (fun i => y9 (ix2 i l)) (y10 (ix2 0 l)))
          (Spec.lin (fun i => y3 (ix2 r i)) (b (ix2 r l)) (fun i => y11 (ix2 i l)) (y12 (ix2 0 l))) := by
  unfold Spec.act Spec.lin Ideal.logistic
  pointwise [k0_pay11]
  rw [zero_sub]

/-- Column `l` of tile `j`. -/
def colOf (j : Fin 11) (l : Fin 512) : Fin 5632 := ⟨512 * j.val + l.val, by omega⟩

theorem tile_apply (j : Fin 11) (r : Fin 256) (l : Fin 512) :
    tile (F := Ideal) x3 x4 x9 x10 x11 x12 j (ix2 r l) = rowAct x3 x4 x9 x10 x11 x12 r (colOf j l) := by
  unfold tile
  rw [pay11_apply, spread_apply]
  unfold rowAct colOf
  pointwise

/-- The rows' activations as one array. -/
def actArr : Vec Ideal S256x5632 .f32 := fun y => rowAct x3 x4 x9 x10 x11 x12 (y 0) (y 1)

theorem pieces_agree (n : ℕ) (h : n ≤ 11) :
    ∀ p ∈ pieces (F := Ideal) x3 x4 x9 x10 x11 x12 n h, ∀ x : p.1.shape.Idx, p.2 x = actArr x3 x4 x9 x10 x11 x12 (p.1.emb x) := by
  induction n with
  | zero => intro p hp; exact absurd hp (by simp [pieces])
  | succ n ih =>
    intro p hp x
    rcases List.mem_cons.1 hp with rfl | hp'
    · obtain ⟨r, l, rfl⟩ : ∃ (r : Fin 256) (l : Fin 512), x = ix2 r l := ⟨x 0, x 1, eq_ix2 x⟩
      show k0_pay12 (tile x3 x4 x9 x10 x11 x12 ⟨n, h⟩) (ix2 r l) = _
      have e : k0_pay12 (tile x3 x4 x9 x10 x11 x12 ⟨n, h⟩) (ix2 r l) = tile x3 x4 x9 x10 x11 x12 ⟨n, h⟩ (ix2 r l) := by
        generalize tile x3 x4 x9 x10 x11 x12 ⟨n, h⟩ = T
        pointwise [k0_pay12]
      rw [e, tile_apply]
      unfold actArr
      congr 1
      · apply Fin.ext; show r.val = 0 + 1 * r.val; omega
      · apply Fin.ext; show 512 * n + l.val = 512 * n + 1 * l.val; omega
    · exact ih (Nat.le_of_succ_le h) p hp' x

theorem acts_apply (y : S256x5632.Idx) : acts (F := Ideal) x3 x4 x9 x10 x11 x12 y = actArr x3 x4 x9 x10 x11 x12 y :=
  View.canon_apply_of_pieces _ _ (pieces_agree x3 x4 x9 x10 x11 x12 11 le_rfl) y (cover_acts x3 x4 x9 x10 x11 x12 y)

/-! ## The maxima -/

/-- The magnitude of an activation. -/
def mag (r : Fin 256) (k : Fin 5632) : EReal := max (rowAct x3 x4 x9 x10 x11 x12 r k) (-(rowAct x3 x4 x9 x10 x11 x12 r k))

/-- One tile's lanes joined to the maxima. -/
theorem pay13_le (a : FVec Ideal S256x128 .f32) (T : FVec Ideal S256x512 .f32) (r : Fin 256) (l : Fin 128) (c : EReal) :
    k0_pay13 (F := Ideal) a T (ix2 r l) ≤ c
      ↔ a (ix2 r l) ≤ c ∧ ∀ q : Fin 4, max (T (ix2 r ⟨128 * q.val + l.val, by omega⟩)) (-(T (ix2 r ⟨128 * q.val + l.val, by omega⟩))) ≤ c := by
  have e : k0_pay13 (F := Ideal) a T (ix2 r l)
      = max (max (max (max (a (ix2 r l)) (max (T (ix2 r ⟨128 * 0 + l.val, by omega⟩)) (-(T (ix2 r ⟨128 * 0 + l.val, by omega⟩)))))
          (max (T (ix2 r ⟨128 * 1 + l.val, by omega⟩)) (-(T (ix2 r ⟨128 * 1 + l.val, by omega⟩)))))
          (max (T (ix2 r ⟨128 * 2 + l.val, by omega⟩)) (-(T (ix2 r ⟨128 * 2 + l.val, by omega⟩)))))
          (max (T (ix2 r ⟨128 * 3 + l.val, by omega⟩)) (-(T (ix2 r ⟨128 * 3 + l.val, by omega⟩)))) := by
    pointwise [k0_pay13]
    rfl
  rw [e]
  simp only [max_le_iff, Fin.forall_fin_succ, and_assoc]
  simp

theorem maxima_le (n : ℕ) (h : n ≤ 11) (r : Fin 256) (l : Fin 128) (c : EReal) :
    maxima (F := Ideal) x3 x4 x9 x10 x11 x12 n h (ix2 r l) ≤ c
      ↔ 0 ≤ c ∧ ∀ t : Fin n, ∀ q : Fin 4, mag x3 x4 x9 x10 x11 x12 r ⟨512 * t.val + 128 * q.val + l.val, by omega⟩ ≤ c := by
  induction n with
  | zero =>
    have e : maxima (F := Ideal) x3 x4 x9 x10 x11 x12 0 h (ix2 r l) = 0 := by
      show k0_pay4 (F := Ideal) (ix2 r l) = 0
      pointwise [k0_pay4]
    rw [e]
    exact ⟨fun h => ⟨h, fun t => t.elim0⟩, fun h => h.1⟩
  | succ n ih =>
    rw [maxima, pay13_le, ih (Nat.le_of_succ_le h), and_assoc]
    refine and_congr_right fun _ => ?_
    rw [Fin.forall_fin_succ' (n := n)]
    refine and_congr (by rfl) (forall_congr' fun q => ?_)
    rw [tile_apply]
    have e : colOf ⟨n, h⟩ ⟨128 * q.val + l.val, by omega⟩ = (⟨512 * (Fin.last n).val + 128 * q.val + l.val, by have : (Fin.last n).val = n := rfl; omega⟩ : Fin 5632) :=
      Fin.ext (by show 512 * n + (128 * q.val + l.val) = 512 * n + 128 * q.val + l.val; omega)
    rw [e]
    rfl

/-- What the scale is taken from: the row's largest magnitude, over the largest code. -/
theorem amax_apply (r : Fin 256) (l : Fin 128) :
    amax (F := Ideal) x3 x4 x9 x10 x11 x12 (ix2 r l) = Spec.peak (rowAct x3 x4 x9 x10 x11 x12 r) := by
  have e : amax (F := Ideal) x3 x4 x9 x10 x11 x12 (ix2 r l)
      = (Finset.univ.fold max (Ideal.ofBits .f32 0xFF800000#32) fun k : Fin 128 => maxima (F := Ideal) x3 x4 x9 x10 x11 x12 11 le_rfl (ix2 r k))
          * Ideal.ofBits .f32 0x3B124925#32 := by
    unfold amax
    generalize maxima (F := Ideal) x3 x4 x9 x10 x11 x12 11 le_rfl = M
    pointwise [rowMax]
  rw [e]
  unfold Spec.peak
  refine congrArg (· * Ideal.ofBits .f32 0x3B124925#32) ?_
  refine eq_of_forall_ge_iff fun c => ?_
  rw [Spec.foldmax_le, Spec.foldmax_le]
  constructor
  · intro h k
    have hk := (maxima_le x3 x4 x9 x10 x11 x12 11 le_rfl r ⟨k.val % 128, Nat.mod_lt _ (by norm_num)⟩ c).1 (h _)
    have := hk.2 ⟨k.val / 512, by omega⟩ ⟨k.val % 512 / 128, by omega⟩
    have e : (⟨512 * (k.val / 512) + 128 * (k.val % 512 / 128) + k.val % 128, by omega⟩ : Fin 5632) = k := Fin.ext (by show 512 * (k.val / 512) + 128 * (k.val % 512 / 128) + k.val % 128 = k.val; omega)
    simp only [e] at this
    exact this
  · intro h l'
    rw [maxima_le]
    refine ⟨?_, fun t q => h _⟩
    refine le_trans ?_ (h 0)
    rcases le_total 0 (rowAct x3 x4 x9 x10 x11 x12 r 0) with h0 | h0
    · exact le_max_of_le_left h0
    · exact le_max_of_le_right (EReal.neg_nonneg.2 h0)

end Cert.KernelIdeal.Mlp

end
-- ==== Proof.Value.KernelOut.lean ====
/- A row block of the kernel: the scale, code and sum windows, entry by entry. -/
module

public import proofs.«01_k».proof.Proof.Value.KernelRow

@[expose] public section

set_option maxRecDepth 16384

noncomputable section

namespace Cert.KernelIdeal.Mlp

open Cert.KernelIdeal Cert.KernelIdeal.Gen Cert.Pow2
open Idealize.ShloMosaic
open scoped BigOperators

/-! ## The search, entry by entry -/

theorem trial_apply (v : FVec Ideal S256x128 .f32) (k : BitVec 32) (b : IVec S256x128 32) (y : S256x128.Idx) :
    trial (F := Ideal) v k b y = step (v y) k (b y) := by
  unfold step
  pointwise [trial]

/-- The last trial, as the code states it apart. -/
theorem word_apply (v : FVec Ideal S256x128 .f32) (s : IVec S256x128 32) (y : S256x128.Idx) :
    k0_pay56 (F := Ideal) v s (addi s (broadcast S256x128 1#32)) 23#32 y = eword (step (v y) 1#32 (s y)) := by
  unfold step eword
  pointwise [k0_pay56]

theorem search7_apply (v : FVec Ideal S256x128 .f32) (y : S256x128.Idx) : step (v y) 1#32 (search7 (F := Ideal) v y) = found (v y) := by
  unfold search7 search2 found
  simp only [trial_apply]
  rfl

theorem pay57_apply (v : FVec Ideal S256x128 .f32) (y : S256x128.Idx) :
    k0_pay57 (F := Ideal) v (search7 v) (addi (search7 v) (broadcast S256x128 1#32)) 23#32 y = scale (v y) := by
  have h := word_apply v (search7 v) y
  rw [search7_apply] at h
  obtain ⟨n, hn, e⟩ := found_eq (v y)
  rw [e] at h
  rw [← scale_eq hn, ← h]
  rfl

/-- The inverse scales. -/
def invs (v : FVec Ideal S256x128 .f32) : FVec Ideal S256x128 .f32 :=
  bitcastToFloat .f32 (shli (subi (broadcast S256x128 127#32) (k0_pay56 (F := Ideal) v (search7 v) (addi (search7 v) (broadcast S256x128 1#32)) 23#32)) (broadcast S256x128 23#32))

theorem invs_apply (v : FVec Ideal S256x128 .f32) (y : S256x128.Idx) : invs v y = inv (v y) := by
  have h := word_apply v (search7 v) y
  rw [search7_apply] at h
  obtain ⟨n, hn, e⟩ := found_eq (v y)
  rw [e] at h
  rw [← inv_eq hn, ← h]
  rfl

/-! ## Copies of a block of lanes side by side -/

theorem copies44 (v : FVec Ideal S256x128 .f32) (r : Fin 256) (k : Fin 5632) (h) :
    concatenate S256x5632 1 (List.ofFn fun _ : Fin 44 => (⟨S256x128, v⟩ : (s : Shape) × (s.Idx → EReal))) h (ix2 r k) = v (ix2 r ⟨k.val % 128, Nat.mod_lt _ (by norm_num)⟩) :=
  concatenate_ofFn_apply (t := S256x5632) 1 (fun _ : Fin 44 => v) h rfl 128 rfl (ix2 r k) ⟨k.val / 128, by omega⟩ rfl (ix2 r ⟨k.val % 128, Nat.mod_lt _ (by norm_num)⟩) rfl
    (fun a ha => by match a with | ⟨0, _⟩ => rfl | ⟨1, _⟩ => exact absurd rfl ha)

theorem copies16 (v : FVec Ideal S256x128 .f32) (r : Fin 256) (k : Fin 2048) (h) :
    concatenate S256x2048 1 (List.ofFn fun _ : Fin 16 => (⟨S256x128, v⟩ : (s : Shape) × (s.Idx → EReal))) h (ix2 r k) = v (ix2 r ⟨k.val % 128, Nat.mod_lt _ (by norm_num)⟩) :=
  concatenate_ofFn_apply (t := S256x2048) 1 (fun _ : Fin 16 => v) h rfl 128 rfl (ix2 r k) ⟨k.val / 128, by omega⟩ rfl (ix2 r ⟨k.val % 128, Nat.mod_lt _ (by norm_num)⟩) rfl
    (fun a ha => by match a with | ⟨0, _⟩ => rfl | ⟨1, _⟩ => exact absurd rfl ha)

/-! ## The windows -/

theorem pay58_apply (v : FVec Ideal S256x128 .f32) (s b : IVec S256x128 32) (w : BitVec 32) (r : Fin 256) :
    k0_pay58 (F := Ideal) v s b w (ix3 0 0 r) = k0_pay57 (F := Ideal) v s b w (ix2 r 0) := by
  unfold k0_pay58
  generalize k0_pay57 (F := Ideal) v s b w = M
  have e : ∀ h : ¬ (r : ℕ) < 128, (⟨128 + (r.val - 128), by omega⟩ : Fin 256) = r := fun h => Fin.ext (by show 128 + (r.val - 128) = r.val; omega)
  pointwise
  split_ifs <;> first | rfl | (rw [e ‹¬ (r : ℕ) < 128›])

theorem pay59_apply (v : FVec Ideal S256x128 .f32) (a : Vec Ideal S256x5632 .f32) (r : Fin 256) (k : Fin 5632) :
    k0_pay59 (F := Ideal) v (search7 v) (addi (search7 v) (broadcast S256x128 1#32)) 23#32 a (ix2 r k)
      = min (Ideal.ofBits .f32 0x43E00000#32) (max (Ideal.ofBits .f32 0xC3E00000#32) (a (ix2 r k) * inv (v (ix2 r ⟨k.val % 128, Nat.mod_lt _ (by norm_num)⟩)))) := by
  rw [← invs_apply, ← copies44 (invs v) r k (by exact concatenates_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x128_S256x5632_d1)]
  rfl

theorem pay60_apply (p : FVec Ideal S256x128 .f32) (q : Vec Ideal S256x5632 .fp8e4m3) (w : Vec Ideal S5632x2048 .fp8e4m3) (x : Vec Ideal S256x2048 .f32)
    (s : Vec Ideal S1x2048 .f32) (r : Fin 256) (k : Fin 2048) :
    k0_pay60 (F := Ideal) p q w x s (ix2 r k)
      = x (ix2 r k) + (∑ i : Fin 5632, q (ix2 r i) * w (ix2 i k)) * p (ix2 r ⟨k.val % 128, Nat.mod_lt _ (by norm_num)⟩) * s (ix2 0 k) := by
  have h : k0_pay60 (F := Ideal) p q w x s = addf x (mulf (mulf
      (matmul dot_S256x5632_S5632x2048_S256x2048_1_0_0_1_n_n none (shapeCast S256x5632 q shapeCasts_S256x5632_S256x5632) w (constant S256x2048 .f32 0x00000000#32))
      (concatenate S256x2048 1 (List.ofFn fun _ : Fin 16 => (⟨S256x128, p⟩ : (s : Shape) × (s.Idx → EReal))) (by exact concatenates_S256x128_S256x128_S256x128_S256x128_S256x128_S256x128_S256x128_S256x128_S256x128_S256x128_S256x128_S256x128_S256x128_S256x128_S256x128_S256x128_S256x2048_d1)))
      (broadcastTo S256x2048 (shapeCast S1x2048 s shapeCasts_S1x2048_S1x2048) broadcasts_S1x2048_S256x2048)) := rfl
  rw [h, ← copies16 p r k (by exact concatenates_S256x128_S256x128_S256x128_S256x128_S256x128_S256x128_S256x128_S256x128_S256x128_S256x128_S256x128_S256x128_S256x128_S256x128_S256x128_S256x128_S256x2048_d1)]
  generalize concatenate S256x2048 1 (List.ofFn fun _ : Fin 16 => (⟨S256x128, p⟩ : (s : Shape) × (s.Idx → EReal))) _ = C
  pointwise

variable (x3 : Vec Ideal S256x2048 .fp8e4m3) (x4 : Vec Ideal S1x1x256 .f32) (x9 : Vec Ideal S2048x5632 .fp8e4m3) (x10 : Vec Ideal S1x5632 .f32)
  (x11 : Vec Ideal S2048x5632 .fp8e4m3) (x12 : Vec Ideal S1x5632 .f32)

theorem outScale_apply (r : Fin 256) :
    outScale (F := Ideal) x3 x4 x9 x10 x11 x12 (ix3 0 0 r) = scale (Spec.peak (rowAct x3 x4 x9 x10 x11 x12 r)) := by
  unfold outScale
  rw [View.canon_unit_zero (by funext a; match a with | ⟨0, _⟩ => rfl | ⟨1, _⟩ => rfl | ⟨2, _⟩ => rfl), pay58_apply, pay57_apply, amax_apply]

theorem outCodes_apply (r : Fin 256) (k : Fin 5632) :
    outCodes (F := Ideal) x3 x4 x9 x10 x11 x12 (ix2 r k) = Spec.code (rowAct x3 x4 x9 x10 x11 x12 r) k := by
  unfold outCodes
  rw [View.canon_unit_zero (by funext a; match a with | ⟨0, _⟩ => rfl | ⟨1, _⟩ => rfl), pay59_apply, amax_apply,
    View.ld_unit_zero (by funext a; match a with | ⟨0, _⟩ => rfl | ⟨1, _⟩ => rfl), acts_apply]
  rfl

theorem outSum_apply (x13 : Vec Ideal S5632x2048 .fp8e4m3) (x5 : Vec Ideal S256x2048 .f32) (x14 : Vec Ideal S1x2048 .f32) (r : Fin 256) (k : Fin 2048) :
    outSum (F := Ideal) x3 x4 x9 x10 x11 x12 x13 x5 x14 (ix2 r k)
      = Spec.out (rowAct x3 x4 x9 x10 x11 x12 r) (fun i => x13 (ix2 i k)) (x14 (ix2 0 k)) (x5 (ix2 r k)) := by
  unfold outSum
  rw [View.canon_unit_zero (by funext a; match a with | ⟨0, _⟩ => rfl | ⟨1, _⟩ => rfl), pay60_apply, pay57_apply, amax_apply,
    View.ld_unit_zero (by funext a; match a with | ⟨0, _⟩ => rfl | ⟨1, _⟩ => rfl), View.ld_unit_zero (by funext a; match a with | ⟨0, _⟩ => rfl | ⟨1, _⟩ => rfl),
    View.ld_unit_zero (by funext a; match a with | ⟨0, _⟩ => rfl | ⟨1, _⟩ => rfl), View.ld_unit_zero (by funext a; match a with | ⟨0, _⟩ => rfl | ⟨1, _⟩ => rfl)]
  simp only [outCodes_apply]
  rfl

end Cert.KernelIdeal.Mlp

end
-- ==== Proof.Value.Whole.lean ====
/- The three results as whole arrays of the arguments. -/
module

public import proofs.«01_k».proof.Proof.Value.Spec

@[expose] public section

noncomputable section

namespace Cert.Spec

open Idealize.ShloMosaic Cert.Pow2
open scoped BigOperators

variable (c3 : (⟨2, ![2048, 2048]⟩ : Shape).Idx → EReal) (a3 : (⟨3, ![8, 1, 256]⟩ : Shape).Idx → EReal)
  (wg : (⟨2, ![2048, 5632]⟩ : Shape).Idx → EReal) (sg : (⟨1, ![5632]⟩ : Shape).Idx → EReal)
  (wu : (⟨2, ![2048, 5632]⟩ : Shape).Idx → EReal) (su : (⟨1, ![5632]⟩ : Shape).Idx → EReal)
  (wd : (⟨2, ![5632, 2048]⟩ : Shape).Idx → EReal) (sd : (⟨1, ![2048]⟩ : Shape).Idx → EReal) (attn : (⟨2, ![2048, 2048]⟩ : Shape).Idx → EReal)

/-- Row `r`'s activations; the row scales stand in eight blocks of 256. -/
def row (r : Fin 2048) (k : Fin 5632) : EReal :=
  act (lin (fun i => c3 (ix2 r i)) (a3 (ix3 ⟨r.val / 256, by omega⟩ 0 ⟨r.val % 256, by omega⟩)) (fun i => wg (ix2 i k)) (sg (ix1 k)))
    (lin (fun i => c3 (ix2 r i)) (a3 (ix3 ⟨r.val / 256, by omega⟩ 0 ⟨r.val % 256, by omega⟩)) (fun i => wu (ix2 i k)) (su (ix1 k)))

/-- The residual plus the projection. -/
def delta : (⟨2, ![2048, 2048]⟩ : Shape).Idx → EReal := fun y =>
  out (row c3 a3 wg sg wu su (y 0)) (fun i => wd (ix2 i (y 1))) (sd (ix1 (y 1))) (attn (ix2 (y 0) (y 1)))

/-- The codes. -/
def codes : (⟨2, ![2048, 5632]⟩ : Shape).Idx → EReal := fun y => code (row c3 a3 wg sg wu su (y 0)) (y 1)

/-- The row of entry `l` of block `b`. -/
def rowOf (b : Fin 8) (l : Fin 256) : Fin 2048 := ⟨b.val * 256 + l.val, by omega⟩

/-- The rows' scales. -/
def scales : (⟨3, ![8, 1, 256]⟩ : Shape).Idx → EReal := fun y => scale (peak (row c3 a3 wg sg wu su (rowOf (y 0) (y 2))))

end Cert.Spec

end
-- ==== Proof.Value.KernelArrays.lean ====
/- The kernel's three result arrays, from the arguments. -/
module

public import proofs.«01_k».proof.Proof.KernelIdeal.Frame
public import proofs.«01_k».proof.Proof.Value.KernelOut
public import proofs.«01_k».proof.Proof.Value.Whole
public import Idealize.ShloMosaic.Lib.Pipeline.ValueKit.Point

@[expose] public section

set_option maxRecDepth 16384

noncomputable section

namespace Cert.KernelIdeal.Mlp

open Cert.KernelIdeal Cert.KernelIdeal.Gen Cert.Pow2
open Idealize.ShloMosaic Idealize.ShloMosaic.TcCoe Idealize.ShloMosaic.Tactic
open Idealize.SL Idealize.SL.RA Idealize.SL.Sem
open scoped BigOperators

variable (m : (ℓ : Loc nD τ sig) → Buf (Elt Ideal) ℓ) (c : Dev nD)

/-! ## The blocks read -/

theorem ix_2 : ∀ t : Fin cfg0.N, win0_2.index t = ![t.val, 0] := (by decide +kernel : ∀ t : Fin grid0.N, _)
theorem ix_3 : ∀ t : Fin cfg0.N, win0_3.index t = ![t.val, 0, 0] := (by decide +kernel : ∀ t : Fin grid0.N, _)
theorem ix_4 : ∀ t : Fin cfg0.N, win0_4.index t = ![t.val, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![0, 0] := (by decide +kernel : ∀ t : Fin grid0.N, _)
theorem ix_10 : ∀ t : Fin cfg0.N, win0_10.index t = ![0, 0] := (by decide +kernel : ∀ t : Fin grid0.N, _)
theorem ix_11 : ∀ t : Fin cfg0.N, win0_11.index t = ![0, 0] := (by decide +kernel : ∀ t : Fin grid0.N, _)
theorem ix_12 : ∀ t : Fin cfg0.N, win0_12.index t = ![0, 0] := (by decide +kernel : ∀ t : Fin grid0.N, _)
theorem ix_13 : ∀ t : Fin cfg0.N, win0_13.index t = ![0, 0] := (by decide +kernel : ∀ t : Fin grid0.N, _)
theorem ix_14 : ∀ t : Fin cfg0.N, win0_14.index t = ![t.val, 0] := (by decide +kernel : ∀ t : Fin grid0.N, _)
theorem ix_15 : ∀ t : Fin cfg0.N, win0_15.index t = ![t.val, 0] := (by decide +kernel : ∀ t : Fin grid0.N, _)
theorem ix_16 : ∀ t : Fin cfg0.N, win0_16.index t = ![t.val, 0, 0] := (by decide +kernel : ∀ t : Fin grid0.N, _)

/-- The global row of row `r` of point `t`'s block. -/
def grow (t : Fin cfg0.N) (r : Fin 256) : Fin 2048 := ⟨t.val * 256 + r.val, by have := t.isLt; have e : cfg0.N = 8 := N_0; omega⟩
/-- The point as a block number. -/
def gblk (t : Fin cfg0.N) : Fin 8 := ⟨t.val, by have := t.isLt; have e : cfg0.N = 8 := N_0; omega⟩

theorem rd2 (t : Fin cfg0.N) (r : Fin 256) (i : Fin 2048) :
    iblk m c 2 t (ix2 r i) = m ((c : Thread nD τ).loc main_arg2) (ix2 (grow t r) i) := by
  rw [← V_main_arg2 m c]; unfold grow; blk_ext! [iblk, ix_2 t]
theorem rd3 (t : Fin cfg0.N) (r : Fin 256) :
    iblk m c 3 t (ix3 0 0 r) = m ((c : Thread nD τ).loc main_arg3) (ix3 (gblk t) 0 r) := by
  rw [← V_main_arg3 m c]; unfold gblk; blk_ext! [iblk, ix_3 t]
theorem rd4 (t : Fin cfg0.N) (r : Fin 256) (i : Fin 2048) :
    iblk m c 4 t (ix2 r i) = m ((c : Thread nD τ).loc main_arg4) (ix2 (grow t r) i) := by
  rw [← V_main_arg4 m c]; unfold grow; blk_ext! [iblk, ix_4 t]
theorem rd8 (t : Fin cfg0.N) (i : Fin 2048) (k : Fin 5632) :
    iblk m c 8 t (ix2 i k) = m ((c : Thread nD τ).loc main_arg7) (ix2 i k) := by
  rw [← V_main_arg7 m c]; blk_ext! [iblk, ix_8 t]
theorem rd10 (t : Fin cfg0.N) (i : Fin 2048) (k : Fin 5632) :
    iblk m c 10 t (ix2 i k) = m ((c : Thread nD τ).loc main_arg9) (ix2 i k) := by
  rw [← V_main_arg9 m c]; blk_ext! [iblk, ix_10 t]
theorem rd12 (t : Fin cfg0.N) (i : Fin 5632) (k : Fin 2048) :
    iblk m c 12 t (ix2 i k) = m ((c : Thread nD τ).loc main_arg11) (ix2 i k) := by
  rw [← V_main_arg11 m c]; blk_ext! [iblk, ix_12 t]
theorem rd9 (t : Fin cfg0.N) (k : Fin 5632) :
    iblk m c 9 t (ix2 0 k) = m ((c : Thread nD τ).loc main_arg8) (ix1 k) := by
  blk_ext! [iblk, ix_9 t]
theorem rd11 (t : Fin cfg0.N) (k : Fin 5632) :
    iblk m c 11 t (ix2 0 k) = m ((c : Thread nD τ).loc main_arg10) (ix1 k) := by
  blk_ext! [iblk, ix_11 t]
theorem rd13 (t : Fin cfg0.N) (k : Fin 2048) :
    iblk m c 13 t (ix2 0 k) = m ((c : Thread nD τ).loc main_arg12) (ix1 k) := by
  blk_ext! [iblk, ix_13 t]

/-- The whole arrays' row. -/
def wrow (r : Fin 2048) : Fin 5632 → EReal :=
  Spec.row (m ((c : Thread nD τ).loc main_arg2)) (m ((c : Thread nD τ).loc main_arg3)) (m ((c : Thread nD τ).loc main_arg7)) (m ((c : Thread nD τ).loc main_arg8))
    (m ((c : Thread nD τ).loc main_arg9)) (m ((c : Thread nD τ).loc main_arg10)) r

theorem row_eq (t : Fin cfg0.N) (r : Fin 256) :
    rowAct (iblk m c 2 t) (iblk m c 3 t) (iblk m c 8 t) (iblk m c 9 t) (iblk m c 10 t) (iblk m c 11 t) r = wrow m c (grow t r) := by
  funext k
  have e0 : (⟨(grow t r).val / 256, by omega⟩ : Fin 8) = gblk t := Fin.ext (by unfold grow gblk; show (t.val * 256 + r.val) / 256 = t.val; omega)
  have e1 : (⟨(grow t r).val % 256, by omega⟩ : Fin 256) = r := Fin.ext (by unfold grow; show (t.val * 256 + r.val) % 256 = r.val; omega)
  unfold rowAct wrow Spec.row
  rw [e0, e1, rd3, rd9, rd11]
  simp only [rd2, rd8, rd10]

/-! ## The result arrays -/

/-- The sum. -/
theorem arr14 : (dats m 0 c).arrAt 14 cfg0.N
    = Spec.delta (m ((c : Thread nD τ).loc main_arg2)) (m ((c : Thread nD τ).loc main_arg3)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) (m ((c : Thread nD τ).loc main_arg4)) := by
  refine (dats m 0 c).arrAt_eq_of_covers 14 _ (by decide +kernel) fun t hf y => ?_
  blk_simp
  rw [after0_14]
  obtain ⟨r, k, rfl⟩ : ∃ (r : Fin 256) (k : Fin 2048), y = ix2 r k := ⟨y 0, y 1, eq_ix2 y⟩
  have e : ((cfg0.win 14).blk t).view.emb (ix2 r k) = ix2 (grow t r) k := by unfold grow; blk_ext [ix_14 t]
  rw [e]
  refine (outSum_apply _ _ _ _ _ _ _ _ _ r k).trans ?_
  rw [row_eq, rd13, rd4]
  simp only [rd12]
  rfl

/-- The codes. -/
theorem arr15 : (dats m 0 c).arrAt 15 cfg0.N
    = Spec.codes (m ((c : Thread nD τ).loc main_arg2)) (m ((c : Thread nD τ).loc main_arg3)) (m ((c : Thread nD τ).loc main_arg7)) (m ((c : Thread nD τ).loc main_arg8))
        (m ((c : Thread nD τ).loc main_arg9)) (m ((c : Thread nD τ).loc main_arg10)) := by
  refine (dats m 0 c).arrAt_eq_of_covers 15 _ (by decide +kernel) fun t hf y => ?_
  blk_simp
  rw [after0_15]
  obtain ⟨r, k, rfl⟩ : ∃ (r : Fin 256) (k : Fin 5632), y = ix2 r k := ⟨y 0, y 1, eq_ix2 y⟩
  have e : ((cfg0.win 15).blk t).view.emb (ix2 r k) = ix2 (grow t r) k := by unfold grow; blk_ext [ix_15 t]
  rw [e]
  refine (outCodes_apply _ _ _ _ _ _ r k).trans ?_
  rw [row_eq]
  rfl

/-- The scales. -/
theorem arr16 : (dats m 0 c).arrAt 16 cfg0.N
    = Spec.scales (m ((c : Thread nD τ).loc main_arg2)) (m ((c : Thread nD τ).loc main_arg3)) (m ((c : Thread nD τ).loc main_arg7)) (m ((c : Thread nD τ).loc main_arg8))
        (m ((c : Thread nD τ).loc main_arg9)) (m ((c : Thread nD τ).loc main_arg10)) := by
  refine (dats m 0 c).arrAt_eq_of_covers 16 _ (by decide +kernel) fun t hf y => ?_
  blk_simp
  rw [after0_16]
  obtain ⟨a, b, r, rfl⟩ : ∃ (a b : Fin 1) (r : Fin 256), y = ix3 a b r := ⟨y 0, y 1, y 2, eq_ix3 y⟩
  obtain rfl : a = 0 := Subsingleton.elim _ _
  obtain rfl : b = 0 := Subsingleton.elim _ _
  have e : ((cfg0.win 16).blk t).view.emb (ix3 0 0 r) = ix3 (gblk t) 0 r := by unfold gblk; blk_ext [ix_16 t]
  rw [e]
  refine (outScale_apply _ _ _ _ _ _ r).trans ?_
  rw [row_eq]
  rfl

/-- The run, with the three results named and the arguments unchanged. -/
theorem values (ρ : Dev nD → PrngReg) (hT : Tables m) : θ_run defs (onTc (τ := τ) (main (F := Ideal))) ⟨m, fun _ => 0, ρ⟩ (fun r => ∀ c : Dev nD,
      r.2.mem ((c.tc : Thread nD τ).loc main_v3_1) = Spec.delta (m ((c : Thread nD τ).loc main_arg2)) (m ((c : Thread nD τ).loc main_arg3)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) (m ((c : Thread nD τ).loc main_arg4))
      ∧ r.2.mem ((c.tc : Thread nD τ).loc main_v3_2) = Spec.codes (m ((c : Thread nD τ).loc main_arg2)) (m ((c : Thread nD τ).loc main_arg3)) (m ((c : Thread nD τ).loc main_arg7)) (m ((c : Thread nD τ).loc main_arg8))
        (m ((c : Thread nD τ).loc main_arg9)) (m ((c : Thread nD τ).loc main_arg10))
      ∧ r.2.mem ((c.tc : Thread nD τ).loc main_v3_3) = Spec.scales (m ((c : Thread nD τ).loc main_arg2)) (m ((c : Thread nD τ).loc main_arg3)) (m ((c : Thread nD τ).loc main_arg7)) (m ((c : Thread nD τ).loc main_arg8))
        (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h.1.1 c).1 14 |>.trans (arr14 m c), (h.1.1 c).1 15 |>.trans (arr15 m c), (h.1.1 c).1 16 |>.trans (arr16 m c), h.2.1 c⟩)
    (θ_run_and (run_main m ρ hT) (frame m ρ hT))

end Cert.KernelIdeal.Mlp

end
-- ==== Proof.Value.Reference.lean ====
/- The reference's three results, entry by entry. -/
module

public import proofs.«01_k».proof.Proof.Gen.ReferenceIdeal.Frame
public import proofs.«01_k».proof.Proof.Value.Spec

@[expose] public section

set_option maxRecDepth 16384

noncomputable section

namespace Cert.ReferenceIdeal.Mlp

open Cert.ReferenceIdeal Cert.ReferenceIdeal.Gen Cert.Pow2
open Idealize.ShloMosaic
open scoped BigOperators

variable (x0 : Vec Ideal S2048x2048 .fp8e4m3) (x1 : Vec Ideal S2048x1 .f32) (x2 : Vec Ideal S2048x5632 .fp8e4m3) (x3 : Vec Ideal S1x5632 .f32)
  (x4 : Vec Ideal S2048x5632 .fp8e4m3) (x5 : Vec Ideal S1x5632 .f32)

/-- Row `r`'s activation at column `k`, from the whole arrays. -/
def rowAct (r : Fin 2048) (k : Fin 5632) : EReal :=
  Spec.act (Spec.lin (fun i => x0 (ix2 r i)) (x1 (ix2 r 0)) (fun i => x2 (ix2 i k)) (x3 (ix2 0 k)))
    (Spec.lin (fun i => x0 (ix2 r i)) (x1 (ix2 r 0)) (fun i => x4 (ix2 i k)) (x5 (ix2 0 k)))

theorem pay5_apply (r : Fin 2048) (k : Fin 5632) :
    k0_pay5 (F := Ideal) x0 x2 x1 x3 x0 x4 x1 x5 (ix2 r k) = rowAct x0 x1 x2 x3 x4 x5 r k := by
  unfold rowAct Spec.act Spec.lin
  pointwise [k0_pay5]

/-! ## The reference's steps, over any vectors -/

theorem log_eq (x : Ideal .f32) : Scalar.log x = Ideal.log x := rfl
theorem exp2_eq (x : Ideal .f32) : FloatOps.exp2 x = Ideal.exp2 x := rfl

theorem column_apply (M : FVec Ideal S2048 .f32) (r : Fin 2048) :
    mulf (shapeCast S2048x1 M shapeCasts_S2048_S2048x1) (broadcast S2048x1 (Scalar.ofBits .f32 0x3B124925#32 : Ideal .f32)) (ix2 r 0)
      = M (ix1 r) * Ideal.ofBits .f32 0x3B124925#32 := by
  pointwise

theorem absf_apply (A : FVec Ideal S2048x5632 .f32) (y : S2048x5632.Idx) : absf A y = max (A y) (-(A y)) := rfl

/-- The largest magnitude of a row over the largest code. -/
theorem peak_apply (A : FVec Ideal S2048x5632 .f32) (r : Fin 2048) :
    mulf (shapeCast S2048x1 (multiReduction .maximumf [1] S2048 (absf A) 0xFF800000#32 reduces_S2048x5632_S2048 (.inl rfl) rfl) shapeCasts_S2048_S2048x1)
        (broadcast S2048x1 (Scalar.ofBits .f32 0x3B124925#32 : Ideal .f32)) (ix2 r 0)
      = Spec.peak fun k => A (ix2 r k) := by
  rw [column_apply, Spec.rowFold (absf A) reduces_S2048x5632_S2048 (.inl rfl) rfl r]
  unfold Spec.peak
  simp only [absf_apply]

/-- The exponent before its bounds. -/
theorem whole_apply (V : FVec Ideal S2048x1 .f32) (r : Fin 2048) :
    addf (floor (divf (log V) (broadcast S2048x1 (Scalar.log (Scalar.ofBits .f32 0x40000000#32 : Ideal .f32))))) (broadcast S2048x1 (Scalar.ofBits .f32 0x3F800000#32 : Ideal .f32)) (ix2 r 0)
      = Ideal.liftRound Int.floor (Ideal.div (Ideal.log (V (ix2 r 0))) (Ideal.log (Ideal.ofBits .f32 0x40000000#32))) + 1 := by
  pointwise
  rw [log_eq]

theorem bound_apply (V W : FVec Ideal S2048x1 .f32) (r : Fin 2048) :
    k0_pay1 (F := Ideal) V W (Scalar.ofBits .f32 0x42FC0000#32) (ix2 r 0)
      = if V (ix2 r 0) < Ideal.ofBits .f32 0x00800000#32 then 0 else min (W (ix2 r 0)) (Ideal.ofBits .f32 0x42FC0000#32) := by
  pointwise [k0_pay1]

theorem code_apply (A : FVec Ideal S2048x5632 .f32) (V W : FVec Ideal S2048x1 .f32) (r : Fin 2048) (k : Fin 5632) :
    k0_pay2 (F := Ideal) A V W (Scalar.ofBits .f32 0x42FC0000#32) (ix2 r k)
      = min (Ideal.ofBits .f32 0x43E00000#32) (max (Ideal.ofBits .f32 0xC3E00000#32)
          (A (ix2 r k) * Ideal.exp2 (0 - k0_pay1 (F := Ideal) V W (Scalar.ofBits .f32 0x42FC0000#32) (ix2 r 0)))) := by
  unfold k0_pay2
  generalize k0_pay1 (F := Ideal) V W (Scalar.ofBits .f32 0x42FC0000#32) = E
  pointwise
  rw [exp2_eq]

theorem blocks_apply (E : FVec Ideal S2048x1 .f32) (b : Fin 8) (l : Fin 256) :
    shapeCast S8x1x256 (exp2 E) shapeCasts_S2048x1_S8x1x256 (ix3 b 0 l) = Ideal.exp2 (E (ix2 ⟨b.val * 256 + l.val, by omega⟩ 0)) := by
  pointwise
  rw [exp2_eq]

theorem sum_apply (Q : FVec Ideal S2048x5632 .fp8e4m3) (E : FVec Ideal S2048x1 .f32) (x6 : FVec Ideal S5632x2048 .fp8e4m3) (x7 : FVec Ideal S1x2048 .f32)
    (x8 : FVec Ideal S2048x2048 .f32) (r k : Fin 2048) :
    addf x8 (mulf (mulf (matmul dot_S2048x5632_S5632x2048_S2048x2048_1_0_0_1_n_n none Q x6 (constant (F := Ideal) S2048x2048 .f32 0x00000000#32))
        (broadcastTo S2048x2048 (exp2 E) broadcasts_S2048x1_S2048x2048)) (broadcastTo S2048x2048 (shapeCast S1x2048 x7 shapeCasts_S1x2048_S1x2048) broadcasts_S1x2048_S2048x2048)) (ix2 r k)
      = x8 (ix2 r k) + (∑ i : Fin 5632, Q (ix2 r i) * x6 (ix2 i k)) * Ideal.exp2 (E (ix2 r 0)) * x7 (ix2 0 k) := by
  pointwise
  rw [exp2_eq]

/-! ## The reference's values -/

theorem pay6_apply (r : Fin 2048) :
    k0_pay6 (F := Ideal) x0 x2 x1 x3 x0 x4 x1 x5 (ix2 r 0) = Spec.peak (rowAct x0 x1 x2 x3 x4 x5 r) := by
  unfold k0_pay6
  exact (peak_apply _ r).trans (congrArg Spec.peak (funext fun k => pay5_apply x0 x1 x2 x3 x4 x5 r k))

theorem pay7_apply (r : Fin 2048) :
    k0_pay7 (F := Ideal) x0 x2 x1 x3 x0 x4 x1 x5 (ix2 r 0)
      = Ideal.liftRound Int.floor (Ideal.div (Ideal.log (Spec.peak (rowAct x0 x1 x2 x3 x4 x5 r))) (Ideal.log (Ideal.ofBits .f32 0x40000000#32))) + 1 := by
  rw [← pay6_apply]
  unfold k0_pay7
  exact whole_apply _ r

/-- The exponent. -/
theorem pay1_apply (r : Fin 2048) :
    k0_pay1 (F := Ideal) (k0_pay6 x0 x2 x1 x3 x0 x4 x1 x5) (k0_pay7 x0 x2 x1 x3 x0 x4 x1 x5) (Scalar.ofBits .f32 0x42FC0000#32) (ix2 r 0)
      = expo (Spec.peak (rowAct x0 x1 x2 x3 x4 x5 r)) := by
  rw [bound_apply, pay6_apply, pay7_apply]
  rfl

/-- A code. -/
theorem pay2_apply (r : Fin 2048) (k : Fin 5632) :
    k0_pay2 (F := Ideal) (k0_pay5 x0 x2 x1 x3 x0 x4 x1 x5) (k0_pay6 x0 x2 x1 x3 x0 x4 x1 x5) (k0_pay7 x0 x2 x1 x3 x0 x4 x1 x5) (Scalar.ofBits .f32 0x42FC0000#32) (ix2 r k)
      = Spec.code (rowAct x0 x1 x2 x3 x4 x5 r) k := by
  rw [code_apply, pay1_apply, pay5_apply]
  rfl

/-- The scales as row blocks. -/
theorem pay3_apply (b : Fin 8) (l : Fin 256) :
    k0_pay3 (F := Ideal) (k0_pay6 x0 x2 x1 x3 x0 x4 x1 x5) (k0_pay7 x0 x2 x1 x3 x0 x4 x1 x5) (Scalar.ofBits .f32 0x42FC0000#32) (ix3 b 0 l)
      = scale (Spec.peak (rowAct x0 x1 x2 x3 x4 x5 ⟨b.val * 256 + l.val, by omega⟩)) := by
  unfold k0_pay3 scale
  rw [blocks_apply, pay1_apply]

/-- An entry of the sum. -/
theorem pay4_apply (x6 : Vec Ideal S5632x2048 .fp8e4m3) (x7 : Vec Ideal S1x2048 .f32) (x8 : Vec Ideal S2048x2048 .f32) (r k : Fin 2048) :
    k0_pay4 (F := Ideal) (k0_pay5 x0 x2 x1 x3 x0 x4 x1 x5) (k0_pay6 x0 x2 x1 x3 x0 x4 x1 x5) (k0_pay7 x0 x2 x1 x3 x0 x4 x1 x5) (Scalar.ofBits .f32 0x42FC0000#32) x6 x8 x7 (ix2 r k)
      = Spec.out (rowAct x0 x1 x2 x3 x4 x5 r) (fun i => x6 (ix2 i k)) (x7 (ix2 0 k)) (x8 (ix2 r k)) := by
  unfold k0_pay4
  refine (sum_apply _ _ x6 x7 x8 r k).trans ?_
  rw [pay1_apply]
  simp only [pay2_apply]
  rfl

/-! ## The result windows -/

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

variable (x6 : Vec Ideal S5632x2048 .fp8e4m3) (x7 : Vec Ideal S1x2048 .f32) (x8 : Vec Ideal S2048x2048 .f32)

theorem pay8_eq : k0_pay8 (F := Ideal) x0 x1 x2 x3 x4 x5 x6 x7 x8 = k0_pay5 x0 x2 x1 x3 x0 x4 x1 x5 := by
  unfold k0_pay8
  simp only [View.ld_unit_zero (S := S2048x2048) zero2, View.ld_unit_zero (S := S2048x5632) zero2, View.ld_unit_zero (S := S2048x1) zero2, View.ld_unit_zero (S := S1x5632) zero2]
theorem pay9_eq : k0_pay9 (F := Ideal) x0 x1 x2 x3 x4 x5 x6 x7 x8 = k0_pay6 x0 x2 x1 x3 x0 x4 x1 x5 := by
  unfold k0_pay9
  simp only [View.ld_unit_zero (S := S2048x2048) zero2, View.ld_unit_zero (S := S2048x5632) zero2, View.ld_unit_zero (S := S2048x1) zero2, View.ld_unit_zero (S := S1x5632) zero2]
theorem pay10_eq : k0_pay10 (F := Ideal) x0 x1 x2 x3 x4 x5 x6 x7 x8 = k0_pay7 x0 x2 x1 x3 x0 x4 x1 x5 := by
  unfold k0_pay10
  simp only [View.ld_unit_zero (S := S2048x2048) zero2, View.ld_unit_zero (S := S2048x5632) zero2, View.ld_unit_zero (S := S2048x1) zero2, View.ld_unit_zero (S := S1x5632) zero2]

theorem out9_apply (r k : Fin 2048) :
    out0_9 (F := Ideal) x0 x1 x2 x3 x4 x5 x6 x7 x8 (ix2 r k)
      = Spec.out (rowAct x0 x1 x2 x3 x4 x5 r) (fun i => x6 (ix2 i k)) (x7 (ix2 0 k)) (x8 (ix2 r k)) := by
  unfold out0_9
  rw [View.canon_unit_zero zero2, pay8_eq, pay9_eq, pay10_eq, View.ld_unit_zero zero2, View.ld_unit_zero zero2, View.ld_unit_zero zero2, pay4_apply]

theorem out10_apply (r : Fin 2048) (k : Fin 5632) :
    out0_10 (F := Ideal) x0 x1 x2 x3 x4 x5 x6 x7 x8 (ix2 r k) = Spec.code (rowAct x0 x1 x2 x3 x4 x5 r) k := by
  unfold out0_10
  rw [View.canon_unit_zero zero2, pay8_eq, pay9_eq, pay10_eq, pay2_apply]

theorem out11_apply (b : Fin 8) (l : Fin 256) :
    out0_11 (F := Ideal) x0 x1 x2 x3 x4 x5 x6 x7 x8 (ix3 b 0 l) = scale (Spec.peak (rowAct x0 x1 x2 x3 x4 x5 ⟨b.val * 256 + l.val, by omega⟩)) := by
  unfold out0_11
  rw [View.canon_unit_zero zero3, pay9_eq, pay10_eq, pay3_apply]

end Cert.ReferenceIdeal.Mlp

end
-- ==== Proof.Value.ReferenceArrays.lean ====
/- The reference's three result arrays, from the arguments. -/
module

public import proofs.«01_k».proof.Proof.Gen.ReferenceIdeal.Value
public import proofs.«01_k».proof.Proof.Value.Reference
public import proofs.«01_k».proof.Proof.Value.Whole
public import Idealize.ShloMosaic.Lib.Pipeline.ValueKit.Point

@[expose] public section

set_option maxRecDepth 16384

noncomputable section

namespace Cert.ReferenceIdeal.Mlp

open Cert.ReferenceIdeal Cert.ReferenceIdeal.Gen Cert.Pow2
open Idealize.ShloMosaic Idealize.ShloMosaic.TcCoe Idealize.ShloMosaic.Tactic
open Idealize.SL Idealize.SL.RA Idealize.SL.Sem
open scoped BigOperators

variable (m : (ℓ : Loc nD τ sig) → Buf (Elt Ideal) ℓ) (c : Dev nD)

/-! ## The operands read -/

theorem ix_0 : ∀ t : Fin cfg0.N, win0_0.index t = ![0, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0] := (by decide +kernel : ∀ t : Fin grid0.N, _)
theorem ix_7 : ∀ t : Fin cfg0.N, win0_7.index t = ![0, 0] := (by decide +kernel : ∀ t : Fin grid0.N, _)
theorem ix_8 : ∀ t : Fin cfg0.N, win0_8.index t = ![0, 0] := (by decide +kernel : ∀ t : Fin grid0.N, _)
theorem ix_9 : ∀ t : Fin cfg0.N, win0_9.index t = ![0, 0] := (by decide +kernel : ∀ t : Fin grid0.N, _)
theorem ix_10 : ∀ t : Fin cfg0.N, win0_10.index t = ![0, 0] := (by decide +kernel : ∀ t : Fin grid0.N, _)
theorem ix_11 : ∀ t : Fin cfg0.N, win0_11.index t = ![0, 0, 0] := (by decide +kernel : ∀ t : Fin grid0.N, _)

theorem rd0 (t : Fin cfg0.N) (r i : Fin 2048) :
    iblk m c 0 t (ix2 r i) = m ((c : Thread nD τ).loc main_arg2) (ix2 r i) := by
  rw [← V_main_arg2 m c]; blk_ext! [iblk, ix_0 t]
theorem rd1 (t : Fin cfg0.N) (r : Fin 2048) :
    iblk m c 1 t (ix2 r 0) = m ((c : Thread nD τ).loc main_arg3) (ix3 ⟨r.val / 256, by omega⟩ 0 ⟨r.val % 256, by omega⟩) := by
  blk_ext! [iblk, ix_1 t]
theorem rd2 (t : Fin cfg0.N) (i : Fin 2048) (k : Fin 5632) :
    iblk m c 2 t (ix2 i k) = m ((c : Thread nD τ).loc main_arg7) (ix2 i k) := by
  rw [← V_main_arg7 m c]; blk_ext! [iblk, ix_2 t]
theorem rd3 (t : Fin cfg0.N) (k : Fin 5632) :
    iblk m c 3 t (ix2 0 k) = m ((c : Thread nD τ).loc main_arg8) (ix1 k) := by
  blk_ext! [iblk, ix_3 t]
theorem rd4 (t : Fin cfg0.N) (i : Fin 2048) (k : Fin 5632) :
    iblk m c 4 t (ix2 i k) = m ((c : Thread nD τ).loc main_arg9) (ix2 i k) := by
  rw [← V_main_arg9 m c]; blk_ext! [iblk, ix_4 t]
theorem rd5 (t : Fin cfg0.N) (k : Fin 5632) :
    iblk m c 5 t (ix2 0 k) = m ((c : Thread nD τ).loc main_arg10) (ix1 k) := by
  blk_ext! [iblk, ix_5 t]
theorem rd6 (t : Fin cfg0.N) (i : Fin 5632) (k : Fin 2048) :
    iblk m c 6 t (ix2 i k) = m ((c : Thread nD τ).loc main_arg11) (ix2 i k) := by
  rw [← V_main_arg11 m c]; blk_ext! [iblk, ix_6 t]
theorem rd7 (t : Fin cfg0.N) (k : Fin 2048) :
    iblk m c 7 t (ix2 0 k) = m ((c : Thread nD τ).loc main_arg12) (ix1 k) := by
  blk_ext! [iblk, ix_7 t]
theorem rd8 (t : Fin cfg0.N) (r i : Fin 2048) :
    iblk m c 8 t (ix2 r i) = m ((c : Thread nD τ).loc main_arg4) (ix2 r i) := by
  rw [← V_main_arg4 m c]; blk_ext! [iblk, ix_8 t]

/-- The whole arrays' row. -/
def wrow (r : Fin 2048) : Fin 5632 → EReal :=
  Spec.row (m ((c : Thread nD τ).loc main_arg2)) (m ((c : Thread nD τ).loc main_arg3)) (m ((c : Thread nD τ).loc main_arg7)) (m ((c : Thread nD τ).loc main_arg8))
    (m ((c : Thread nD τ).loc main_arg9)) (m ((c : Thread nD τ).loc main_arg10)) r

theorem row_eq (t : Fin cfg0.N) (r : Fin 2048) :
    rowAct (iblk m c 0 t) (iblk m c 1 t) (iblk m c 2 t) (iblk m c 3 t) (iblk m c 4 t) (iblk m c 5 t) r = wrow m c r := by
  funext k
  unfold rowAct wrow Spec.row
  rw [rd1, rd3, rd5]
  simp only [rd0, rd2, rd4]

/-! ## The result arrays -/

/-- The sum. -/
theorem arr9 : (dats m 0 c).arrAt 9 cfg0.N
    = Spec.delta (m ((c : Thread nD τ).loc main_arg2)) (m ((c : Thread nD τ).loc main_arg3)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) (m ((c : Thread nD τ).loc main_arg4)) := by
  refine (dats m 0 c).arrAt_eq_of_covers 9 _ (by decide +kernel) fun t hf y => ?_
  blk_simp
  rw [after0_9]
  obtain ⟨r, k, rfl⟩ : ∃ (r k : Fin 2048), y = ix2 r k := ⟨y 0, y 1, eq_ix2 y⟩
  have e : ((cfg0.win 9).blk t).view.emb (ix2 r k) = ix2 r k := by blk_ext [ix_9 t]
  rw [e]
  refine (out9_apply _ _ _ _ _ _ _ _ _ r k).trans ?_
  rw [row_eq, rd7, rd8]
  simp only [rd6]
  rfl

/-- The codes. -/
theorem arr10 : (dats m 0 c).arrAt 10 cfg0.N
    = Spec.codes (m ((c : Thread nD τ).loc main_arg2)) (m ((c : Thread nD τ).loc main_arg3)) (m ((c : Thread nD τ).loc main_arg7)) (m ((c : Thread nD τ).loc main_arg8))
        (m ((c : Thread nD τ).loc main_arg9)) (m ((c : Thread nD τ).loc main_arg10)) := by
  refine (dats m 0 c).arrAt_eq_of_covers 10 _ (by decide +kernel) fun t hf y => ?_
  blk_simp
  rw [after0_10]
  obtain ⟨r, k, rfl⟩ : ∃ (r : Fin 2048) (k : Fin 5632), y = ix2 r k := ⟨y 0, y 1, eq_ix2 y⟩
  have e : ((cfg0.win 10).blk t).view.emb (ix2 r k) = ix2 r k := by blk_ext [ix_10 t]
  rw [e]
  refine (out10_apply _ _ _ _ _ _ _ _ _ r k).trans ?_
  rw [row_eq]
  rfl

/-- The scales. -/
theorem arr11 : (dats m 0 c).arrAt 11 cfg0.N
    = Spec.scales (m ((c : Thread nD τ).loc main_arg2)) (m ((c : Thread nD τ).loc main_arg3)) (m ((c : Thread nD τ).loc main_arg7)) (m ((c : Thread nD τ).loc main_arg8))
        (m ((c : Thread nD τ).loc main_arg9)) (m ((c : Thread nD τ).loc main_arg10)) := by
  refine (dats m 0 c).arrAt_eq_of_covers 11 _ (by decide +kernel) fun t hf y => ?_
  blk_simp
  rw [after0_11]
  obtain ⟨b, a, l, rfl⟩ : ∃ (b : Fin 8) (a : Fin 1) (l : Fin 256), y = ix3 b a l := ⟨y 0, y 1, y 2, eq_ix3 y⟩
  obtain rfl : a = 0 := Subsingleton.elim _ _
  have e : ((cfg0.win 11).blk t).view.emb (ix3 b 0 l) = ix3 b 0 l := by blk_ext [ix_11 t]
  rw [e]
  refine (out11_apply _ _ _ _ _ _ _ _ _ b l).trans ?_
  rw [row_eq]
  rfl

/-- The run, with the three results named and the arguments unchanged. -/
theorem values (ρ : Dev nD → PrngReg) : θ_run defs (onTc (τ := τ) (main (F := Ideal))) ⟨m, fun _ => 0, ρ⟩ (fun r => ∀ c : Dev nD,
      r.2.mem ((c.tc : Thread nD τ).loc main_v4_0) = Spec.delta (m ((c : Thread nD τ).loc main_arg2)) (m ((c : Thread nD τ).loc main_arg3)) (m ((c : Thread nD τ).loc main_arg7)) (m ((c : Thread nD τ).loc main_arg8))
        (m ((c : Thread nD τ).loc main_arg9)) (m ((c : Thread nD τ).loc main_arg10)) (m ((c : Thread nD τ).loc main_arg11)) (m ((c : Thread nD τ).loc main_arg12)) (m ((c : Thread nD τ).loc main_arg4))
      ∧ r.2.mem ((c.tc : Thread nD τ).loc main_v4_1) = Spec.codes (m ((c : Thread nD τ).loc main_arg2)) (m ((c : Thread nD τ).loc main_arg3)) (m ((c : Thread nD τ).loc main_arg7)) (m ((c : Thread nD τ).loc main_arg8))
        (m ((c : Thread nD τ).loc main_arg9)) (m ((c : Thread nD τ).loc main_arg10))
      ∧ r.2.mem ((c.tc : Thread nD τ).loc main_v4_2) = Spec.scales (m ((c : Thread nD τ).loc main_arg2)) (m ((c : Thread nD τ).loc main_arg3)) (m ((c : Thread nD τ).loc main_arg7)) (m ((c : Thread nD τ).loc main_arg8))
        (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (arr9 m c), (h c).2.1.trans (arr10 m c), (h c).2.2.1.trans (arr11 m c), (h c).2.2.2⟩)
    (Value.run_blocks m ρ)

end Cert.ReferenceIdeal.Mlp

end
-- ==== Proof.Inside.lean ====
/- What the precondition says of the table of selected positions, read as numbers. -/
module

public import proofs.«01_k».proof.Pre_rows_inside
public import Idealize.ShloMosaic.Lib.Pipeline.Value
public import Idealize.ShloMosaic.Lib.WordCmp

@[expose] public section

set_option maxRecDepth 16384

noncomputable section

namespace Cert.Inside

open Idealize.ShloMosaic Idealize.ShloMosaic.WordCmp Cert.Pre_rows_inside

/-- Every selected position is a position of the sequence. -/
theorem inside_of_pre [Facts] {F : FTy → Type} [FloatOps F] (x0 : IVec S8192x2048 32) (x1 : IVec S2x1024 32) (x2 x3 x4 x5)
    (h : fn (F := F) x0 x1 x2 x3 x4 x5 = fun _ => 1#1) (y : S2x1024.Idx) : (x1 y).toNat < 8192 := by
  have e := congrFun h y
  have hk : ∀ w, broadcastInDim S2x1024 ![] Facts.bcast_S_S2x1024 (constantI S_ 32 w) y = w := fun _ => rfl
  simp only [fn, andi, cmpi, hk] at e
  simp only [cmpi_slt_eq, cmpi_sge_eq, andi_ofBool, ofBool_eq_one_iff] at e
  rw [show (0#32).toInt = 0 from rfl, show (8192#32).toInt = 8192 from rfl] at e
  simp only [Bool.and_eq_true, decide_eq_true_eq] at e
  obtain ⟨ea, eb⟩ := e
  have h32 := (x1 y).isLt
  rw [BitVec.toInt_eq_toNat_cond] at ea eb
  split at ea <;> omega

end Cert.Inside
-- ==== Proof.Qkv.Gather.lean ====
/- Fetching rows of a table: the rows one grid point needs are copied, one transfer each, into one half of a scratch
   buffer, and are waited for at that grid point. What the half holds afterwards, row by row. -/
module

public import proofs.«01_k».proof.Proof.Gen.Qkv.Frame
public import proofs.«01_k».proof.Proof.Gen.Qkv.Skeleton
public import Idealize.ShloMosaic.Lib.ViewIndex
public import Idealize.ShloMosaic.Lib.ShareLeaves
public import Idealize.ShloMosaic.Lib.Ring

@[expose] public section

set_option maxRecDepth 16384

noncomputable section

namespace Cert.Qkv.Gather

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The table, as rows of words. -/
abbrev xM : Memref sig .tc .hbm S8192x2048 .i32 := Memref.whole main_arg0
/-- The scratch: two halves of 256 rows. -/
abbrev scM : Memref sig .tc .vmem S2x256x2048 .i32 := Memref.whole cc0_scratch0

/-- The cell a half's transfers count on, spelt at an offset. -/
abbrev semD (off : Fin 1 → Nat) (h : ∀ a, off a + S1.size a ≤ S2.size a) : DmaSem sig :=
  ((cc0_scratch1.slice (Rect.unit (s := S2) off S1.size h)).squeeze S_ squeezes_S1_S_).sem
theorem sem_inb (p : Fin 2) : ∀ a, (![p.val] : Fin 1 → Nat) a + S1.size a ≤ S2.size a := fun a =>
  match a with | ⟨0, _⟩ => p.isLt
/-- The cell half `p`'s transfers count on. -/
abbrev semL (p : Fin 2) : SemLoc sig := SemLoc.dma (semD ![p.val] (sem_inb p))

/-- A row of the table. -/
abbrev xRow (off : Fin 2 → Nat) (h : ∀ a, off a + S1x2048.size a ≤ S8192x2048.size a) : Memref sig .tc .hbm S1x2048 .i32 :=
  xM.slice (Rect.unit (s := S8192x2048) off S1x2048.size h) (fun _ => rfl)
/-- A row of the scratch. -/
abbrev scRow (off : Fin 3 → Nat) (h : ∀ a, off a + S1x1x2048.size a ≤ S2x256x2048.size a) : Memref sig .tc .vmem S1x2048 .i32 :=
  (scM.slice (Rect.unit (s := S2x256x2048) off S1x1x2048.size h) (fun _ => rfl)).squeeze S1x2048 squeezes_S1x1x2048_S1x2048

theorem x_inb (r : Fin 8192) : ∀ a, (![r.val, 0] : Fin 2 → Nat) a + S1x2048.size a ≤ S8192x2048.size a := fun a =>
  match a with | ⟨0, _⟩ => r.isLt | ⟨1, _⟩ => le_of_eq rfl
theorem sc_inb (p : Fin 2) (j : Fin 256) : ∀ a, (![p.val, j.val, 0] : Fin 3 → Nat) a + S1x1x2048.size a ≤ S2x256x2048.size a := fun a =>
  match a with | ⟨0, _⟩ => p.isLt | ⟨1, _⟩ => j.isLt | ⟨2, _⟩ => le_of_eq rfl
theorem plane_inb (p : Fin 2) : ∀ a, (![p.val, 0, 0] : Fin 3 → Nat) a + S1x256x2048.size a ≤ S2x256x2048.size a := fun a =>
  match a with | ⟨0, _⟩ => p.isLt | ⟨1, _⟩ => le_of_eq rfl | ⟨2, _⟩ => le_of_eq rfl

/-- What one transfer pays. -/
def rowN : ℕ := (scRow ![0, 0, 0] (sc_inb 0 0)).view.dmaCredit
theorem rowN_pos : 0 < rowN := by
  show 0 < (scRow ![0, 0, 0] (sc_inb 0 0)).view.dmaCredit
  decide
theorem amount_scRow (off : Fin 3 → Nat) (h) (p : Fin 2) : (scRow off h).view.amount (semL p) = rowN := rfl

/-- The embedding of the transfers' counters. -/
abbrev EC : UEmb Counters 𝕄 := countersEmb (U := Pipeline.UD sig nD τ)

/-! ## The elements of a row and of a half -/

/-- The elements of row `j` of half `p`. -/
def scSet (c : Dev nD) (p : Fin 2) (j : Fin 256) : Finset (Idx (scM.view.loc (c : Thread nD τ))) :=
  (scRow ![p.val, j.val, 0] (sc_inb p j)).view.set
/-- The elements of half `p`. -/
def plane (c : Dev nD) (p : Fin 2) : Finset (Idx (scM.view.loc (c : Thread nD τ))) :=
  (scM.access (Rect.unit (s := S2x256x2048) ![p.val, 0, 0] S1x256x2048.size (plane_inb p))).set
/-- The elements of a row of the table. -/
def xSet (c : Dev nD) (r : Fin 8192) : Finset (Idx (xM.view.loc (c : Thread nD τ))) :=
  (xRow ![r.val, 0] (x_inb r)).view.set

theorem mem_scSet (c : Dev nD) (p : Fin 2) (j : Fin 256) (x : S2x256x2048.Idx) :
    x ∈ scSet c p j ↔ x 0 = p ∧ x 1 = j := by
  unfold scSet
  rw [show (scRow ![p.val, j.val, 0] (sc_inb p j)).view.set = (Rect.unit (s := S2x256x2048) ![p.val, j.val, 0] S1x1x2048.size (sc_inb p j)).set from by
    show (View.reshape _ _ _).set = _
    rw [View.set_reshape]; exact View.set_slice_whole _ _]
  rw [Rect.mem_set_unit]
  constructor
  · intro h
    have h0 := h 0; have h1 := h 1
    change p.val ≤ (x 0).val ∧ (x 0).val < p.val + 1 at h0
    change j.val ≤ (x 1).val ∧ (x 1).val < j.val + 1 at h1
    exact ⟨Fin.ext (by omega), Fin.ext (by omega)⟩
  · rintro ⟨h0, h1⟩ a
    match a with
    | ⟨0, _⟩ => subst h0; exact ⟨le_rfl, Nat.lt_succ_self _⟩
    | ⟨1, _⟩ => subst h1; exact ⟨le_rfl, Nat.lt_succ_self _⟩
    | ⟨2, _⟩ => exact ⟨Nat.zero_le _, lt_of_lt_of_eq (x 2).isLt (Nat.zero_add _).symm⟩

theorem mem_plane (c : Dev nD) (p : Fin 2) (x : S2x256x2048.Idx) : x ∈ plane c p ↔ x 0 = p := by
  unfold plane
  rw [show (scM.access (Rect.unit (s := S2x256x2048) ![p.val, 0, 0] S1x256x2048.size (plane_inb p))).set
    = (Rect.unit (s := S2x256x2048) ![p.val, 0, 0] S1x256x2048.size (plane_inb p)).set from View.set_slice_whole _ _]
  rw [Rect.mem_set_unit]
  constructor
  · intro h
    have h0 := h 0
    change p.val ≤ (x 0).val ∧ (x 0).val < p.val + 1 at h0
    exact Fin.ext (by omega)
  · intro h0 a
    match a with
    | ⟨0, _⟩ => subst h0; exact ⟨le_rfl, Nat.lt_succ_self _⟩
    | ⟨1, _⟩ => exact ⟨Nat.zero_le _, lt_of_lt_of_eq (x 1).isLt (Nat.zero_add _).symm⟩
    | ⟨2, _⟩ => exact ⟨Nat.zero_le _, lt_of_lt_of_eq (x 2).isLt (Nat.zero_add _).symm⟩

theorem scSet_disjoint (c : Dev nD) (p : Fin 2) (j j' : Fin 256) (h : j ≠ j') : Disjoint (scSet c p j) (scSet c p j') := by
  rw [Finset.disjoint_left]
  intro x hx hx'
  exact h (((mem_scSet c p j x).mp hx).2.symm.trans ((mem_scSet c p j' x).mp hx').2)
theorem plane_eq (c : Dev nD) (p : Fin 2) : Finset.univ.biUnion (scSet c p) = plane c p := by
  ext x
  simp only [Finset.mem_biUnion, Finset.mem_univ, true_and]
  constructor
  · rintro ⟨j, hj⟩; exact (mem_plane c p x).mpr ((mem_scSet c p j x).mp hj).1
  · intro h; exact ⟨x 1, (mem_scSet c p (x 1) x).mpr ⟨(mem_plane c p x).mp h, rfl⟩⟩
theorem plane_disjoint (c : Dev nD) (p p' : Fin 2) (h : p ≠ p') : Disjoint (plane c p) (plane c p') := by
  rw [Finset.disjoint_left]
  intro x hx hx'
  exact h (((mem_plane c p x).mp hx).symm.trans ((mem_plane c p' x).mp hx'))
theorem plane_cover (c : Dev nD) : Finset.univ.biUnion (plane c) = Finset.univ := by
  ext x
  simp only [Finset.mem_biUnion, Finset.mem_univ, true_and, iff_true]
  exact ⟨x 0, (mem_plane c _ x).mpr rfl⟩

/-! ## What a half holds when its rows have arrived -/

/-- Row `j` holds row `o j` of the table. -/
def gath (c : Dev nD) (X : Buf (Elt F) (xM.view.loc (c : Thread nD τ))) (o : Fin 256 → Fin 8192) : Buf (Elt F) (scM.view.loc (c : Thread nD τ)) :=
  fun i : S2x256x2048.Idx => X (fun a : Fin 2 => match a with | ⟨0, _⟩ => o (i 1) | ⟨1, _⟩ => i 2)

/-- A row's transfer leaves the row as `gath` has it. -/
theorem written (c : Dev nD) (X : Buf (Elt F) (xM.view.loc (c : Thread nD τ))) (o : Fin 256 → Fin 8192) (p : Fin 2) (j : Fin 256)
    (f : Buf (Elt F) (scM.view.loc (c : Thread nD τ))) (i : S2x256x2048.Idx) (hi : i ∈ scSet c p j) :
    (scRow ![p.val, j.val, 0] (sc_inb p j)).view.write (Elt F) f ((xRow ![(o j).val, 0] (x_inb (o j))).view.read (Elt F) X) Finset.univ i
      = gath c X o i := by
  obtain ⟨y, -, hy⟩ := Finset.mem_map.mp hi
  have hj := (mem_scSet c p j i).mp hi
  rw [← hy]
  refine (View.write_emb_of_mem (v := (scRow ![p.val, j.val, 0] (sc_inb p j)).view) f _ (Finset.mem_univ y)).trans ?_
  rw [hy]
  show (xRow ![(o j).val, 0] (x_inb (o j))).view.read (Elt F) X y = gath c X o i
  show X ((xRow ![(o j).val, 0] (x_inb (o j))).view.emb y) = X _
  congr 1
  have h2 : (i 2).val = (y 1).val := by
    rw [← hy]
    have e : Shape.reshapeEquiv (squeezes_S1x1x2048_S1x2048.numel_eq) y = Fin.cons ⟨0, Nat.one_pos⟩ y := Shape.reshapeEquiv_cons_one _ y
    show 0 + 1 * ((Shape.reshapeEquiv (squeezes_S1x1x2048_S1x2048.numel_eq) y : S1x1x2048.Idx) 2).val = _
    rw [e]
    show 0 + 1 * (y 1).val = _
    omega
  funext a
  apply Fin.ext
  match a with
  | ⟨0, _⟩ =>
    show (o j).val + 1 * (y 0).val = (o (i 1)).val
    have hy0 := (y 0).isLt
    change (y 0).val < 1 at hy0
    rw [hj.2]; omega
  | ⟨1, _⟩ =>
    show 0 + 1 * (y 1).val = (i 2).val
    omega

/-! ## The rows in flight -/

/-- A half's share of the table. -/
def half (p : Fin 2) : PosShare TreeShare := if p = 0 then fullShare.left else fullShare.right
/-- One row's share of the table. -/
def leafQ (p : Fin 2) (j : Fin 256) : PosShare TreeShare := ShareLeaves.leaf 8 (half p) j

/-- What the transfer of row `j` is given. -/
def Item (c : Dev nD) (X : Buf (Elt F) (xM.view.loc (c : Thread nD τ))) (o : Fin 256 → Fin 8192) (p : Fin 2) (j : Fin 256) : sProp 𝕄 :=
  iprop((xM.view.loc (c : Thread nD τ) ↦[xSet c (o j)]{leafQ p j} X) ∗ ∃ f : Buf (Elt F) (scM.view.loc (c : Thread nD τ)), scM.view.loc (c : Thread nD τ) ↦[scSet c p j]{fullShare} f)
/-- What it delivers. -/
def Deliv (c : Dev nD) (X : Buf (Elt F) (xM.view.loc (c : Thread nD τ))) (o : Fin 256 → Fin 8192) (p : Fin 2) (j : Fin 256) : sProp 𝕄 :=
  iprop((xM.view.loc (c : Thread nD τ) ↦[xSet c (o j)]{leafQ p j} X) ∗ scM.view.loc (c : Thread nD τ) ↦[scSet c p j]{fullShare} gath c X o)

instance (c : Dev nD) (X : Buf (Elt F) (xM.view.loc (c : Thread nD τ))) (o : Fin 256 → Fin 8192) (p : Fin 2) (j : Fin 256) :
    Storable (upEmb : UEmb _ 𝕄) (Deliv c X o p j) := by
  unfold Deliv; infer_instance

/-- A half, at contents `f`, with its share of the table. -/
def Has (c : Dev nD) (X : Buf (Elt F) (xM.view.loc (c : Thread nD τ))) (p : Fin 2) (f : Buf (Elt F) (scM.view.loc (c : Thread nD τ))) : sProp 𝕄 :=
  iprop((scM.view.loc (c : Thread nD τ) ↦[plane c p]{fullShare} f) ∗ xM.view.loc (c : Thread nD τ) ↦[Finset.univ]{half p} X)

/-- A half's rows dealt out to their transfers, to be put together from what these deliver. -/
theorem deal (c : Dev nD) (X : Buf (Elt F) (xM.view.loc (c : Thread nD τ))) (o : Fin 256 → Fin 8192) (p : Fin 2) (f : Buf (Elt F) (scM.view.loc (c : Thread nD τ))) :
    Has c X p f ⊢ (iprop(bigSep Finset.univ (Item c X o p) ∗ (bigSep Finset.univ (Deliv c X o p) -∗ Has c X p (gath c X o))) : sProp 𝕄) := by
  have hx : (xM.view.loc (c : Thread nD τ) ↦[Finset.univ]{half p} X : sProp 𝕄)
      = iprop((bigSep Finset.univ fun j : Fin 256 => xM.view.loc (c : Thread nD τ) ↦[xSet c (o j)]{leafQ p j} X)
        ∗ bigSep Finset.univ fun j : Fin 256 => xM.view.loc (c : Thread nD τ) ↦[Finset.univ \ xSet c (o j)]{leafQ p j} X) := by
    refine (ShareLeaves.pointsTo_leaves (Ix := Unit) (Val := Elt F) (Name := ℕ) (U := Pipeline.UD sig nD τ) (Lvl := ℕ) Finset.univ X 8 (half p)).trans ?_
    refine Eq.trans ?_ (BI.bigSep_sep _ _ _)
    refine BI.bigSep_congr fun j _ => ?_
    exact BI.Entails.antisymm (pointsTo_split_subset (Finset.subset_univ _)).1 (pointsTo_split_subset (Finset.subset_univ _)).2
  have hs (g : Buf (Elt F) (scM.view.loc (c : Thread nD τ))) : (scM.view.loc (c : Thread nD τ) ↦[plane c p]{fullShare} g : sProp 𝕄)
      = bigSep Finset.univ fun j : Fin 256 => scM.view.loc (c : Thread nD τ) ↦[scSet c p j]{fullShare} g :=
    Ring.pointsTo_sub_blocks (scSet c p) (scSet_disjoint c p) _ (plane_eq c p) g
  have hd : (bigSep Finset.univ (Deliv c X o p) : sProp 𝕄)
      = iprop((bigSep Finset.univ fun j : Fin 256 => xM.view.loc (c : Thread nD τ) ↦[xSet c (o j)]{leafQ p j} X)
        ∗ bigSep Finset.univ fun j : Fin 256 => scM.view.loc (c : Thread nD τ) ↦[scSet c p j]{fullShare} gath c X o) := by
    unfold Deliv; exact BI.bigSep_sep _ _ _
  have hi : iprop((bigSep Finset.univ fun j : Fin 256 => xM.view.loc (c : Thread nD τ) ↦[xSet c (o j)]{leafQ p j} X)
        ∗ bigSep Finset.univ fun j : Fin 256 => scM.view.loc (c : Thread nD τ) ↦[scSet c p j]{fullShare} f) ⊢ (bigSep Finset.univ (Item c X o p) : sProp 𝕄) := by
    refine (Entails.of_eq (BI.bigSep_sep _ _ _).symm).trans (BI.bigSep_mono fun j _ => ?_)
    show iprop((xM.view.loc (c : Thread nD τ) ↦[xSet c (o j)]{leafQ p j} X) ∗ scM.view.loc (c : Thread nD τ) ↦[scSet c p j]{fullShare} f) ⊢ Item c X o p j
    unfold Item
    iintro ⟨A, B⟩
    isplitl [A]; · iexact A
    iexists _; iexact B
  unfold Has
  rw [hs, hs, hx, hd]
  iintro ⟨HS, HA, HR⟩
  isplitl [HS HA]
  · iapply hi
    isplitl [HA]; · iexact HA
    iexact HS
  iintro ⟨HA, HS⟩
  isplitl [HS]; · iexact HS
  isplitl [HA]; · iexact HA
  iexact HR

/-- Half `p` at rest: at some contents, with its share of the table, its cell at zero. -/
def Free (c : Dev nD) (X : Buf (Elt F) (xM.view.loc (c : Thread nD τ))) (p : Fin 2) : sProp 𝕄 :=
  iprop((∃ f, Has c X p f) ∗ semVal ((c : Thread nD τ), semL p) 0)

/-- Half `p`'s transfers all under way. -/
def Flight (c : Dev nD) (X : Buf (Elt F) (xM.view.loc (c : Thread nD τ))) (o : Fin 256 → Fin 8192) (p : Fin 2) : sProp 𝕄 :=
  iprop(Transfers.Batch (EC (F := F)) (c : Thread nD τ) (semL p) () rowN (Deliv c X o p) 256 0
    ∗ (bigSep Finset.univ (Deliv c X o p) -∗ Has c X p (gath c X o)))

/-- Before trip `k` of the loop that starts them. -/
def fetchInv (c : Dev nD) (X : Buf (Elt F) (xM.view.loc (c : Thread nD τ))) (o : Fin 256 → Fin 8192) (p : Fin 2) (k : ℕ) : sProp 𝕄 :=
  iprop(Transfers.Batch (EC (F := F)) (c : Thread nD τ) (semL p) () rowN (Deliv c X o p) k 0
    ∗ bigSep (Transfers.pending (n := 256) k) (Item c X o p))

/-- One trip starts one row's transfer. -/
theorem fetch_step (c : Dev nD) (X : Buf (Elt F) (xM.view.loc (c : Thread nD τ))) (o : Fin 256 → Fin 8192) (p : Fin 2) (k : Fin 256)
    (offM : Fin 1 → Nat) (hM) (offX : Fin 2 → Nat) (hX) (offS : Fin 3 → Nat) (hS)
    (eM : offM = ![p.val]) (eX : offX = ![(o k).val, 0]) (eS : offS = ![p.val, k.val, 0]) {hs hd hsem}
    {α : Type} (kk : PUnit → Prog (TpuEff nD τ sig (Elt F) Λ₀ .tc) α) (Q : α → sProp 𝕄) :
    fetchInv c X o p k ⊢ iprop((fetchInv c X o p (k.val + 1) -∗ wp frame (wpE (defs₀ (F := F)) Variants.none c none) Set.univ (kk ⟨⟩) Q)
      -∗ wp frame (wpE (defs₀ (F := F)) Variants.none c none) Set.univ
        (.op (.enqueueDma (xRow offX hX) (.here (scRow offS hS)) (.dma (semD offM hM)) hs hd hsem) kk) Q) := by
  subst eM eX eS
  unfold fetchInv
  have hP : (bigSep (Transfers.pending (n := 256) k.val) (Item c X o p) : sProp 𝕄) = iprop(Item c X o p k ∗ bigSep (Transfers.pending (n := 256) (k.val + 1)) (Item c X o p)) := by
    rw [Transfers.pending_succ k.isLt, BI.bigSep_insert (Transfers.not_mem_pending_succ k.isLt)]; rfl
  have hI : Item c X o p k = iprop((xM.view.loc (c : Thread nD τ) ↦[(xRow ![(o k).val, 0] hX).view.set]{leafQ p k} X)
      ∗ ∃ f : Buf (Elt F) (scM.view.loc (c : Thread nD τ)), scM.view.loc (c : Thread nD τ) ↦[(scRow ![p.val, k.val, 0] hS).view.set]{fullShare} f) := rfl
  rw [hP, hI]
  iintro ⟨HB, ⟨Hx, ⟨%f, Hs⟩⟩, HP⟩ HK
  iapply (Transfers.wp_dmaBatch (EC (F := F)) Variants.none (c : Thread nD τ) none (src := xRow ![(o k).val, 0] hX)
      (dst := scRow ![p.val, k.val, 0] hS) (sm := semL p) (D := Deliv c X o p) (q := leafQ p k) (fs := X) (fd := f)
      (Sd := (scRow ![p.val, k.val, 0] hS).view.set) () rowN (amount_scRow _ _ p) (subset_refl _) k.isLt (Nat.zero_le _) (by
        unfold Deliv
        iintro ⟨A, B⟩
        isplitl [B]; · iexact B
        iapply (Entails.of_eq (pointsTo_congr (fun i hi => written c X o p k f i hi)))
        iexact A)) $$ [Hx Hs HB]
  · isplitl [Hx]; · iexact Hx
    isplitl [Hs]; · iexact Hs
    iexact HB
  iintro HB
  iapply HK
  isplitl [HB]; · iexact HB
  iexact HP

/-- Starting: the half's rows are dealt out. -/
theorem fetch_begin (c : Dev nD) (X : Buf (Elt F) (xM.view.loc (c : Thread nD τ))) (o : Fin 256 → Fin 8192) (p : Fin 2) :
    Free c X p ⊢ (iprop(|={Set.univ}=> (fetchInv c X o p 0 ∗ (bigSep Finset.univ (Deliv c X o p) -∗ Has c X p (gath c X o)))) : sProp 𝕄) := by
  unfold Free fetchInv
  iintro ⟨⟨%f, HH⟩, HS⟩
  imod (Transfers.batch_alloc' (EC (F := F)) (c := (c : Thread nD τ)) (sm := semL p) () rowN (Deliv c X o p)) $$ HS with HB
  imodintro
  ihave HD := (deal c X o p f) $$ HH
  icases HD with ⟨HI, HW⟩
  isplitl [HB HI]
  · isplitl [HB]; · iexact HB
    rw [Transfers.pending_zero]; iexact HI
  iexact HW

/-- All started. -/
theorem fetch_end (c : Dev nD) (X : Buf (Elt F) (xM.view.loc (c : Thread nD τ))) (o : Fin 256 → Fin 8192) (p : Fin 2) :
    iprop(fetchInv c X o p 256 ∗ (bigSep Finset.univ (Deliv c X o p) -∗ Has c X p (gath c X o))) ⊢ (Flight c X o p : sProp 𝕄) := by
  unfold fetchInv Flight
  iintro ⟨⟨HB, -⟩, HW⟩
  isplitl [HB]; · iexact HB
  iexact HW

/-- Before trip `k` of the loop that waits for them. -/
def waitInv (c : Dev nD) (X : Buf (Elt F) (xM.view.loc (c : Thread nD τ))) (o : Fin 256 → Fin 8192) (p : Fin 2) (k : ℕ) : sProp 𝕄 :=
  iprop(Transfers.Batch (EC (F := F)) (c : Thread nD τ) (semL p) () rowN (Deliv c X o p) 256 (k * rowN) ∗ (∃ W, owes (c : Thread nD τ) 0 W))

/-- One trip waits for one row's pay. -/
theorem wait_step (c : Dev nD) (X : Buf (Elt F) (xM.view.loc (c : Thread nD τ))) (o : Fin 256 → Fin 8192) (p : Fin 2) (k : ℕ) (hk : k < 256)
    (offM : Fin 1 → Nat) (hM) (offX : Fin 2 → Nat) (hX) (offS : Fin 3 → Nat) (hS) (eM : offM = ![p.val]) {hs hd} :
    waitInv c X o p k ⊢ wp frame (wpE (defs₀ (F := F)) Variants.none c none) Set.univ
      (.op (.waitDma2 (semD offM hM) (xRow offX hX) (scRow offS hS) hs hd) fun _ => .ret PUnit.unit)
      (fun _ : PUnit => waitInv c X o p (k + 1)) := by
  subst eM
  unfold waitInv
  iintro ⟨HB, ⟨%W, HW⟩⟩
  iapply (Transfers.wp_waitBatchMul (EC (F := F)) Variants.none (c : Thread nD τ) none () (N := rowN) 1
    (show (scRow offS hS).view.dmaCredit = 1 * rowN by rw [Nat.one_mul]; rfl)
    (show k * rowN + 1 * rowN ≤ rowN * 256 by rw [← Nat.add_mul, Nat.mul_comm rowN]; exact Nat.mul_le_mul_right _ hk)) $$ [HB HW]
  · isplitl [HB]; · iexact HB
    iexact HW
  iintro ⟨HB, HW⟩
  rw [← Nat.add_mul]
  sl_step
  isplitl [HB]; · iexact HB
  iexists _; iexact HW

end Cert.Qkv.Gather

end
-- ==== Proof.Qkv.Prefix.lean ====
/- The start of a grid point: the next point's rows set off, this one's waited for and read. -/
module

public import proofs.«01_k».proof.Proof.Qkv.Gather

@[expose] public section

set_option maxRecDepth 16384

noncomputable section

namespace Cert.Qkv.Gather

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The words read and the rows they name -/

/-- Position `s` of batch `b`. -/
abbrev at2 (b : Fin 2) (s : Fin 1024) : S2x1024.Idx := Fin.cons b (Fin.cons s fun a => a.elim0)
/-- The batch of a grid point. -/
def batN (t : ℕ) : Fin 2 := ⟨t / 4 % 2, Nat.mod_lt _ (by decide)⟩
/-- The position of a grid point's row `j`. -/
def posN (t : ℕ) (j : Fin 256) : Fin 1024 := ⟨256 * (t % 4) + j.val, by have := j.isLt; omega⟩
/-- The selected position of grid point `t`, row `j`. -/
def word (s : S2x1024.Idx → BitVec 32) (t : ℕ) (j : Fin 256) : BitVec 32 := s (at2 (batN t) (posN t j))
/-- Every selected position is a position of the sequence. -/
def Inside (s : S2x1024.Idx → BitVec 32) : Prop := ∀ (b : Fin 2) (p : Fin 1024), (s (at2 b p)).toNat < 8192
/-- The word of the row of the table it names: two positions share a row. -/
def rowW (s : S2x1024.Idx → BitVec 32) (t : ℕ) (j : Fin 256) : BitVec 32 :=
  Scalar.shrui (Scalar.addi (BitVec.ofNat 32 (t / 4 % 2 * 8192)) (word s t j)) 1#32

theorem rowW_toNat (s : S2x1024.Idx → BitVec 32) (hs : Inside s) (t : ℕ) (j : Fin 256) :
    (rowW s t j).toNat = (t / 4 % 2 * 8192 + (word s t j).toNat) / 2 := by
  have hw : (word s t j).toNat < 8192 := hs _ _
  have e : rowW s t j = (BitVec.ofNat 32 (t / 4 % 2 * 8192) + word s t j) >>> (1#32) := rfl
  rw [e, BitVec.ushiftRight_eq', BitVec.toNat_ushiftRight, BitVec.toNat_add, BitVec.toNat_ofNat, Nat.shiftRight_eq_div_pow]
  have h2 : t / 4 % 2 < 2 := Nat.mod_lt _ (by decide)
  rw [show (1#32).toNat = 1 from rfl]
  omega
/-- The row itself. -/
def rowNo (s : S2x1024.Idx → BitVec 32) (hs : Inside s) (t : ℕ) (j : Fin 256) : Fin 8192 :=
  ⟨(rowW s t j).toNat, by
    rw [rowW_toNat s hs]
    have hw : (word s t j).toNat < 8192 := hs _ _
    have h2 : t / 4 % 2 < 2 := Nat.mod_lt _ (by decide)
    omega⟩

/-- The half a grid point's rows are in. -/
def par (t : ℕ) : Fin 2 := ⟨t % 2, Nat.mod_lt _ (by decide)⟩

theorem par_succ (t : ℕ) : (par (t + 1)).val = 1 - t % 2 := by
  show (t + 1) % 2 = _
  omega

/-! ## The offsets -/

theorem trips1 : k0_t1_loop.trips = 256 := by decide
theorem trips2 : k0_t2_loop.trips = 256 := by decide
theorem trips3 : k0_t3_loop.trips = 256 := by decide

theorem cond1_iff : ∀ t : Fin cfg0.N, k0_cond1 (grid0.coords t) = 1#1 ↔ t.val = 0 := by decide +kernel
theorem cond2_iff : ∀ t : Fin cfg0.N, k0_cond2 (grid0.coords t) = 1#1 ↔ t.val + 1 < 8 := by decide +kernel
theorem off1_eq : ∀ k : Fin k0_t1_loop.trips, k0_off1 k 0 = 0 ∧ k0_off1 k 1 = k.val := by decide +kernel
theorem off2_eq : ∀ k : Fin k0_t1_loop.trips, k0_off2 k = ![0, k.val, 0] := by decide +kernel
theorem off4_eq : ∀ (t : Fin cfg0.N) (k : Fin k0_t2_loop.trips), t.val + 1 < 8 →
    k0_off4 (grid0.coords t) k 0 = (t.val + 1) / 4 % 2 ∧ k0_off4 (grid0.coords t) k 1 = 256 * ((t.val + 1) % 4) + k.val := by decide +kernel
theorem off5_eq : ∀ t : Fin cfg0.N, k0_off5 (grid0.coords t) = ![(t.val + 1) % 2] := by decide +kernel
theorem off6_eq : ∀ (t : Fin cfg0.N) (k : Fin k0_t2_loop.trips), k0_off6 (grid0.coords t) k = ![(t.val + 1) % 2, k.val, 0] := by decide +kernel
theorem off8_eq : ∀ t : Fin cfg0.N, k0_off8 (grid0.coords t) = ![t.val % 2] := by decide +kernel
theorem off11_eq : ∀ t : Fin cfg0.N, k0_off11 (grid0.coords t) = ![t.val % 2, 0, 0] := by decide +kernel
theorem base_word : ∀ t : Fin cfg0.N, t.val + 1 < 8 → Scalar.muli (Scalar.divsi (Scalar.addi (BitVec.ofNat 32 (grid0.coords t 0).val) 1#32) 4#32) 8192#32
    = BitVec.ofNat 32 ((t.val + 1) / 4 % 2 * 8192) := by decide +kernel

theorem off3_eq (s : S2x1024.Idx → BitVec 32) (hs : Inside s) (j : Fin 256) :
    k0_off3 (word s 0 j) = ![(rowNo s hs 0 j).val, 0] := rfl
theorem off7_eq (t : Fin cfg0.N) (ht : t.val + 1 < 8) (s : S2x1024.Idx → BitVec 32) (hs : Inside s) (j : Fin 256) :
    k0_off7 (grid0.coords t) (word s (t.val + 1) j) = ![(rowNo s hs (t.val + 1) j).val, 0] := by
  show ![(Scalar.shrui (Scalar.addi (Scalar.muli (Scalar.divsi (Scalar.addi (BitVec.ofNat 32 (grid0.coords t 0).val) 1#32) 4#32) 8192#32) (word s (t.val + 1) j)) 1#32).toNat, 0] = _
  rw [base_word t ht]; rfl

theorem x_rows (off : Fin 2 → Nat) (r : Fin 8192) (h : off = ![r.val, 0]) : ∀ a, off a + S1x2048.size a ≤ S8192x2048.size a := by
  subst h; exact x_inb r

section
variable (a1 : Memref sig .tc .smem S2x1024 .i32) (h1 : a1.IsWhole) (a3 : Memref sig .tc .vmem S2x1024 .i32) (h3 : a3.IsWhole) (a4 : Memref sig .tc .vmem S1x2048 .f32) (h4 : a4.IsWhole) (a5 : Memref sig .tc .vmem S1x2048 .f32) (h5 : a5.IsWhole) (a6 : Memref sig .tc .vmem S2048x5120 .fp8e4m3) (h6 : a6.IsWhole) (a7 : Memref sig .tc .vmem S1x5120 .f32) (h7 : a7.IsWhole) (a8 : Memref sig .tc .vmem S1x128 .f32) (h8 : a8.IsWhole) (a9 : Memref sig .tc .vmem S256x2048 .i32) (h9 : a9.IsWhole) (a10 : Memref sig .tc .vmem S256x2048 .fp8e4m3) (h10 : a10.IsWhole) (a11 : Memref sig .tc .vmem S1x1x256 .f32) (h11 : a11.IsWhole) (a12 : Memref sig .tc .vmem S1x1x256 .f32) (h12 : a12.IsWhole) (a13 : Memref sig .tc .vmem S256x4096 .bf16) (h13 : a13.IsWhole) (a14 : Memref sig .tc .vmem S256x2048 .bf16) (h14 : a14.IsWhole) (a15 : Memref sig .tc .vmem S1280x256 .bf16) (h15 : a15.IsWhole)

/-- The word the first loop's trip `k` reads. -/
theorem read1 (c : Dev nD) (i : grid0.Coords) (k : Fin k0_t1_loop.trips) (h : k0_cond1 i = 1#1) (f1 : Buf (Elt F) (a1.view.loc (c : Thread nD τ))) :
    View.readAt (Elt F) a1.view (Rect.unit (s := S2x1024) (k0_off1 k) S1x1.size (k0_off1_inb i k h)).toLoadRect f1 (Shape.Idx.first (show 0 < S1x1.numel from by decide))
      = word (a1.view.read (Elt F) f1) 0 ⟨k.val, lt_of_lt_of_eq k.isLt trips1⟩ := by
  show a1.view.read (Elt F) f1 _ = a1.view.read (Elt F) f1 _
  congr 1
  funext a
  apply Fin.ext
  fin_cases a
  · exact (Nat.add_zero _).trans (off1_eq k).1
  · exact (Nat.add_zero _).trans ((off1_eq k).2.trans (Nat.zero_add _).symm)

/-- The word the second loop's trip `k` reads. -/
theorem read2 (c : Dev nD) (t : Fin cfg0.N) (k : Fin k0_t2_loop.trips) (h : k0_cond2 (grid0.coords t) = 1#1) (f1 : Buf (Elt F) (a1.view.loc (c : Thread nD τ))) :
    View.readAt (Elt F) a1.view (Rect.unit (s := S2x1024) (k0_off4 (grid0.coords t) k) S1x1.size (k0_off4_inb (grid0.coords t) k h)).toLoadRect f1 (Shape.Idx.first (show 0 < S1x1.numel from by decide))
      = word (a1.view.read (Elt F) f1) (t.val + 1) ⟨k.val, lt_of_lt_of_eq k.isLt trips2⟩ := by
  have ht := (cond2_iff t).mp h
  show a1.view.read (Elt F) f1 _ = a1.view.read (Elt F) f1 _
  congr 1
  funext a
  apply Fin.ext
  fin_cases a
  · exact (Nat.add_zero _).trans (off4_eq t k ht).1
  · exact (Nat.add_zero _).trans (off4_eq t k ht).2

/-- One trip of the loop that sets off the first point's rows. -/
theorem t1_step (c : Dev nD) (i : grid0.Coords) (X : Buf (Elt F) (xM.view.loc (c : Thread nD τ))) (h : k0_cond1 i = 1#1)
    (f1 : Buf (Elt F) (a1.view.loc (c : Thread nD τ))) (hs : Inside (a1.view.read (Elt F) f1)) (k : Fin k0_t1_loop.trips) (acc : Unit) :
    iprop((a1.view.loc (c : Thread nD τ) ↦[a1.view.set]{fullShare} f1) ∗ fetchInv c X (rowNo _ hs 0) 0 k.val) ⊢ wp frame (wpE (defs₀ (F := F)) Variants.none c none) Set.univ
      (k0_t1_body i a1 h1 xM (Memref.isWhole_whole _) a3 h3 a4 h4 a5 h5 a6 h6 a7 h7 a8 h8 a9 h9 a10 h10 a11 h11 a12 h12 a13 h13 a14 h14 a15 h15 scM (Memref.isWhole_whole _) cc0_scratch1 h k acc)
      (fun _ => iprop((a1.view.loc (c : Thread nD τ) ↦[a1.view.set]{fullShare} f1) ∗ fetchInv c X (rowNo _ hs 0) 0 (k.val + 1))) := by
  unfold k0_t1_body
  have eo := off3_eq (a1.view.read (Elt F) f1) hs ⟨k.val, lt_of_lt_of_eq k.isLt trips1⟩
  rw [← read1 a1 c i k h f1] at eo
  have hchk : k0_chk1 i (View.readAt (Elt F) a1.view (Rect.unit (s := S2x1024) (k0_off1 k) S1x1.size (k0_off1_inb i k h)).toLoadRect f1 (Shape.Idx.first (show 0 < S1x1.numel from by decide))) :=
    fun _ => x_rows _ _ eo
  iintro ⟨H1, HI⟩
  sl_exec
  iapply (fetch_step c X (rowNo _ hs 0) 0 ⟨k.val, lt_of_lt_of_eq k.isLt trips1⟩ _ _ _ _ _ _ rfl eo (off2_eq k)) $$ HI
  iintro HI
  sl_step
  isplitl [H1]; · iexact H1
  iexact HI

/-- One trip of the loop that sets off the next point's rows. -/
theorem t2_step (c : Dev nD) (t : Fin cfg0.N) (X : Buf (Elt F) (xM.view.loc (c : Thread nD τ))) (h : k0_cond2 (grid0.coords t) = 1#1)
    (f1 : Buf (Elt F) (a1.view.loc (c : Thread nD τ))) (hs : Inside (a1.view.read (Elt F) f1)) (k : Fin k0_t2_loop.trips) (acc : Unit) :
    iprop((a1.view.loc (c : Thread nD τ) ↦[a1.view.set]{fullShare} f1) ∗ fetchInv c X (rowNo _ hs (t.val + 1)) (par (t.val + 1)) k.val) ⊢ wp frame (wpE (defs₀ (F := F)) Variants.none c none) Set.univ
      (k0_t2_body (grid0.coords t) a1 h1 xM (Memref.isWhole_whole _) a3 h3 a4 h4 a5 h5 a6 h6 a7 h7 a8 h8 a9 h9 a10 h10 a11 h11 a12 h12 a13 h13 a14 h14 a15 h15 scM (Memref.isWhole_whole _) cc0_scratch1 h k acc)
      (fun _ => iprop((a1.view.loc (c : Thread nD τ) ↦[a1.view.set]{fullShare} f1) ∗ fetchInv c X (rowNo _ hs (t.val + 1)) (par (t.val + 1)) (k.val + 1))) := by
  unfold k0_t2_body
  have ht := (cond2_iff t).mp h
  have eo := off7_eq t ht (a1.view.read (Elt F) f1) hs ⟨k.val, lt_of_lt_of_eq k.isLt trips2⟩
  rw [← read2 a1 c t k h f1] at eo
  have hchk : k0_chk2 (grid0.coords t) (View.readAt (Elt F) a1.view (Rect.unit (s := S2x1024) (k0_off4 (grid0.coords t) k) S1x1.size (k0_off4_inb (grid0.coords t) k h)).toLoadRect f1 (Shape.Idx.first (show 0 < S1x1.numel from by decide))) :=
    fun _ => x_rows _ _ eo
  iintro ⟨H1, HI⟩
  sl_exec
  iapply (fetch_step c X (rowNo _ hs (t.val + 1)) (par (t.val + 1)) ⟨k.val, lt_of_lt_of_eq k.isLt trips2⟩ _ _ _ _ _ _ (off5_eq t) eo (off6_eq t k)) $$ HI
  iintro HI
  sl_step
  isplitl [H1]; · iexact H1
  iexact HI

/-- The first point's rows set off. -/
theorem loop1 (c : Dev nD) (i : grid0.Coords) (X : Buf (Elt F) (xM.view.loc (c : Thread nD τ))) (h : k0_cond1 i = 1#1)
    (f1 : Buf (Elt F) (a1.view.loc (c : Thread nD τ))) (hs : Inside (a1.view.read (Elt F) f1)) {α : Type} (kk : Unit → Prog (TpuEff nD τ sig (Elt F) Λ₀ .tc) α) (Q : α → sProp 𝕄) :
    iprop((a1.view.loc (c : Thread nD τ) ↦[a1.view.set]{fullShare} f1) ∗ Free c X 0) ⊢ iprop((((a1.view.loc (c : Thread nD τ) ↦[a1.view.set]{fullShare} f1) ∗ Flight c X (rowNo _ hs 0) 0)
          -∗ wp frame (wpE (defs₀ (F := F)) Variants.none c none) Set.univ (kk ⟨⟩) Q)
      -∗ wp frame (wpE (defs₀ (F := F)) Variants.none c none) Set.univ
        ((Scf.Loop.for k0_t1_loop (k0_t1_ok i h) ⟨⟩ (k0_t1_body i a1 h1 xM (Memref.isWhole_whole _) a3 h3 a4 h4 a5 h5 a6 h6 a7 h7 a8 h8 a9 h9 a10 h10 a11 h11 a12 h12 a13 h13 a14 h14 a15 h15 scM (Memref.isWhole_whole _) cc0_scratch1 h)) >>= kk) Q) := by
  iintro ⟨H1, HF⟩ HK
  imod (fetch_begin c X (rowNo _ hs 0) 0) $$ HF with ⟨HI, HW⟩
  sl_for (fun k _ => iprop((a1.view.loc (c : Thread nD τ) ↦[a1.view.set]{fullShare} f1) ∗ fetchInv c X (rowNo _ hs 0) 0 k)) $$ [H1 HI]
  · intro k acc
    exact t1_step a1 h1 a3 h3 a4 h4 a5 h5 a6 h6 a7 h7 a8 h8 a9 h9 a10 h10 a11 h11 a12 h12 a13 h13 a14 h14 a15 h15 c i X h f1 hs k acc
  · isplitl [H1]; · iexact H1
    iexact HI
  iintro %acc ⟨H1, HI⟩
  iapply HK
  isplitl [H1]; · iexact H1
  iapply (fetch_end c X (rowNo _ hs 0) 0)
  isplitl [HI]; · iexact HI
  iexact HW

/-- The next point's rows set off. -/
theorem loop2 (c : Dev nD) (t : Fin cfg0.N) (X : Buf (Elt F) (xM.view.loc (c : Thread nD τ))) (h : k0_cond2 (grid0.coords t) = 1#1)
    (f1 : Buf (Elt F) (a1.view.loc (c : Thread nD τ))) (hs : Inside (a1.view.read (Elt F) f1)) {α : Type} (kk : Unit → Prog (TpuEff nD τ sig (Elt F) Λ₀ .tc) α) (Q : α → sProp 𝕄) :
    iprop((a1.view.loc (c : Thread nD τ) ↦[a1.view.set]{fullShare} f1) ∗ Free c X (par (t.val + 1))) ⊢ iprop((((a1.view.loc (c : Thread nD τ) ↦[a1.view.set]{fullShare} f1) ∗ Flight c X (rowNo _ hs (t.val + 1)) (par (t.val + 1)))
          -∗ wp frame (wpE (defs₀ (F := F)) Variants.none c none) Set.univ (kk ⟨⟩) Q)
      -∗ wp frame (wpE (defs₀ (F := F)) Variants.none c none) Set.univ
        ((Scf.Loop.for k0_t2_loop (k0_t2_ok (grid0.coords t) h) ⟨⟩ (k0_t2_body (grid0.coords t) a1 h1 xM (Memref.isWhole_whole _) a3 h3 a4 h4 a5 h5 a6 h6 a7 h7 a8 h8 a9 h9 a10 h10 a11 h11 a12 h12 a13 h13 a14 h14 a15 h15 scM (Memref.isWhole_whole _) cc0_scratch1 h)) >>= kk) Q) := by
  iintro ⟨H1, HF⟩ HK
  imod (fetch_begin c X (rowNo _ hs (t.val + 1)) (par (t.val + 1))) $$ HF with ⟨HI, HW⟩
  sl_for (fun k _ => iprop((a1.view.loc (c : Thread nD τ) ↦[a1.view.set]{fullShare} f1) ∗ fetchInv c X (rowNo _ hs (t.val + 1)) (par (t.val + 1)) k)) $$ [H1 HI]
  · intro k acc
    exact t2_step a1 h1 a3 h3 a4 h4 a5 h5 a6 h6 a7 h7 a8 h8 a9 h9 a10 h10 a11 h11 a12 h12 a13 h13 a14 h14 a15 h15 c t X h f1 hs k acc
  · isplitl [H1]; · iexact H1
    iexact HI
  iintro %acc ⟨H1, HI⟩
  iapply HK
  isplitl [H1]; · iexact H1
  iapply (fetch_end c X (rowNo _ hs (t.val + 1)) (par (t.val + 1)))
  isplitl [HI]; · iexact HI
  iexact HW

/-- The point's own rows waited for. -/
theorem loop3 (c : Dev nD) (t : Fin cfg0.N) (X : Buf (Elt F) (xM.view.loc (c : Thread nD τ))) (o : Fin 256 → Fin 8192)
    {α : Type} (kk : Unit → Prog (TpuEff nD τ sig (Elt F) Λ₀ .tc) α) (Q : α → sProp 𝕄) :
    iprop(Flight c X o (par t.val) ∗ (∃ W, owes (c : Thread nD τ) 0 W)) ⊢ iprop(((Has c X (par t.val) (gath c X o) ∗ semVal ((c : Thread nD τ), semL (par t.val)) 0 ∗ (∃ W, owes (c : Thread nD τ) 0 W))
          -∗ wp frame (wpE (defs₀ (F := F)) Variants.none c none) Set.univ (kk ⟨⟩) Q)
      -∗ wp frame (wpE (defs₀ (F := F)) Variants.none c none) Set.univ
        ((Scf.Loop.for k0_t3_loop k0_t3_ok ⟨⟩ (k0_t3_body (grid0.coords t) a1 h1 xM (Memref.isWhole_whole _) a3 h3 a4 h4 a5 h5 a6 h6 a7 h7 a8 h8 a9 h9 a10 h10 a11 h11 a12 h12 a13 h13 a14 h14 a15 h15 scM (Memref.isWhole_whole _) cc0_scratch1)) >>= kk) Q) := by
  unfold Flight
  iintro ⟨⟨HB, HW⟩, HO⟩ HK
  sl_for (fun k _ => waitInv c X o (par t.val) k) $$ [HB HO]
  · intro k acc
    sl_respell [k0_t3_body]
    simp only [Prog.lift, Prog.bind_op, Prog.bind_ret, Prog.pure_eq_ret, Prog.bind_assoc]
    exact wait_step c X o (par t.val) k (lt_of_lt_of_eq k.isLt trips3) _ _ _ _ _ _ (off8_eq t)
  · unfold waitInv
    isplitl [HB]; · rw [Nat.zero_mul]; iexact HB
    iexact HO
  iintro %acc HI
  unfold waitInv
  icases HI with ⟨HB, HO⟩
  have e : k0_t3_loop.trips * rowN = rowN * 256 := by rw [trips3, Nat.mul_comm]
  rw [e]
  imod (Transfers.batch_collect' (EC (F := F)) (c : Thread nD τ) rowN_pos) $$ HB with ⟨HB, HS⟩
  iapply HK
  isplitl [HW HB]; · iapply HW; iexact HB
  isplitl [HS]; · iexact HS
  iexact HO
end

end Cert.Qkv.Gather

end
-- ==== Proof.Qkv.Part1.lean ====
/- The start of a grid point as one step. -/
module

public import proofs.«01_k».proof.Proof.Qkv.Prefix
public import proofs.«01_k».proof.Proof.Gen.Qkv.Skeleton

@[expose] public section

set_option maxRecDepth 16384

noncomputable section

namespace Cert.Qkv.Gather

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The rows of the table a grid point reads. -/
def rowsV (X : S8192x2048.Idx → BitVec 32) (o : Fin 256 → Fin 8192) : Vec F S1x256x2048 .i32 :=
  fun y => X (fun a : Fin 2 => match a with | ⟨0, _⟩ => o (y 1) | ⟨1, _⟩ => y 2)
/-- The positions a grid point reads. -/
def selV (s : S2x1024.Idx → BitVec 32) (t : ℕ) : Vec F S1x256 .i32 := fun y => word s t (y 1)

/-- Between grid points: after the first and before the last the next point's rows are under way. -/
def Rest (c : Dev nD) (X : Buf (Elt F) (xM.view.loc (c : Thread nD τ))) (s : S2x1024.Idx → BitVec 32) (hs : Inside s) (n : ℕ) : sProp 𝕄 :=
  if n = 0 ∨ n = 8 then iprop(Free c X 0 ∗ Free c X 1) else iprop(Flight c X (rowNo s hs n) (par n) ∗ Free c X (par (n + 1)))

theorem off10_eq : ∀ t : Fin cfg0.N, k0_off10 (grid0.coords t) 0 = t.val / 4 % 2 ∧ k0_off10 (grid0.coords t) 1 = 256 * (t.val % 4) := by decide +kernel

theorem rest_free (c : Dev nD) (X : Buf (Elt F) (xM.view.loc (c : Thread nD τ))) (s : S2x1024.Idx → BitVec 32) (hs : Inside s) (n : ℕ) (hn : n = 0 ∨ n = 8) :
    Rest c X s hs n = (iprop(Free c X 0 ∗ Free c X 1) : sProp 𝕄) := if_pos hn
theorem rest_flight (c : Dev nD) (X : Buf (Elt F) (xM.view.loc (c : Thread nD τ))) (s : S2x1024.Idx → BitVec 32) (hs : Inside s) (n : ℕ) (hn : ¬ (n = 0 ∨ n = 8)) :
    Rest c X s hs n = (iprop(Flight c X (rowNo s hs n) (par n) ∗ Free c X (par (n + 1))) : sProp 𝕄) := if_neg hn

theorem read_rows (c : Dev nD) (t : Fin cfg0.N) (X : Buf (Elt F) (xM.view.loc (c : Thread nD τ))) (o : Fin 256 → Fin 8192) (h) :
    (scM.access (Rect.unit (s := S2x256x2048) (k0_off11 (grid0.coords t)) S1x256x2048.size h)).read (Elt F) (gath c X o) = (rowsV (F := F) X o : Vec F S1x256x2048 .i32) := by
  funext y
  have e : ∀ (off : Fin 3 → ℕ) (h : ∀ a, off a + S1x256x2048.size a ≤ S2x256x2048.size a), off = ![t.val % 2, 0, 0] →
      (scM.access (Rect.unit (s := S2x256x2048) off S1x256x2048.size h)).read (Elt F) (gath c X o) y = (rowsV (F := F) X o : Vec F S1x256x2048 .i32) y := by
    rintro off h rfl
    show X _ = X _
    congr 1
    funext a
    match a with
    | ⟨0, _⟩ =>
      show o _ = o (y 1)
      congr 1
      apply Fin.ext
      show 0 + 1 * (y 1).val = _
      omega
    | ⟨1, _⟩ =>
      apply Fin.ext
      show 0 + 1 * (y 2).val = (y 2).val
      omega
  exact e _ h (off11_eq t)

theorem read_sel {m : Memref sig .tc .vmem S2x1024 .i32} (c : Dev nD) (t : Fin cfg0.N) (f : Buf (Elt F) (m.view.loc (c : Thread nD τ))) (h) :
    View.readAt (Elt F) m.view (Rect.unit (s := S2x1024) (k0_off10 (grid0.coords t)) S1x256.size h).toLoadRect f = (selV (m.view.read (Elt F) f) t.val : Vec F S1x256 .i32) := by
  funext y
  show m.view.read (Elt F) f _ = m.view.read (Elt F) f _
  congr 1
  have hy : (y 0).val < 1 := (y 0).isLt
  funext a
  apply Fin.ext
  match a with
  | ⟨0, _⟩ =>
    show k0_off10 (grid0.coords t) 0 + 1 * (y 0).val = t.val / 4 % 2
    rw [(off10_eq t).1]; omega
  | ⟨1, _⟩ =>
    show k0_off10 (grid0.coords t) 1 + 1 * (y 1).val = 256 * (t.val % 4) + (y 1).val
    rw [(off10_eq t).2]; omega

theorem set_plane (c : Dev nD) (t : Fin cfg0.N) (h) :
    (scM.access (Rect.unit (s := S2x256x2048) (k0_off11 (grid0.coords t)) S1x256x2048.size h)).set = plane c (par t.val) := by
  unfold plane
  have e : ∀ (off : Fin 3 → ℕ) (h : ∀ a, off a + S1x256x2048.size a ≤ S2x256x2048.size a), off = ![t.val % 2, 0, 0] →
      (scM.access (Rect.unit (s := S2x256x2048) off S1x256x2048.size h)).set = (scM.access (Rect.unit (s := S2x256x2048) ![(par t.val).val, 0, 0] S1x256x2048.size (plane_inb (par t.val)))).set := by
    rintro off h rfl; rfl
  exact e _ h (off11_eq t)

section
variable (a1 : Memref sig .tc .smem S2x1024 .i32) (h1 : a1.IsWhole) (a3 : Memref sig .tc .vmem S2x1024 .i32) (h3 : a3.IsWhole) (a4 : Memref sig .tc .vmem S1x2048 .f32) (h4 : a4.IsWhole) (a5 : Memref sig .tc .vmem S1x2048 .f32) (h5 : a5.IsWhole) (a6 : Memref sig .tc .vmem S2048x5120 .fp8e4m3) (h6 : a6.IsWhole) (a7 : Memref sig .tc .vmem S1x5120 .f32) (h7 : a7.IsWhole) (a8 : Memref sig .tc .vmem S1x128 .f32) (h8 : a8.IsWhole) (a9 : Memref sig .tc .vmem S256x2048 .i32) (h9 : a9.IsWhole) (a10 : Memref sig .tc .vmem S256x2048 .fp8e4m3) (h10 : a10.IsWhole) (a11 : Memref sig .tc .vmem S1x1x256 .f32) (h11 : a11.IsWhole) (a12 : Memref sig .tc .vmem S1x1x256 .f32) (h12 : a12.IsWhole) (a13 : Memref sig .tc .vmem S256x4096 .bf16) (h13 : a13.IsWhole) (a14 : Memref sig .tc .vmem S256x2048 .bf16) (h14 : a14.IsWhole) (a15 : Memref sig .tc .vmem S1280x256 .bf16) (h15 : a15.IsWhole)

/-- What is left of it when the next point's rows have been set off. -/
theorem tail_wp (c : Dev nD) (t : Fin cfg0.N) (X : Buf (Elt F) (xM.view.loc (c : Thread nD τ)))
    (s : S2x1024.Idx → BitVec 32) (hs : Inside s) (f3 : Buf (Elt F) (a3.view.loc (c : Thread nD τ))) (f9 : Buf (Elt F) (a9.view.loc (c : Thread nD τ)))
    (Q : (Σ' (_ : FVec F S256x128 .f32) (_ : IVec S256x2048 32) (_ : IVec S256x128 32), IVec S256x128 32) → sProp 𝕄) :
    iprop((a3.view.loc (c : Thread nD τ) ↦[a3.view.set]{fullShare} f3) ∗ (a9.view.loc (c : Thread nD τ) ↦[a9.view.set]{fullShare} f9)
        ∗ Flight c X (rowNo s hs t.val) (par t.val) ∗ (∃ W, owes (c : Thread nD τ) 0 W)
        ∗ (((a3.view.loc (c : Thread nD τ) ↦[a3.view.set]{fullShare} f3) ∗ (∃ f9 : Buf (Elt F) (a9.view.loc (c : Thread nD τ)), a9.view.loc (c : Thread nD τ) ↦[a9.view.set]{fullShare} f9)
        ∗ Free c X (par t.val) ∗ (∃ W, owes (c : Thread nD τ) 0 W)) -∗
          Q ⟨k0_pay1 (selV (a3.view.read (Elt F) f3) t.val), k0_pay2 (F := F) (rowsV X (rowNo s hs t.val)), k0_pay3 (F := F) (selV (a3.view.read (Elt F) f3) t.val), k0_pay4⟩))
      ⊢ wp frame (wpE (defs₀ (F := F)) Variants.none c none) Set.univ
        ((Scf.Loop.for k0_t3_loop k0_t3_ok ⟨⟩ (k0_t3_body (grid0.coords t) a1 h1 xM (Memref.isWhole_whole _) a3 h3 a4 h4 a5 h5 a6 h6 a7 h7 a8 h8 a9 h9 a10 h10 a11 h11 a12 h12 a13 h13 a14 h14 a15 h15 scM (Memref.isWhole_whole _) cc0_scratch1)) >>= fun _ =>
          .op (.load a3 (Rect.unit (s := S2x1024) (k0_off10 (grid0.coords t)) S1x256.size (k0_off10_inb (grid0.coords t))).toLoadRect (View.loadsAt_vmem h_S1x256)) fun v15 =>
          .op (.load scM (Rect.unit (s := S2x256x2048) (k0_off11 (grid0.coords t)) S1x256x2048.size (k0_off11_inb (grid0.coords t))).toLoadRect (View.loadsAt_vmem h_S1x256x2048)) fun v30 =>
          .op (.load a9 (Rect.unit (s := S256x2048) ![0, 0] S256x2048.size inb_S256x2048_S256x2048_0_0).toLoadRect (View.loadsAt_vmem h_S256x2048)) fun v32 =>
          .op (.store a9 (Rect.unit (s := S256x2048) ![0, 0] S256x2048.size inb_S256x2048_S256x2048_0_0) (k0_pay2 (F := F) v30) Finset.univ (View.stores_vmem_bits_univ h_S256x2048 rfl) (.inl rfl)) fun _ =>
          .ret ⟨k0_pay1 v15, k0_pay2 (F := F) v30, k0_pay3 (F := F) v15, k0_pay4⟩) Q := by
  iintro ⟨H3, H9, HF, HO, HK⟩
  iapply (loop3 a1 h1 a3 h3 a4 h4 a5 h5 a6 h6 a7 h7 a8 h8 a9 h9 a10 h10 a11 h11 a12 h12 a13 h13 a14 h14 a15 h15 c t X (rowNo s hs t.val)) $$ [HF HO]
  · isplitl [HF]; · iexact HF
    iexact HO
  iintro ⟨HH, HS, HO⟩
  iapply (wp_load Variants.none (c : Thread nD τ) none Set.univ (m := a3) (S := a3.view.set) (q := fullShare) (f := f3) (View.setOn_subset_set _ _)) $$ H3
  iintro H3
  unfold Has
  icases HH with ⟨HP, HX⟩
  iapply (wp_load_rect Variants.none (c : Thread nD τ) none Set.univ (m := scM) (r := Rect.unit (s := S2x256x2048) (k0_off11 (grid0.coords t)) S1x256x2048.size (k0_off11_inb (grid0.coords t))) (S := plane c (par t.val)) (q := fullShare) (f := gath c X (rowNo s hs t.val)) (le_of_eq (set_plane c t _))) $$ HP
  iintro HP
  rw [read_rows c t X, read_sel c t f3]
  iapply (wp_load Variants.none (c : Thread nD τ) none Set.univ (m := a9) (S := a9.view.set) (q := fullShare) (f := f9) (View.setOn_subset_set _ _)) $$ H9
  iintro H9
  iapply (wp_store Variants.none (c : Thread nD τ) none Set.univ (m := a9) (r := Rect.unit (s := S256x2048) ![0, 0] S256x2048.size inb_S256x2048_S256x2048_0_0) (S := a9.view.set) (f := f9) (by rw [View.setOn_univ]; exact View.set_slice_subset _ _)) $$ H9
  iintro H9
  sl_step
  iapply HK
  isplitl [H3]; · iexact H3
  isplitl [H9]; · iexists _; iexact H9
  isplitl [HP HX HS]
  · unfold Free Has
    isplitl [HP HX]
    · iexists _
      isplitl [HP]; · iexact HP
      iexact HX
    iexact HS
  iexact HO

theorem part1_wp (c : Dev nD) (t : Fin cfg0.N) (X : Buf (Elt F) (xM.view.loc (c : Thread nD τ)))
    (f1 : Buf (Elt F) (a1.view.loc (c : Thread nD τ))) (hs : Inside (a1.view.read (Elt F) f1)) (f3 : Buf (Elt F) (a3.view.loc (c : Thread nD τ))) (f9 : Buf (Elt F) (a9.view.loc (c : Thread nD τ)))
    (Q : (Σ' (_ : FVec F S256x128 .f32) (_ : IVec S256x2048 32) (_ : IVec S256x128 32), IVec S256x128 32) → sProp 𝕄) :
    iprop((a1.view.loc (c : Thread nD τ) ↦[a1.view.set]{fullShare} f1) ∗ (a3.view.loc (c : Thread nD τ) ↦[a3.view.set]{fullShare} f3) ∗ (a9.view.loc (c : Thread nD τ) ↦[a9.view.set]{fullShare} f9)
        ∗ Rest c X _ hs t.val ∗ (∃ W, owes (c : Thread nD τ) 0 W))
      ⊢ iprop((((a1.view.loc (c : Thread nD τ) ↦[a1.view.set]{fullShare} f1) ∗ (a3.view.loc (c : Thread nD τ) ↦[a3.view.set]{fullShare} f3) ∗ (∃ f9 : Buf (Elt F) (a9.view.loc (c : Thread nD τ)), a9.view.loc (c : Thread nD τ) ↦[a9.view.set]{fullShare} f9)
        ∗ Rest c X _ hs (t.val + 1) ∗ (∃ W, owes (c : Thread nD τ) 0 W)) -∗
          Q ⟨k0_pay1 (selV (a3.view.read (Elt F) f3) t.val), k0_pay2 (F := F) (rowsV X (rowNo _ hs t.val)), k0_pay3 (F := F) (selV (a3.view.read (Elt F) f3) t.val), k0_pay4⟩)
      -∗ wp frame (wpE (defs₀ (F := F)) Variants.none c none) Set.univ (k0_part1 (grid0.coords t) a1 h1 xM (Memref.isWhole_whole _) a3 h3 a4 h4 a5 h5 a6 h6 a7 h7 a8 h8 a9 h9 a10 h10 a11 h11 a12 h12 a13 h13 a14 h14 a15 h15 scM (Memref.isWhole_whole _) cc0_scratch1) Q) := by
  have hN : t.val < 8 := lt_of_lt_of_eq t.isLt N_0
  simp only [k0_part1_eq_skeleton]; unfold k0_part1_skel
  have e01 : par (t.val + 2) = par t.val := Fin.ext (by show (t.val + 2) % 2 = t.val % 2; omega)
  by_cases hc1 : k0_cond1 (grid0.coords t) = 1#1
  · have ht := (cond1_iff t).mp hc1
    have hc2 := (cond2_iff t).mpr (by omega)
    rw [dif_pos hc1]
    simp only [Prog.lift, Prog.bind_op, Prog.bind_ret, Prog.pure_eq_ret, Prog.bind_assoc]
    rw [rest_free c X _ hs t.val (Or.inl ht), rest_flight c X _ hs (t.val + 1) (by omega), show par (t.val + 1 + 1) = par t.val from e01]
    have ep : par t.val = 0 := by rw [ht]; rfl
    have ep' : par (t.val + 1) = 1 := by rw [ht]; rfl
    iintro ⟨H1, H3, H9, ⟨HA, HB⟩, HO⟩ HK
    iapply (loop1 a1 h1 a3 h3 a4 h4 a5 h5 a6 h6 a7 h7 a8 h8 a9 h9 a10 h10 a11 h11 a12 h12 a13 h13 a14 h14 a15 h15 c (grid0.coords t) X hc1 f1 hs) $$ [H1 HA]
    · isplitl [H1]; · iexact H1
      iexact HA
    iintro ⟨H1, HF⟩
    rw [dif_pos hc2]
    iapply (loop2 a1 h1 a3 h3 a4 h4 a5 h5 a6 h6 a7 h7 a8 h8 a9 h9 a10 h10 a11 h11 a12 h12 a13 h13 a14 h14 a15 h15 c t X hc2 f1 hs) $$ [H1 HB]
    · isplitl [H1]; · iexact H1
      rw [ep']; iexact HB
    iintro ⟨H1, HN⟩
    iapply (tail_wp a1 h1 a3 h3 a4 h4 a5 h5 a6 h6 a7 h7 a8 h8 a9 h9 a10 h10 a11 h11 a12 h12 a13 h13 a14 h14 a15 h15 c t X _ hs f3 f9 Q)
    isplitl [H3]; · iexact H3
    isplitl [H9]; · iexact H9
    isplitl [HF]; · rw [ep, ht]; iexact HF
    isplitl [HO]; · iexact HO
    iintro ⟨H3, H9, HF, HO⟩
    iapply HK
    isplitl [H1]; · iexact H1
    isplitl [H3]; · iexact H3
    isplitl [H9]; · iexact H9
    isplitl [HN HF]
    · isplitl [HN]; · iexact HN
      iexact HF
    iexact HO
  · have ht : t.val ≠ 0 := fun h => hc1 ((cond1_iff t).mpr h)
    rw [dif_neg hc1]
    simp only [Prog.lift, Prog.bind_op, Prog.bind_ret, Prog.pure_eq_ret, Prog.bind_assoc]
    rw [rest_flight c X _ hs t.val (by omega)]
    by_cases hc2 : k0_cond2 (grid0.coords t) = 1#1
    · have ht2 := (cond2_iff t).mp hc2
      rw [dif_pos hc2, rest_flight c X _ hs (t.val + 1) (by omega), show par (t.val + 1 + 1) = par t.val from e01]
      iintro ⟨H1, H3, H9, ⟨HF, HB⟩, HO⟩ HK
      iapply (loop2 a1 h1 a3 h3 a4 h4 a5 h5 a6 h6 a7 h7 a8 h8 a9 h9 a10 h10 a11 h11 a12 h12 a13 h13 a14 h14 a15 h15 c t X hc2 f1 hs) $$ [H1 HB]
      · isplitl [H1]; · iexact H1
        iexact HB
      iintro ⟨H1, HN⟩
      iapply (tail_wp a1 h1 a3 h3 a4 h4 a5 h5 a6 h6 a7 h7 a8 h8 a9 h9 a10 h10 a11 h11 a12 h12 a13 h13 a14 h14 a15 h15 c t X _ hs f3 f9 Q)
      isplitl [H3]; · iexact H3
      isplitl [H9]; · iexact H9
      isplitl [HF]; · iexact HF
      isplitl [HO]; · iexact HO
      iintro ⟨H3, H9, HF, HO⟩
      iapply HK
      isplitl [H1]; · iexact H1
      isplitl [H3]; · iexact H3
      isplitl [H9]; · iexact H9
      isplitl [HN HF]
      · isplitl [HN]; · iexact HN
        iexact HF
      iexact HO
    · have ht2 : t.val = 7 := by
        have hh : ¬ t.val + 1 < 8 := fun h => hc2 ((cond2_iff t).mpr h)
        omega
      have ep : par t.val = 1 := by rw [ht2]; rfl
      have ep' : par (t.val + 1) = 0 := by rw [ht2]; rfl
      rw [dif_neg hc2, rest_free c X _ hs (t.val + 1) (by omega)]
      iintro ⟨H1, H3, H9, ⟨HF, HB⟩, HO⟩ HK
      iapply (tail_wp a1 h1 a3 h3 a4 h4 a5 h5 a6 h6 a7 h7 a8 h8 a9 h9 a10 h10 a11 h11 a12 h12 a13 h13 a14 h14 a15 h15 c t X _ hs f3 f9 Q)
      isplitl [H3]; · iexact H3
      isplitl [H9]; · iexact H9
      isplitl [HF]; · iexact HF
      isplitl [HO]; · iexact HO
      iintro ⟨H3, H9, HF, HO⟩
      iapply HK
      isplitl [H1]; · iexact H1
      isplitl [H3]; · iexact H3
      isplitl [H9]; · iexact H9
      isplitl [HB HF]
      · rw [ep', ep]
        isplitl [HB]; · iexact HB
        iexact HF
      iexact HO
end

end Cert.Qkv.Gather

end
-- ==== Proof.Qkv.Body.lean ====
/- One grid point: the gate, the codes and the scales it leaves. -/
module

public import proofs.«01_k».proof.Proof.Qkv.Part1

@[expose] public section

set_option maxRecDepth 16384

noncomputable section

namespace Cert.Qkv.Gather

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## What a grid point leaves -/

abbrev rX : Rect S256x2048 := Rect.unit (s := S256x2048) ![0, 0] S256x2048.size inb_S256x2048_S256x2048_0_0
abbrev rA3 : Rect S1x1x256 := Rect.unit (s := S1x1x256) ![0, 0, 0] S1x1x256.size inb_S1x1x256_S1x1x256_0_0_0
abbrev rD : Rect S1x2048 := Rect.unit (s := S1x2048) ![0, 0] S1x2048.size inb_S1x2048_S1x2048_0_0

section
variable (X : S8192x2048.Idx → BitVec 32) (o : Fin 256 → Fin 8192)

/-- The rows' words. -/
def bWords : IVec S256x2048 32 := k0_pay2 (F := F) (rowsV X o)
/-- The parities' lanes, as the body passes them on. -/
def bPar (sv : Vec F S1x256 .i32) : IVec S256x128 32 := k0_pay3 (F := F) sv
end

section
variable (w : IVec S256x2048 32) (p : IVec S256x128 32)
/-- The rows scaled by their root mean square and the gain. -/
def bNorm (x5 : Vec F S1x2048 .f32) : FVec F S256x2048 .f32 :=
  k0_pay9 (k0_pay5 (F := F) w p k0_pay4) (k0_pay7 (View.ld x5 rD)) (k0_pay8 (F := F) w p k0_pay4)
def b10 (x5 : Vec F S1x2048 .f32) : FVec F S256x128 .f32 :=
  k0_pay10 (k0_pay5 (F := F) w p k0_pay4) (k0_pay7 (View.ld x5 rD)) (k0_pay8 (F := F) w p k0_pay4)
def b11 (x5 : Vec F S1x2048 .f32) : IVec S256x128 32 :=
  k0_pay11 (k0_pay5 (F := F) w p k0_pay4) (k0_pay7 (View.ld x5 rD)) (k0_pay8 (F := F) w p k0_pay4)
def b12 (x5 : Vec F S1x2048 .f32) : IVec S256x128 1 :=
  k0_pay12 (k0_pay5 (F := F) w p k0_pay4) (k0_pay7 (View.ld x5 rD)) (k0_pay8 (F := F) w p k0_pay4)
def b15 (x5 : Vec F S1x2048 .f32) : IVec S256x128 1 := k0_pay15 (b10 w p x5) (b11 w p x5) (b12 w p x5) k0_pay13
def b16 (x5 : Vec F S1x2048 .f32) : IVec S256x128 32 := k0_pay16 (b10 w p x5) (b11 w p x5) (b12 w p x5) k0_pay13

/-- The code window. -/
def outC (x5 : Vec F S1x2048 .f32) : Vec F S256x2048 .fp8e4m3 := View.canon [⟨rX, k0_pay19 (bNorm w p x5) (b15 w p x5) (b16 w p x5) 0#32⟩]
/-- The scale window. -/
def outS (x5 : Vec F S1x2048 .f32) : Vec F S1x1x256 .f32 := View.canon [⟨rA3, k0_pay20 (F := F) (b15 w p x5) (b16 w p x5) 0#32⟩]
/-- The gate window. -/
def outG (x4 : Vec F S1x2048 .f32) : Vec F S1x1x256 .f32 := View.canon [⟨rA3, k0_pay6 w p k0_pay4 (View.ld x4 rD)⟩]
end

theorem cover3 (w : rA3.shape.Idx → Elt F .f32) (x : S1x1x256.Idx) :
    ∃ p ∈ ([⟨rA3, w⟩] : List (View.Piece (Elt F) S1x1x256 .f32)), x ∈ p.1.set :=
  View.cover_of_tiled [⟨rA3, w⟩] S1x1x256.size (by rfl) x
theorem coverX (w : rX.shape.Idx → Elt F .fp8e4m3) (x : S256x2048.Idx) :
    ∃ p ∈ ([⟨rX, w⟩] : List (View.Piece (Elt F) S256x2048 .fp8e4m3)), x ∈ p.1.set :=
  View.cover_of_tiled [⟨rX, w⟩] S256x2048.size (by rfl) x

section
variable (a1 : Memref sig .tc .smem S2x1024 .i32) (h1 : a1.IsWhole) (a3 : Memref sig .tc .vmem S2x1024 .i32) (h3 : a3.IsWhole) (a4 : Memref sig .tc .vmem S1x2048 .f32) (h4 : a4.IsWhole) (a5 : Memref sig .tc .vmem S1x2048 .f32) (h5 : a5.IsWhole) (a6 : Memref sig .tc .vmem S2048x5120 .fp8e4m3) (h6 : a6.IsWhole) (a7 : Memref sig .tc .vmem S1x5120 .f32) (h7 : a7.IsWhole) (a8 : Memref sig .tc .vmem S1x128 .f32) (h8 : a8.IsWhole) (a9 : Memref sig .tc .vmem S256x2048 .i32) (h9 : a9.IsWhole) (a10 : Memref sig .tc .vmem S256x2048 .fp8e4m3) (h10 : a10.IsWhole) (a11 : Memref sig .tc .vmem S1x1x256 .f32) (h11 : a11.IsWhole) (a12 : Memref sig .tc .vmem S1x1x256 .f32) (h12 : a12.IsWhole) (a13 : Memref sig .tc .vmem S256x4096 .bf16) (h13 : a13.IsWhole) (a14 : Memref sig .tc .vmem S256x2048 .bf16) (h14 : a14.IsWhole) (a15 : Memref sig .tc .vmem S1280x256 .bf16) (h15 : a15.IsWhole)

set_option maxHeartbeats 4000000 in
theorem body_wp (c : Dev nD) (t : Fin cfg0.N) (X : Buf (Elt F) (xM.view.loc (c : Thread nD τ))) (x1 : Vec F S2x1024 .i32) (x3 : Vec F S2x1024 .i32) (x4 : Vec F S1x2048 .f32) (x5 : Vec F S1x2048 .f32) (x6 : Vec F S2048x5120 .fp8e4m3) (x7 : Vec F S1x5120 .f32) (x8 : Vec F S1x128 .f32)
    (hs : Inside (x1 : S2x1024.Idx → BitVec 32)) (K : PUnit → sProp 𝕄) :
    iprop(owns (c : Thread nD τ) a1 fullShare x1 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d)
       ∗ Rest c X x1 hs t.val ∗ (∃ W, owes (c : Thread nD τ) 0 W)
       ∗ (iprop(owns (c : Thread nD τ) a1 fullShare x1 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ owns (c : Thread nD τ) a10 fullShare (outC (bWords (F := F) X (rowNo (x1 : S2x1024.Idx → BitVec 32) hs t.val)) (bPar (F := F) (selV x3 t.val)) x5) ∗ owns (c : Thread nD τ) a11 fullShare (outS (bWords (F := F) X (rowNo (x1 : S2x1024.Idx → BitVec 32) hs t.val)) (bPar (F := F) (selV x3 t.val)) x5) ∗ owns (c : Thread nD τ) a12 fullShare (outG (bWords (F := F) X (rowNo (x1 : S2x1024.Idx → BitVec 32) hs t.val)) (bPar (F := F) (selV x3 t.val)) x4) ∗ (∃ d, owns (c : Thread nD τ) a13 fullShare d) ∗ (∃ d, owns (c : Thread nD τ) a14 fullShare d) ∗ (∃ d, owns (c : Thread nD τ) a15 fullShare d)
         ∗ Rest c X x1 hs (t.val + 1) ∗ (∃ W, owes (c : Thread nD τ) 0 W)) -∗ K ⟨⟩))
      ⊢ wp frame (wpE (defs₀ (F := F)) Variants.none c none) Set.univ (cc0_qkv (grid0.coords t) a1 h1 xM (Memref.isWhole_whole _) a3 h3 a4 h4 a5 h5 a6 h6 a7 h7 a8 h8 a9 h9 a10 h10 a11 h11 a12 h12 a13 h13 a14 h14 a15 h15 scM (Memref.isWhole_whole _) cc0_scratch1) K := by
  simp only [cc0_qkv_eq_skeleton]; unfold cc0_qkv_skel
  simp only [k0_part12_eq_skeleton]; unfold k0_part12_skel
  rw [Prog.bind_assoc, wp_bind]
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, HR, HO, HK⟩
  subst hf1 hf3 hf4 hf5 hf6 hf7 hf8 hf9 hf10 hf11 hf12 hf13 hf14 hf15
  iapply (part1_wp a1 h1 a3 h3 a4 h4 a5 h5 a6 h6 a7 h7 a8 h8 a9 h9 a10 h10 a11 h11 a12 h12 a13 h13 a14 h14 a15 h15 c t X f1 hs f3 f9) $$ [H1 H3 H9 HR HO]
  · isplitl [H1]; · iexact H1
    isplitl [H3]; · iexact H3
    isplitl [H9]; · iexact H9
    isplitl [HR]; · iexact HR
    iexact HO
  iintro ⟨H1, H3, ⟨%f9, H9⟩, HR, HO⟩
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  sl_exec
  sl_step
  iapply HK
  isplitl [H1]
  · iexists f1; isplitr; · ipureintro; rfl
    iexact H1
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _, _; isplitr
    swap; · iexact H9
    ipureintro; rfl
  isplitl [H10]
  · iexists _; isplitr
    swap; · iexact H10
    ipureintro
    exact View.read_writes_eq_canon _ _ _ (coverX _)
  isplitl [H11]
  · iexists _; isplitr
    swap; · iexact H11
    ipureintro
    exact View.read_writes_eq_canon _ _ _ (cover3 _)
  isplitl [H12]
  · iexists _; isplitr
    swap; · iexact H12
    ipureintro
    exact View.read_writes_eq_canon _ _ _ (cover3 _)
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [HR]; · iexact HR
  iexact HO
end

end Cert.Qkv.Gather

end
-- ==== Proof.Qkv.Frame.lean ====
/- The frame of the whole call: the run over the eight grid points, and what the arrays hold at the end. -/
module

public import proofs.«01_k».proof.Proof.Qkv.Body
public import Idealize.ShloMosaic.Lib.Pipeline.FrameBody
public import Idealize.ShloMosaic.Lib.Pipeline.ValueKit.Geometry

@[expose] public section

set_option maxRecDepth 16384

noncomputable section

namespace Cert.Qkv.Gather

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat Cfg Window BodyObligation BodyObligationLoose cellOf)

variable (m : (ℓ : Loc nD τ sig) → Buf (Elt F) ℓ) (ρ : Dev nD → PrngReg)

/-! ## The launch's data -/

/-- The array the body's transfers read: the table of words. -/
def H0 : Finset (Ref sig .tc) := {main_arg0}
theorem H0_sub : H0 ⊆ Pipeline.restRefs sig spec0 := by decide

/-- The body's cells, one for each half of the scratch. -/
abbrev osem0 : Fin 2 → SemLoc sig := fun p => semL p
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), semL 0) 0 ∗ semVal ((c : Thread nD τ), semL 1) 0) := by
  rw [Pipeline.ownSems0_eq_of_list c osem0 [0, 1] (by decide) (by decide)]; rfl
theorem H0_eq (c : Dev nD) :
    (bigSep H0 (fun b => ((c.tc : Thread nD τ).loc b) ↦{fullShare} V m c b) : sProp 𝕄)
      = iprop(((c : Thread nD τ).loc main_arg0) ↦{fullShare} V m c main_arg0) := by
  rw [BI.bigSep_eq_bigSepL_of_eq [main_arg0] (by decide) (by decide)]; rfl

/-- The host operations and then the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The table's words, as launched. -/
def xs (c : Dev nD) : Buf (Elt F) (xM.view.loc (c : Thread nD τ)) := m ((c : Thread nD τ).loc main_arg0)
/-- The selection, as launched. -/
def sel (c : Dev nD) : S2x1024.Idx → BitVec 32 := m ((c : Thread nD τ).loc main_arg1)
/-- Every selected row is a row of the table. -/
abbrev AllInside : Prop := ∀ c, Inside (sel m c)

theorem iblk0_eq (c : Dev nD) (t : Fin cfg0.N) : (iblk m c 0 t : S2x1024.Idx → BitVec 32) = sel m c := by
  funext j
  show iblk m c 0 t j = m ((c : Thread nD τ).loc main_arg1) j
  rw [← V_main_arg1 m c]
  unfold iblk
  exact congrArg (V m c main_arg1) (funext fun a => Fin.ext (by blk_simp; fin_cases a <;> exact Nat.zero_add _))

section
variable (hI : AllInside m)

/-- What the grid points hand on: the two halves of the scratch, the table, and the rows in flight. -/
def Phi (c : Dev nD) (t : ℕ) : sProp 𝕄 :=
  iprop(Rest c (xs m c) (sel m c) (hI c) t ∗ (∃ r, prngReg (c : Dev nD) r))

theorem phiD_eq (c : Dev nD) :
    (Pipeline.ΦD osem0 spec0 H0 (V m) c : sProp 𝕄)
      = iprop((∃ f : Buf (Elt F) (scM.view.loc (c : Thread nD τ)), scM.view.loc (c : Thread nD τ) ↦{fullShare} f)
          ∗ (∃ r, prngReg c r) ∗ iprop(semVal ((c : Thread nD τ), semL 0) 0 ∗ semVal ((c : Thread nD τ), semL 1) 0)
          ∗ xM.view.loc (c : Thread nD τ) ↦{fullShare} xs m c) := by
  rw [Pipeline.ΦD_eq, scopedRest0_eq, ownSems0_eq, H0_eq, V_main_arg0]; rfl

theorem planes (c : Dev nD) (f : Buf (Elt F) (scM.view.loc (c : Thread nD τ))) :
    (scM.view.loc (c : Thread nD τ) ↦{fullShare} f : sProp 𝕄)
      = iprop((scM.view.loc (c : Thread nD τ) ↦[plane c 0]{fullShare} f) ∗ scM.view.loc (c : Thread nD τ) ↦[plane c 1]{fullShare} f) := by
  rw [Ring.pointsTo_blocks (plane c) (plane_disjoint c) (plane_cover c) f,
    BI.bigSep_univ_eq_bigSepL [(0 : Fin 2), 1] (by decide) (by decide)]; rfl
theorem planes_join (c : Dev nD) (f g : Buf (Elt F) (scM.view.loc (c : Thread nD τ))) :
    iprop((scM.view.loc (c : Thread nD τ) ↦[plane c 0]{fullShare} f) ∗ scM.view.loc (c : Thread nD τ) ↦[plane c 1]{fullShare} g)
      ⊢ (iprop(∃ h : Buf (Elt F) (scM.view.loc (c : Thread nD τ)), scM.view.loc (c : Thread nD τ) ↦{fullShare} h) : sProp 𝕄) := by
  refine BI.Entails.trans ?_ (Ring.pointsTo_blocks_join (plane c) (plane_disjoint c) (plane_cover c) (fun p : Fin 2 => if p = 0 then f else g) f)
  rw [BI.bigSep_univ_eq_bigSepL [(0 : Fin 2), 1] (by decide) (by decide)]
  show _ ⊢ (iprop((scM.view.loc (c : Thread nD τ) ↦[plane c 0]{fullShare} f) ∗ scM.view.loc (c : Thread nD τ) ↦[plane c 1]{fullShare} g) : sProp 𝕄)
  iintro H
  iexact H

theorem phi_in (c : Dev nD) : Pipeline.ΦD osem0 spec0 H0 (V m) c ⊢ (Phi m hI c 0 : sProp 𝕄) := by
  rw [phiD_eq]
  unfold Phi
  rw [rest_free _ _ _ _ 0 (Or.inl rfl)]
  unfold Free Has
  rw [show half 0 = fullShare.left from rfl, show half 1 = fullShare.right from rfl]
  iintro ⟨⟨%f, HS⟩, Hg, ⟨H0, H1⟩, Hx⟩
  ihave HP := (Entails.of_eq (planes c f)) $$ HS
  icases HP with ⟨HA, HB⟩
  ihave HX := (pointsTo_share (PosShare.mem_left_op_right fullShare)).1 $$ Hx
  icases HX with ⟨HL, HR⟩
  isplitr [Hg]
  · isplitl [HA HL H0]
    · isplitl [HA HL]
      · iexists f
        isplitl [HA]; · iexact HA
        iexact HL
      iexact H0
    isplitl [HB HR]
    · iexists f
      isplitl [HB]; · iexact HB
      iexact HR
    iexact H1
  iexact Hg

theorem phi_out (c : Dev nD) : (Phi m hI c 8 : sProp 𝕄) ⊢ Pipeline.ΦD osem0 spec0 H0 (V m) c := by
  rw [phiD_eq]
  unfold Phi
  rw [rest_free _ _ _ _ 8 (Or.inr rfl)]
  unfold Free Has
  rw [show half 0 = fullShare.left from rfl, show half 1 = fullShare.right from rfl]
  iintro ⟨⟨⟨⟨%f, HA, HL⟩, H0⟩, ⟨⟨%g, HB, HR⟩, H1⟩⟩, Hg⟩
  isplitl [HA HB]
  · iapply (planes_join c f g)
    isplitl [HA]; · iexact HA
    iexact HB
  isplitl [Hg]; · iexact Hg
  isplitl [H0 H1]
  · isplitl [H0]; · iexact H0
    iexact H1
  iapply (pointsTo_share (PosShare.mem_left_op_right fullShare)).2
  isplitl [HL]; · iexact HL
  iexact HR

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outC (F := F) (bWords (F := F) (xs m c) (rowNo (sel m c) (hI c) t.val)) (bPar (F := F) (selV (iblk m c 1 t) t.val)) (iblk m c 3 t)
    | ⟨9, _⟩ => outS (F := F) (bWords (F := F) (xs m c) (rowNo (sel m c) (hI c) t.val)) (bPar (F := F) (selV (iblk m c 1 t) t.val)) (iblk m c 3 t)
    | ⟨10, _⟩ => outG (F := F) (bWords (F := F) (xs m c) (rowNo (sel m c) (hI c) t.val)) (bPar (F := F) (selV (iblk m c 1 t) t.val)) (iblk m c 2 t)
    | ⟨11, _⟩ => iblk m c 11 t
    | ⟨12, _⟩ => iblk m c 12 t
    | ⟨13, _⟩ => iblk m c 13 t
    | ⟨_ + 14, h⟩ => absurd h (Nat.not_lt.2 (Nat.le_add_left _ _))
  Φ t := Phi m hI c t.val
  q w := Pipeline.shareOf spec0 w
  owed _ := 0

/-- The outputs of which nothing is said. -/
def fgt : Fin cfg0.W → Bool := fun w => match w with
    | ⟨0, _⟩ => false
    | ⟨1, _⟩ => false
    | ⟨2, _⟩ => false
    | ⟨3, _⟩ => false
    | ⟨4, _⟩ => false
    | ⟨5, _⟩ => false
    | ⟨6, _⟩ => false
    | ⟨7, _⟩ => true
    | ⟨8, _⟩ => false
    | ⟨9, _⟩ => false
    | ⟨10, _⟩ => false
    | ⟨11, _⟩ => true
    | ⟨12, _⟩ => true
    | ⟨13, _⟩ => true
    | ⟨_ + 14, h⟩ => absurd h (Nat.not_lt.2 (Nat.le_add_left _ _))

theorem A_eq (c : Dev nD) (w : Fin cfg0.W) : (dats m hI 0 c).A w = V m c (Pipeline.arrRef spec0 w) := by
  dsimp only [dats]

theorem after0_0 (c : Dev nD) (t : Fin cfg0.N) : (dats m hI 0 c).after 0 t = iblk m c 0 t := by dsimp only [dats]
theorem after0_1 (c : Dev nD) (t : Fin cfg0.N) : (dats m hI 0 c).after 1 t = iblk m c 1 t := by dsimp only [dats]
theorem after0_2 (c : Dev nD) (t : Fin cfg0.N) : (dats m hI 0 c).after 2 t = iblk m c 2 t := by dsimp only [dats]
theorem after0_3 (c : Dev nD) (t : Fin cfg0.N) : (dats m hI 0 c).after 3 t = iblk m c 3 t := by dsimp only [dats]
theorem after0_4 (c : Dev nD) (t : Fin cfg0.N) : (dats m hI 0 c).after 4 t = iblk m c 4 t := by dsimp only [dats]
theorem after0_5 (c : Dev nD) (t : Fin cfg0.N) : (dats m hI 0 c).after 5 t = iblk m c 5 t := by dsimp only [dats]
theorem after0_6 (c : Dev nD) (t : Fin cfg0.N) : (dats m hI 0 c).after 6 t = iblk m c 6 t := by dsimp only [dats]
theorem after0_8 (c : Dev nD) (t : Fin cfg0.N) : (dats m hI 0 c).after 8 t = outC (F := F) (bWords (F := F) (xs m c) (rowNo (sel m c) (hI c) t.val)) (bPar (F := F) (selV (iblk m c 1 t) t.val)) (iblk m c 3 t) := by dsimp only [dats]
theorem after0_9 (c : Dev nD) (t : Fin cfg0.N) : (dats m hI 0 c).after 9 t = outS (F := F) (bWords (F := F) (xs m c) (rowNo (sel m c) (hI c) t.val)) (bPar (F := F) (selV (iblk m c 1 t) t.val)) (iblk m c 3 t) := by dsimp only [dats]
theorem after0_10 (c : Dev nD) (t : Fin cfg0.N) : (dats m hI 0 c).after 10 t = outG (F := F) (bWords (F := F) (xs m c) (rowNo (sel m c) (hI c) t.val)) (bPar (F := F) (selV (iblk m c 1 t) t.val)) (iblk m c 2 t) := by dsimp only [dats]

theorem before0_0 (c : Dev nD) (t : Fin cfg0.N) (d) : (dats m hI 0 c).before 0 t d = iblk m c 0 t :=
  ((dats m hI 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m hI 0 c).before 1 t d = iblk m c 1 t :=
  ((dats m hI 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m hI 0 c).before 2 t d = iblk m c 2 t :=
  ((dats m hI 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m hI 0 c).before 3 t d = iblk m c 3 t :=
  ((dats m hI 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m hI 0 c).before 4 t d = iblk m c 4 t :=
  ((dats m hI 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m hI 0 c).before 5 t d = iblk m c 5 t :=
  ((dats m hI 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m hI 0 c).before 6 t d = iblk m c 6 t :=
  ((dats m hI 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-! ## The body's obligation -/

def bodyPre (c : Dev nD) (t : Fin cfg0.N) : sProp 𝕄 :=
  iprop((dats m hI 0 c).Φ t.castSucc ∗ (dats m hI 0 c).owesAt () t.castSucc
    ∗ (∃ d, owns (c : Thread nD τ) (st0_0 t) fullShare ((dats m hI 0 c).before 0 t d))
    ∗ (∃ d, owns (c : Thread nD τ) (st0_1 t) fullShare ((dats m hI 0 c).before 1 t d))
    ∗ (∃ d, owns (c : Thread nD τ) (st0_2 t) fullShare ((dats m hI 0 c).before 2 t d))
    ∗ (∃ d, owns (c : Thread nD τ) (st0_3 t) fullShare ((dats m hI 0 c).before 3 t d))
    ∗ (∃ d, owns (c : Thread nD τ) (st0_4 t) fullShare ((dats m hI 0 c).before 4 t d))
    ∗ (∃ d, owns (c : Thread nD τ) (st0_5 t) fullShare ((dats m hI 0 c).before 5 t d))
    ∗ (∃ d, owns (c : Thread nD τ) (st0_6 t) fullShare ((dats m hI 0 c).before 6 t d))
    ∗ (∃ d, owns (c : Thread nD τ) (st0_7 t) fullShare d)
    ∗ (∃ d, owns (c : Thread nD τ) (st0_8 t) fullShare ((dats m hI 0 c).before 8 t d))
    ∗ (∃ d, owns (c : Thread nD τ) (st0_9 t) fullShare ((dats m hI 0 c).before 9 t d))
    ∗ (∃ d, owns (c : Thread nD τ) (st0_10 t) fullShare ((dats m hI 0 c).before 10 t d))
    ∗ (∃ d, owns (c : Thread nD τ) (st0_11 t) fullShare d)
    ∗ (∃ d, owns (c : Thread nD τ) (st0_12 t) fullShare d)
    ∗ (∃ d, owns (c : Thread nD τ) (st0_13 t) fullShare d))
def bodyPost (c : Dev nD) (t : Fin cfg0.N) : sProp 𝕄 :=
  iprop((dats m hI 0 c).Φ t.succ ∗ (dats m hI 0 c).owesAt () t.succ
    ∗ owns (c : Thread nD τ) (st0_0 t) fullShare ((dats m hI 0 c).after 0 t)
    ∗ owns (c : Thread nD τ) (st0_1 t) fullShare ((dats m hI 0 c).after 1 t)
    ∗ owns (c : Thread nD τ) (st0_2 t) fullShare ((dats m hI 0 c).after 2 t)
    ∗ owns (c : Thread nD τ) (st0_3 t) fullShare ((dats m hI 0 c).after 3 t)
    ∗ owns (c : Thread nD τ) (st0_4 t) fullShare ((dats m hI 0 c).after 4 t)
    ∗ owns (c : Thread nD τ) (st0_5 t) fullShare ((dats m hI 0 c).after 5 t)
    ∗ owns (c : Thread nD τ) (st0_6 t) fullShare ((dats m hI 0 c).after 6 t)
    ∗ (∃ d, owns (c : Thread nD τ) (st0_7 t) fullShare d)
    ∗ owns (c : Thread nD τ) (st0_8 t) fullShare ((dats m hI 0 c).after 8 t)
    ∗ owns (c : Thread nD τ) (st0_9 t) fullShare ((dats m hI 0 c).after 9 t)
    ∗ owns (c : Thread nD τ) (st0_10 t) fullShare ((dats m hI 0 c).after 10 t)
    ∗ (∃ d, owns (c : Thread nD τ) (st0_11 t) fullShare d)
    ∗ (∃ d, owns (c : Thread nD τ) (st0_12 t) fullShare d)
    ∗ (∃ d, owns (c : Thread nD τ) (st0_13 t) fullShare d))

set_option maxHeartbeats 1000000 in
theorem sound_body (c : Dev nD) (t : Fin cfg0.N) :
    bodyPre m hI c t ⊢ wp frame (wpE (defs₀ (F := F)) Variants.none c none) Set.univ (bodyAt0 t) (fun _ => bodyPost m hI c t) := by
  unfold bodyPre bodyPost bodyAt0
  simp only [before0_0, before0_1, before0_2, before0_3, before0_4, before0_5, before0_6]
  rw [after0_0, after0_1, after0_2, after0_3, after0_4, after0_5, after0_6, after0_8, after0_9, after0_10]
  rw [show (dats m hI 0 c).Φ t.castSucc = Phi m hI c t.val from rfl, show (dats m hI 0 c).Φ t.succ = Phi m hI c (t.val + 1) from rfl]
  unfold Dat.owesAt Pipeline.owesWithin Phi
  rw [show (dats m hI 0 c).owed t.castSucc = 0 from rfl, show (dats m hI 0 c).owed t.succ = 0 from rfl]
  rw [show iblk m c 0 t = sel m c from iblk0_eq m c t]
  iintro ⟨⟨HR, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_wp _ _ _ _ _ _ _ _ _ _ _ _ _ _ _ _ _ _ _ _ _ _ _ _ _ _ _ _ c t (xs m c) (sel m c) (iblk m c 1 t) (iblk m c 2 t) (iblk m c 3 t) (iblk m c 4 t) (iblk m c 5 t) (iblk m c 6 t) (hI c) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HR]; · iexact HR
  isplitl [HW]; · iexists _; iexact HW
  iintro ⟨H0, H1, H2, H3, H4, H5, H6, H7, H8, H9, H10, H11, H12, H13, HR, ⟨%W', HW⟩⟩
  isplitl [HR Hg]
  · isplitl [HR]; · iexact HR
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m hI 0 c) (defs₀ (F := F)) Variants.none () Set.univ fgt := fun t => by
  rw [bigSep_W0, bigSep_W0, defs₀_row]
  exact triple_restated (sound_body m hI c t) rfl .rfl fun _ => .rfl

/-! ## The run and the frame -/

set_option backward.isDefEq.respectTransparency.types false in
set_option maxHeartbeats 800000 in
theorem run_main : θ_run defs (onTc (τ := τ) (main (F := F))) (s₀ m ρ)
    (fun r => Pipeline.RDat.FramePost (cfgs 0) (fun c => (dats m hI 0 c).toRForget fgt) (V m) r ∧ r.2.sem = fun _ => 0) :=
  Pipeline.θ_run_frame_dma_forget_shared (Q' := _) cfgs (dats m hI) (0 : Fin 1) launch₀0 osem0 defs₀ Variants.none fgt ownSemFacts0 H0 H0_sub m ρ main
    (hbody := fun c => body_obligation m hI c) (hq := fun _ _ _ => rfl)
    (howed := fun _ _ => rfl) (V := V m) (hmain := hmain m Variants.none) (hA := A_eq m hI)
    (hin := fun c => phi_in m hI c) (hout := fun c => phi_out m hI c)

/-- What the launch leaves: the argument arrays unchanged, the three named outputs as the data say. -/
def Post (r : PUnit × MemSt nD τ sig (Elt F)) (c : Dev nD) : Prop :=
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((cfg0.spec 8).arr.view.loc (c.tc : Thread nD τ)) = (dats m hI 0 c).arrAt 8 cfg0.N
      ∧ r.2.mem ((cfg0.spec 9).arr.view.loc (c.tc : Thread nD τ)) = (dats m hI 0 c).arrAt 9 cfg0.N
      ∧ r.2.mem ((cfg0.spec 10).arr.view.loc (c.tc : Thread nD τ)) = (dats m hI 0 c).arrAt 10 cfg0.N

set_option maxHeartbeats 1020000 in
theorem run_post : θ_run defs (onTc (τ := τ) (main (F := F))) ⟨m, fun _ => 0, ρ⟩
    (fun r => (∀ c, Post m hI r c) ∧ r.2.sem = fun _ => 0) :=
  (θ_run defs _ _).mono (fun _ h => ⟨fun c => ⟨⟨((h.1 c).2 main_arg0 (Pipeline.mem_restRefs_of main_arg0 (by decide) (by decide))).trans (V_main_arg0 m c),
      (((dats m hI 0 c).toRForget_arrAt_iff (fgt := fgt) (w := 1) rfl _ _).mp ((h.1 c).1 1)).trans (((dats m hI 0 c).arrAt_in 1 rfl _).trans ((A_eq m hI c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (((dats m hI 0 c).toRForget_arrAt_iff (fgt := fgt) (w := 4) rfl _ _).mp ((h.1 c).1 4)).trans (((dats m hI 0 c).arrAt_in 4 rfl _).trans ((A_eq m hI c 4).trans (V_main_arg4 m c))),
      ((h.1 c).2 main_arg5 (Pipeline.mem_restRefs_of main_arg5 (by decide) (by decide))).trans (V_main_arg5 m c)⟩,
      ((dats m hI 0 c).toRForget_arrAt_iff (fgt := fgt) (w := 8) rfl _ _).mp ((h.1 c).1 8),
      ((dats m hI 0 c).toRForget_arrAt_iff (fgt := fgt) (w := 9) rfl _ _).mp ((h.1 c).1 9),
      ((dats m hI 0 c).toRForget_arrAt_iff (fgt := fgt) (w := 10) rfl _ _).mp ((h.1 c).1 10)⟩, h.2⟩) (run_main m ρ hI)

end

end Cert.Qkv.Gather

end
-- ==== Proof.QkvIdeal.Gather.lean ====
/- Fetching rows of a table: the rows one grid point needs are copied, one transfer each, into one half of a scratch
   buffer, and are waited for at that grid point. What the half holds afterwards, row by row. -/
module

public import proofs.«01_k».proof.Proof.Gen.QkvIdeal.Frame
public import proofs.«01_k».proof.Proof.Gen.QkvIdeal.Skeleton
public import Idealize.ShloMosaic.Lib.ViewIndex
public import Idealize.ShloMosaic.Lib.ShareLeaves
public import Idealize.ShloMosaic.Lib.Ring

@[expose] public section

set_option maxRecDepth 16384

noncomputable section

namespace Cert.QkvIdeal.Gather

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The table, as rows of words. -/
abbrev xM : Memref sig .tc .hbm S8192x2048 .i32 := Memref.whole main_arg0
/-- The scratch: two halves of 256 rows. -/
abbrev scM : Memref sig .tc .vmem S2x256x2048 .i32 := Memref.whole cc0_scratch0

/-- The cell a half's transfers count on, spelt at an offset. -/
abbrev semD (off : Fin 1 → Nat) (h : ∀ a, off a + S1.size a ≤ S2.size a) : DmaSem sig :=
  ((cc0_scratch1.slice (Rect.unit (s := S2) off S1.size h)).squeeze S_ squeezes_S1_S_).sem
theorem sem_inb (p : Fin 2) : ∀ a, (![p.val] : Fin 1 → Nat) a + S1.size a ≤ S2.size a := fun a =>
  match a with | ⟨0, _⟩ => p.isLt
/-- The cell half `p`'s transfers count on. -/
abbrev semL (p : Fin 2) : SemLoc sig := SemLoc.dma (semD ![p.val] (sem_inb p))

/-- A row of the table. -/
abbrev xRow (off : Fin 2 → Nat) (h : ∀ a, off a + S1x2048.size a ≤ S8192x2048.size a) : Memref sig .tc .hbm S1x2048 .i32 :=
  xM.slice (Rect.unit (s := S8192x2048) off S1x2048.size h) (fun _ => rfl)
/-- A row of the scratch. -/
abbrev scRow (off : Fin 3 → Nat) (h : ∀ a, off a + S1x1x2048.size a ≤ S2x256x2048.size a) : Memref sig .tc .vmem S1x2048 .i32 :=
  (scM.slice (Rect.unit (s := S2x256x2048) off S1x1x2048.size h) (fun _ => rfl)).squeeze S1x2048 squeezes_S1x1x2048_S1x2048

theorem x_inb (r : Fin 8192) : ∀ a, (![r.val, 0] : Fin 2 → Nat) a + S1x2048.size a ≤ S8192x2048.size a := fun a =>
  match a with | ⟨0, _⟩ => r.isLt | ⟨1, _⟩ => le_of_eq rfl
theorem sc_inb (p : Fin 2) (j : Fin 256) : ∀ a, (![p.val, j.val, 0] : Fin 3 → Nat) a + S1x1x2048.size a ≤ S2x256x2048.size a := fun a =>
  match a with | ⟨0, _⟩ => p.isLt | ⟨1, _⟩ => j.isLt | ⟨2, _⟩ => le_of_eq rfl
theorem plane_inb (p : Fin 2) : ∀ a, (![p.val, 0, 0] : Fin 3 → Nat) a + S1x256x2048.size a ≤ S2x256x2048.size a := fun a =>
  match a with | ⟨0, _⟩ => p.isLt | ⟨1, _⟩ => le_of_eq rfl | ⟨2, _⟩ => le_of_eq rfl

/-- What one transfer pays. -/
def rowN : ℕ := (scRow ![0, 0, 0] (sc_inb 0 0)).view.dmaCredit
theorem rowN_pos : 0 < rowN := by
  show 0 < (scRow ![0, 0, 0] (sc_inb 0 0)).view.dmaCredit
  decide
theorem amount_scRow (off : Fin 3 → Nat) (h) (p : Fin 2) : (scRow off h).view.amount (semL p) = rowN := rfl

/-- The embedding of the transfers' counters. -/
abbrev EC : UEmb Counters 𝕄 := countersEmb (U := Pipeline.UD sig nD τ)

/-! ## The elements of a row and of a half -/

/-- The elements of row `j` of half `p`. -/
def scSet (c : Dev nD) (p : Fin 2) (j : Fin 256) : Finset (Idx (scM.view.loc (c : Thread nD τ))) :=
  (scRow ![p.val, j.val, 0] (sc_inb p j)).view.set
/-- The elements of half `p`. -/
def plane (c : Dev nD) (p : Fin 2) : Finset (Idx (scM.view.loc (c : Thread nD τ))) :=
  (scM.access (Rect.unit (s := S2x256x2048) ![p.val, 0, 0] S1x256x2048.size (plane_inb p))).set
/-- The elements of a row of the table. -/
def xSet (c : Dev nD) (r : Fin 8192) : Finset (Idx (xM.view.loc (c : Thread nD τ))) :=
  (xRow ![r.val, 0] (x_inb r)).view.set

theorem mem_scSet (c : Dev nD) (p : Fin 2) (j : Fin 256) (x : S2x256x2048.Idx) :
    x ∈ scSet c p j ↔ x 0 = p ∧ x 1 = j := by
  unfold scSet
  rw [show (scRow ![p.val, j.val, 0] (sc_inb p j)).view.set = (Rect.unit (s := S2x256x2048) ![p.val, j.val, 0] S1x1x2048.size (sc_inb p j)).set from by
    show (View.reshape _ _ _).set = _
    rw [View.set_reshape]; exact View.set_slice_whole _ _]
  rw [Rect.mem_set_unit]
  constructor
  · intro h
    have h0 := h 0; have h1 := h 1
    change p.val ≤ (x 0).val ∧ (x 0).val < p.val + 1 at h0
    change j.val ≤ (x 1).val ∧ (x 1).val < j.val + 1 at h1
    exact ⟨Fin.ext (by omega), Fin.ext (by omega)⟩
  · rintro ⟨h0, h1⟩ a
    match a with
    | ⟨0, _⟩ => subst h0; exact ⟨le_rfl, Nat.lt_succ_self _⟩
    | ⟨1, _⟩ => subst h1; exact ⟨le_rfl, Nat.lt_succ_self _⟩
    | ⟨2, _⟩ => exact ⟨Nat.zero_le _, lt_of_lt_of_eq (x 2).isLt (Nat.zero_add _).symm⟩

theorem mem_plane (c : Dev nD) (p : Fin 2) (x : S2x256x2048.Idx) : x ∈ plane c p ↔ x 0 = p := by
  unfold plane
  rw [show (scM.access (Rect.unit (s := S2x256x2048) ![p.val, 0, 0] S1x256x2048.size (plane_inb p))).set
    = (Rect.unit (s := S2x256x2048) ![p.val, 0, 0] S1x256x2048.size (plane_inb p)).set from View.set_slice_whole _ _]
  rw [Rect.mem_set_unit]
  constructor
  · intro h
    have h0 := h 0
    change p.val ≤ (x 0).val ∧ (x 0).val < p.val + 1 at h0
    exact Fin.ext (by omega)
  · intro h0 a
    match a with
    | ⟨0, _⟩ => subst h0; exact ⟨le_rfl, Nat.lt_succ_self _⟩
    | ⟨1, _⟩ => exact ⟨Nat.zero_le _, lt_of_lt_of_eq (x 1).isLt (Nat.zero_add _).symm⟩
    | ⟨2, _⟩ => exact ⟨Nat.zero_le _, lt_of_lt_of_eq (x 2).isLt (Nat.zero_add _).symm⟩

theorem scSet_disjoint (c : Dev nD) (p : Fin 2) (j j' : Fin 256) (h : j ≠ j') : Disjoint (scSet c p j) (scSet c p j') := by
  rw [Finset.disjoint_left]
  intro x hx hx'
  exact h (((mem_scSet c p j x).mp hx).2.symm.trans ((mem_scSet c p j' x).mp hx').2)
theorem plane_eq (c : Dev nD) (p : Fin 2) : Finset.univ.biUnion (scSet c p) = plane c p := by
  ext x
  simp only [Finset.mem_biUnion, Finset.mem_univ, true_and]
  constructor
  · rintro ⟨j, hj⟩; exact (mem_plane c p x).mpr ((mem_scSet c p j x).mp hj).1
  · intro h; exact ⟨x 1, (mem_scSet c p (x 1) x).mpr ⟨(mem_plane c p x).mp h, rfl⟩⟩
theorem plane_disjoint (c : Dev nD) (p p' : Fin 2) (h : p ≠ p') : Disjoint (plane c p) (plane c p') := by
  rw [Finset.disjoint_left]
  intro x hx hx'
  exact h (((mem_plane c p x).mp hx).symm.trans ((mem_plane c p' x).mp hx'))
theorem plane_cover (c : Dev nD) : Finset.univ.biUnion (plane c) = Finset.univ := by
  ext x
  simp only [Finset.mem_biUnion, Finset.mem_univ, true_and, iff_true]
  exact ⟨x 0, (mem_plane c _ x).mpr rfl⟩

/-! ## What a half holds when its rows have arrived -/

/-- Row `j` holds row `o j` of the table. -/
def gath (c : Dev nD) (X : Buf (Elt F) (xM.view.loc (c : Thread nD τ))) (o : Fin 256 → Fin 8192) : Buf (Elt F) (scM.view.loc (c : Thread nD τ)) :=
  fun i : S2x256x2048.Idx => X (fun a : Fin 2 => match a with | ⟨0, _⟩ => o (i 1) | ⟨1, _⟩ => i 2)

/-- A row's transfer leaves the row as `gath` has it. -/
theorem written (c : Dev nD) (X : Buf (Elt F) (xM.view.loc (c : Thread nD τ))) (o : Fin 256 → Fin 8192) (p : Fin 2) (j : Fin 256)
    (f : Buf (Elt F) (scM.view.loc (c : Thread nD τ))) (i : S2x256x2048.Idx) (hi : i ∈ scSet c p j) :
    (scRow ![p.val, j.val, 0] (sc_inb p j)).view.write (Elt F) f ((xRow ![(o j).val, 0] (x_inb (o j))).view.read (Elt F) X) Finset.univ i
      = gath c X o i := by
  obtain ⟨y, -, hy⟩ := Finset.mem_map.mp hi
  have hj := (mem_scSet c p j i).mp hi
  rw [← hy]
  refine (View.write_emb_of_mem (v := (scRow ![p.val, j.val, 0] (sc_inb p j)).view) f _ (Finset.mem_univ y)).trans ?_
  rw [hy]
  show (xRow ![(o j).val, 0] (x_inb (o j))).view.read (Elt F) X y = gath c X o i
  show X ((xRow ![(o j).val, 0] (x_inb (o j))).view.emb y) = X _
  congr 1
  have h2 : (i 2).val = (y 1).val := by
    rw [← hy]
    have e : Shape.reshapeEquiv (squeezes_S1x1x2048_S1x2048.numel_eq) y = Fin.cons ⟨0, Nat.one_pos⟩ y := Shape.reshapeEquiv_cons_one _ y
    show 0 + 1 * ((Shape.reshapeEquiv (squeezes_S1x1x2048_S1x2048.numel_eq) y : S1x1x2048.Idx) 2).val = _
    rw [e]
    show 0 + 1 * (y 1).val = _
    omega
  funext a
  apply Fin.ext
  match a with
  | ⟨0, _⟩ =>
    show (o j).val + 1 * (y 0).val = (o (i 1)).val
    have hy0 := (y 0).isLt
    change (y 0).val < 1 at hy0
    rw [hj.2]; omega
  | ⟨1, _⟩ =>
    show 0 + 1 * (y 1).val = (i 2).val
    omega

/-! ## The rows in flight -/

/-- A half's share of the table. -/
def half (p : Fin 2) : PosShare TreeShare := if p = 0 then fullShare.left else fullShare.right
/-- One row's share of the table. -/
def leafQ (p : Fin 2) (j : Fin 256) : PosShare TreeShare := ShareLeaves.leaf 8 (half p) j

/-- What the transfer of row `j` is given. -/
def Item (c : Dev nD) (X : Buf (Elt F) (xM.view.loc (c : Thread nD τ))) (o : Fin 256 → Fin 8192) (p : Fin 2) (j : Fin 256) : sProp 𝕄 :=
  iprop((xM.view.loc (c : Thread nD τ) ↦[xSet c (o j)]{leafQ p j} X) ∗ ∃ f : Buf (Elt F) (scM.view.loc (c : Thread nD τ)), scM.view.loc (c : Thread nD τ) ↦[scSet c p j]{fullShare} f)
/-- What it delivers. -/
def Deliv (c : Dev nD) (X : Buf (Elt F) (xM.view.loc (c : Thread nD τ))) (o : Fin 256 → Fin 8192) (p : Fin 2) (j : Fin 256) : sProp 𝕄 :=
  iprop((xM.view.loc (c : Thread nD τ) ↦[xSet c (o j)]{leafQ p j} X) ∗ scM.view.loc (c : Thread nD τ) ↦[scSet c p j]{fullShare} gath c X o)

instance (c : Dev nD) (X : Buf (Elt F) (xM.view.loc (c : Thread nD τ))) (o : Fin 256 → Fin 8192) (p : Fin 2) (j : Fin 256) :
    Storable (upEmb : UEmb _ 𝕄) (Deliv c X o p j) := by
  unfold Deliv; infer_instance

/-- A half, at contents `f`, with its share of the table. -/
def Has (c : Dev nD) (X : Buf (Elt F) (xM.view.loc (c : Thread nD τ))) (p : Fin 2) (f : Buf (Elt F) (scM.view.loc (c : Thread nD τ))) : sProp 𝕄 :=
  iprop((scM.view.loc (c : Thread nD τ) ↦[plane c p]{fullShare} f) ∗ xM.view.loc (c : Thread nD τ) ↦[Finset.univ]{half p} X)

/-- A half's rows dealt out to their transfers, to be put together from what these deliver. -/
theorem deal (c : Dev nD) (X : Buf (Elt F) (xM.view.loc (c : Thread nD τ))) (o : Fin 256 → Fin 8192) (p : Fin 2) (f : Buf (Elt F) (scM.view.loc (c : Thread nD τ))) :
    Has c X p f ⊢ (iprop(bigSep Finset.univ (Item c X o p) ∗ (bigSep Finset.univ (Deliv c X o p) -∗ Has c X p (gath c X o))) : sProp 𝕄) := by
  have hx : (xM.view.loc (c : Thread nD τ) ↦[Finset.univ]{half p} X : sProp 𝕄)
      = iprop((bigSep Finset.univ fun j : Fin 256 => xM.view.loc (c : Thread nD τ) ↦[xSet c (o j)]{leafQ p j} X)
        ∗ bigSep Finset.univ fun j : Fin 256 => xM.view.loc (c : Thread nD τ) ↦[Finset.univ \ xSet c (o j)]{leafQ p j} X) := by
    refine (ShareLeaves.pointsTo_leaves (Ix := Unit) (Val := Elt F) (Name := ℕ) (U := Pipeline.UD sig nD τ) (Lvl := ℕ) Finset.univ X 8 (half p)).trans ?_
    refine Eq.trans ?_ (BI.bigSep_sep _ _ _)
    refine BI.bigSep_congr fun j _ => ?_
    exact BI.Entails.antisymm (pointsTo_split_subset (Finset.subset_univ _)).1 (pointsTo_split_subset (Finset.subset_univ _)).2
  have hs (g : Buf (Elt F) (scM.view.loc (c : Thread nD τ))) : (scM.view.loc (c : Thread nD τ) ↦[plane c p]{fullShare} g : sProp 𝕄)
      = bigSep Finset.univ fun j : Fin 256 => scM.view.loc (c : Thread nD τ) ↦[scSet c p j]{fullShare} g :=
    Ring.pointsTo_sub_blocks (scSet c p) (scSet_disjoint c p) _ (plane_eq c p) g
  have hd : (bigSep Finset.univ (Deliv c X o p) : sProp 𝕄)
      = iprop((bigSep Finset.univ fun j : Fin 256 => xM.view.loc (c : Thread nD τ) ↦[xSet c (o j)]{leafQ p j} X)
        ∗ bigSep Finset.univ fun j : Fin 256 => scM.view.loc (c : Thread nD τ) ↦[scSet c p j]{fullShare} gath c X o) := by
    unfold Deliv; exact BI.bigSep_sep _ _ _
  have hi : iprop((bigSep Finset.univ fun j : Fin 256 => xM.view.loc (c : Thread nD τ) ↦[xSet c (o j)]{leafQ p j} X)
        ∗ bigSep Finset.univ fun j : Fin 256 => scM.view.loc (c : Thread nD τ) ↦[scSet c p j]{fullShare} f) ⊢ (bigSep Finset.univ (Item c X o p) : sProp 𝕄) := by
    refine (Entails.of_eq (BI.bigSep_sep _ _ _).symm).trans (BI.bigSep_mono fun j _ => ?_)
    show iprop((xM.view.loc (c : Thread nD τ) ↦[xSet c (o j)]{leafQ p j} X) ∗ scM.view.loc (c : Thread nD τ) ↦[scSet c p j]{fullShare} f) ⊢ Item c X o p j
    unfold Item
    iintro ⟨A, B⟩
    isplitl [A]; · iexact A
    iexists _; iexact B
  unfold Has
  rw [hs, hs, hx, hd]
  iintro ⟨HS, HA, HR⟩
  isplitl [HS HA]
  · iapply hi
    isplitl [HA]; · iexact HA
    iexact HS
  iintro ⟨HA, HS⟩
  isplitl [HS]; · iexact HS
  isplitl [HA]; · iexact HA
  iexact HR

/-- Half `p` at rest: at some contents, with its share of the table, its cell at zero. -/
def Free (c : Dev nD) (X : Buf (Elt F) (xM.view.loc (c : Thread nD τ))) (p : Fin 2) : sProp 𝕄 :=
  iprop((∃ f, Has c X p f) ∗ semVal ((c : Thread nD τ), semL p) 0)

/-- Half `p`'s transfers all under way. -/
def Flight (c : Dev nD) (X : Buf (Elt F) (xM.view.loc (c : Thread nD τ))) (o : Fin 256 → Fin 8192) (p : Fin 2) : sProp 𝕄 :=
  iprop(Transfers.Batch (EC (F := F)) (c : Thread nD τ) (semL p) () rowN (Deliv c X o p) 256 0
    ∗ (bigSep Finset.univ (Deliv c X o p) -∗ Has c X p (gath c X o)))

/-- Before trip `k` of the loop that starts them. -/
def fetchInv (c : Dev nD) (X : Buf (Elt F) (xM.view.loc (c : Thread nD τ))) (o : Fin 256 → Fin 8192) (p : Fin 2) (k : ℕ) : sProp 𝕄 :=
  iprop(Transfers.Batch (EC (F := F)) (c : Thread nD τ) (semL p) () rowN (Deliv c X o p) k 0
    ∗ bigSep (Transfers.pending (n := 256) k) (Item c X o p))

/-- One trip starts one row's transfer. -/
theorem fetch_step (c : Dev nD) (X : Buf (Elt F) (xM.view.loc (c : Thread nD τ))) (o : Fin 256 → Fin 8192) (p : Fin 2) (k : Fin 256)
    (offM : Fin 1 → Nat) (hM) (offX : Fin 2 → Nat) (hX) (offS : Fin 3 → Nat) (hS)
    (eM : offM = ![p.val]) (eX : offX = ![(o k).val, 0]) (eS : offS = ![p.val, k.val, 0]) {hs hd hsem}
    {α : Type} (kk : PUnit → Prog (TpuEff nD τ sig (Elt F) Λ₀ .tc) α) (Q : α → sProp 𝕄) :
    fetchInv c X o p k ⊢ iprop((fetchInv c X o p (k.val + 1) -∗ wp frame (wpE (defs₀ (F := F)) Variants.none c none) Set.univ (kk ⟨⟩) Q)
      -∗ wp frame (wpE (defs₀ (F := F)) Variants.none c none) Set.univ
        (.op (.enqueueDma (xRow offX hX) (.here (scRow offS hS)) (.dma (semD offM hM)) hs hd hsem) kk) Q) := by
  subst eM eX eS
  unfold fetchInv
  have hP : (bigSep (Transfers.pending (n := 256) k.val) (Item c X o p) : sProp 𝕄) = iprop(Item c X o p k ∗ bigSep (Transfers.pending (n := 256) (k.val + 1)) (Item c X o p)) := by
    rw [Transfers.pending_succ k.isLt, BI.bigSep_insert (Transfers.not_mem_pending_succ k.isLt)]; rfl
  have hI : Item c X o p k = iprop((xM.view.loc (c : Thread nD τ) ↦[(xRow ![(o k).val, 0] hX).view.set]{leafQ p k} X)
      ∗ ∃ f : Buf (Elt F) (scM.view.loc (c : Thread nD τ)), scM.view.loc (c : Thread nD τ) ↦[(scRow ![p.val, k.val, 0] hS).view.set]{fullShare} f) := rfl
  rw [hP, hI]
  iintro ⟨HB, ⟨Hx, ⟨%f, Hs⟩⟩, HP⟩ HK
  iapply (Transfers.wp_dmaBatch (EC (F := F)) Variants.none (c : Thread nD τ) none (src := xRow ![(o k).val, 0] hX)
      (dst := scRow ![p.val, k.val, 0] hS) (sm := semL p) (D := Deliv c X o p) (q := leafQ p k) (fs := X) (fd := f)
      (Sd := (scRow ![p.val, k.val, 0] hS).view.set) () rowN (amount_scRow _ _ p) (subset_refl _) k.isLt (Nat.zero_le _) (by
        unfold Deliv
        iintro ⟨A, B⟩
        isplitl [B]; · iexact B
        iapply (Entails.of_eq (pointsTo_congr (fun i hi => written c X o p k f i hi)))
        iexact A)) $$ [Hx Hs HB]
  · isplitl [Hx]; · iexact Hx
    isplitl [Hs]; · iexact Hs
    iexact HB
  iintro HB
  iapply HK
  isplitl [HB]; · iexact HB
  iexact HP

/-- Starting: the half's rows are dealt out. -/
theorem fetch_begin (c : Dev nD) (X : Buf (Elt F) (xM.view.loc (c : Thread nD τ))) (o : Fin 256 → Fin 8192) (p : Fin 2) :
    Free c X p ⊢ (iprop(|={Set.univ}=> (fetchInv c X o p 0 ∗ (bigSep Finset.univ (Deliv c X o p) -∗ Has c X p (gath c X o)))) : sProp 𝕄) := by
  unfold Free fetchInv
  iintro ⟨⟨%f, HH⟩, HS⟩
  imod (Transfers.batch_alloc' (EC (F := F)) (c := (c : Thread nD τ)) (sm := semL p) () rowN (Deliv c X o p)) $$ HS with HB
  imodintro
  ihave HD := (deal c X o p f) $$ HH
  icases HD with ⟨HI, HW⟩
  isplitl [HB HI]
  · isplitl [HB]; · iexact HB
    rw [Transfers.pending_zero]; iexact HI
  iexact HW

/-- All started. -/
theorem fetch_end (c : Dev nD) (X : Buf (Elt F) (xM.view.loc (c : Thread nD τ))) (o : Fin 256 → Fin 8192) (p : Fin 2) :
    iprop(fetchInv c X o p 256 ∗ (bigSep Finset.univ (Deliv c X o p) -∗ Has c X p (gath c X o))) ⊢ (Flight c X o p : sProp 𝕄) := by
  unfold fetchInv Flight
  iintro ⟨⟨HB, -⟩, HW⟩
  isplitl [HB]; · iexact HB
  iexact HW

/-- Before trip `k` of the loop that waits for them. -/
def waitInv (c : Dev nD) (X : Buf (Elt F) (xM.view.loc (c : Thread nD τ))) (o : Fin 256 → Fin 8192) (p : Fin 2) (k : ℕ) : sProp 𝕄 :=
  iprop(Transfers.Batch (EC (F := F)) (c : Thread nD τ) (semL p) () rowN (Deliv c X o p) 256 (k * rowN) ∗ (∃ W, owes (c : Thread nD τ) 0 W))

/-- One trip waits for one row's pay. -/
theorem wait_step (c : Dev nD) (X : Buf (Elt F) (xM.view.loc (c : Thread nD τ))) (o : Fin 256 → Fin 8192) (p : Fin 2) (k : ℕ) (hk : k < 256)
    (offM : Fin 1 → Nat) (hM) (offX : Fin 2 → Nat) (hX) (offS : Fin 3 → Nat) (hS) (eM : offM = ![p.val]) {hs hd} :
    waitInv c X o p k ⊢ wp frame (wpE (defs₀ (F := F)) Variants.none c none) Set.univ
      (.op (.waitDma2 (semD offM hM) (xRow offX hX) (scRow offS hS) hs hd) fun _ => .ret PUnit.unit)
      (fun _ : PUnit => waitInv c X o p (k + 1)) := by
  subst eM
  unfold waitInv
  iintro ⟨HB, ⟨%W, HW⟩⟩
  iapply (Transfers.wp_waitBatchMul (EC (F := F)) Variants.none (c : Thread nD τ) none () (N := rowN) 1
    (show (scRow offS hS).view.dmaCredit = 1 * rowN by rw [Nat.one_mul]; rfl)
    (show k * rowN + 1 * rowN ≤ rowN * 256 by rw [← Nat.add_mul, Nat.mul_comm rowN]; exact Nat.mul_le_mul_right _ hk)) $$ [HB HW]
  · isplitl [HB]; · iexact HB
    iexact HW
  iintro ⟨HB, HW⟩
  rw [← Nat.add_mul]
  sl_step
  isplitl [HB]; · iexact HB
  iexists _; iexact HW

end Cert.QkvIdeal.Gather

end
-- ==== Proof.QkvIdeal.Prefix.lean ====
/- The start of a grid point: the next point's rows set off, this one's waited for and read. -/
module

public import proofs.«01_k».proof.Proof.QkvIdeal.Gather

@[expose] public section

set_option maxRecDepth 16384

noncomputable section

namespace Cert.QkvIdeal.Gather

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The words read and the rows they name -/

/-- Position `s` of batch `b`. -/
abbrev at2 (b : Fin 2) (s : Fin 1024) : S2x1024.Idx := Fin.cons b (Fin.cons s fun a => a.elim0)
/-- The batch of a grid point. -/
def batN (t : ℕ) : Fin 2 := ⟨t / 4 % 2, Nat.mod_lt _ (by decide)⟩
/-- The position of a grid point's row `j`. -/
def posN (t : ℕ) (j : Fin 256) : Fin 1024 := ⟨256 * (t % 4) + j.val, by have := j.isLt; omega⟩
/-- The selected position of grid point `t`, row `j`. -/
def word (s : S2x1024.Idx → BitVec 32) (t : ℕ) (j : Fin 256) : BitVec 32 := s (at2 (batN t) (posN t j))
/-- Every selected position is a position of the sequence. -/
def Inside (s : S2x1024.Idx → BitVec 32) : Prop := ∀ (b : Fin 2) (p : Fin 1024), (s (at2 b p)).toNat < 8192
/-- The word of the row of the table it names: two positions share a row. -/
def rowW (s : S2x1024.Idx → BitVec 32) (t : ℕ) (j : Fin 256) : BitVec 32 :=
  Scalar.shrui (Scalar.addi (BitVec.ofNat 32 (t / 4 % 2 * 8192)) (word s t j)) 1#32

theorem rowW_toNat (s : S2x1024.Idx → BitVec 32) (hs : Inside s) (t : ℕ) (j : Fin 256) :
    (rowW s t j).toNat = (t / 4 % 2 * 8192 + (word s t j).toNat) / 2 := by
  have hw : (word s t j).toNat < 8192 := hs _ _
  have e : rowW s t j = (BitVec.ofNat 32 (t / 4 % 2 * 8192) + word s t j) >>> (1#32) := rfl
  rw [e, BitVec.ushiftRight_eq', BitVec.toNat_ushiftRight, BitVec.toNat_add, BitVec.toNat_ofNat, Nat.shiftRight_eq_div_pow]
  have h2 : t / 4 % 2 < 2 := Nat.mod_lt _ (by decide)
  rw [show (1#32).toNat = 1 from rfl]
  omega
/-- The row itself. -/
def rowNo (s : S2x1024.Idx → BitVec 32) (hs : Inside s) (t : ℕ) (j : Fin 256) : Fin 8192 :=
  ⟨(rowW s t j).toNat, by
    rw [rowW_toNat s hs]
    have hw : (word s t j).toNat < 8192 := hs _ _
    have h2 : t / 4 % 2 < 2 := Nat.mod_lt _ (by decide)
    omega⟩

/-- The half a grid point's rows are in. -/
def par (t : ℕ) : Fin 2 := ⟨t % 2, Nat.mod_lt _ (by decide)⟩

theorem par_succ (t : ℕ) : (par (t + 1)).val = 1 - t % 2 := by
  show (t + 1) % 2 = _
  omega

/-! ## The offsets -/

theorem trips1 : k0_t1_loop.trips = 256 := by decide
theorem trips2 : k0_t2_loop.trips = 256 := by decide
theorem trips3 : k0_t3_loop.trips = 256 := by decide

theorem cond1_iff : ∀ t : Fin cfg0.N, k0_cond1 (grid0.coords t) = 1#1 ↔ t.val = 0 := by decide +kernel
theorem cond2_iff : ∀ t : Fin cfg0.N, k0_cond2 (grid0.coords t) = 1#1 ↔ t.val + 1 < 8 := by decide +kernel
theorem off1_eq : ∀ k : Fin k0_t1_loop.trips, k0_off1 k 0 = 0 ∧ k0_off1 k 1 = k.val := by decide +kernel
theorem off2_eq : ∀ k : Fin k0_t1_loop.trips, k0_off2 k = ![0, k.val, 0] := by decide +kernel
theorem off4_eq : ∀ (t : Fin cfg0.N) (k : Fin k0_t2_loop.trips), t.val + 1 < 8 →
    k0_off4 (grid0.coords t) k 0 = (t.val + 1) / 4 % 2 ∧ k0_off4 (grid0.coords t) k 1 = 256 * ((t.val + 1) % 4) + k.val := by decide +kernel
theorem off5_eq : ∀ t : Fin cfg0.N, k0_off5 (grid0.coords t) = ![(t.val + 1) % 2] := by decide +kernel
theorem off6_eq : ∀ (t : Fin cfg0.N) (k : Fin k0_t2_loop.trips), k0_off6 (grid0.coords t) k = ![(t.val + 1) % 2, k.val, 0] := by decide +kernel
theorem off8_eq : ∀ t : Fin cfg0.N, k0_off8 (grid0.coords t) = ![t.val % 2] := by decide +kernel
theorem off11_eq : ∀ t : Fin cfg0.N, k0_off11 (grid0.coords t) = ![t.val % 2, 0, 0] := by decide +kernel
theorem base_word : ∀ t : Fin cfg0.N, t.val + 1 < 8 → Scalar.muli (Scalar.divsi (Scalar.addi (BitVec.ofNat 32 (grid0.coords t 0).val) 1#32) 4#32) 8192#32
    = BitVec.ofNat 32 ((t.val + 1) / 4 % 2 * 8192) := by decide +kernel

theorem off3_eq (s : S2x1024.Idx → BitVec 32) (hs : Inside s) (j : Fin 256) :
    k0_off3 (word s 0 j) = ![(rowNo s hs 0 j).val, 0] := rfl
theorem off7_eq (t : Fin cfg0.N) (ht : t.val + 1 < 8) (s : S2x1024.Idx → BitVec 32) (hs : Inside s) (j : Fin 256) :
    k0_off7 (grid0.coords t) (word s (t.val + 1) j) = ![(rowNo s hs (t.val + 1) j).val, 0] := by
  show ![(Scalar.shrui (Scalar.addi (Scalar.muli (Scalar.divsi (Scalar.addi (BitVec.ofNat 32 (grid0.coords t 0).val) 1#32) 4#32) 8192#32) (word s (t.val + 1) j)) 1#32).toNat, 0] = _
  rw [base_word t ht]; rfl

theorem x_rows (off : Fin 2 → Nat) (r : Fin 8192) (h : off = ![r.val, 0]) : ∀ a, off a + S1x2048.size a ≤ S8192x2048.size a := by
  subst h; exact x_inb r

section
variable (a1 : Memref sig .tc .smem S2x1024 .i32) (h1 : a1.IsWhole) (a3 : Memref sig .tc .vmem S2x1024 .i32) (h3 : a3.IsWhole) (a4 : Memref sig .tc .vmem S1x2048 .f32) (h4 : a4.IsWhole) (a5 : Memref sig .tc .vmem S1x2048 .f32) (h5 : a5.IsWhole) (a6 : Memref sig .tc .vmem S2048x5120 .fp8e4m3) (h6 : a6.IsWhole) (a7 : Memref sig .tc .vmem S1x5120 .f32) (h7 : a7.IsWhole) (a8 : Memref sig .tc .vmem S1x128 .f32) (h8 : a8.IsWhole) (a9 : Memref sig .tc .vmem S256x2048 .i32) (h9 : a9.IsWhole) (a10 : Memref sig .tc .vmem S256x2048 .fp8e4m3) (h10 : a10.IsWhole) (a11 : Memref sig .tc .vmem S1x1x256 .f32) (h11 : a11.IsWhole) (a12 : Memref sig .tc .vmem S1x1x256 .f32) (h12 : a12.IsWhole) (a13 : Memref sig .tc .vmem S256x4096 .bf16) (h13 : a13.IsWhole) (a14 : Memref sig .tc .vmem S256x2048 .bf16) (h14 : a14.IsWhole) (a15 : Memref sig .tc .vmem S1280x256 .bf16) (h15 : a15.IsWhole)

/-- The word the first loop's trip `k` reads. -/
theorem read1 (c : Dev nD) (i : grid0.Coords) (k : Fin k0_t1_loop.trips) (h : k0_cond1 i = 1#1) (f1 : Buf (Elt F) (a1.view.loc (c : Thread nD τ))) :
    View.readAt (Elt F) a1.view (Rect.unit (s := S2x1024) (k0_off1 k) S1x1.size (k0_off1_inb i k h)).toLoadRect f1 (Shape.Idx.first (show 0 < S1x1.numel from by decide))
      = word (a1.view.read (Elt F) f1) 0 ⟨k.val, lt_of_lt_of_eq k.isLt trips1⟩ := by
  show a1.view.read (Elt F) f1 _ = a1.view.read (Elt F) f1 _
  congr 1
  funext a
  apply Fin.ext
  fin_cases a
  · exact (Nat.add_zero _).trans (off1_eq k).1
  · exact (Nat.add_zero _).trans ((off1_eq k).2.trans (Nat.zero_add _).symm)

/-- The word the second loop's trip `k` reads. -/
theorem read2 (c : Dev nD) (t : Fin cfg0.N) (k : Fin k0_t2_loop.trips) (h : k0_cond2 (grid0.coords t) = 1#1) (f1 : Buf (Elt F) (a1.view.loc (c : Thread nD τ))) :
    View.readAt (Elt F) a1.view (Rect.unit (s := S2x1024) (k0_off4 (grid0.coords t) k) S1x1.size (k0_off4_inb (grid0.coords t) k h)).toLoadRect f1 (Shape.Idx.first (show 0 < S1x1.numel from by decide))
      = word (a1.view.read (Elt F) f1) (t.val + 1) ⟨k.val, lt_of_lt_of_eq k.isLt trips2⟩ := by
  have ht := (cond2_iff t).mp h
  show a1.view.read (Elt F) f1 _ = a1.view.read (Elt F) f1 _
  congr 1
  funext a
  apply Fin.ext
  fin_cases a
  · exact (Nat.add_zero _).trans (off4_eq t k ht).1
  · exact (Nat.add_zero _).trans (off4_eq t k ht).2

/-- One trip of the loop that sets off the first point's rows. -/
theorem t1_step (c : Dev nD) (i : grid0.Coords) (X : Buf (Elt F) (xM.view.loc (c : Thread nD τ))) (h : k0_cond1 i = 1#1)
    (f1 : Buf (Elt F) (a1.view.loc (c : Thread nD τ))) (hs : Inside (a1.view.read (Elt F) f1)) (k : Fin k0_t1_loop.trips) (acc : Unit) :
    iprop((a1.view.loc (c : Thread nD τ) ↦[a1.view.set]{fullShare} f1) ∗ fetchInv c X (rowNo _ hs 0) 0 k.val) ⊢ wp frame (wpE (defs₀ (F := F)) Variants.none c none) Set.univ
      (k0_t1_body i a1 h1 xM (Memref.isWhole_whole _) a3 h3 a4 h4 a5 h5 a6 h6 a7 h7 a8 h8 a9 h9 a10 h10 a11 h11 a12 h12 a13 h13 a14 h14 a15 h15 scM (Memref.isWhole_whole _) cc0_scratch1 h k acc)
      (fun _ => iprop((a1.view.loc (c : Thread nD τ) ↦[a1.view.set]{fullShare} f1) ∗ fetchInv c X (rowNo _ hs 0) 0 (k.val + 1))) := by
  unfold k0_t1_body
  have eo := off3_eq (a1.view.read (Elt F) f1) hs ⟨k.val, lt_of_lt_of_eq k.isLt trips1⟩
  rw [← read1 a1 c i k h f1] at eo
  have hchk : k0_chk1 i (View.readAt (Elt F) a1.view (Rect.unit (s := S2x1024) (k0_off1 k) S1x1.size (k0_off1_inb i k h)).toLoadRect f1 (Shape.Idx.first (show 0 < S1x1.numel from by decide))) :=
    fun _ => x_rows _ _ eo
  iintro ⟨H1, HI⟩
  sl_exec
  iapply (fetch_step c X (rowNo _ hs 0) 0 ⟨k.val, lt_of_lt_of_eq k.isLt trips1⟩ _ _ _ _ _ _ rfl eo (off2_eq k)) $$ HI
  iintro HI
  sl_step
  isplitl [H1]; · iexact H1
  iexact HI

/-- One trip of the loop that sets off the next point's rows. -/
theorem t2_step (c : Dev nD) (t : Fin cfg0.N) (X : Buf (Elt F) (xM.view.loc (c : Thread nD τ))) (h : k0_cond2 (grid0.coords t) = 1#1)
    (f1 : Buf (Elt F) (a1.view.loc (c : Thread nD τ))) (hs : Inside (a1.view.read (Elt F) f1)) (k : Fin k0_t2_loop.trips) (acc : Unit) :
    iprop((a1.view.loc (c : Thread nD τ) ↦[a1.view.set]{fullShare} f1) ∗ fetchInv c X (rowNo _ hs (t.val + 1)) (par (t.val + 1)) k.val) ⊢ wp frame (wpE (defs₀ (F := F)) Variants.none c none) Set.univ
      (k0_t2_body (grid0.coords t) a1 h1 xM (Memref.isWhole_whole _) a3 h3 a4 h4 a5 h5 a6 h6 a7 h7 a8 h8 a9 h9 a10 h10 a11 h11 a12 h12 a13 h13 a14 h14 a15 h15 scM (Memref.isWhole_whole _) cc0_scratch1 h k acc)
      (fun _ => iprop((a1.view.loc (c : Thread nD τ) ↦[a1.view.set]{fullShare} f1) ∗ fetchInv c X (rowNo _ hs (t.val + 1)) (par (t.val + 1)) (k.val + 1))) := by
  unfold k0_t2_body
  have ht := (cond2_iff t).mp h
  have eo := off7_eq t ht (a1.view.read (Elt F) f1) hs ⟨k.val, lt_of_lt_of_eq k.isLt trips2⟩
  rw [← read2 a1 c t k h f1] at eo
  have hchk : k0_chk2 (grid0.coords t) (View.readAt (Elt F) a1.view (Rect.unit (s := S2x1024) (k0_off4 (grid0.coords t) k) S1x1.size (k0_off4_inb (grid0.coords t) k h)).toLoadRect f1 (Shape.Idx.first (show 0 < S1x1.numel from by decide))) :=
    fun _ => x_rows _ _ eo
  iintro ⟨H1, HI⟩
  sl_exec
  iapply (fetch_step c X (rowNo _ hs (t.val + 1)) (par (t.val + 1)) ⟨k.val, lt_of_lt_of_eq k.isLt trips2⟩ _ _ _ _ _ _ (off5_eq t) eo (off6_eq t k)) $$ HI
  iintro HI
  sl_step
  isplitl [H1]; · iexact H1
  iexact HI

/-- The first point's rows set off. -/
theorem loop1 (c : Dev nD) (i : grid0.Coords) (X : Buf (Elt F) (xM.view.loc (c : Thread nD τ))) (h : k0_cond1 i = 1#1)
    (f1 : Buf (Elt F) (a1.view.loc (c : Thread nD τ))) (hs : Inside (a1.view.read (Elt F) f1)) {α : Type} (kk : Unit → Prog (TpuEff nD τ sig (Elt F) Λ₀ .tc) α) (Q : α → sProp 𝕄) :
    iprop((a1.view.loc (c : Thread nD τ) ↦[a1.view.set]{fullShare} f1) ∗ Free c X 0) ⊢ iprop((((a1.view.loc (c : Thread nD τ) ↦[a1.view.set]{fullShare} f1) ∗ Flight c X (rowNo _ hs 0) 0)
          -∗ wp frame (wpE (defs₀ (F := F)) Variants.none c none) Set.univ (kk ⟨⟩) Q)
      -∗ wp frame (wpE (defs₀ (F := F)) Variants.none c none) Set.univ
        ((Scf.Loop.for k0_t1_loop (k0_t1_ok i h) ⟨⟩ (k0_t1_body i a1 h1 xM (Memref.isWhole_whole _) a3 h3 a4 h4 a5 h5 a6 h6 a7 h7 a8 h8 a9 h9 a10 h10 a11 h11 a12 h12 a13 h13 a14 h14 a15 h15 scM (Memref.isWhole_whole _) cc0_scratch1 h)) >>= kk) Q) := by
  iintro ⟨H1, HF⟩ HK
  imod (fetch_begin c X (rowNo _ hs 0) 0) $$ HF with ⟨HI, HW⟩
  sl_for (fun k _ => iprop((a1.view.loc (c : Thread nD τ) ↦[a1.view.set]{fullShare} f1) ∗ fetchInv c X (rowNo _ hs 0) 0 k)) $$ [H1 HI]
  · intro k acc
    exact t1_step a1 h1 a3 h3 a4 h4 a5 h5 a6 h6 a7 h7 a8 h8 a9 h9 a10 h10 a11 h11 a12 h12 a13 h13 a14 h14 a15 h15 c i X h f1 hs k acc
  · isplitl [H1]; · iexact H1
    iexact HI
  iintro %acc ⟨H1, HI⟩
  iapply HK
  isplitl [H1]; · iexact H1
  iapply (fetch_end c X (rowNo _ hs 0) 0)
  isplitl [HI]; · iexact HI
  iexact HW

/-- The next point's rows set off. -/
theorem loop2 (c : Dev nD) (t : Fin cfg0.N) (X : Buf (Elt F) (xM.view.loc (c : Thread nD τ))) (h : k0_cond2 (grid0.coords t) = 1#1)
    (f1 : Buf (Elt F) (a1.view.loc (c : Thread nD τ))) (hs : Inside (a1.view.read (Elt F) f1)) {α : Type} (kk : Unit → Prog (TpuEff nD τ sig (Elt F) Λ₀ .tc) α) (Q : α → sProp 𝕄) :
    iprop((a1.view.loc (c : Thread nD τ) ↦[a1.view.set]{fullShare} f1) ∗ Free c X (par (t.val + 1))) ⊢ iprop((((a1.view.loc (c : Thread nD τ) ↦[a1.view.set]{fullShare} f1) ∗ Flight c X (rowNo _ hs (t.val + 1)) (par (t.val + 1)))
          -∗ wp frame (wpE (defs₀ (F := F)) Variants.none c none) Set.univ (kk ⟨⟩) Q)
      -∗ wp frame (wpE (defs₀ (F := F)) Variants.none c none) Set.univ
        ((Scf.Loop.for k0_t2_loop (k0_t2_ok (grid0.coords t) h) ⟨⟩ (k0_t2_body (grid0.coords t) a1 h1 xM (Memref.isWhole_whole _) a3 h3 a4 h4 a5 h5 a6 h6 a7 h7 a8 h8 a9 h9 a10 h10 a11 h11 a12 h12 a13 h13 a14 h14 a15 h15 scM (Memref.isWhole_whole _) cc0_scratch1 h)) >>= kk) Q) := by
  iintro ⟨H1, HF⟩ HK
  imod (fetch_begin c X (rowNo _ hs (t.val + 1)) (par (t.val + 1))) $$ HF with ⟨HI, HW⟩
  sl_for (fun k _ => iprop((a1.view.loc (c : Thread nD τ) ↦[a1.view.set]{fullShare} f1) ∗ fetchInv c X (rowNo _ hs (t.val + 1)) (par (t.val + 1)) k)) $$ [H1 HI]
  · intro k acc
    exact t2_step a1 h1 a3 h3 a4 h4 a5 h5 a6 h6 a7 h7 a8 h8 a9 h9 a10 h10 a11 h11 a12 h12 a13 h13 a14 h14 a15 h15 c t X h f1 hs k acc
  · isplitl [H1]; · iexact H1
    iexact HI
  iintro %acc ⟨H1, HI⟩
  iapply HK
  isplitl [H1]; · iexact H1
  iapply (fetch_end c X (rowNo _ hs (t.val + 1)) (par (t.val + 1)))
  isplitl [HI]; · iexact HI
  iexact HW

/-- The point's own rows waited for. -/
theorem loop3 (c : Dev nD) (t : Fin cfg0.N) (X : Buf (Elt F) (xM.view.loc (c : Thread nD τ))) (o : Fin 256 → Fin 8192)
    {α : Type} (kk : Unit → Prog (TpuEff nD τ sig (Elt F) Λ₀ .tc) α) (Q : α → sProp 𝕄) :
    iprop(Flight c X o (par t.val) ∗ (∃ W, owes (c : Thread nD τ) 0 W)) ⊢ iprop(((Has c X (par t.val) (gath c X o) ∗ semVal ((c : Thread nD τ), semL (par t.val)) 0 ∗ (∃ W, owes (c : Thread nD τ) 0 W))
          -∗ wp frame (wpE (defs₀ (F := F)) Variants.none c none) Set.univ (kk ⟨⟩) Q)
      -∗ wp frame (wpE (defs₀ (F := F)) Variants.none c none) Set.univ
        ((Scf.Loop.for k0_t3_loop k0_t3_ok ⟨⟩ (k0_t3_body (grid0.coords t) a1 h1 xM (Memref.isWhole_whole _) a3 h3 a4 h4 a5 h5 a6 h6 a7 h7 a8 h8 a9 h9 a10 h10 a11 h11 a12 h12 a13 h13 a14 h14 a15 h15 scM (Memref.isWhole_whole _) cc0_scratch1)) >>= kk) Q) := by
  unfold Flight
  iintro ⟨⟨HB, HW⟩, HO⟩ HK
  sl_for (fun k _ => waitInv c X o (par t.val) k) $$ [HB HO]
  · intro k acc
    sl_respell [k0_t3_body]
    simp only [Prog.lift, Prog.bind_op, Prog.bind_ret, Prog.pure_eq_ret, Prog.bind_assoc]
    exact wait_step c X o (par t.val) k (lt_of_lt_of_eq k.isLt trips3) _ _ _ _ _ _ (off8_eq t)
  · unfold waitInv
    isplitl [HB]; · rw [Nat.zero_mul]; iexact HB
    iexact HO
  iintro %acc HI
  unfold waitInv
  icases HI with ⟨HB, HO⟩
  have e : k0_t3_loop.trips * rowN = rowN * 256 := by rw [trips3, Nat.mul_comm]
  rw [e]
  imod (Transfers.batch_collect' (EC (F := F)) (c : Thread nD τ) rowN_pos) $$ HB with ⟨HB, HS⟩
  iapply HK
  isplitl [HW HB]; · iapply HW; iexact HB
  isplitl [HS]; · iexact HS
  iexact HO
end

end Cert.QkvIdeal.Gather

end
-- ==== Proof.QkvIdeal.Part1.lean ====
/- The start of a grid point as one step. -/
module

public import proofs.«01_k».proof.Proof.QkvIdeal.Prefix
public import proofs.«01_k».proof.Proof.Gen.QkvIdeal.Skeleton

@[expose] public section

set_option maxRecDepth 16384

noncomputable section

namespace Cert.QkvIdeal.Gather

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The rows of the table a grid point reads. -/
def rowsV (X : S8192x2048.Idx → BitVec 32) (o : Fin 256 → Fin 8192) : Vec F S1x256x2048 .i32 :=
  fun y => X (fun a : Fin 2 => match a with | ⟨0, _⟩ => o (y 1) | ⟨1, _⟩ => y 2)
/-- The positions a grid point reads. -/
def selV (s : S2x1024.Idx → BitVec 32) (t : ℕ) : Vec F S1x256 .i32 := fun y => word s t (y 1)

/-- Between grid points: after the first and before the last the next point's rows are under way. -/
def Rest (c : Dev nD) (X : Buf (Elt F) (xM.view.loc (c : Thread nD τ))) (s : S2x1024.Idx → BitVec 32) (hs : Inside s) (n : ℕ) : sProp 𝕄 :=
  if n = 0 ∨ n = 8 then iprop(Free c X 0 ∗ Free c X 1) else iprop(Flight c X (rowNo s hs n) (par n) ∗ Free c X (par (n + 1)))

theorem off10_eq : ∀ t : Fin cfg0.N, k0_off10 (grid0.coords t) 0 = t.val / 4 % 2 ∧ k0_off10 (grid0.coords t) 1 = 256 * (t.val % 4) := by decide +kernel

theorem rest_free (c : Dev nD) (X : Buf (Elt F) (xM.view.loc (c : Thread nD τ))) (s : S2x1024.Idx → BitVec 32) (hs : Inside s) (n : ℕ) (hn : n = 0 ∨ n = 8) :
    Rest c X s hs n = (iprop(Free c X 0 ∗ Free c X 1) : sProp 𝕄) := if_pos hn
theorem rest_flight (c : Dev nD) (X : Buf (Elt F) (xM.view.loc (c : Thread nD τ))) (s : S2x1024.Idx → BitVec 32) (hs : Inside s) (n : ℕ) (hn : ¬ (n = 0 ∨ n = 8)) :
    Rest c X s hs n = (iprop(Flight c X (rowNo s hs n) (par n) ∗ Free c X (par (n + 1))) : sProp 𝕄) := if_neg hn

theorem read_rows (c : Dev nD) (t : Fin cfg0.N) (X : Buf (Elt F) (xM.view.loc (c : Thread nD τ))) (o : Fin 256 → Fin 8192) (h) :
    (scM.access (Rect.unit (s := S2x256x2048) (k0_off11 (grid0.coords t)) S1x256x2048.size h)).read (Elt F) (gath c X o) = (rowsV (F := F) X o : Vec F S1x256x2048 .i32) := by
  funext y
  have e : ∀ (off : Fin 3 → ℕ) (h : ∀ a, off a + S1x256x2048.size a ≤ S2x256x2048.size a), off = ![t.val % 2, 0, 0] →
      (scM.access (Rect.unit (s := S2x256x2048) off S1x256x2048.size h)).read (Elt F) (gath c X o) y = (rowsV (F := F) X o : Vec F S1x256x2048 .i32) y := by
    rintro off h rfl
    show X _ = X _
    congr 1
    funext a
    match a with
    | ⟨0, _⟩ =>
      show o _ = o (y 1)
      congr 1
      apply Fin.ext
      show 0 + 1 * (y 1).val = _
      omega
    | ⟨1, _⟩ =>
      apply Fin.ext
      show 0 + 1 * (y 2).val = (y 2).val
      omega
  exact e _ h (off11_eq t)

theorem read_sel {m : Memref sig .tc .vmem S2x1024 .i32} (c : Dev nD) (t : Fin cfg0.N) (f : Buf (Elt F) (m.view.loc (c : Thread nD τ))) (h) :
    View.readAt (Elt F) m.view (Rect.unit (s := S2x1024) (k0_off10 (grid0.coords t)) S1x256.size h).toLoadRect f = (selV (m.view.read (Elt F) f) t.val : Vec F S1x256 .i32) := by
  funext y
  show m.view.read (Elt F) f _ = m.view.read (Elt F) f _
  congr 1
  have hy : (y 0).val < 1 := (y 0).isLt
  funext a
  apply Fin.ext
  match a with
  | ⟨0, _⟩ =>
    show k0_off10 (grid0.coords t) 0 + 1 * (y 0).val = t.val / 4 % 2
    rw [(off10_eq t).1]; omega
  | ⟨1, _⟩ =>
    show k0_off10 (grid0.coords t) 1 + 1 * (y 1).val = 256 * (t.val % 4) + (y 1).val
    rw [(off10_eq t).2]; omega

theorem set_plane (c : Dev nD) (t : Fin cfg0.N) (h) :
    (scM.access (Rect.unit (s := S2x256x2048) (k0_off11 (grid0.coords t)) S1x256x2048.size h)).set = plane c (par t.val) := by
  unfold plane
  have e : ∀ (off : Fin 3 → ℕ) (h : ∀ a, off a + S1x256x2048.size a ≤ S2x256x2048.size a), off = ![t.val % 2, 0, 0] →
      (scM.access (Rect.unit (s := S2x256x2048) off S1x256x2048.size h)).set = (scM.access (Rect.unit (s := S2x256x2048) ![(par t.val).val, 0, 0] S1x256x2048.size (plane_inb (par t.val)))).set := by
    rintro off h rfl; rfl
  exact e _ h (off11_eq t)

section
variable (a1 : Memref sig .tc .smem S2x1024 .i32) (h1 : a1.IsWhole) (a3 : Memref sig .tc .vmem S2x1024 .i32) (h3 : a3.IsWhole) (a4 : Memref sig .tc .vmem S1x2048 .f32) (h4 : a4.IsWhole) (a5 : Memref sig .tc .vmem S1x2048 .f32) (h5 : a5.IsWhole) (a6 : Memref sig .tc .vmem S2048x5120 .fp8e4m3) (h6 : a6.IsWhole) (a7 : Memref sig .tc .vmem S1x5120 .f32) (h7 : a7.IsWhole) (a8 : Memref sig .tc .vmem S1x128 .f32) (h8 : a8.IsWhole) (a9 : Memref sig .tc .vmem S256x2048 .i32) (h9 : a9.IsWhole) (a10 : Memref sig .tc .vmem S256x2048 .fp8e4m3) (h10 : a10.IsWhole) (a11 : Memref sig .tc .vmem S1x1x256 .f32) (h11 : a11.IsWhole) (a12 : Memref sig .tc .vmem S1x1x256 .f32) (h12 : a12.IsWhole) (a13 : Memref sig .tc .vmem S256x4096 .bf16) (h13 : a13.IsWhole) (a14 : Memref sig .tc .vmem S256x2048 .bf16) (h14 : a14.IsWhole) (a15 : Memref sig .tc .vmem S1280x256 .bf16) (h15 : a15.IsWhole)

/-- What is left of it when the next point's rows have been set off. -/
theorem tail_wp (c : Dev nD) (t : Fin cfg0.N) (X : Buf (Elt F) (xM.view.loc (c : Thread nD τ)))
    (s : S2x1024.Idx → BitVec 32) (hs : Inside s) (f3 : Buf (Elt F) (a3.view.loc (c : Thread nD τ))) (f9 : Buf (Elt F) (a9.view.loc (c : Thread nD τ)))
    (Q : (Σ' (_ : FVec F S256x128 .f32) (_ : IVec S256x2048 32) (_ : IVec S256x128 32), IVec S256x128 32) → sProp 𝕄) :
    iprop((a3.view.loc (c : Thread nD τ) ↦[a3.view.set]{fullShare} f3) ∗ (a9.view.loc (c : Thread nD τ) ↦[a9.view.set]{fullShare} f9)
        ∗ Flight c X (rowNo s hs t.val) (par t.val) ∗ (∃ W, owes (c : Thread nD τ) 0 W)
        ∗ (((a3.view.loc (c : Thread nD τ) ↦[a3.view.set]{fullShare} f3) ∗ (∃ f9 : Buf (Elt F) (a9.view.loc (c : Thread nD τ)), a9.view.loc (c : Thread nD τ) ↦[a9.view.set]{fullShare} f9)
        ∗ Free c X (par t.val) ∗ (∃ W, owes (c : Thread nD τ) 0 W)) -∗
          Q ⟨k0_pay1 (selV (a3.view.read (Elt F) f3) t.val), k0_pay2 (F := F) (rowsV X (rowNo s hs t.val)), k0_pay3 (F := F) (selV (a3.view.read (Elt F) f3) t.val), k0_pay4⟩))
      ⊢ wp frame (wpE (defs₀ (F := F)) Variants.none c none) Set.univ
        ((Scf.Loop.for k0_t3_loop k0_t3_ok ⟨⟩ (k0_t3_body (grid0.coords t) a1 h1 xM (Memref.isWhole_whole _) a3 h3 a4 h4 a5 h5 a6 h6 a7 h7 a8 h8 a9 h9 a10 h10 a11 h11 a12 h12 a13 h13 a14 h14 a15 h15 scM (Memref.isWhole_whole _) cc0_scratch1)) >>= fun _ =>
          .op (.load a3 (Rect.unit (s := S2x1024) (k0_off10 (grid0.coords t)) S1x256.size (k0_off10_inb (grid0.coords t))).toLoadRect (View.loadsAt_vmem h_S1x256)) fun v15 =>
          .op (.load scM (Rect.unit (s := S2x256x2048) (k0_off11 (grid0.coords t)) S1x256x2048.size (k0_off11_inb (grid0.coords t))).toLoadRect (View.loadsAt_vmem h_S1x256x2048)) fun v30 =>
          .op (.load a9 (Rect.unit (s := S256x2048) ![0, 0] S256x2048.size inb_S256x2048_S256x2048_0_0).toLoadRect (View.loadsAt_vmem h_S256x2048)) fun v32 =>
          .op (.store a9 (Rect.unit (s := S256x2048) ![0, 0] S256x2048.size inb_S256x2048_S256x2048_0_0) (k0_pay2 (F := F) v30) Finset.univ (View.stores_vmem_bits_univ h_S256x2048 rfl) (.inl rfl)) fun _ =>
          .ret ⟨k0_pay1 v15, k0_pay2 (F := F) v30, k0_pay3 (F := F) v15, k0_pay4⟩) Q := by
  iintro ⟨H3, H9, HF, HO, HK⟩
  iapply (loop3 a1 h1 a3 h3 a4 h4 a5 h5 a6 h6 a7 h7 a8 h8 a9 h9 a10 h10 a11 h11 a12 h12 a13 h13 a14 h14 a15 h15 c t X (rowNo s hs t.val)) $$ [HF HO]
  · isplitl [HF]; · iexact HF
    iexact HO
  iintro ⟨HH, HS, HO⟩
  iapply (wp_load Variants.none (c : Thread nD τ) none Set.univ (m := a3) (S := a3.view.set) (q := fullShare) (f := f3) (View.setOn_subset_set _ _)) $$ H3
  iintro H3
  unfold Has
  icases HH with ⟨HP, HX⟩
  iapply (wp_load_rect Variants.none (c : Thread nD τ) none Set.univ (m := scM) (r := Rect.unit (s := S2x256x2048) (k0_off11 (grid0.coords t)) S1x256x2048.size (k0_off11_inb (grid0.coords t))) (S := plane c (par t.val)) (q := fullShare) (f := gath c X (rowNo s hs t.val)) (le_of_eq (set_plane c t _))) $$ HP
  iintro HP
  rw [read_rows c t X, read_sel c t f3]
  iapply (wp_load Variants.none (c : Thread nD τ) none Set.univ (m := a9) (S := a9.view.set) (q := fullShare) (f := f9) (View.setOn_subset_set _ _)) $$ H9
  iintro H9
  iapply (wp_store Variants.none (c : Thread nD τ) none Set.univ (m := a9) (r := Rect.unit (s := S256x2048) ![0, 0] S256x2048.size inb_S256x2048_S256x2048_0_0) (S := a9.view.set) (f := f9) (by rw [View.setOn_univ]; exact View.set_slice_subset _ _)) $$ H9
  iintro H9
  sl_step
  iapply HK
  isplitl [H3]; · iexact H3
  isplitl [H9]; · iexists _; iexact H9
  isplitl [HP HX HS]
  · unfold Free Has
    isplitl [HP HX]
    · iexists _
      isplitl [HP]; · iexact HP
      iexact HX
    iexact HS
  iexact HO

theorem part1_wp (c : Dev nD) (t : Fin cfg0.N) (X : Buf (Elt F) (xM.view.loc (c : Thread nD τ)))
    (f1 : Buf (Elt F) (a1.view.loc (c : Thread nD τ))) (hs : Inside (a1.view.read (Elt F) f1)) (f3 : Buf (Elt F) (a3.view.loc (c : Thread nD τ))) (f9 : Buf (Elt F) (a9.view.loc (c : Thread nD τ)))
    (Q : (Σ' (_ : FVec F S256x128 .f32) (_ : IVec S256x2048 32) (_ : IVec S256x128 32), IVec S256x128 32) → sProp 𝕄) :
    iprop((a1.view.loc (c : Thread nD τ) ↦[a1.view.set]{fullShare} f1) ∗ (a3.view.loc (c : Thread nD τ) ↦[a3.view.set]{fullShare} f3) ∗ (a9.view.loc (c : Thread nD τ) ↦[a9.view.set]{fullShare} f9)
        ∗ Rest c X _ hs t.val ∗ (∃ W, owes (c : Thread nD τ) 0 W))
      ⊢ iprop((((a1.view.loc (c : Thread nD τ) ↦[a1.view.set]{fullShare} f1) ∗ (a3.view.loc (c : Thread nD τ) ↦[a3.view.set]{fullShare} f3) ∗ (∃ f9 : Buf (Elt F) (a9.view.loc (c : Thread nD τ)), a9.view.loc (c : Thread nD τ) ↦[a9.view.set]{fullShare} f9)
        ∗ Rest c X _ hs (t.val + 1) ∗ (∃ W, owes (c : Thread nD τ) 0 W)) -∗
          Q ⟨k0_pay1 (selV (a3.view.read (Elt F) f3) t.val), k0_pay2 (F := F) (rowsV X (rowNo _ hs t.val)), k0_pay3 (F := F) (selV (a3.view.read (Elt F) f3) t.val), k0_pay4⟩)
      -∗ wp frame (wpE (defs₀ (F := F)) Variants.none c none) Set.univ (k0_part1 (grid0.coords t) a1 h1 xM (Memref.isWhole_whole _) a3 h3 a4 h4 a5 h5 a6 h6 a7 h7 a8 h8 a9 h9 a10 h10 a11 h11 a12 h12 a13 h13 a14 h14 a15 h15 scM (Memref.isWhole_whole _) cc0_scratch1) Q) := by
  have hN : t.val < 8 := lt_of_lt_of_eq t.isLt N_0
  simp only [k0_part1_eq_skeleton]; unfold k0_part1_skel
  have e01 : par (t.val + 2) = par t.val := Fin.ext (by show (t.val + 2) % 2 = t.val % 2; omega)
  by_cases hc1 : k0_cond1 (grid0.coords t) = 1#1
  · have ht := (cond1_iff t).mp hc1
    have hc2 := (cond2_iff t).mpr (by omega)
    rw [dif_pos hc1]
    simp only [Prog.lift, Prog.bind_op, Prog.bind_ret, Prog.pure_eq_ret, Prog.bind_assoc]
    rw [rest_free c X _ hs t.val (Or.inl ht), rest_flight c X _ hs (t.val + 1) (by omega), show par (t.val + 1 + 1) = par t.val from e01]
    have ep : par t.val = 0 := by rw [ht]; rfl
    have ep' : par (t.val + 1) = 1 := by rw [ht]; rfl
    iintro ⟨H1, H3, H9, ⟨HA, HB⟩, HO⟩ HK
    iapply (loop1 a1 h1 a3 h3 a4 h4 a5 h5 a6 h6 a7 h7 a8 h8 a9 h9 a10 h10 a11 h11 a12 h12 a13 h13 a14 h14 a15 h15 c (grid0.coords t) X hc1 f1 hs) $$ [H1 HA]
    · isplitl [H1]; · iexact H1
      iexact HA
    iintro ⟨H1, HF⟩
    rw [dif_pos hc2]
    iapply (loop2 a1 h1 a3 h3 a4 h4 a5 h5 a6 h6 a7 h7 a8 h8 a9 h9 a10 h10 a11 h11 a12 h12 a13 h13 a14 h14 a15 h15 c t X hc2 f1 hs) $$ [H1 HB]
    · isplitl [H1]; · iexact H1
      rw [ep']; iexact HB
    iintro ⟨H1, HN⟩
    iapply (tail_wp a1 h1 a3 h3 a4 h4 a5 h5 a6 h6 a7 h7 a8 h8 a9 h9 a10 h10 a11 h11 a12 h12 a13 h13 a14 h14 a15 h15 c t X _ hs f3 f9 Q)
    isplitl [H3]; · iexact H3
    isplitl [H9]; · iexact H9
    isplitl [HF]; · rw [ep, ht]; iexact HF
    isplitl [HO]; · iexact HO
    iintro ⟨H3, H9, HF, HO⟩
    iapply HK
    isplitl [H1]; · iexact H1
    isplitl [H3]; · iexact H3
    isplitl [H9]; · iexact H9
    isplitl [HN HF]
    · isplitl [HN]; · iexact HN
      iexact HF
    iexact HO
  · have ht : t.val ≠ 0 := fun h => hc1 ((cond1_iff t).mpr h)
    rw [dif_neg hc1]
    simp only [Prog.lift, Prog.bind_op, Prog.bind_ret, Prog.pure_eq_ret, Prog.bind_assoc]
    rw [rest_flight c X _ hs t.val (by omega)]
    by_cases hc2 : k0_cond2 (grid0.coords t) = 1#1
    · have ht2 := (cond2_iff t).mp hc2
      rw [dif_pos hc2, rest_flight c X _ hs (t.val + 1) (by omega), show par (t.val + 1 + 1) = par t.val from e01]
      iintro ⟨H1, H3, H9, ⟨HF, HB⟩, HO⟩ HK
      iapply (loop2 a1 h1 a3 h3 a4 h4 a5 h5 a6 h6 a7 h7 a8 h8 a9 h9 a10 h10 a11 h11 a12 h12 a13 h13 a14 h14 a15 h15 c t X hc2 f1 hs) $$ [H1 HB]
      · isplitl [H1]; · iexact H1
        iexact HB
      iintro ⟨H1, HN⟩
      iapply (tail_wp a1 h1 a3 h3 a4 h4 a5 h5 a6 h6 a7 h7 a8 h8 a9 h9 a10 h10 a11 h11 a12 h12 a13 h13 a14 h14 a15 h15 c t X _ hs f3 f9 Q)
      isplitl [H3]; · iexact H3
      isplitl [H9]; · iexact H9
      isplitl [HF]; · iexact HF
      isplitl [HO]; · iexact HO
      iintro ⟨H3, H9, HF, HO⟩
      iapply HK
      isplitl [H1]; · iexact H1
      isplitl [H3]; · iexact H3
      isplitl [H9]; · iexact H9
      isplitl [HN HF]
      · isplitl [HN]; · iexact HN
        iexact HF
      iexact HO
    · have ht2 : t.val = 7 := by
        have hh : ¬ t.val + 1 < 8 := fun h => hc2 ((cond2_iff t).mpr h)
        omega
      have ep : par t.val = 1 := by rw [ht2]; rfl
      have ep' : par (t.val + 1) = 0 := by rw [ht2]; rfl
      rw [dif_neg hc2, rest_free c X _ hs (t.val + 1) (by omega)]
      iintro ⟨H1, H3, H9, ⟨HF, HB⟩, HO⟩ HK
      iapply (tail_wp a1 h1 a3 h3 a4 h4 a5 h5 a6 h6 a7 h7 a8 h8 a9 h9 a10 h10 a11 h11 a12 h12 a13 h13 a14 h14 a15 h15 c t X _ hs f3 f9 Q)
      isplitl [H3]; · iexact H3
      isplitl [H9]; · iexact H9
      isplitl [HF]; · iexact HF
      isplitl [HO]; · iexact HO
      iintro ⟨H3, H9, HF, HO⟩
      iapply HK
      isplitl [H1]; · iexact H1
      isplitl [H3]; · iexact H3
      isplitl [H9]; · iexact H9
      isplitl [HB HF]
      · rw [ep', ep]
        isplitl [HB]; · iexact HB
        iexact HF
      iexact HO
end

end Cert.QkvIdeal.Gather

end
-- ==== Proof.QkvIdeal.Body.lean ====
/- One grid point: the gate, the codes and the scales it leaves. -/
module

public import proofs.«01_k».proof.Proof.QkvIdeal.Part1

@[expose] public section

set_option maxRecDepth 16384

noncomputable section

namespace Cert.QkvIdeal.Gather

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## What a grid point leaves -/

abbrev rX : Rect S256x2048 := Rect.unit (s := S256x2048) ![0, 0] S256x2048.size inb_S256x2048_S256x2048_0_0
abbrev rA3 : Rect S1x1x256 := Rect.unit (s := S1x1x256) ![0, 0, 0] S1x1x256.size inb_S1x1x256_S1x1x256_0_0_0
abbrev rD : Rect S1x2048 := Rect.unit (s := S1x2048) ![0, 0] S1x2048.size inb_S1x2048_S1x2048_0_0

section
variable (X : S8192x2048.Idx → BitVec 32) (o : Fin 256 → Fin 8192)

/-- The rows' words. -/
def bWords : IVec S256x2048 32 := k0_pay2 (F := F) (rowsV X o)
/-- The parities' lanes, as the body passes them on. -/
def bPar (sv : Vec F S1x256 .i32) : IVec S256x128 32 := k0_pay3 (F := F) sv
end

section
variable (w : IVec S256x2048 32) (p : IVec S256x128 32)
/-- The rows scaled by their root mean square and the gain. -/
def bNorm (x5 : Vec F S1x2048 .f32) : FVec F S256x2048 .f32 :=
  k0_pay9 (k0_pay5 (F := F) w p k0_pay4) (k0_pay7 (View.ld x5 rD)) (k0_pay8 (F := F) w p k0_pay4)
def b10 (x5 : Vec F S1x2048 .f32) : FVec F S256x128 .f32 :=
  k0_pay10 (k0_pay5 (F := F) w p k0_pay4) (k0_pay7 (View.ld x5 rD)) (k0_pay8 (F := F) w p k0_pay4)
def b11 (x5 : Vec F S1x2048 .f32) : IVec S256x128 32 :=
  k0_pay11 (k0_pay5 (F := F) w p k0_pay4) (k0_pay7 (View.ld x5 rD)) (k0_pay8 (F := F) w p k0_pay4)
def b12 (x5 : Vec F S1x2048 .f32) : IVec S256x128 1 :=
  k0_pay12 (k0_pay5 (F := F) w p k0_pay4) (k0_pay7 (View.ld x5 rD)) (k0_pay8 (F := F) w p k0_pay4)
def b15 (x5 : Vec F S1x2048 .f32) : IVec S256x128 1 := k0_pay15 (b10 w p x5) (b11 w p x5) (b12 w p x5) k0_pay13
def b16 (x5 : Vec F S1x2048 .f32) : IVec S256x128 32 := k0_pay16 (b10 w p x5) (b11 w p x5) (b12 w p x5) k0_pay13

/-- The code window. -/
def outC (x5 : Vec F S1x2048 .f32) : Vec F S256x2048 .fp8e4m3 := View.canon [⟨rX, k0_pay19 (bNorm w p x5) (b15 w p x5) (b16 w p x5) 0#32⟩]
/-- The scale window. -/
def outS (x5 : Vec F S1x2048 .f32) : Vec F S1x1x256 .f32 := View.canon [⟨rA3, k0_pay20 (F := F) (b15 w p x5) (b16 w p x5) 0#32⟩]
/-- The gate window. -/
def outG (x4 : Vec F S1x2048 .f32) : Vec F S1x1x256 .f32 := View.canon [⟨rA3, k0_pay6 w p k0_pay4 (View.ld x4 rD)⟩]
end

theorem cover3 (w : rA3.shape.Idx → Elt F .f32) (x : S1x1x256.Idx) :
    ∃ p ∈ ([⟨rA3, w⟩] : List (View.Piece (Elt F) S1x1x256 .f32)), x ∈ p.1.set :=
  View.cover_of_tiled [⟨rA3, w⟩] S1x1x256.size (by rfl) x
theorem coverX (w : rX.shape.Idx → Elt F .fp8e4m3) (x : S256x2048.Idx) :
    ∃ p ∈ ([⟨rX, w⟩] : List (View.Piece (Elt F) S256x2048 .fp8e4m3)), x ∈ p.1.set :=
  View.cover_of_tiled [⟨rX, w⟩] S256x2048.size (by rfl) x

section
variable (a1 : Memref sig .tc .smem S2x1024 .i32) (h1 : a1.IsWhole) (a3 : Memref sig .tc .vmem S2x1024 .i32) (h3 : a3.IsWhole) (a4 : Memref sig .tc .vmem S1x2048 .f32) (h4 : a4.IsWhole) (a5 : Memref sig .tc .vmem S1x2048 .f32) (h5 : a5.IsWhole) (a6 : Memref sig .tc .vmem S2048x5120 .fp8e4m3) (h6 : a6.IsWhole) (a7 : Memref sig .tc .vmem S1x5120 .f32) (h7 : a7.IsWhole) (a8 : Memref sig .tc .vmem S1x128 .f32) (h8 : a8.IsWhole) (a9 : Memref sig .tc .vmem S256x2048 .i32) (h9 : a9.IsWhole) (a10 : Memref sig .tc .vmem S256x2048 .fp8e4m3) (h10 : a10.IsWhole) (a11 : Memref sig .tc .vmem S1x1x256 .f32) (h11 : a11.IsWhole) (a12 : Memref sig .tc .vmem S1x1x256 .f32) (h12 : a12.IsWhole) (a13 : Memref sig .tc .vmem S256x4096 .bf16) (h13 : a13.IsWhole) (a14 : Memref sig .tc .vmem S256x2048 .bf16) (h14 : a14.IsWhole) (a15 : Memref sig .tc .vmem S1280x256 .bf16) (h15 : a15.IsWhole)

set_option maxHeartbeats 4000000 in
theorem body_wp (c : Dev nD) (t : Fin cfg0.N) (X : Buf (Elt F) (xM.view.loc (c : Thread nD τ))) (x1 : Vec F S2x1024 .i32) (x3 : Vec F S2x1024 .i32) (x4 : Vec F S1x2048 .f32) (x5 : Vec F S1x2048 .f32) (x6 : Vec F S2048x5120 .fp8e4m3) (x7 : Vec F S1x5120 .f32) (x8 : Vec F S1x128 .f32)
    (hs : Inside (x1 : S2x1024.Idx → BitVec 32)) (K : PUnit → sProp 𝕄) :
    iprop(owns (c : Thread nD τ) a1 fullShare x1 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d)
       ∗ Rest c X x1 hs t.val ∗ (∃ W, owes (c : Thread nD τ) 0 W)
       ∗ (iprop(owns (c : Thread nD τ) a1 fullShare x1 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d) ∗ owns (c : Thread nD τ) a10 fullShare (outC (bWords (F := F) X (rowNo (x1 : S2x1024.Idx → BitVec 32) hs t.val)) (bPar (F := F) (selV x3 t.val)) x5) ∗ owns (c : Thread nD τ) a11 fullShare (outS (bWords (F := F) X (rowNo (x1 : S2x1024.Idx → BitVec 32) hs t.val)) (bPar (F := F) (selV x3 t.val)) x5) ∗ owns (c : Thread nD τ) a12 fullShare (outG (bWords (F := F) X (rowNo (x1 : S2x1024.Idx → BitVec 32) hs t.val)) (bPar (F := F) (selV x3 t.val)) x4) ∗ (∃ d, owns (c : Thread nD τ) a13 fullShare d) ∗ (∃ d, owns (c : Thread nD τ) a14 fullShare d) ∗ (∃ d, owns (c : Thread nD τ) a15 fullShare d)
         ∗ Rest c X x1 hs (t.val + 1) ∗ (∃ W, owes (c : Thread nD τ) 0 W)) -∗ K ⟨⟩))
      ⊢ wp frame (wpE (defs₀ (F := F)) Variants.none c none) Set.univ (cc0_qkv (grid0.coords t) a1 h1 xM (Memref.isWhole_whole _) a3 h3 a4 h4 a5 h5 a6 h6 a7 h7 a8 h8 a9 h9 a10 h10 a11 h11 a12 h12 a13 h13 a14 h14 a15 h15 scM (Memref.isWhole_whole _) cc0_scratch1) K := by
  simp only [cc0_qkv_eq_skeleton]; unfold cc0_qkv_skel
  simp only [k0_part12_eq_skeleton]; unfold k0_part12_skel
  rw [Prog.bind_assoc, wp_bind]
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, HR, HO, HK⟩
  subst hf1 hf3 hf4 hf5 hf6 hf7 hf8 hf9 hf10 hf11 hf12 hf13 hf14 hf15
  iapply (part1_wp a1 h1 a3 h3 a4 h4 a5 h5 a6 h6 a7 h7 a8 h8 a9 h9 a10 h10 a11 h11 a12 h12 a13 h13 a14 h14 a15 h15 c t X f1 hs f3 f9) $$ [H1 H3 H9 HR HO]
  · isplitl [H1]; · iexact H1
    isplitl [H3]; · iexact H3
    isplitl [H9]; · iexact H9
    isplitl [HR]; · iexact HR
    iexact HO
  iintro ⟨H1, H3, ⟨%f9, H9⟩, HR, HO⟩
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  sl_exec
  sl_step
  iapply HK
  isplitl [H1]
  · iexists f1; isplitr; · ipureintro; rfl
    iexact H1
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _, _; isplitr
    swap; · iexact H9
    ipureintro; rfl
  isplitl [H10]
  · iexists _; isplitr
    swap; · iexact H10
    ipureintro
    exact View.read_writes_eq_canon _ _ _ (coverX _)
  isplitl [H11]
  · iexists _; isplitr
    swap; · iexact H11
    ipureintro
    exact View.read_writes_eq_canon _ _ _ (cover3 _)
  isplitl [H12]
  · iexists _; isplitr
    swap; · iexact H12
    ipureintro
    exact View.read_writes_eq_canon _ _ _ (cover3 _)
  isplitl [H13]
  · iexists _, _; isplitr
    swap; · iexact H13
    ipureintro; rfl
  isplitl [H14]
  · iexists _, _; isplitr
    swap; · iexact H14
    ipureintro; rfl
  isplitl [H15]
  · iexists _, _; isplitr
    swap; · iexact H15
    ipureintro; rfl
  isplitl [HR]; · iexact HR
  iexact HO
end

end Cert.QkvIdeal.Gather

end
-- ==== Proof.QkvIdeal.Frame.lean ====
/- The frame of the whole call: the run over the eight grid points, and what the arrays hold at the end. -/
module

public import proofs.«01_k».proof.Proof.QkvIdeal.Body
public import Idealize.ShloMosaic.Lib.Pipeline.FrameBody
public import Idealize.ShloMosaic.Lib.Pipeline.ValueKit.Geometry

@[expose] public section

set_option maxRecDepth 16384

noncomputable section

namespace Cert.QkvIdeal.Gather

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat Cfg Window BodyObligation BodyObligationLoose cellOf)

variable (m : (ℓ : Loc nD τ sig) → Buf (Elt F) ℓ) (ρ : Dev nD → PrngReg)

/-! ## The launch's data -/

/-- The array the body's transfers read: the table of words. -/
def H0 : Finset (Ref sig .tc) := {main_arg0}
theorem H0_sub : H0 ⊆ Pipeline.restRefs sig spec0 := by decide

/-- The body's cells, one for each half of the scratch. -/
abbrev osem0 : Fin 2 → SemLoc sig := fun p => semL p
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), semL 0) 0 ∗ semVal ((c : Thread nD τ), semL 1) 0) := by
  rw [Pipeline.ownSems0_eq_of_list c osem0 [0, 1] (by decide) (by decide)]; rfl
theorem H0_eq (c : Dev nD) :
    (bigSep H0 (fun b => ((c.tc : Thread nD τ).loc b) ↦{fullShare} V m c b) : sProp 𝕄)
      = iprop(((c : Thread nD τ).loc main_arg0) ↦{fullShare} V m c main_arg0) := by
  rw [BI.bigSep_eq_bigSepL_of_eq [main_arg0] (by decide) (by decide)]; rfl

/-- The host operations and then the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The table's words, as launched. -/
def xs (c : Dev nD) : Buf (Elt F) (xM.view.loc (c : Thread nD τ)) := m ((c : Thread nD τ).loc main_arg0)
/-- The selection, as launched. -/
def sel (c : Dev nD) : S2x1024.Idx → BitVec 32 := m ((c : Thread nD τ).loc main_arg1)
/-- Every selected row is a row of the table. -/
abbrev AllInside : Prop := ∀ c, Inside (sel m c)

theorem iblk0_eq (c : Dev nD) (t : Fin cfg0.N) : (iblk m c 0 t : S2x1024.Idx → BitVec 32) = sel m c := by
  funext j
  show iblk m c 0 t j = m ((c : Thread nD τ).loc main_arg1) j
  rw [← V_main_arg1 m c]
  unfold iblk
  exact congrArg (V m c main_arg1) (funext fun a => Fin.ext (by blk_simp; fin_cases a <;> exact Nat.zero_add _))

section
variable (hI : AllInside m)

/-- What the grid points hand on: the two halves of the scratch, the table, and the rows in flight. -/
def Phi (c : Dev nD) (t : ℕ) : sProp 𝕄 :=
  iprop(Rest c (xs m c) (sel m c) (hI c) t ∗ (∃ r, prngReg (c : Dev nD) r))

theorem phiD_eq (c : Dev nD) :
    (Pipeline.ΦD osem0 spec0 H0 (V m) c : sProp 𝕄)
      = iprop((∃ f : Buf (Elt F) (scM.view.loc (c : Thread nD τ)), scM.view.loc (c : Thread nD τ) ↦{fullShare} f)
          ∗ (∃ r, prngReg c r) ∗ iprop(semVal ((c : Thread nD τ), semL 0) 0 ∗ semVal ((c : Thread nD τ), semL 1) 0)
          ∗ xM.view.loc (c : Thread nD τ) ↦{fullShare} xs m c) := by
  rw [Pipeline.ΦD_eq, scopedRest0_eq, ownSems0_eq, H0_eq, V_main_arg0]; rfl

theorem planes (c : Dev nD) (f : Buf (Elt F) (scM.view.loc (c : Thread nD τ))) :
    (scM.view.loc (c : Thread nD τ) ↦{fullShare} f : sProp 𝕄)
      = iprop((scM.view.loc (c : Thread nD τ) ↦[plane c 0]{fullShare} f) ∗ scM.view.loc (c : Thread nD τ) ↦[plane c 1]{fullShare} f) := by
  rw [Ring.pointsTo_blocks (plane c) (plane_disjoint c) (plane_cover c) f,
    BI.bigSep_univ_eq_bigSepL [(0 : Fin 2), 1] (by decide) (by decide)]; rfl
theorem planes_join (c : Dev nD) (f g : Buf (Elt F) (scM.view.loc (c : Thread nD τ))) :
    iprop((scM.view.loc (c : Thread nD τ) ↦[plane c 0]{fullShare} f) ∗ scM.view.loc (c : Thread nD τ) ↦[plane c 1]{fullShare} g)
      ⊢ (iprop(∃ h : Buf (Elt F) (scM.view.loc (c : Thread nD τ)), scM.view.loc (c : Thread nD τ) ↦{fullShare} h) : sProp 𝕄) := by
  refine BI.Entails.trans ?_ (Ring.pointsTo_blocks_join (plane c) (plane_disjoint c) (plane_cover c) (fun p : Fin 2 => if p = 0 then f else g) f)
  rw [BI.bigSep_univ_eq_bigSepL [(0 : Fin 2), 1] (by decide) (by decide)]
  show _ ⊢ (iprop((scM.view.loc (c : Thread nD τ) ↦[plane c 0]{fullShare} f) ∗ scM.view.loc (c : Thread nD τ) ↦[plane c 1]{fullShare} g) : sProp 𝕄)
  iintro H
  iexact H

theorem phi_in (c : Dev nD) : Pipeline.ΦD osem0 spec0 H0 (V m) c ⊢ (Phi m hI c 0 : sProp 𝕄) := by
  rw [phiD_eq]
  unfold Phi
  rw [rest_free _ _ _ _ 0 (Or.inl rfl)]
  unfold Free Has
  rw [show half 0 = fullShare.left from rfl, show half 1 = fullShare.right from rfl]
  iintro ⟨⟨%f, HS⟩, Hg, ⟨H0, H1⟩, Hx⟩
  ihave HP := (Entails.of_eq (planes c f)) $$ HS
  icases HP with ⟨HA, HB⟩
  ihave HX := (pointsTo_share (PosShare.mem_left_op_right fullShare)).1 $$ Hx
  icases HX with ⟨HL, HR⟩
  isplitr [Hg]
  · isplitl [HA HL H0]
    · isplitl [HA HL]
      · iexists f
        isplitl [HA]; · iexact HA
        iexact HL
      iexact H0
    isplitl [HB HR]
    · iexists f
      isplitl [HB]; · iexact HB
      iexact HR
    iexact H1
  iexact Hg

theorem phi_out (c : Dev nD) : (Phi m hI c 8 : sProp 𝕄) ⊢ Pipeline.ΦD osem0 spec0 H0 (V m) c := by
  rw [phiD_eq]
  unfold Phi
  rw [rest_free _ _ _ _ 8 (Or.inr rfl)]
  unfold Free Has
  rw [show half 0 = fullShare.left from rfl, show half 1 = fullShare.right from rfl]
  iintro ⟨⟨⟨⟨%f, HA, HL⟩, H0⟩, ⟨⟨%g, HB, HR⟩, H1⟩⟩, Hg⟩
  isplitl [HA HB]
  · iapply (planes_join c f g)
    isplitl [HA]; · iexact HA
    iexact HB
  isplitl [Hg]; · iexact Hg
  isplitl [H0 H1]
  · isplitl [H0]; · iexact H0
    iexact H1
  iapply (pointsTo_share (PosShare.mem_left_op_right fullShare)).2
  isplitl [HL]; · iexact HL
  iexact HR

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outC (F := F) (bWords (F := F) (xs m c) (rowNo (sel m c) (hI c) t.val)) (bPar (F := F) (selV (iblk m c 1 t) t.val)) (iblk m c 3 t)
    | ⟨9, _⟩ => outS (F := F) (bWords (F := F) (xs m c) (rowNo (sel m c) (hI c) t.val)) (bPar (F := F) (selV (iblk m c 1 t) t.val)) (iblk m c 3 t)
    | ⟨10, _⟩ => outG (F := F) (bWords (F := F) (xs m c) (rowNo (sel m c) (hI c) t.val)) (bPar (F := F) (selV (iblk m c 1 t) t.val)) (iblk m c 2 t)
    | ⟨11, _⟩ => iblk m c 11 t
    | ⟨12, _⟩ => iblk m c 12 t
    | ⟨13, _⟩ => iblk m c 13 t
    | ⟨_ + 14, h⟩ => absurd h (Nat.not_lt.2 (Nat.le_add_left _ _))
  Φ t := Phi m hI c t.val
  q w := Pipeline.shareOf spec0 w
  owed _ := 0

/-- The outputs of which nothing is said. -/
def fgt : Fin cfg0.W → Bool := fun w => match w with
    | ⟨0, _⟩ => false
    | ⟨1, _⟩ => false
    | ⟨2, _⟩ => false
    | ⟨3, _⟩ => false
    | ⟨4, _⟩ => false
    | ⟨5, _⟩ => false
    | ⟨6, _⟩ => false
    | ⟨7, _⟩ => true
    | ⟨8, _⟩ => false
    | ⟨9, _⟩ => false
    | ⟨10, _⟩ => false
    | ⟨11, _⟩ => true
    | ⟨12, _⟩ => true
    | ⟨13, _⟩ => true
    | ⟨_ + 14, h⟩ => absurd h (Nat.not_lt.2 (Nat.le_add_left _ _))

theorem A_eq (c : Dev nD) (w : Fin cfg0.W) : (dats m hI 0 c).A w = V m c (Pipeline.arrRef spec0 w) := by
  dsimp only [dats]

theorem after0_0 (c : Dev nD) (t : Fin cfg0.N) : (dats m hI 0 c).after 0 t = iblk m c 0 t := by dsimp only [dats]
theorem after0_1 (c : Dev nD) (t : Fin cfg0.N) : (dats m hI 0 c).after 1 t = iblk m c 1 t := by dsimp only [dats]
theorem after0_2 (c : Dev nD) (t : Fin cfg0.N) : (dats m hI 0 c).after 2 t = iblk m c 2 t := by dsimp only [dats]
theorem after0_3 (c : Dev nD) (t : Fin cfg0.N) : (dats m hI 0 c).after 3 t = iblk m c 3 t := by dsimp only [dats]
theorem after0_4 (c : Dev nD) (t : Fin cfg0.N) : (dats m hI 0 c).after 4 t = iblk m c 4 t := by dsimp only [dats]
theorem after0_5 (c : Dev nD) (t : Fin cfg0.N) : (dats m hI 0 c).after 5 t = iblk m c 5 t := by dsimp only [dats]
theorem after0_6 (c : Dev nD) (t : Fin cfg0.N) : (dats m hI 0 c).after 6 t = iblk m c 6 t := by dsimp only [dats]
theorem after0_8 (c : Dev nD) (t : Fin cfg0.N) : (dats m hI 0 c).after 8 t = outC (F := F) (bWords (F := F) (xs m c) (rowNo (sel m c) (hI c) t.val)) (bPar (F := F) (selV (iblk m c 1 t) t.val)) (iblk m c 3 t) := by dsimp only [dats]
theorem after0_9 (c : Dev nD) (t : Fin cfg0.N) : (dats m hI 0 c).after 9 t = outS (F := F) (bWords (F := F) (xs m c) (rowNo (sel m c) (hI c) t.val)) (bPar (F := F) (selV (iblk m c 1 t) t.val)) (iblk m c 3 t) := by dsimp only [dats]
theorem after0_10 (c : Dev nD) (t : Fin cfg0.N) : (dats m hI 0 c).after 10 t = outG (F := F) (bWords (F := F) (xs m c) (rowNo (sel m c) (hI c) t.val)) (bPar (F := F) (selV (iblk m c 1 t) t.val)) (iblk m c 2 t) := by dsimp only [dats]

theorem before0_0 (c : Dev nD) (t : Fin cfg0.N) (d) : (dats m hI 0 c).before 0 t d = iblk m c 0 t :=
  ((dats m hI 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m hI 0 c).before 1 t d = iblk m c 1 t :=
  ((dats m hI 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m hI 0 c).before 2 t d = iblk m c 2 t :=
  ((dats m hI 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m hI 0 c).before 3 t d = iblk m c 3 t :=
  ((dats m hI 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m hI 0 c).before 4 t d = iblk m c 4 t :=
  ((dats m hI 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m hI 0 c).before 5 t d = iblk m c 5 t :=
  ((dats m hI 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m hI 0 c).before 6 t d = iblk m c 6 t :=
  ((dats m hI 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-! ## The body's obligation -/

def bodyPre (c : Dev nD) (t : Fin cfg0.N) : sProp 𝕄 :=
  iprop((dats m hI 0 c).Φ t.castSucc ∗ (dats m hI 0 c).owesAt () t.castSucc
    ∗ (∃ d, owns (c : Thread nD τ) (st0_0 t) fullShare ((dats m hI 0 c).before 0 t d))
    ∗ (∃ d, owns (c : Thread nD τ) (st0_1 t) fullShare ((dats m hI 0 c).before 1 t d))
    ∗ (∃ d, owns (c : Thread nD τ) (st0_2 t) fullShare ((dats m hI 0 c).before 2 t d))
    ∗ (∃ d, owns (c : Thread nD τ) (st0_3 t) fullShare ((dats m hI 0 c).before 3 t d))
    ∗ (∃ d, owns (c : Thread nD τ) (st0_4 t) fullShare ((dats m hI 0 c).before 4 t d))
    ∗ (∃ d, owns (c : Thread nD τ) (st0_5 t) fullShare ((dats m hI 0 c).before 5 t d))
    ∗ (∃ d, owns (c : Thread nD τ) (st0_6 t) fullShare ((dats m hI 0 c).before 6 t d))
    ∗ (∃ d, owns (c : Thread nD τ) (st0_7 t) fullShare d)
    ∗ (∃ d, owns (c : Thread nD τ) (st0_8 t) fullShare ((dats m hI 0 c).before 8 t d))
    ∗ (∃ d, owns (c : Thread nD τ) (st0_9 t) fullShare ((dats m hI 0 c).before 9 t d))
    ∗ (∃ d, owns (c : Thread nD τ) (st0_10 t) fullShare ((dats m hI 0 c).before 10 t d))
    ∗ (∃ d, owns (c : Thread nD τ) (st0_11 t) fullShare d)
    ∗ (∃ d, owns (c : Thread nD τ) (st0_12 t) fullShare d)
    ∗ (∃ d, owns (c : Thread nD τ) (st0_13 t) fullShare d))
def bodyPost (c : Dev nD) (t : Fin cfg0.N) : sProp 𝕄 :=
  iprop((dats m hI 0 c).Φ t.succ ∗ (dats m hI 0 c).owesAt () t.succ
    ∗ owns (c : Thread nD τ) (st0_0 t) fullShare ((dats m hI 0 c).after 0 t)
    ∗ owns (c : Thread nD τ) (st0_1 t) fullShare ((dats m hI 0 c).after 1 t)
    ∗ owns (c : Thread nD τ) (st0_2 t) fullShare ((dats m hI 0 c).after 2 t)
    ∗ owns (c : Thread nD τ) (st0_3 t) fullShare ((dats m hI 0 c).after 3 t)
    ∗ owns (c : Thread nD τ) (st0_4 t) fullShare ((dats m hI 0 c).after 4 t)
    ∗ owns (c : Thread nD τ) (st0_5 t) fullShare ((dats m hI 0 c).after 5 t)
    ∗ owns (c : Thread nD τ) (st0_6 t) fullShare ((dats m hI 0 c).after 6 t)
    ∗ (∃ d, owns (c : Thread nD τ) (st0_7 t) fullShare d)
    ∗ owns (c : Thread nD τ) (st0_8 t) fullShare ((dats m hI 0 c).after 8 t)
    ∗ owns (c : Thread nD τ) (st0_9 t) fullShare ((dats m hI 0 c).after 9 t)
    ∗ owns (c : Thread nD τ) (st0_10 t) fullShare ((dats m hI 0 c).after 10 t)
    ∗ (∃ d, owns (c : Thread nD τ) (st0_11 t) fullShare d)
    ∗ (∃ d, owns (c : Thread nD τ) (st0_12 t) fullShare d)
    ∗ (∃ d, owns (c : Thread nD τ) (st0_13 t) fullShare d))

set_option maxHeartbeats 1000000 in
theorem sound_body (c : Dev nD) (t : Fin cfg0.N) :
    bodyPre m hI c t ⊢ wp frame (wpE (defs₀ (F := F)) Variants.none c none) Set.univ (bodyAt0 t) (fun _ => bodyPost m hI c t) := by
  unfold bodyPre bodyPost bodyAt0
  simp only [before0_0, before0_1, before0_2, before0_3, before0_4, before0_5, before0_6]
  rw [after0_0, after0_1, after0_2, after0_3, after0_4, after0_5, after0_6, after0_8, after0_9, after0_10]
  rw [show (dats m hI 0 c).Φ t.castSucc = Phi m hI c t.val from rfl, show (dats m hI 0 c).Φ t.succ = Phi m hI c (t.val + 1) from rfl]
  unfold Dat.owesAt Pipeline.owesWithin Phi
  rw [show (dats m hI 0 c).owed t.castSucc = 0 from rfl, show (dats m hI 0 c).owed t.succ = 0 from rfl]
  rw [show iblk m c 0 t = sel m c from iblk0_eq m c t]
  iintro ⟨⟨HR, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_wp _ _ _ _ _ _ _ _ _ _ _ _ _ _ _ _ _ _ _ _ _ _ _ _ _ _ _ _ c t (xs m c) (sel m c) (iblk m c 1 t) (iblk m c 2 t) (iblk m c 3 t) (iblk m c 4 t) (iblk m c 5 t) (iblk m c 6 t) (hI c) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HR]; · iexact HR
  isplitl [HW]; · iexists _; iexact HW
  iintro ⟨H0, H1, H2, H3, H4, H5, H6, H7, H8, H9, H10, H11, H12, H13, HR, ⟨%W', HW⟩⟩
  isplitl [HR Hg]
  · isplitl [HR]; · iexact HR
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m hI 0 c) (defs₀ (F := F)) Variants.none () Set.univ fgt := fun t => by
  rw [bigSep_W0, bigSep_W0, defs₀_row]
  exact triple_restated (sound_body m hI c t) rfl .rfl fun _ => .rfl

/-! ## The run and the frame -/

set_option backward.isDefEq.respectTransparency.types false in
set_option maxHeartbeats 800000 in
theorem run_main : θ_run defs (onTc (τ := τ) (main (F := F))) (s₀ m ρ)
    (fun r => Pipeline.RDat.FramePost (cfgs 0) (fun c => (dats m hI 0 c).toRForget fgt) (V m) r ∧ r.2.sem = fun _ => 0) :=
  Pipeline.θ_run_frame_dma_forget_shared (Q' := _) cfgs (dats m hI) (0 : Fin 1) launch₀0 osem0 defs₀ Variants.none fgt ownSemFacts0 H0 H0_sub m ρ main
    (hbody := fun c => body_obligation m hI c) (hq := fun _ _ _ => rfl)
    (howed := fun _ _ => rfl) (V := V m) (hmain := hmain m Variants.none) (hA := A_eq m hI)
    (hin := fun c => phi_in m hI c) (hout := fun c => phi_out m hI c)

/-- What the launch leaves: the argument arrays unchanged, the three named outputs as the data say. -/
def Post (r : PUnit × MemSt nD τ sig (Elt F)) (c : Dev nD) : Prop :=
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((cfg0.spec 8).arr.view.loc (c.tc : Thread nD τ)) = (dats m hI 0 c).arrAt 8 cfg0.N
      ∧ r.2.mem ((cfg0.spec 9).arr.view.loc (c.tc : Thread nD τ)) = (dats m hI 0 c).arrAt 9 cfg0.N
      ∧ r.2.mem ((cfg0.spec 10).arr.view.loc (c.tc : Thread nD τ)) = (dats m hI 0 c).arrAt 10 cfg0.N

set_option maxHeartbeats 1020000 in
theorem run_post : θ_run defs (onTc (τ := τ) (main (F := F))) ⟨m, fun _ => 0, ρ⟩
    (fun r => (∀ c, Post m hI r c) ∧ r.2.sem = fun _ => 0) :=
  (θ_run defs _ _).mono (fun _ h => ⟨fun c => ⟨⟨((h.1 c).2 main_arg0 (Pipeline.mem_restRefs_of main_arg0 (by decide) (by decide))).trans (V_main_arg0 m c),
      (((dats m hI 0 c).toRForget_arrAt_iff (fgt := fgt) (w := 1) rfl _ _).mp ((h.1 c).1 1)).trans (((dats m hI 0 c).arrAt_in 1 rfl _).trans ((A_eq m hI c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (((dats m hI 0 c).toRForget_arrAt_iff (fgt := fgt) (w := 4) rfl _ _).mp ((h.1 c).1 4)).trans (((dats m hI 0 c).arrAt_in 4 rfl _).trans ((A_eq m hI c 4).trans (V_main_arg4 m c))),
      ((h.1 c).2 main_arg5 (Pipeline.mem_restRefs_of main_arg5 (by decide) (by decide))).trans (V_main_arg5 m c)⟩,
      ((dats m hI 0 c).toRForget_arrAt_iff (fgt := fgt) (w := 8) rfl _ _).mp ((h.1 c).1 8),
      ((dats m hI 0 c).toRForget_arrAt_iff (fgt := fgt) (w := 9) rfl _ _).mp ((h.1 c).1 9),
      ((dats m hI 0 c).toRForget_arrAt_iff (fgt := fgt) (w := 10) rfl _ _).mp ((h.1 c).1 10)⟩, h.2⟩) (run_main m ρ hI)

end

end Cert.QkvIdeal.Gather

end
-- ==== Proof.Value.QkvSpec.lean ====
/- The first call's row in plain sums: the gate, the row over its root mean square, its scale and its codes. -/
module

public import proofs.«01_k».proof.Proof.Value.Spec

@[expose] public section

noncomputable section

namespace Cert.QkvSpec

open Idealize.ShloMosaic Cert.Pow2
open scoped BigOperators

/-- The word of the sixteen-bit entry a position names: an odd position's is the upper half, an even one's the lower. -/
def half (w p : BitVec 32) : BitVec 32 := if p &&& 1#32 = 1#32 then w &&& 4294901760#32 else w <<< 16
/-- That entry's value. -/
def entry (w p : BitVec 32) : EReal := Ideal.ofBits .f32 (half w p)

/-- The same half by one shift and a mask. -/
theorem half_eq (w p : BitVec 32) :
    IntOp.andi (IntOp.shli ArithUnit.vector w (IntOp.shli ArithUnit.vector (IntOp.subi 1#32 (IntOp.andi p 1#32)) 4#32)) 4294901760#32 = half w p := by
  unfold half
  have hp : p &&& 1#32 = 0#32 ∨ p &&& 1#32 = 1#32 := by
    have h2 : (p &&& 1#32).toNat = p.toNat % 2 := by
      rw [BitVec.toNat_and]; exact Nat.and_one_is_mod _
    rcases Nat.mod_two_eq_zero_or_one p.toNat with h | h
    · exact .inl (BitVec.eq_of_toNat_eq (by rw [h2, h]; rfl))
    · exact .inr (BitVec.eq_of_toNat_eq (by rw [h2, h]; rfl))
  rcases hp with h | h
  · rw [if_neg (by rw [h]; decide)]
    have e : IntOp.shli ArithUnit.vector (IntOp.subi 1#32 (IntOp.andi p 1#32)) 4#32 = 16#32 := by
      show IntOp.shli ArithUnit.vector (1#32 - (p &&& 1#32)) 4#32 = 16#32
      rw [h]; decide
    rw [e]
    show (IntOp.shli ArithUnit.vector w 16#32) &&& 4294901760#32 = _
    rw [show IntOp.shli ArithUnit.vector w 16#32 = w <<< 16 from by simp [IntOp.shli]]
    ext i hi
    simp only [BitVec.getElem_and, BitVec.getElem_shiftLeft]
    by_cases h16 : i < 16
    · simp [h16]
    · have : (4294901760#32)[i] = true := by
        have key : ∀ j : Fin 32, 16 ≤ j.val → (4294901760#32).getLsbD j.val = true := by decide
        exact key ⟨i, hi⟩ (not_lt.mp h16)
      rw [this, Bool.and_true]
  · rw [if_pos h]
    have e : IntOp.shli ArithUnit.vector (IntOp.subi 1#32 (IntOp.andi p 1#32)) 4#32 = 0#32 := by
      show IntOp.shli ArithUnit.vector (1#32 - (p &&& 1#32)) 4#32 = 0#32
      rw [h]; decide
    rw [e]
    show (IntOp.shli ArithUnit.vector w 0#32) &&& 4294901760#32 = _
    rw [show IntOp.shli ArithUnit.vector w 0#32 = w from by simp [IntOp.shli]]

/-- The router's gate of a row. -/
def gate (X w : Fin 2048 → EReal) : EReal := Ideal.logistic (∑ k, X k * w k)

/-- One over the root mean square of a row. -/
def rms (X : Fin 2048 → EReal) : EReal :=
  Ideal.rsqrt (Ideal.div (∑ k, X k * X k) (Ideal.ofBits .f32 0x45000000#32) + Ideal.ofBits .f32 0x358637BD#32)

/-- A row over its root mean square, times the gain. -/
def norm (X g : Fin 2048 → EReal) (k : Fin 2048) : EReal := X k * rms X * g k

/-- The largest magnitude of a row over the largest code. -/
def peak (A : Fin 2048 → EReal) : EReal :=
  (Finset.univ.fold max (Ideal.ofBits .f32 0xFF800000#32) fun k => max (A k) (-(A k))) * Ideal.ofBits .f32 0x3B124925#32

/-- A row's code at `k`. -/
def code (A : Fin 2048 → EReal) (k : Fin 2048) : EReal :=
  min (Ideal.ofBits .f32 0x43E00000#32) (max (Ideal.ofBits .f32 0xC3E00000#32) (A k * inv (peak A)))

theorem w2048 : Ideal.ofBits .f32 0x45000000#32 = ((2048 : ℝ) : EReal) :=
  (show Ideal.ofBits .f32 0x45000000#32 = pw 138 from by unfold pw; congr 1).trans (by rw [pw_eq 138 (by norm_num) (by norm_num)]; norm_num)
theorem winv : Ideal.ofBits .f32 0x3A000000#32 = (((2048 : ℝ)⁻¹ : ℝ) : EReal) :=
  (show Ideal.ofBits .f32 0x3A000000#32 = pw 116 from by unfold pw; congr 1).trans (by rw [pw_eq 116 (by norm_num) (by norm_num)]; norm_num)

/-- A mean by the reciprocal of the count. -/
theorem mean_eq (x : EReal) : x * Ideal.ofBits .f32 0x3A000000#32 = Ideal.div x (Ideal.ofBits .f32 0x45000000#32) := by
  rw [w2048, winv]
  unfold Ideal.div
  rw [if_neg (by norm_num), EReal.coe_inv]

/-! ## Whole arrays -/

section
variable (x : (⟨2, ![8192, 2048]⟩ : Shape).Idx → BitVec 32) (s : (⟨2, ![2, 1024]⟩ : Shape).Idx → BitVec 32)
  (w g : (⟨1, ![2048]⟩ : Shape).Idx → EReal)

/-- The position the `r`-th row of the result selects, in its batch. -/
def pos (r : Fin 2048) : BitVec 32 := s (ix2 ⟨r.val / 1024, by omega⟩ ⟨r.val % 1024, by omega⟩)
/-- The row of words that holds it: two positions share a row, a batch has 8192 positions. -/
def src (r : Fin 2048) : Fin 8192 := ⟨min ((r.val / 1024 * 8192 + (pos s r).toNat) / 2) 8191, by omega⟩
/-- The selected row. -/
def row (r : Fin 2048) : Fin 2048 → EReal := fun k => entry (x (ix2 (src s r) k)) (pos s r)

/-- The row of entry `l` of block `b`. -/
def rowOf (b : Fin 8) (l : Fin 256) : Fin 2048 := ⟨b.val * 256 + l.val, by omega⟩

/-- The gates. -/
def gates : (⟨3, ![8, 1, 256]⟩ : Shape).Idx → EReal := fun y => gate (row x s (rowOf (y 0) (y 2))) fun k => w (ix1 k)
/-- The codes. -/
def codes : (⟨2, ![2048, 2048]⟩ : Shape).Idx → EReal := fun y => code (norm (row x s (y 0)) fun k => g (ix1 k)) (y 1)
/-- The scales. -/
def scales : (⟨3, ![8, 1, 256]⟩ : Shape).Idx → EReal := fun y => scale (peak (norm (row x s (rowOf (y 0) (y 2))) fun k => g (ix1 k)))

end

end Cert.QkvSpec

end
-- ==== Proof.Value.QkvKernel.lean ====
/- A row block of the first call: the gate, code and scale windows, entry by entry. -/
module

public import proofs.«01_k».proof.Proof.QkvIdeal.Body
public import proofs.«01_k».proof.Proof.Value.QkvSpec

@[expose] public section

set_option maxRecDepth 16384

noncomputable section

namespace Cert.QkvIdeal.Gather

open Cert.QkvIdeal Cert.QkvIdeal.Gen Cert.Pow2
open Idealize.ShloMosaic
open scoped BigOperators

/-! ## Positions as floats and back -/

theorem fptosi_sitofp (b : BitVec 32) : Ideal.fptosi 32 ((b.toInt : ℝ) : EReal) = b := by
  unfold Ideal.fptosi Ideal.toIntClamped
  have h1 := BitVec.le_toInt b
  have h2 := BitVec.toInt_lt (x := b)
  norm_num at h1 h2
  have e : (if (0 : ℝ) ≤ (b.toInt : ℝ) then ⌊(b.toInt : ℝ)⌋ else ⌈(b.toInt : ℝ)⌉) = b.toInt := by
    split_ifs
    · exact Int.floor_intCast _
    · exact Int.ceil_intCast _
  show BitVec.ofInt 32 (max _ (min _ (if (0 : ℝ) ≤ (b.toInt : ℝ) then ⌊(b.toInt : ℝ)⌋ else ⌈(b.toInt : ℝ)⌉))) = b
  rw [e, min_eq_right (by norm_num; omega), max_eq_right (by norm_num; omega)]
  exact BitVec.ofInt_toInt

theorem pay1_apply (sv : Vec Ideal S1x256 .i32) (r : Fin 256) (l : Fin 128) :
    k0_pay1 (F := Ideal) sv (ix2 r l) = (((sv (ix2 0 r)).toInt : ℝ) : EReal) := by
  have e : ∀ h : ¬ (r : ℕ) < 128, (⟨128 + (r.val - 128), by omega⟩ : Fin 256) = r := fun h => Fin.ext (by show 128 + (r.val - 128) = r.val; omega)
  pointwise [k0_pay1]
  split_ifs <;> first | rfl | (rw [e (by assumption)]; rfl)

theorem pay3_apply (sv : Vec Ideal S1x256 .i32) (r : Fin 256) (l : Fin 128) :
    k0_pay3 (F := Ideal) sv (ix2 r l) = IntOp.subi 1#32 (IntOp.andi (sv (ix2 0 r)) 1#32) := by
  have h : k0_pay3 (F := Ideal) sv (ix2 r l) = IntOp.subi 1#32 (IntOp.andi (Ideal.fptosi 32 (k0_pay1 (F := Ideal) sv (ix2 r l))) 1#32) := rfl
  rw [h, pay1_apply, fptosi_sitofp]

theorem copiesOf {α : Type} (v : S256x128.Idx → α) (r : Fin 256) (k : Fin 2048) (h) :
    concatenate S256x2048 1 (List.ofFn fun _ : Fin 16 => (⟨S256x128, v⟩ : (s : Shape) × (s.Idx → α))) h (ix2 r k) = v (ix2 r ⟨k.val % 128, Nat.mod_lt _ (by norm_num)⟩) :=
  concatenate_ofFn_apply (t := S256x2048) 1 (fun _ : Fin 16 => v) h rfl 128 rfl (ix2 r k) ⟨k.val / 128, by omega⟩ rfl (ix2 r ⟨k.val % 128, Nat.mod_lt _ (by norm_num)⟩) rfl
    (fun a ha => by match a with | ⟨0, _⟩ => rfl | ⟨1, _⟩ => exact absurd rfl ha)

theorem cat16 : Shape.Concatenates (List.ofFn fun _ : Fin 16 => S256x128) S256x2048 1 := by
  exact concatenates_S256x128_S256x128_S256x128_S256x128_S256x128_S256x128_S256x128_S256x128_S256x128_S256x128_S256x128_S256x128_S256x128_S256x128_S256x128_S256x128_S256x2048_d1

/-! ## A row's entries -/

variable (X : S8192x2048.Idx → BitVec 32) (o : Fin 256 → Fin 8192) (sv : Vec Ideal S1x256 .i32)

theorem bWords_apply (r : Fin 256) (k : Fin 2048) : bWords (F := Ideal) X o (ix2 r k) = X (ix2 (o r) k) := by
  unfold bWords
  have e : k0_pay2 (F := Ideal) (rowsV X o) (ix2 r k) = rowsV (F := Ideal) X o (ix3 0 r k) := by
    generalize rowsV (F := Ideal) X o = R
    pointwise [k0_pay2]
  rw [e]
  unfold rowsV
  exact congrArg X (funext fun a => by match a with | ⟨0, _⟩ => rfl | ⟨1, _⟩ => rfl)

/-- The rows of the block. -/
def rowX (r : Fin 256) (k : Fin 2048) : EReal := QkvSpec.entry (X (ix2 (o r) k)) (sv (ix2 0 r))

theorem pay5_apply (w : IVec S256x2048 32) (p : IVec S256x128 32) (r : Fin 256) (k : Fin 2048) :
    k0_pay5 (F := Ideal) w p k0_pay4 (ix2 r k)
      = Ideal.ofBits .f32 (IntOp.andi (IntOp.shli ArithUnit.vector (w (ix2 r k)) (IntOp.shli ArithUnit.vector (p (ix2 r ⟨k.val % 128, Nat.mod_lt _ (by norm_num)⟩)) 4#32)) 4294901760#32) := by
  have h : k0_pay5 (F := Ideal) w p k0_pay4 (ix2 r k) = Ideal.ofBits .f32 (IntOp.andi (IntOp.shli ArithUnit.vector (w (ix2 r k))
    (concatenate S256x2048 1 (List.ofFn fun _ : Fin 16 => (⟨S256x128, shli p (broadcast S256x128 4#32)⟩ : (s : Shape) × (s.Idx → BitVec 32))) cat16 (ix2 r k))) 4294901760#32) := rfl
  rw [h]
  exact congrArg (fun z => Ideal.ofBits .f32 (IntOp.andi (IntOp.shli ArithUnit.vector (w (ix2 r k)) z) 4294901760#32)) (copiesOf (shli p (broadcast S256x128 4#32)) r k cat16)

theorem words_apply (r : Fin 256) (k : Fin 2048) :
    k0_pay5 (F := Ideal) (bWords (F := Ideal) X o) (bPar sv) k0_pay4 (ix2 r k) = rowX X o sv r k := by
  rw [pay5_apply, bWords_apply]
  unfold bPar rowX QkvSpec.entry
  rw [pay3_apply, QkvSpec.half_eq]

/-! ## The windows over any rows -/

theorem pay6_apply (w : IVec S256x2048 32) (p : IVec S256x128 32) (x4 : Vec Ideal S1x2048 .f32) (r : Fin 256) :
    k0_pay6 (F := Ideal) w p k0_pay4 x4 (ix3 0 0 r)
      = QkvSpec.gate (fun k => k0_pay5 (F := Ideal) w p k0_pay4 (ix2 r k)) (fun k => x4 (ix2 0 k)) := by
  unfold k0_pay6 QkvSpec.gate Ideal.logistic
  generalize k0_pay5 (F := Ideal) w p k0_pay4 = M
  have e : ∀ h : ¬ (r : ℕ) < 128, (⟨128 + (r.val - 128), by omega⟩ : Fin 256) = r := fun h => Fin.ext (by show 128 + (r.val - 128) = r.val; omega)
  pointwise
  split_ifs <;> first | (rw [zero_sub]; done) | (rw [zero_sub, e ‹¬ (r : ℕ) < 128›]; done)

theorem pay8_apply (w : IVec S256x2048 32) (p : IVec S256x128 32) (r : Fin 256) (k : Fin 2048) :
    k0_pay8 (F := Ideal) w p k0_pay4 (ix2 r k) = QkvSpec.rms (fun k => k0_pay5 (F := Ideal) w p k0_pay4 (ix2 r k)) := by
  have h : k0_pay8 (F := Ideal) w p k0_pay4 = concatenate S256x2048 1 (List.ofFn fun _ : Fin 16 => (⟨S256x128,
      rsqrt (addf (mulf (broadcastTo S256x128 (shapeCast S256x1 (shapeCast S256x1 (multiReduction .add [1] S256 (mulf (k0_pay5 (F := Ideal) w p k0_pay4) (k0_pay5 (F := Ideal) w p k0_pay4)) 0x00000000#32 reduces_S256x2048_S256 (.inl rfl) rfl)
        shapeCasts_S256_S256x1) shapeCasts_S256x1_S256x1) broadcasts_S256x1_S256x128) (broadcast S256x128 (Scalar.ofBits .f32 0x3A000000#32 : Ideal .f32)))
        (broadcast S256x128 (Scalar.ofBits .f32 0x358637BD#32 : Ideal .f32)))⟩ : (s : Shape) × (s.Idx → EReal))) cat16 := rfl
  rw [h]
  refine (copiesOf _ r k cat16).trans ?_
  unfold QkvSpec.rms
  rw [← QkvSpec.mean_eq]
  generalize k0_pay5 (F := Ideal) w p k0_pay4 = M
  pointwise

theorem pay9_apply (a : FVec Ideal S256x2048 .f32) (x5 : Vec Ideal S1x2048 .f32) (b : FVec Ideal S256x2048 .f32) (r : Fin 256) (k : Fin 2048) :
    k0_pay9 (F := Ideal) a (k0_pay7 x5) b (ix2 r k) = a (ix2 r k) * b (ix2 r k) * x5 (ix2 0 k) := by
  pointwise [k0_pay9, k0_pay7]

theorem pay10_apply (a : FVec Ideal S256x2048 .f32) (g : FVec Ideal S1x2048 .f32) (b : FVec Ideal S256x2048 .f32) (r : Fin 256) (l : Fin 128) :
    k0_pay10 (F := Ideal) a g b (ix2 r l) = QkvSpec.peak fun k => k0_pay9 (F := Ideal) a g b (ix2 r k) := by
  unfold k0_pay10
  generalize k0_pay9 (F := Ideal) a g b = M
  have e : ∀ v : FVec Ideal S256 .f32, mulf (broadcastTo S256x128 (shapeCast S256x1 (shapeCast S256x1 v shapeCasts_S256_S256x1) shapeCasts_S256x1_S256x1) broadcasts_S256x1_S256x128)
      (broadcast S256x128 (Scalar.ofBits .f32 0x3B124925#32 : Ideal .f32)) (ix2 r l) = v (ix1 r) * Ideal.ofBits .f32 0x3B124925#32 := fun v => by pointwise
  rw [e, Spec.rowFold (absf M) reduces_S256x2048_S256 (.inl rfl) rfl r]
  rfl

/-! ## The search -/

/-- One trial of the search, lane by lane. -/
def trial (v : FVec Ideal S256x128 .f32) (k : BitVec 32) (b : IVec S256x128 32) : IVec S256x128 32 :=
  select (cmpf .oge v (bitcastToFloat .f32 (shli (addi b (broadcast S256x128 k)) (broadcast S256x128 23#32)))) (addi b (broadcast S256x128 k)) b

theorem trial_apply (v : FVec Ideal S256x128 .f32) (k : BitVec 32) (b : IVec S256x128 32) (y : S256x128.Idx) :
    trial v k b y = step (v y) k (b y) := by
  unfold step
  pointwise [trial]

variable (a : FVec Ideal S256x2048 .f32) (g : FVec Ideal S1x2048 .f32) (b : FVec Ideal S256x2048 .f32)

/-- The exponents' words, as the body passes them on. -/
def expW : IVec S256x128 32 :=
  k0_pay17 (k0_pay15 (k0_pay10 a g b) (k0_pay11 a g b) (k0_pay12 a g b) k0_pay13) (k0_pay16 (k0_pay10 a g b) (k0_pay11 a g b) (k0_pay12 a g b) k0_pay13) 0#32

/-- The bits the search finds. -/
theorem pay14_apply (y : S256x128.Idx) :
    k0_pay14 (F := Ideal) (k0_pay10 a g b) (k0_pay11 a g b) (k0_pay12 a g b) k0_pay13 y = IntOp.minsi (found (k0_pay10 a g b y)) 252#32 := by
  have h : k0_pay14 (F := Ideal) (k0_pay10 a g b) (k0_pay11 a g b) (k0_pay12 a g b) k0_pay13
      = minsi (trial (k0_pay10 a g b) 1#32 (trial (k0_pay10 a g b) 2#32 (trial (k0_pay10 a g b) 4#32 (trial (k0_pay10 a g b) 8#32 (trial (k0_pay10 a g b) 16#32
          (trial (k0_pay10 a g b) 32#32 (trial (k0_pay10 a g b) 64#32 (trial (k0_pay10 a g b) 128#32 (broadcast S256x128 0#32))))))))) (broadcast S256x128 252#32) := rfl
  rw [h]
  show IntOp.minsi _ 252#32 = _
  unfold found
  simp only [trial_apply]
  rfl

theorem expW_apply (y : S256x128.Idx) : expW a g b y = eword (found (k0_pay10 a g b y)) := by
  have h : expW a g b y = Scalar.select (IntOp.cmpi CmpIPredicate.eq (k0_pay14 (F := Ideal) (k0_pay10 a g b) (k0_pay11 a g b) (k0_pay12 a g b) k0_pay13 y) 0#32) (0#32)
      (IntOp.subi (k0_pay14 (F := Ideal) (k0_pay10 a g b) (k0_pay11 a g b) (k0_pay12 a g b) k0_pay13 y) 126#32) := rfl
  rw [h, pay14_apply]
  rfl

theorem scaleW (y : S256x128.Idx) :
    Ideal.ofBits .f32 (IntOp.shli ArithUnit.vector (IntOp.addi (expW a g b y) 127#32) 23#32) = scale (k0_pay10 a g b y) := by
  rw [expW_apply]
  obtain ⟨n, hn, e⟩ := found_eq (k0_pay10 a g b y)
  rw [e, scale_eq hn]

theorem invW (y : S256x128.Idx) :
    Ideal.ofBits .f32 (IntOp.shli ArithUnit.vector (IntOp.subi 127#32 (expW a g b y)) 23#32) = inv (k0_pay10 a g b y) := by
  rw [expW_apply]
  obtain ⟨n, hn, e⟩ := found_eq (k0_pay10 a g b y)
  rw [e, inv_eq hn]

theorem pay20_apply (r : Fin 256) (u : IVec S256x128 1) (v : IVec S256x128 32) :
    k0_pay20 (F := Ideal) u v 0#32 (ix3 0 0 r) = k0_pay18 (F := Ideal) u v 0#32 (ix2 r 0) := by
  unfold k0_pay20
  generalize k0_pay18 (F := Ideal) u v 0#32 = M
  have e : ∀ h : ¬ (r : ℕ) < 128, (⟨128 + (r.val - 128), by omega⟩ : Fin 256) = r := fun h => Fin.ext (by show 128 + (r.val - 128) = r.val; omega)
  pointwise
  split_ifs <;> first | rfl | (rw [e ‹¬ (r : ℕ) < 128›])

theorem pay19_apply (N : FVec Ideal S256x2048 .f32) (u : IVec S256x128 1) (v : IVec S256x128 32) (r : Fin 256) (k : Fin 2048) :
    k0_pay19 (F := Ideal) N u v 0#32 (ix2 r k)
      = min (Ideal.ofBits .f32 0x43E00000#32) (max (Ideal.ofBits .f32 0xC3E00000#32) (N (ix2 r k)
          * Ideal.ofBits .f32 (IntOp.shli ArithUnit.vector (IntOp.subi 127#32 (k0_pay17 u v 0#32 (ix2 r ⟨k.val % 128, Nat.mod_lt _ (by norm_num)⟩))) 23#32))) := by
  have h : k0_pay19 (F := Ideal) N u v 0#32 (ix2 r k)
      = min (Ideal.ofBits .f32 0x43E00000#32) (max (Ideal.ofBits .f32 0xC3E00000#32) (N (ix2 r k)
          * concatenate S256x2048 1 (List.ofFn fun _ : Fin 16 => (⟨S256x128, bitcastToFloat (F := Ideal) .f32 (shli (subi (broadcast S256x128 127#32) (k0_pay17 u v 0#32)) (broadcast S256x128 23#32))⟩ : (s : Shape) × (s.Idx → EReal))) cat16 (ix2 r k))) := rfl
  rw [h]
  exact congrArg (fun z => min (Ideal.ofBits .f32 0x43E00000#32) (max (Ideal.ofBits .f32 0xC3E00000#32) (N (ix2 r k) * z)))
    (copiesOf (bitcastToFloat (F := Ideal) .f32 (shli (subi (broadcast S256x128 127#32) (k0_pay17 u v 0#32)) (broadcast S256x128 23#32))) r k cat16)

/-! ## The result windows -/

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

variable (x4 x5 : Vec Ideal S1x2048 .f32)

/-- A row over its root mean square, times the gain. -/
def rowNorm (r : Fin 256) : Fin 2048 → EReal := QkvSpec.norm (rowX X o sv r) fun k => x5 (ix2 0 k)

theorem norm_apply (r : Fin 256) (k : Fin 2048) :
    bNorm (F := Ideal) (bWords (F := Ideal) X o) (bPar sv) x5 (ix2 r k) = rowNorm X o sv x5 r k := by
  unfold bNorm rowNorm QkvSpec.norm
  rw [pay9_apply, pay8_apply, View.ld_unit_zero zero2]
  simp only [words_apply]

theorem b10_apply (r : Fin 256) (l : Fin 128) :
    b10 (F := Ideal) (bWords (F := Ideal) X o) (bPar sv) x5 (ix2 r l) = QkvSpec.peak (rowNorm X o sv x5 r) := by
  unfold b10
  rw [pay10_apply]
  exact congrArg QkvSpec.peak (funext fun k => norm_apply X o sv x5 r k)

theorem outG_apply (r : Fin 256) :
    outG (F := Ideal) (bWords (F := Ideal) X o) (bPar sv) x4 (ix3 0 0 r) = QkvSpec.gate (rowX X o sv r) (fun k => x4 (ix2 0 k)) := by
  unfold outG
  rw [View.canon_unit_zero zero3, pay6_apply, View.ld_unit_zero zero2]
  simp only [words_apply]

theorem outS_apply (r : Fin 256) :
    outS (F := Ideal) (bWords (F := Ideal) X o) (bPar sv) x5 (ix3 0 0 r) = scale (QkvSpec.peak (rowNorm X o sv x5 r)) := by
  unfold outS
  rw [View.canon_unit_zero zero3, pay20_apply, ← b10_apply X o sv x5 r 0]
  exact scaleW _ _ _ (ix2 r 0)

theorem outC_apply (r : Fin 256) (k : Fin 2048) :
    outC (F := Ideal) (bWords (F := Ideal) X o) (bPar sv) x5 (ix2 r k) = QkvSpec.code (rowNorm X o sv x5 r) k := by
  unfold outC QkvSpec.code
  rw [View.canon_unit_zero zero2, pay19_apply, norm_apply, ← b10_apply X o sv x5 r ⟨k.val % 128, Nat.mod_lt _ (by norm_num)⟩]
  exact congrArg (fun z => min _ (max _ (_ * z))) (invW _ _ _ (ix2 r ⟨k.val % 128, Nat.mod_lt _ (by norm_num)⟩))

end Cert.QkvIdeal.Gather

end
-- ==== Proof.Value.QkvKernelArrays.lean ====
/- The first call's three result arrays, from the arguments. -/
module

public import proofs.«01_k».proof.Proof.QkvIdeal.Frame
public import proofs.«01_k».proof.Proof.Value.QkvKernel
public import Idealize.ShloMosaic.Lib.Pipeline.ValueKit.Point

@[expose] public section

set_option maxRecDepth 16384

noncomputable section

namespace Cert.QkvIdeal.Gather

open Cert.QkvIdeal Cert.QkvIdeal.Gen Cert.Pow2
open Idealize.ShloMosaic Idealize.ShloMosaic.TcCoe Idealize.ShloMosaic.Tactic
open Idealize.SL Idealize.SL.RA Idealize.SL.Sem
open scoped BigOperators

variable (m : (ℓ : Loc nD τ sig) → Buf (Elt Ideal) ℓ) (hI : AllInside m) (c : Dev nD)

/-! ## The blocks read -/

theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![t.val, 0, 0] := (by decide +kernel : ∀ t : Fin grid0.N, _)
theorem ix_10 : ∀ t : Fin cfg0.N, win0_10.index t = ![t.val, 0, 0] := (by decide +kernel : ∀ t : Fin grid0.N, _)

theorem lt8 (t : Fin cfg0.N) : t.val < 8 := by have := t.isLt; have e : cfg0.N = 8 := N_0; omega

/-- The global row of row `r` of point `t`'s block. -/
def grow (t : Fin cfg0.N) (r : Fin 256) : Fin 2048 := ⟨t.val * 256 + r.val, by have := lt8 t; omega⟩
/-- The point as a block number. -/
def gblk (t : Fin cfg0.N) : Fin 8 := ⟨t.val, lt8 t⟩

theorem rd1 (t : Fin cfg0.N) : (iblk m c 1 t : S2x1024.Idx → BitVec 32) = sel m c := by
  funext y
  obtain ⟨b, p, rfl⟩ : ∃ (b : Fin 2) (p : Fin 1024), y = ix2 b p := ⟨y 0, y 1, eq_ix2 y⟩
  show iblk m c 1 t (ix2 b p) = m ((c : Thread nD τ).loc main_arg1) (ix2 b p)
  rw [← V_main_arg1 m c]; blk_ext! [iblk, ix_1 t]
theorem rd2 (t : Fin cfg0.N) (k : Fin 2048) :
    iblk m c 2 t (ix2 0 k) = m ((c : Thread nD τ).loc main_arg2) (ix1 k) := by
  blk_ext! [iblk, ix_2 t]
theorem rd3 (t : Fin cfg0.N) (k : Fin 2048) :
    iblk m c 3 t (ix2 0 k) = m ((c : Thread nD τ).loc main_arg3) (ix1 k) := by
  blk_ext! [iblk, ix_3 t]

theorem word_eq (t : Fin cfg0.N) (r : Fin 256) (s : S2x1024.Idx → BitVec 32) : word s t.val r = QkvSpec.pos s (grow t r) := by
  have h := lt8 t
  unfold word QkvSpec.pos grow
  refine congrArg s (funext fun a => ?_)
  match a with
  | ⟨0, _⟩ => exact Fin.ext (by show t.val / 4 % 2 = (t.val * 256 + r.val) / 1024; omega)
  | ⟨1, _⟩ => exact Fin.ext (by show 256 * (t.val % 4) + r.val = (t.val * 256 + r.val) % 1024; omega)

theorem src_eq (t : Fin cfg0.N) (r : Fin 256) : rowNo (sel m c) (hI c) t.val r = QkvSpec.src (sel m c) (grow t r) := by
  have h := lt8 t
  have hw : (word (sel m c) t.val r).toNat < 8192 := hI c _ _
  refine Fin.ext ?_
  show (rowW (sel m c) t.val r).toNat = min (((grow t r).val / 1024 * 8192 + (QkvSpec.pos (sel m c) (grow t r)).toNat) / 2) 8191
  rw [rowW_toNat _ (hI c), ← word_eq]
  have e : (grow t r).val / 1024 = t.val / 4 % 2 := by show (t.val * 256 + r.val) / 1024 = _; omega
  rw [e]
  omega

theorem row_eq (t : Fin cfg0.N) (r : Fin 256) :
    rowX (xs m c) (rowNo (sel m c) (hI c) t.val) (selV (F := Ideal) (iblk m c 1 t) t.val) r
      = QkvSpec.row (m ((c : Thread nD τ).loc main_arg0)) (m ((c : Thread nD τ).loc main_arg1)) (grow t r) := by
  funext k
  unfold rowX QkvSpec.row
  have e : selV (F := Ideal) (iblk m c 1 t) t.val (ix2 0 r) = QkvSpec.pos (sel m c) (grow t r) := by
    rw [rd1]
    exact word_eq t r (sel m c)
  rw [e, src_eq]
  rfl

theorem norm_eq (t : Fin cfg0.N) (r : Fin 256) :
    rowNorm (xs m c) (rowNo (sel m c) (hI c) t.val) (selV (F := Ideal) (iblk m c 1 t) t.val) (iblk m c 3 t) r
      = QkvSpec.norm (QkvSpec.row (m ((c : Thread nD τ).loc main_arg0)) (m ((c : Thread nD τ).loc main_arg1)) (grow t r))
          fun k => m ((c : Thread nD τ).loc main_arg3) (ix1 k) := by
  unfold rowNorm
  rw [row_eq]
  exact congrArg _ (funext fun k => rd3 m c t k)

theorem rowOf_eq (t : Fin cfg0.N) (r : Fin 256) : QkvSpec.rowOf (gblk t) r = grow t r := rfl

/-! ## The result arrays -/

/-- The codes. -/
theorem arr8 : (dats m hI 0 c).arrAt 8 cfg0.N
    = QkvSpec.codes (m ((c : Thread nD τ).loc main_arg0)) (m ((c : Thread nD τ).loc main_arg1)) (m ((c : Thread nD τ).loc main_arg3)) := by
  refine (dats m hI 0 c).arrAt_eq_of_covers 8 _ (by decide +kernel) fun t hf y => ?_
  blk_simp
  rw [after0_8]
  obtain ⟨r, k, rfl⟩ : ∃ (r : Fin 256) (k : Fin 2048), y = ix2 r k := ⟨y 0, y 1, eq_ix2 y⟩
  have e : ((cfg0.win 8).blk t).view.emb (ix2 r k) = ix2 (grow t r) k := by unfold grow; blk_ext [ix_8 t]
  rw [e]
  refine (outC_apply _ _ _ _ r k).trans ?_
  rw [norm_eq]
  rfl

/-- The scales. -/
theorem arr9 : (dats m hI 0 c).arrAt 9 cfg0.N
    = QkvSpec.scales (m ((c : Thread nD τ).loc main_arg0)) (m ((c : Thread nD τ).loc main_arg1)) (m ((c : Thread nD τ).loc main_arg3)) := by
  refine (dats m hI 0 c).arrAt_eq_of_covers 9 _ (by decide +kernel) fun t hf y => ?_
  blk_simp
  rw [after0_9]
  obtain ⟨a, b, r, rfl⟩ : ∃ (a b : Fin 1) (r : Fin 256), y = ix3 a b r := ⟨y 0, y 1, y 2, eq_ix3 y⟩
  obtain rfl : a = 0 := Subsingleton.elim _ _
  obtain rfl : b = 0 := Subsingleton.elim _ _
  have e : ((cfg0.win 9).blk t).view.emb (ix3 0 0 r) = ix3 (gblk t) 0 r := by unfold gblk; blk_ext [ix_9 t]
  rw [e]
  refine (outS_apply _ _ _ _ r).trans ?_
  rw [norm_eq]
  rfl

/-- The gates. -/
theorem arr10 : (dats m hI 0 c).arrAt 10 cfg0.N
    = QkvSpec.gates (m ((c : Thread nD τ).loc main_arg0)) (m ((c : Thread nD τ).loc main_arg1)) (m ((c : Thread nD τ).loc main_arg2)) := by
  refine (dats m hI 0 c).arrAt_eq_of_covers 10 _ (by decide +kernel) fun t hf y => ?_
  blk_simp
  rw [after0_10]
  obtain ⟨a, b, r, rfl⟩ : ∃ (a b : Fin 1) (r : Fin 256), y = ix3 a b r := ⟨y 0, y 1, y 2, eq_ix3 y⟩
  obtain rfl : a = 0 := Subsingleton.elim _ _
  obtain rfl : b = 0 := Subsingleton.elim _ _
  have e : ((cfg0.win 10).blk t).view.emb (ix3 0 0 r) = ix3 (gblk t) 0 r := by unfold gblk; blk_ext [ix_10 t]
  rw [e]
  refine (outG_apply _ _ _ _ r).trans ?_
  rw [row_eq]
  simp only [rd2]
  rfl

/-- The run, with the three results named and the arguments unchanged. -/
theorem values (ρ : Dev nD → PrngReg) (hI : AllInside m) : θ_run defs (onTc (τ := τ) (main (F := Ideal))) ⟨m, fun _ => 0, ρ⟩ (fun r => ∀ c : Dev nD,
      r.2.mem ((c.tc : Thread nD τ).loc main_v12_3) = QkvSpec.gates (m ((c : Thread nD τ).loc main_arg0)) (m ((c : Thread nD τ).loc main_arg1)) (m ((c : Thread nD τ).loc main_arg2))
      ∧ r.2.mem ((c.tc : Thread nD τ).loc main_v12_1) = QkvSpec.codes (m ((c : Thread nD τ).loc main_arg0)) (m ((c : Thread nD τ).loc main_arg1)) (m ((c : Thread nD τ).loc main_arg3))
      ∧ r.2.mem ((c.tc : Thread nD τ).loc main_v12_2) = QkvSpec.scales (m ((c : Thread nD τ).loc main_arg0)) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1 c).2.2.2.trans (arr10 m hI c), (h.1 c).2.1.trans (arr8 m hI c), (h.1 c).2.2.1.trans (arr9 m hI c), (h.1 c).1⟩)
    (run_post m ρ hI)

end Cert.QkvIdeal.Gather

end
-- ==== Proof.Value.QkvReference.lean ====
/- The first call's reference: its gates, codes and scales, entry by entry. -/
module

public import proofs.«01_k».proof.Proof.Gen.ReferenceQkvIdeal.Frame
public import proofs.«01_k».proof.Proof.Value.QkvSpec

@[expose] public section

set_option maxRecDepth 16384

noncomputable section

namespace Cert.ReferenceQkvIdeal.Qkv

open Cert.ReferenceQkvIdeal Cert.ReferenceQkvIdeal.Gen Cert.Pow2
open Idealize.ShloMosaic
open scoped BigOperators

/-! ## The reference's steps, over any vectors -/

theorem log_eq (x : Ideal .f32) : Scalar.log x = Ideal.log x := rfl
theorem exp2_eq (x : Ideal .f32) : FloatOps.exp2 x = Ideal.exp2 x := rfl

theorem select_eq (c a b : BitVec 32) :
    Scalar.select (IntOp.cmpi CmpIPredicate.eq c 1#32) a b = if c = 1#32 then a else b := by
  unfold Scalar.select IntOp.cmpi
  by_cases h : c = 1#32
  · simp [h]
  · have e : (c == 1#32) = false := beq_eq_false_iff_ne.mpr h
    simp [h, e]

theorem shl16 (w : BitVec 32) : IntOp.shli ArithUnit.vector w 16#32 = w <<< 16 := by simp [IntOp.shli]

/-- The entry a position picks out of a word. -/
theorem pay5_apply (p : Vec Ideal S2048x1 .i32) (w : Vec Ideal S2048x2048 .i32) (r k : Fin 2048) :
    k0_pay5 (F := Ideal) p w w (ix2 r k) = QkvSpec.entry (w (ix2 r k)) (p (ix2 r 0)) := by
  have h : k0_pay5 (F := Ideal) p w w (ix2 r k) = Ideal.ofBits .f32
      (Scalar.select (broadcastTo S2048x2048 (shapeCast S2048x1 (cmpi .eq (andi (shapeCast S2048x1 p shapeCasts_S2048x1_S2048x1) (broadcast S2048x1 1#32)) (broadcast S2048x1 1#32)) shapeCasts_S2048x1_S2048x1) broadcasts_S2048x1_S2048x2048 (ix2 r k))
        (IntOp.andi (shapeCast S2048x2048 w shapeCasts_S2048x2048_S2048x2048 (ix2 r k)) 4294901760#32) (IntOp.shli ArithUnit.vector (shapeCast S2048x2048 w shapeCasts_S2048x2048_S2048x2048 (ix2 r k)) 16#32)) := rfl
  have h1 : broadcastTo S2048x2048 (shapeCast S2048x1 (cmpi .eq (andi (shapeCast S2048x1 p shapeCasts_S2048x1_S2048x1) (broadcast S2048x1 1#32)) (broadcast S2048x1 1#32)) shapeCasts_S2048x1_S2048x1) broadcasts_S2048x1_S2048x2048 (ix2 r k)
      = IntOp.cmpi CmpIPredicate.eq (IntOp.andi (p (ix2 r 0)) 1#32) 1#32 := by
    pointwise
  have h2 : shapeCast S2048x2048 w shapeCasts_S2048x2048_S2048x2048 (ix2 r k) = w (ix2 r k) := by pointwise
  rw [h, h1, h2, select_eq, shl16]
  rfl

theorem logistic_eq (x : Ideal .f32) : FloatOps.logistic x = Ideal.logistic x := rfl

theorem gate_apply (M : FVec Ideal S2048x2048 .f32) (w : Vec Ideal S1x2048 .f32) (b : Fin 8) (l : Fin 256) :
    shapeCast S8x1x256 (logistic (shapeCast S2048x1 (multiReduction .add [1] S2048 (mulf M (broadcastTo S2048x2048 (shapeCast S1x2048 w shapeCasts_S1x2048_S1x2048) broadcasts_S1x2048_S2048x2048))
        0x00000000#32 reduces_S2048x2048_S2048 (.inl rfl) rfl) shapeCasts_S2048_S2048x1)) shapeCasts_S2048x1_S8x1x256 (ix3 b 0 l)
      = QkvSpec.gate (fun k => M (ix2 (QkvSpec.rowOf b l) k)) (fun k => w (ix2 0 k)) := by
  unfold QkvSpec.gate QkvSpec.rowOf
  pointwise

theorem pay6_apply (p : Vec Ideal S2048x1 .i32) (u : Vec Ideal S2048x2048 .i32) (w : Vec Ideal S1x2048 .f32) (b : Fin 8) (l : Fin 256) :
    k0_pay6 (F := Ideal) p u u w (ix3 b 0 l)
      = QkvSpec.gate (fun k => k0_pay5 (F := Ideal) p u u (ix2 (QkvSpec.rowOf b l) k)) (fun k => w (ix2 0 k)) := by
  unfold k0_pay6
  exact gate_apply _ w b l

theorem pay7_apply (p : Vec Ideal S2048x1 .i32) (u : Vec Ideal S2048x2048 .i32) (r k : Fin 2048) :
    k0_pay7 (F := Ideal) p u u (ix2 r k) = k0_pay5 (F := Ideal) p u u (ix2 r k) * QkvSpec.rms fun k => k0_pay5 (F := Ideal) p u u (ix2 r k) := by
  unfold k0_pay7 QkvSpec.rms
  generalize k0_pay5 (F := Ideal) p u u = M
  pointwise

theorem pay1_apply (A : FVec Ideal S2048x2048 .f32) (g : Vec Ideal S1x2048 .f32) (r k : Fin 2048) :
    k0_pay1 (F := Ideal) A g (ix2 r k) = A (ix2 r k) * g (ix2 0 k) := by
  pointwise [k0_pay1]

theorem column_apply (M : FVec Ideal S2048 .f32) (r : Fin 2048) :
    mulf (shapeCast S2048x1 M shapeCasts_S2048_S2048x1) (broadcast S2048x1 (Scalar.ofBits .f32 0x3B124925#32 : Ideal .f32)) (ix2 r 0)
      = M (ix1 r) * Ideal.ofBits .f32 0x3B124925#32 := by
  pointwise

theorem absf_apply (A : FVec Ideal S2048x2048 .f32) (y : S2048x2048.Idx) : absf A y = max (A y) (-(A y)) := rfl

/-- The largest magnitude of a row over the largest code. -/
theorem peak_apply (A : FVec Ideal S2048x2048 .f32) (r : Fin 2048) :
    mulf (shapeCast S2048x1 (multiReduction .maximumf [1] S2048 (absf A) 0xFF800000#32 reduces_S2048x2048_S2048 (.inl rfl) rfl) shapeCasts_S2048_S2048x1)
        (broadcast S2048x1 (Scalar.ofBits .f32 0x3B124925#32 : Ideal .f32)) (ix2 r 0)
      = QkvSpec.peak fun k => A (ix2 r k) := by
  rw [column_apply, Spec.rowFold (absf A) reduces_S2048x2048_S2048 (.inl rfl) rfl r]
  unfold QkvSpec.peak
  simp only [absf_apply]

/-- The exponent, from the largest magnitude. -/
theorem bound_apply (V : FVec Ideal S2048x1 .f32) (r : Fin 2048) :
    select (cmpf .olt V (broadcast S2048x1 (Scalar.ofBits .f32 0x00800000#32 : Ideal .f32))) (broadcast S2048x1 (Scalar.ofBits .f32 0x00000000#32 : Ideal .f32))
      (minimumf (addf (floor (divf (log V) (broadcast S2048x1 (Scalar.log (Scalar.ofBits .f32 0x40000000#32 : Ideal .f32))))) (broadcast S2048x1 (Scalar.ofBits .f32 0x3F800000#32 : Ideal .f32)))
        (broadcast S2048x1 (Scalar.ofBits .f32 0x42FC0000#32 : Ideal .f32))) (ix2 r 0)
      = if V (ix2 r 0) < Ideal.ofBits .f32 0x00800000#32 then 0
        else min (Ideal.liftRound Int.floor (Ideal.div (Ideal.log (V (ix2 r 0))) (Ideal.log (Ideal.ofBits .f32 0x40000000#32))) + 1) (Ideal.ofBits .f32 0x42FC0000#32) := by
  pointwise
  rw [log_eq]

theorem pay2_apply (A : FVec Ideal S2048x2048 .f32) (g : Vec Ideal S1x2048 .f32) (r : Fin 2048) :
    k0_pay2 (F := Ideal) A g (ix2 r 0) = expo (QkvSpec.peak fun k => k0_pay1 (F := Ideal) A g (ix2 r k)) := by
  rw [← peak_apply]
  unfold k0_pay2
  refine (bound_apply _ r).trans ?_
  rfl

theorem code_apply (M : FVec Ideal S2048x2048 .f32) (E : FVec Ideal S2048x1 .f32) (r k : Fin 2048) :
    (truncf .fp8e4m3 (minimumf (broadcast S2048x2048 (Scalar.ofBits .f32 0x43E00000#32 : Ideal .f32)) (maximumf (broadcast S2048x2048 (Scalar.ofBits .f32 0xC3E00000#32 : Ideal .f32))
        (mulf M (broadcastTo S2048x2048 (exp2 (subf (broadcast S2048x1 (Scalar.ofBits .f32 0x00000000#32 : Ideal .f32)) E)) broadcasts_S2048x1_S2048x2048)))) bitsLt_fp8e4m3_f32 : FVec Ideal S2048x2048 .fp8e4m3) (ix2 r k)
      = min (Ideal.ofBits .f32 0x43E00000#32) (max (Ideal.ofBits .f32 0xC3E00000#32) (M (ix2 r k) * Ideal.exp2 (0 - E (ix2 r 0)))) := by
  pointwise
  rw [exp2_eq]

theorem blocks_apply (E : FVec Ideal S2048x1 .f32) (b : Fin 8) (l : Fin 256) :
    shapeCast S8x1x256 (exp2 E) shapeCasts_S2048x1_S8x1x256 (ix3 b 0 l) = Ideal.exp2 (E (ix2 (QkvSpec.rowOf b l) 0)) := by
  unfold QkvSpec.rowOf
  pointwise
  rw [exp2_eq]

theorem pay3_apply (A : FVec Ideal S2048x2048 .f32) (g : Vec Ideal S1x2048 .f32) (r k : Fin 2048) :
    k0_pay3 (F := Ideal) A g (ix2 r k)
      = min (Ideal.ofBits .f32 0x43E00000#32) (max (Ideal.ofBits .f32 0xC3E00000#32) (k0_pay1 (F := Ideal) A g (ix2 r k) * Ideal.exp2 (0 - k0_pay2 (F := Ideal) A g (ix2 r 0)))) := by
  unfold k0_pay3
  exact code_apply _ _ r k

theorem pay4_apply (A : FVec Ideal S2048x2048 .f32) (g : Vec Ideal S1x2048 .f32) (b : Fin 8) (l : Fin 256) :
    k0_pay4 (F := Ideal) A g (ix3 b 0 l) = Ideal.exp2 (k0_pay2 (F := Ideal) A g (ix2 (QkvSpec.rowOf b l) 0)) := by
  unfold k0_pay4
  exact blocks_apply _ b l

/-! ## The result windows -/

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

variable (x0 : Vec Ideal S2048x2048 .i32) (x1 : Vec Ideal S2048x1 .i32) (x2 x3 : Vec Ideal S1x2048 .f32)

/-- Row `r`, from the gathered words. -/
def rowX (r k : Fin 2048) : EReal := QkvSpec.entry (x0 (ix2 r k)) (x1 (ix2 r 0))
/-- Row `r` over its root mean square, times the gain. -/
def rowNorm (r : Fin 2048) : Fin 2048 → EReal := QkvSpec.norm (rowX x0 x1 r) fun k => x3 (ix2 0 k)

theorem norm_apply (r k : Fin 2048) : k0_pay1 (F := Ideal) (k0_pay7 x1 x0 x0) x3 (ix2 r k) = rowNorm x0 x1 x3 r k := by
  rw [pay1_apply, pay7_apply]
  simp only [pay5_apply]
  rfl

theorem out4_apply (b : Fin 8) (l : Fin 256) :
    out0_4 (F := Ideal) x0 x1 x2 x3 (ix3 b 0 l) = QkvSpec.gate (rowX x0 x1 (QkvSpec.rowOf b l)) (fun k => x2 (ix2 0 k)) := by
  unfold out0_4
  rw [View.canon_unit_zero zero3, View.ld_unit_zero zero2, View.ld_unit_zero zero2, View.ld_unit_zero zero2, pay6_apply]
  simp only [pay5_apply]
  rfl

theorem pay8_eq : k0_pay8 (F := Ideal) x0 x1 x2 x3 = k0_pay7 x1 x0 x0 := by
  unfold k0_pay8
  rw [View.ld_unit_zero zero2, View.ld_unit_zero zero2]

theorem out5_apply (r k : Fin 2048) :
    out0_5 (F := Ideal) x0 x1 x2 x3 (ix2 r k) = QkvSpec.code (rowNorm x0 x1 x3 r) k := by
  unfold out0_5
  rw [View.canon_unit_zero zero2, pay8_eq, View.ld_unit_zero zero2, pay3_apply, pay2_apply]
  simp only [norm_apply]
  rfl

theorem out6_apply (b : Fin 8) (l : Fin 256) :
    out0_6 (F := Ideal) x0 x1 x2 x3 (ix3 b 0 l) = scale (QkvSpec.peak (rowNorm x0 x1 x3 (QkvSpec.rowOf b l))) := by
  unfold out0_6
  rw [View.canon_unit_zero zero3, pay8_eq, View.ld_unit_zero zero2, pay4_apply, pay2_apply]
  simp only [norm_apply]
  rfl

end Cert.ReferenceQkvIdeal.Qkv

end
-- ==== Proof.Value.QkvReferenceArrays.lean ====
/- The first call's reference: its three result arrays, from the arguments. -/
module

public import proofs.«01_k».proof.Proof.Value.QkvReference
public import Idealize.ShloMosaic.Lib.Pipeline.ValueKit.Point
public import Idealize.ShloMosaic.Lib.Routing.Ops

@[expose] public section

set_option maxRecDepth 16384

noncomputable section

namespace Cert.ReferenceQkvIdeal.Qkv

open Cert.ReferenceQkvIdeal Cert.ReferenceQkvIdeal.Gen Cert.Pow2
open Idealize.ShloMosaic Idealize.ShloMosaic.TcCoe Idealize.ShloMosaic.Tactic
open Idealize.SL Idealize.SL.RA Idealize.SL.Sem
open scoped BigOperators

/-! ## The rows the reference picks -/

/-- The row numbers, as the host works them out from the selection. -/
def rowsOf (s : S2x1024.Idx → BitVec 32) : IVec S2048x1 32 :=
  Host.shrsi (shapeCast S2048x1 (addi s (muli (broadcastInDim S2x1024 ![] bcast_S_S2x1024 (constantI S_ 32 8192#32)) (iotaInDim S2x1024 32 0))) shapeCasts_S2x1024_S2048x1)
    (broadcastInDim S2048x1 ![] bcast_S_S2048x1 (constantI S_ 32 1#32))

theorem half_word (x : BitVec 32) (h : x.toNat < 2 ^ 31) : IntOp.shrsi ArithUnit.host x 1#32 = BitVec.ofNat 32 (x.toNat / 2) := by
  have e : IntOp.shrsi ArithUnit.host x 1#32 = x.sshiftRight 1 := rfl
  have hm : x.msb = false := by
    rw [BitVec.msb_eq_decide]
    simp only [decide_eq_false_iff_not, not_le]
    exact h
  rw [e, BitVec.sshiftRight_eq_of_msb_false hm]
  refine BitVec.eq_of_toNat_eq ?_
  rw [BitVec.toNat_ushiftRight, BitVec.toNat_ofNat, Nat.shiftRight_eq_div_pow, Nat.mod_eq_of_lt (by omega)]

theorem sum_apply (s : S2x1024.Idx → BitVec 32) (r : Fin 2048) :
    shapeCast S2048x1 (addi s (muli (broadcastInDim S2x1024 ![] bcast_S_S2x1024 (constantI S_ 32 8192#32)) (iotaInDim S2x1024 32 0))) shapeCasts_S2x1024_S2048x1 (ix2 r 0)
      = QkvSpec.pos s r + 8192#32 * BitVec.ofNat 32 (r.val / 1024) := by
  have e : ∀ v : IVec S2x1024 32, shapeCast S2048x1 v shapeCasts_S2x1024_S2048x1 (ix2 r 0) = v (ix2 ⟨r.val / 1024, by omega⟩ ⟨r.val % 1024, by omega⟩) := fun v => by pointwise
  rw [e]
  rfl

theorem rowsOf_apply (s : S2x1024.Idx → BitVec 32) (hs : ∀ y, (s y).toNat < 8192) (r : Fin 2048) :
    rowsOf s (ix2 r 0) = BitVec.ofNat 32 (QkvSpec.src s r).val := by
  have h : rowsOf s (ix2 r 0) = IntOp.shrsi ArithUnit.host (shapeCast S2048x1 (addi s (muli (broadcastInDim S2x1024 ![] bcast_S_S2x1024 (constantI S_ 32 8192#32)) (iotaInDim S2x1024 32 0))) shapeCasts_S2x1024_S2048x1 (ix2 r 0)) 1#32 := rfl
  have hp : (QkvSpec.pos s r).toNat < 8192 := hs _
  have hr : r.val / 1024 < 2 := by omega
  have e : (QkvSpec.pos s r + 8192#32 * BitVec.ofNat 32 (r.val / 1024)).toNat = r.val / 1024 * 8192 + (QkvSpec.pos s r).toNat := by
    rw [BitVec.toNat_add, BitVec.toNat_mul, BitVec.toNat_ofNat, BitVec.toNat_ofNat]
    norm_num
    omega
  rw [h, sum_apply, half_word _ (by rw [e]; omega), e]
  refine congrArg (BitVec.ofNat 32) ?_
  show _ = min ((r.val / 1024 * 8192 + (QkvSpec.pos s r).toNat) / 2) 8191
  omega

variable (m : (ℓ : Loc nD τ sig) → Buf (Elt Ideal) ℓ) (c : Dev nD)

/-- The gathered words. -/
theorem V7 : V m c main_v7 = Host.gather gather_S8192x2048_S2048x1_S2048x2048_1_0_n_n_0_1_12048 (m ((c : Thread nD τ).loc main_arg0)) (rowsOf (m ((c : Thread nD τ).loc main_arg1))) := by
  entry_read
  rfl

/-! ## The operands read -/

theorem ix_0 : ∀ t : Fin cfg0.N, win0_0.index t = ![0, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0, 0] := (by decide +kernel : ∀ t : Fin grid0.N, _)
theorem ix_5 : ∀ t : Fin cfg0.N, win0_5.index t = ![0, 0] := (by decide +kernel : ∀ t : Fin grid0.N, _)
theorem ix_6 : ∀ t : Fin cfg0.N, win0_6.index t = ![0, 0, 0] := (by decide +kernel : ∀ t : Fin grid0.N, _)

theorem rd0 (hs : ∀ y, (m ((c : Thread nD τ).loc main_arg1) y).toNat < 8192) (t : Fin cfg0.N) (r k : Fin 2048) :
    iblk m c 0 t (ix2 r k) = m ((c : Thread nD τ).loc main_arg0) (ix2 (QkvSpec.src (m ((c : Thread nD τ).loc main_arg1)) r) k) := by
  have e : iblk m c 0 t (ix2 r k) = V m c main_v7 (ix2 r k) := by
    unfold iblk
    refine congrArg (V m c main_v7) ?_
    blk_ext [ix_0 t]
  rw [e, V7]
  exact Routing.gather_row _ rfl rfl rfl rfl rfl _ _ r k _ (rowsOf_apply _ hs r) (by norm_num)
theorem rd1 (t : Fin cfg0.N) (r : Fin 2048) :
    iblk m c 1 t (ix2 r 0) = QkvSpec.pos (m ((c : Thread nD τ).loc main_arg1)) r := by
  unfold QkvSpec.pos
  blk_ext! [iblk, ix_1 t]
theorem rd2 (t : Fin cfg0.N) (k : Fin 2048) :
    iblk m c 2 t (ix2 0 k) = m ((c : Thread nD τ).loc main_arg2) (ix1 k) := by
  blk_ext! [iblk, ix_2 t]
theorem rd3 (t : Fin cfg0.N) (k : Fin 2048) :
    iblk m c 3 t (ix2 0 k) = m ((c : Thread nD τ).loc main_arg3) (ix1 k) := by
  blk_ext! [iblk, ix_3 t]

section
variable (hs : ∀ y, (m ((c : Thread nD τ).loc main_arg1) y).toNat < 8192)
include hs

theorem row_eq (t : Fin cfg0.N) (r : Fin 2048) :
    rowX (iblk m c 0 t) (iblk m c 1 t) r = QkvSpec.row (m ((c : Thread nD τ).loc main_arg0)) (m ((c : Thread nD τ).loc main_arg1)) r := by
  funext k
  unfold rowX QkvSpec.row
  rw [rd0 m c hs, rd1]

theorem norm_eq (t : Fin cfg0.N) (r : Fin 2048) :
    rowNorm (iblk m c 0 t) (iblk m c 1 t) (iblk m c 3 t) r
      = QkvSpec.norm (QkvSpec.row (m ((c : Thread nD τ).loc main_arg0)) (m ((c : Thread nD τ).loc main_arg1)) r) fun k => m ((c : Thread nD τ).loc main_arg3) (ix1 k) := by
  unfold rowNorm
  rw [row_eq m c hs]
  exact congrArg _ (funext fun k => rd3 m c t k)

/-! ## The result arrays -/

/-- The gates. -/
theorem arr4 : (dats m 0 c).arrAt 4 cfg0.N
    = QkvSpec.gates (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  obtain ⟨b, a, l, rfl⟩ : ∃ (b : Fin 8) (a : Fin 1) (l : Fin 256), y = ix3 b a l := ⟨y 0, y 1, y 2, eq_ix3 y⟩
  obtain rfl : a = 0 := Subsingleton.elim _ _
  have e : ((cfg0.win 4).blk t).view.emb (ix3 b 0 l) = ix3 b 0 l := by blk_ext [ix_4 t]
  rw [e]
  refine (out4_apply _ _ _ _ b l).trans ?_
  rw [row_eq m c hs]
  simp only [rd2]
  rfl

/-- The codes. -/
theorem arr5 : (dats m 0 c).arrAt 5 cfg0.N
    = QkvSpec.codes (m ((c : Thread nD τ).loc main_arg0)) (m ((c : Thread nD τ).loc main_arg1)) (m ((c : Thread nD τ).loc main_arg3)) := by
  refine (dats m 0 c).arrAt_eq_of_covers 5 _ (by decide +kernel) fun t hf y => ?_
  blk_simp
  rw [after0_5]
  obtain ⟨r, k, rfl⟩ : ∃ (r k : Fin 2048), y = ix2 r k := ⟨y 0, y 1, eq_ix2 y⟩
  have e : ((cfg0.win 5).blk t).view.emb (ix2 r k) = ix2 r k := by blk_ext [ix_5 t]
  rw [e]
  refine (out5_apply _ _ _ _ r k).trans ?_
  rw [norm_eq m c hs]
  rfl

/-- The scales. -/
theorem arr6 : (dats m 0 c).arrAt 6 cfg0.N
    = QkvSpec.scales (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  rw [after0_6]
  obtain ⟨b, a, l, rfl⟩ : ∃ (b : Fin 8) (a : Fin 1) (l : Fin 256), y = ix3 b a l := ⟨y 0, y 1, y 2, eq_ix3 y⟩
  obtain rfl : a = 0 := Subsingleton.elim _ _
  have e : ((cfg0.win 6).blk t).view.emb (ix3 b 0 l) = ix3 b 0 l := by blk_ext [ix_6 t]
  rw [e]
  refine (out6_apply _ _ _ _ b l).trans ?_
  rw [norm_eq m c hs]
  rfl

end

/-- The run, with the three results named and the arguments unchanged. -/
theorem values (ρ : Dev nD → PrngReg) (hs : ∀ (c : Dev nD) y, (m ((c : Thread nD τ).loc main_arg1) y).toNat < 8192) :
    θ_run defs (onTc (τ := τ) (main (F := Ideal))) ⟨m, fun _ => 0, ρ⟩ (fun r => ∀ c : Dev nD,
      r.2.mem ((c.tc : Thread nD τ).loc main_v11_0) = QkvSpec.gates (m ((c : Thread nD τ).loc main_arg0)) (m ((c : Thread nD τ).loc main_arg1)) (m ((c : Thread nD τ).loc main_arg2))
      ∧ r.2.mem ((c.tc : Thread nD τ).loc main_v11_1) = QkvSpec.codes (m ((c : Thread nD τ).loc main_arg0)) (m ((c : Thread nD τ).loc main_arg1)) (m ((c : Thread nD τ).loc main_arg3))
      ∧ r.2.mem ((c.tc : Thread nD τ).loc main_v11_2) = QkvSpec.scales (m ((c : Thread nD τ).loc main_arg0)) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 4).trans (arr4 m c (hs c)), ((h c).1 5).trans (arr5 m c (hs c)), ((h c).1 6).trans (arr6 m c (hs c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.ReferenceQkvIdeal.Qkv

end
-- ==== Proof.lean ====
module

public import proofs.«01_k».proof.Defs
public import proofs.«01_k».proof.Proof.Gen.Pre_rows_increase
public import proofs.«01_k».proof.Proof.Gen.Kernel.Frame
public import proofs.«01_k».proof.Proof.Gen.Kernel.Loops
public import proofs.«01_k».proof.Proof.Gen.Kernel.Points
public import proofs.«01_k».proof.Proof.Gen.Kernel.Skeleton
public import proofs.«01_k».proof.Proof.Gen.KernelIdeal.Frame
public import proofs.«01_k».proof.Proof.Gen.KernelIdeal.Loops
public import proofs.«01_k».proof.Proof.Gen.KernelIdeal.Points
public import proofs.«01_k».proof.Proof.Gen.KernelIdeal.Skeleton
public import proofs.«01_k».proof.Proof.Gen.Qkv.Frame
public import proofs.«01_k».proof.Proof.Gen.QkvIdeal.Frame
public import proofs.«01_k».proof.Proof.Gen.Qkv.Skeleton
public import proofs.«01_k».proof.Proof.Gen.QkvIdeal.Skeleton
public import proofs.«01_k».proof.Proof.Gen.Pre_rows_inside
public import proofs.«01_k».proof.Proof.Gen.ReferenceQkvIdeal.Frame
public import proofs.«01_k».proof.Proof.Gen.ReferenceQkvIdeal.Skeleton
public import proofs.«01_k».proof.Proof.Gen.ReferenceIdeal.Frame
public import proofs.«01_k».proof.Proof.Gen.ReferenceIdeal.Value
public import proofs.«01_k».proof.Proof.Rows
public import proofs.«01_k».proof.Proof.Kernel.Tables
public import proofs.«01_k».proof.Proof.KernelIdeal.Tables
public import proofs.«01_k».proof.Proof.Value.KernelArrays
public import proofs.«01_k».proof.Proof.Value.ReferenceArrays
public import proofs.«01_k».proof.Proof.Inside
public import proofs.«01_k».proof.Proof.Qkv.Frame
public import proofs.«01_k».proof.Proof.QkvIdeal.Frame
public import proofs.«01_k».proof.Proof.Value.QkvKernelArrays
public import proofs.«01_k».proof.Proof.Value.QkvReferenceArrays

/- The claim, for two calls of the kernel, each with a reference of its own: the runs end with the arguments unchanged
   and every counter at zero, and over the reals the results named are the reference's. -/

@[expose] public section

noncomputable section

namespace Cert.Proof

open Idealize.ShloMosaic Idealize.SL.Sem

theorem frame_kernel : Cert.quiescent_Kernel := fun m g hpre =>
  Cert.Kernel.Mlp.frame m g (Cert.Kernel.Mlp.tables_of_good m fun c => Cert.Rows.good_of_pre _ _ _ _ _ _ _ _ _ _ _ _ _ _ (hpre c))

theorem frame_kernelIdeal : Cert.quiescent_KernelIdeal := fun m g hpre =>
  Cert.KernelIdeal.Mlp.frame m g (Cert.KernelIdeal.Mlp.tables_of_good m fun c => Cert.Rows.good_of_pre _ _ _ _ _ _ _ _ _ _ _ _ _ _ (hpre c))

theorem frame_reference : Cert.quiescent_ReferenceIdeal := fun m g _ => Cert.ReferenceIdeal.Gen.frame m g

theorem frame_reference_pre : Cert.quiescent_ReferenceIdeal_pre_rows_increase := fun m g _ => Cert.ReferenceIdeal.Gen.frame m g

/-- The kernel's results and the reference's are the same arrays of the same arguments. -/
theorem algebraic : Cert.algebraic_KernelIdeal_ReferenceIdeal := by
  intro m g m' g' hpre hagree
  refine ⟨_, _, _, Cert.KernelIdeal.Mlp.values m g (Cert.KernelIdeal.Mlp.tables_of_good m fun c => Cert.Rows.good_of_pre _ _ _ _ _ _ _ _ _ _ _ _ _ _ (hpre c)), ?_⟩
  refine (θ_run Cert.ReferenceIdeal.defs _ _).mono (fun r h c => ?_) (Cert.ReferenceIdeal.Mlp.values m' g')
  obtain ⟨h0, h1, h2, h3⟩ := h c
  obtain ⟨a0, a1, a2, a3, a4, a5, a6, a7, a8, a9, a10, a11, a12, a13⟩ := hagree c
  refine ⟨h0.trans ?_, h1.trans ?_, h2.trans ?_, h3⟩
  · rw [a2, a3, a4, a7, a8, a9, a10, a11, a12]
  · rw [a2, a3, a7, a8, a9, a10]
  · rw [a2, a3, a7, a8, a9, a10]

/-! ## The first call -/

theorem frame_qkv : Cert.quiescent_Qkv := fun m g hpre =>
  (θ_run _ _ _).mono (fun _ h => ⟨fun c => (h.1 c).1, h.2⟩)
    (Cert.Qkv.Gather.run_post m g fun c b p => Cert.Inside.inside_of_pre _ _ _ _ _ _ (hpre c) _)

theorem frame_qkvIdeal : Cert.quiescent_QkvIdeal := fun m g hpre =>
  (θ_run _ _ _).mono (fun _ h => ⟨fun c => (h.1 c).1, h.2⟩)
    (Cert.QkvIdeal.Gather.run_post m g fun c b p => Cert.Inside.inside_of_pre _ _ _ _ _ _ (hpre c) _)

theorem frame_referenceQkv : Cert.quiescent_ReferenceQkvIdeal := fun m g _ => Cert.ReferenceQkvIdeal.Gen.frame m g

theorem frame_referenceQkv_pre : Cert.quiescent_ReferenceQkvIdeal_pre_rows_inside := fun m g _ => Cert.ReferenceQkvIdeal.Gen.frame m g

/-- The first call's gates, codes and scales and its reference's are the same arrays of the same arguments. -/
theorem algebraic_qkv : Cert.algebraic_QkvIdeal_ReferenceQkvIdeal := by
  intro m g m' g' hpre hagree
  refine ⟨_, _, _, Cert.QkvIdeal.Gather.values m g fun c b p => Cert.Inside.inside_of_pre _ _ _ _ _ _ (hpre c) _, ?_⟩
  have hs : ∀ (c : Dev Cert.ReferenceQkvIdeal.nD) y,
      (m' ((c.tc : Thread Cert.ReferenceQkvIdeal.nD Cert.ReferenceQkvIdeal.τ).loc Cert.ReferenceQkvIdeal.main_arg1) y).toNat < 8192 := fun c y => by
    rw [(hagree c).2.1]
    exact Cert.Inside.inside_of_pre _ _ _ _ _ _ (hpre c) y
  refine (θ_run Cert.ReferenceQkvIdeal.defs _ _).mono (fun r h c => ?_) (Cert.ReferenceQkvIdeal.Qkv.values m' g' hs)
  obtain ⟨h0, h1, h2, h3⟩ := h c
  obtain ⟨a0, a1, a2, a3, a4, a5⟩ := hagree c
  refine ⟨h0.trans ?_, h1.trans ?_, h2.trans ?_, h3⟩
  · rw [a0, a1, a2]
  · rw [a0, a1, a3]
  · rw [a0, a1, a3]

theorem claim : Cert.Claim :=
  ⟨Cert.Kernel.Gen.facts, Cert.KernelIdeal.Gen.facts, Cert.ReferenceIdeal.Gen.facts, Cert.Qkv.Gen.facts, Cert.QkvIdeal.Gen.facts, Cert.ReferenceQkvIdeal.Gen.facts,
    Cert.Pre_rows_increase.Gen.facts, Cert.Pre_rows_inside.Gen.facts,
    frame_kernel, frame_kernelIdeal, frame_reference, frame_reference_pre, frame_qkv, frame_qkvIdeal, frame_referenceQkv, frame_referenceQkv_pre,
    trivial, algebraic, trivial, algebraic_qkv⟩

end Cert.Proof

end
